-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_PlainIdeal (m : (ℓ : Loc Cert.PlainIdeal.nD Cert.PlainIdeal.τ Cert.PlainIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_PlainOutIdeal (m : (ℓ : Loc Cert.PlainOutIdeal.nD Cert.PlainOutIdeal.τ Cert.PlainOutIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PlainNormIdeal (m : (ℓ : Loc Cert.PlainNormIdeal.nD Cert.PlainNormIdeal.τ Cert.PlainNormIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_PlainFinalIdeal (m : (ℓ : Loc Cert.PlainFinalIdeal.nD Cert.PlainFinalIdeal.τ Cert.PlainFinalIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_PlainLastIdeal (m : (ℓ : Loc Cert.PlainLastIdeal.nD Cert.PlainLastIdeal.τ Cert.PlainLastIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_PlainSguIdeal (m : (ℓ : Loc Cert.PlainSguIdeal.nD Cert.PlainSguIdeal.τ Cert.PlainSguIdeal.sig) → Buf (Elt Ideal) ℓ) : Prop :=
  True

def Pre_Outs (m : (ℓ : Loc Cert.Outs.nD Cert.Outs.τ Cert.Outs.sig) → Buf (Elt Bits) ℓ) : Prop :=
  True

def Pre_OutsIdeal (m : (ℓ : Loc Cert.OutsIdeal.nD Cert.OutsIdeal.τ Cert.OutsIdeal.sig) → Buf (Elt Ideal) ℓ) : Prop :=
  True

def Pre_PlainOutsIdeal (m : (ℓ : Loc Cert.PlainOutsIdeal.nD Cert.PlainOutsIdeal.τ Cert.PlainOutsIdeal.sig) → Buf (Elt Ideal) ℓ) : Prop :=
  True

def Pre_Attns (m : (ℓ : Loc Cert.Attns.nD Cert.Attns.τ Cert.Attns.sig) → Buf (Elt Bits) ℓ) : Prop :=
  True

def Pre_AttnsIdeal (m : (ℓ : Loc Cert.AttnsIdeal.nD Cert.AttnsIdeal.τ Cert.AttnsIdeal.sig) → Buf (Elt Ideal) ℓ) : Prop :=
  True

def Pre_AttnsIdeal_scores_finite [hPre_scores_finite : Cert.Pre_scores_finite.Facts] (m : (ℓ : Loc Cert.AttnsIdeal.nD Cert.AttnsIdeal.τ Cert.AttnsIdeal.sig) → Buf (Elt Ideal) ℓ) : Prop :=
  ∀ c : Dev Cert.AttnsIdeal.nD,
    (Cert.Pre_scores_finite.fn (F := Ideal) (m ((c.tc : Thread Cert.AttnsIdeal.nD Cert.AttnsIdeal.τ).loc Cert.AttnsIdeal.main_arg0)) (m ((c.tc : Thread Cert.AttnsIdeal.nD Cert.AttnsIdeal.τ).loc Cert.AttnsIdeal.main_arg1)) (m ((c.tc : Thread Cert.AttnsIdeal.nD Cert.AttnsIdeal.τ).loc Cert.AttnsIdeal.main_arg2)) (m ((c.tc : Thread Cert.AttnsIdeal.nD Cert.AttnsIdeal.τ).loc Cert.AttnsIdeal.main_arg3)) (m ((c.tc : Thread Cert.AttnsIdeal.nD Cert.AttnsIdeal.τ).loc Cert.AttnsIdeal.main_arg4))) = (fun _ => 1#1)

def Pre_PlainAttnsIdeal (m : (ℓ : Loc Cert.PlainAttnsIdeal.nD Cert.PlainAttnsIdeal.τ Cert.PlainAttnsIdeal.sig) → Buf (Elt Ideal) ℓ) : Prop :=
  True

def Pre_PlainAttnsIdeal_scores_finite [hPre_scores_finite : Cert.Pre_scores_finite.Facts] (m : (ℓ : Loc Cert.PlainAttnsIdeal.nD Cert.PlainAttnsIdeal.τ Cert.PlainAttnsIdeal.sig) → Buf (Elt Ideal) ℓ) : Prop :=
  ∀ c : Dev Cert.PlainAttnsIdeal.nD,
    (Cert.Pre_scores_finite.fn (F := Ideal) (m ((c.tc : Thread Cert.PlainAttnsIdeal.nD Cert.PlainAttnsIdeal.τ).loc Cert.PlainAttnsIdeal.main_arg0)) (m ((c.tc : Thread Cert.PlainAttnsIdeal.nD Cert.PlainAttnsIdeal.τ).loc Cert.PlainAttnsIdeal.main_arg1)) (m ((c.tc : Thread Cert.PlainAttnsIdeal.nD Cert.PlainAttnsIdeal.τ).loc Cert.PlainAttnsIdeal.main_arg2)) (m ((c.tc : Thread Cert.PlainAttnsIdeal.nD Cert.PlainAttnsIdeal.τ).loc Cert.PlainAttnsIdeal.main_arg3)) (m ((c.tc : Thread Cert.PlainAttnsIdeal.nD Cert.PlainAttnsIdeal.τ).loc Cert.PlainAttnsIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_PlainOutIdeal [hPlainOutIdeal : Cert.PlainOutIdeal.Facts] : Prop :=
  ∀ (m : (ℓ : Loc Cert.PlainOutIdeal.nD Cert.PlainOutIdeal.τ Cert.PlainOutIdeal.sig) → Buf (Elt Ideal) ℓ) (g : Dev Cert.PlainOutIdeal.nD → PrngReg), Pre_PlainOutIdeal m →
    θ_run (Cert.PlainOutIdeal.defs (F := Ideal)) (onTc (τ := Cert.PlainOutIdeal.τ) (Cert.PlainOutIdeal.main (F := Ideal))) ⟨m, fun _ => 0, g⟩ (fun r => (∀ c : Dev Cert.PlainOutIdeal.nD,
      r.2.mem ((c.tc : Thread Cert.PlainOutIdeal.nD Cert.PlainOutIdeal.τ).loc Cert.PlainOutIdeal.main_arg0) = m ((c.tc : Thread Cert.PlainOutIdeal.nD Cert.PlainOutIdeal.τ).loc Cert.PlainOutIdeal.main_arg0)
      ∧ r.2.mem ((c.tc : Thread Cert.PlainOutIdeal.nD Cert.PlainOutIdeal.τ).loc Cert.PlainOutIdeal.main_arg1) = m ((c.tc : Thread Cert.PlainOutIdeal.nD Cert.PlainOutIdeal.τ).loc Cert.PlainOutIdeal.main_arg1)
      ∧ r.2.mem ((c.tc : Thread Cert.PlainOutIdeal.nD Cert.PlainOutIdeal.τ).loc Cert.PlainOutIdeal.main_arg2) = m ((c.tc : Thread Cert.PlainOutIdeal.nD Cert.PlainOutIdeal.τ).loc Cert.PlainOutIdeal.main_arg2)
      ∧ r.2.mem ((c.tc : Thread Cert.PlainOutIdeal.nD Cert.PlainOutIdeal.τ).loc Cert.PlainOutIdeal.main_arg3) = m ((c.tc : Thread Cert.PlainOutIdeal.nD Cert.PlainOutIdeal.τ).loc Cert.PlainOutIdeal.main_arg3))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2))
      ∧ r.2.sem = fun _ => 0)

def quiescent_PlainNormIdeal [hPlainNormIdeal : Cert.PlainNormIdeal.Facts] : Prop :=
  ∀ (m : (ℓ : Loc Cert.PlainNormIdeal.nD Cert.PlainNormIdeal.τ Cert.PlainNormIdeal.sig) → Buf (Elt Ideal) ℓ) (g : Dev Cert.PlainNormIdeal.nD → PrngReg), Pre_PlainNormIdeal m →
    θ_run (Cert.PlainNormIdeal.defs (F := Ideal)) (onTc (τ := Cert.PlainNormIdeal.τ) (Cert.PlainNormIdeal.main (F := Ideal))) ⟨m, fun _ => 0, g⟩ (fun r => (∀ c : Dev Cert.PlainNormIdeal.nD,
      r.2.mem ((c.tc : Thread Cert.PlainNormIdeal.nD Cert.PlainNormIdeal.τ).loc Cert.PlainNormIdeal.main_arg0) = m ((c.tc : Thread Cert.PlainNormIdeal.nD Cert.PlainNormIdeal.τ).loc Cert.PlainNormIdeal.main_arg0)
      ∧ r.2.mem ((c.tc : Thread Cert.PlainNormIdeal.nD Cert.PlainNormIdeal.τ).loc Cert.PlainNormIdeal.main_arg1) = m ((c.tc : Thread Cert.PlainNormIdeal.nD Cert.PlainNormIdeal.τ).loc Cert.PlainNormIdeal.main_arg1)
      ∧ r.2.mem ((c.tc : Thread Cert.PlainNormIdeal.nD Cert.PlainNormIdeal.τ).loc Cert.PlainNormIdeal.main_arg2) = m ((c.tc : Thread Cert.PlainNormIdeal.nD Cert.PlainNormIdeal.τ).loc Cert.PlainNormIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_PlainFinalIdeal [hPlainFinalIdeal : Cert.PlainFinalIdeal.Facts] : Prop :=
  ∀ (m : (ℓ : Loc Cert.PlainFinalIdeal.nD Cert.PlainFinalIdeal.τ Cert.PlainFinalIdeal.sig) → Buf (Elt Ideal) ℓ) (g : Dev Cert.PlainFinalIdeal.nD → PrngReg), Pre_PlainFinalIdeal m →
    θ_run (Cert.PlainFinalIdeal.defs (F := Ideal)) (onTc (τ := Cert.PlainFinalIdeal.τ) (Cert.PlainFinalIdeal.main (F := Ideal))) ⟨m, fun _ => 0, g⟩ (fun r => (∀ c : Dev Cert.PlainFinalIdeal.nD,
      r.2.mem ((c.tc : Thread Cert.PlainFinalIdeal.nD Cert.PlainFinalIdeal.τ).loc Cert.PlainFinalIdeal.main_arg0) = m ((c.tc : Thread Cert.PlainFinalIdeal.nD Cert.PlainFinalIdeal.τ).loc Cert.PlainFinalIdeal.main_arg0)
      ∧ r.2.mem ((c.tc : Thread Cert.PlainFinalIdeal.nD Cert.PlainFinalIdeal.τ).loc Cert.PlainFinalIdeal.main_arg1) = m ((c.tc : Thread Cert.PlainFinalIdeal.nD Cert.PlainFinalIdeal.τ).loc Cert.PlainFinalIdeal.main_arg1)
      ∧ r.2.mem ((c.tc : Thread Cert.PlainFinalIdeal.nD Cert.PlainFinalIdeal.τ).loc Cert.PlainFinalIdeal.main_arg2) = m ((c.tc : Thread Cert.PlainFinalIdeal.nD Cert.PlainFinalIdeal.τ).loc Cert.PlainFinalIdeal.main_arg2)
      ∧ r.2.mem ((c.tc : Thread Cert.PlainFinalIdeal.nD Cert.PlainFinalIdeal.τ).loc Cert.PlainFinalIdeal.main_arg3) = m ((c.tc : Thread Cert.PlainFinalIdeal.nD Cert.PlainFinalIdeal.τ).loc Cert.PlainFinalIdeal.main_arg3))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ r.2.sem = fun _ => 0)

def quiescent_PlainLastIdeal [hPlainLastIdeal : Cert.PlainLastIdeal.Facts] : Prop :=
  ∀ (m : (ℓ : Loc Cert.PlainLastIdeal.nD Cert.PlainLastIdeal.τ Cert.PlainLastIdeal.sig) → Buf (Elt Ideal) ℓ) (g : Dev Cert.PlainLastIdeal.nD → PrngReg), Pre_PlainLastIdeal m →
    θ_run (Cert.PlainLastIdeal.defs (F := Ideal)) (onTc (τ := Cert.PlainLastIdeal.τ) (Cert.PlainLastIdeal.main (F := Ideal))) ⟨m, fun _ => 0, g⟩ (fun r => (∀ c : Dev Cert.PlainLastIdeal.nD,
      r.2.mem ((c.tc : Thread Cert.PlainLastIdeal.nD Cert.PlainLastIdeal.τ).loc Cert.PlainLastIdeal.main_arg0) = m ((c.tc : Thread Cert.PlainLastIdeal.nD Cert.PlainLastIdeal.τ).loc Cert.PlainLastIdeal.main_arg0)
      ∧ r.2.mem ((c.tc : Thread Cert.PlainLastIdeal.nD Cert.PlainLastIdeal.τ).loc Cert.PlainLastIdeal.main_arg1) = m ((c.tc : Thread Cert.PlainLastIdeal.nD Cert.PlainLastIdeal.τ).loc Cert.PlainLastIdeal.main_arg1)
      ∧ r.2.mem ((c.tc : Thread Cert.PlainLastIdeal.nD Cert.PlainLastIdeal.τ).loc Cert.PlainLastIdeal.main_arg2) = m ((c.tc : Thread Cert.PlainLastIdeal.nD Cert.PlainLastIdeal.τ).loc Cert.PlainLastIdeal.main_arg2)
      ∧ r.2.mem ((c.tc : Thread Cert.PlainLastIdeal.nD Cert.PlainLastIdeal.τ).loc Cert.PlainLastIdeal.main_arg3) = m ((c.tc : Thread Cert.PlainLastIdeal.nD Cert.PlainLastIdeal.τ).loc Cert.PlainLastIdeal.main_arg3))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3))
      ∧ r.2.sem = fun _ => 0)

def quiescent_PlainSguIdeal [hPlainSguIdeal : Cert.PlainSguIdeal.Facts] : Prop :=
  ∀ (m : (ℓ : Loc Cert.PlainSguIdeal.nD Cert.PlainSguIdeal.τ Cert.PlainSguIdeal.sig) → Buf (Elt Ideal) ℓ) (g : Dev Cert.PlainSguIdeal.nD → PrngReg), Pre_PlainSguIdeal m →
    θ_run (Cert.PlainSguIdeal.defs (F := Ideal)) (onTc (τ := Cert.PlainSguIdeal.τ) (Cert.PlainSguIdeal.main (F := Ideal))) ⟨m, fun _ => 0, g⟩ (fun r => (∀ c : Dev Cert.PlainSguIdeal.nD,
      r.2.mem ((c.tc : Thread Cert.PlainSguIdeal.nD Cert.PlainSguIdeal.τ).loc Cert.PlainSguIdeal.main_arg0) = m ((c.tc : Thread Cert.PlainSguIdeal.nD Cert.PlainSguIdeal.τ).loc Cert.PlainSguIdeal.main_arg0)
      ∧ r.2.mem ((c.tc : Thread Cert.PlainSguIdeal.nD Cert.PlainSguIdeal.τ).loc Cert.PlainSguIdeal.main_arg1) = m ((c.tc : Thread Cert.PlainSguIdeal.nD Cert.PlainSguIdeal.τ).loc Cert.PlainSguIdeal.main_arg1)
      ∧ r.2.mem ((c.tc : Thread Cert.PlainSguIdeal.nD Cert.PlainSguIdeal.τ).loc Cert.PlainSguIdeal.main_arg2) = m ((c.tc : Thread Cert.PlainSguIdeal.nD Cert.PlainSguIdeal.τ).loc Cert.PlainSguIdeal.main_arg2)
      ∧ r.2.mem ((c.tc : Thread Cert.PlainSguIdeal.nD Cert.PlainSguIdeal.τ).loc Cert.PlainSguIdeal.main_arg3) = m ((c.tc : Thread Cert.PlainSguIdeal.nD Cert.PlainSguIdeal.τ).loc Cert.PlainSguIdeal.main_arg3))
      ∧ r.2.sem = fun _ => 0)

def quiescent_Outs [hOuts : Cert.Outs.Facts] : Prop :=
  ∀ (m : (ℓ : Loc Cert.Outs.nD Cert.Outs.τ Cert.Outs.sig) → Buf (Elt Bits) ℓ) (g : Dev Cert.Outs.nD → PrngReg), Pre_Outs m →
    θ_run (Cert.Outs.defs (F := Bits)) (onTc (τ := Cert.Outs.τ) (Cert.Outs.main (F := Bits))) ⟨m, fun _ => 0, g⟩ (fun r => (∀ c : Dev Cert.Outs.nD,
      r.2.mem ((c.tc : Thread Cert.Outs.nD Cert.Outs.τ).loc Cert.Outs.main_arg0) = m ((c.tc : Thread Cert.Outs.nD Cert.Outs.τ).loc Cert.Outs.main_arg0)
      ∧ r.2.mem ((c.tc : Thread Cert.Outs.nD Cert.Outs.τ).loc Cert.Outs.main_arg1) = m ((c.tc : Thread Cert.Outs.nD Cert.Outs.τ).loc Cert.Outs.main_arg1)
      ∧ r.2.mem ((c.tc : Thread Cert.Outs.nD Cert.Outs.τ).loc Cert.Outs.main_arg2) = m ((c.tc : Thread Cert.Outs.nD Cert.Outs.τ).loc Cert.Outs.main_arg2)
      ∧ r.2.mem ((c.tc : Thread Cert.Outs.nD Cert.Outs.τ).loc Cert.Outs.main_arg3) = m ((c.tc : Thread Cert.Outs.nD Cert.Outs.τ).loc Cert.Outs.main_arg3))
      ∧ r.2.sem = fun _ => 0)

def quiescent_OutsIdeal [hOutsIdeal : Cert.OutsIdeal.Facts] : Prop :=
  ∀ (m : (ℓ : Loc Cert.OutsIdeal.nD Cert.OutsIdeal.τ Cert.OutsIdeal.sig) → Buf (Elt Ideal) ℓ) (g : Dev Cert.OutsIdeal.nD → PrngReg), Pre_OutsIdeal m →
    θ_run (Cert.OutsIdeal.defs (F := Ideal)) (onTc (τ := Cert.OutsIdeal.τ) (Cert.OutsIdeal.main (F := Ideal))) ⟨m, fun _ => 0, g⟩ (fun r => (∀ c : Dev Cert.OutsIdeal.nD,
      r.2.mem ((c.tc : Thread Cert.OutsIdeal.nD Cert.OutsIdeal.τ).loc Cert.OutsIdeal.main_arg0) = m ((c.tc : Thread Cert.OutsIdeal.nD Cert.OutsIdeal.τ).loc Cert.OutsIdeal.main_arg0)
      ∧ r.2.mem ((c.tc : Thread Cert.OutsIdeal.nD Cert.OutsIdeal.τ).loc Cert.OutsIdeal.main_arg1) = m ((c.tc : Thread Cert.OutsIdeal.nD Cert.OutsIdeal.τ).loc Cert.OutsIdeal.main_arg1)
      ∧ r.2.mem ((c.tc : Thread Cert.OutsIdeal.nD Cert.OutsIdeal.τ).loc Cert.OutsIdeal.main_arg2) = m ((c.tc : Thread Cert.OutsIdeal.nD Cert.OutsIdeal.τ).loc Cert.OutsIdeal.main_arg2)
      ∧ r.2.mem ((c.tc : Thread Cert.OutsIdeal.nD Cert.OutsIdeal.τ).loc Cert.OutsIdeal.main_arg3) = m ((c.tc : Thread Cert.OutsIdeal.nD Cert.OutsIdeal.τ).loc Cert.OutsIdeal.main_arg3))
      ∧ r.2.sem = fun _ => 0)

def quiescent_PlainOutsIdeal [hPlainOutsIdeal : Cert.PlainOutsIdeal.Facts] : Prop :=
  ∀ (m : (ℓ : Loc Cert.PlainOutsIdeal.nD Cert.PlainOutsIdeal.τ Cert.PlainOutsIdeal.sig) → Buf (Elt Ideal) ℓ) (g : Dev Cert.PlainOutsIdeal.nD → PrngReg), Pre_PlainOutsIdeal m →
    θ_run (Cert.PlainOutsIdeal.defs (F := Ideal)) (onTc (τ := Cert.PlainOutsIdeal.τ) (Cert.PlainOutsIdeal.main (F := Ideal))) ⟨m, fun _ => 0, g⟩ (fun r => (∀ c : Dev Cert.PlainOutsIdeal.nD,
      r.2.mem ((c.tc : Thread Cert.PlainOutsIdeal.nD Cert.PlainOutsIdeal.τ).loc Cert.PlainOutsIdeal.main_arg0) = m ((c.tc : Thread Cert.PlainOutsIdeal.nD Cert.PlainOutsIdeal.τ).loc Cert.PlainOutsIdeal.main_arg0)
      ∧ r.2.mem ((c.tc : Thread Cert.PlainOutsIdeal.nD Cert.PlainOutsIdeal.τ).loc Cert.PlainOutsIdeal.main_arg1) = m ((c.tc : Thread Cert.PlainOutsIdeal.nD Cert.PlainOutsIdeal.τ).loc Cert.PlainOutsIdeal.main_arg1)
      ∧ r.2.mem ((c.tc : Thread Cert.PlainOutsIdeal.nD Cert.PlainOutsIdeal.τ).loc Cert.PlainOutsIdeal.main_arg2) = m ((c.tc : Thread Cert.PlainOutsIdeal.nD Cert.PlainOutsIdeal.τ).loc Cert.PlainOutsIdeal.main_arg2)
      ∧ r.2.mem ((c.tc : Thread Cert.PlainOutsIdeal.nD Cert.PlainOutsIdeal.τ).loc Cert.PlainOutsIdeal.main_arg3) = m ((c.tc : Thread Cert.PlainOutsIdeal.nD Cert.PlainOutsIdeal.τ).loc Cert.PlainOutsIdeal.main_arg3))
      ∧ r.2.sem = fun _ => 0)

def quiescent_Attns [hAttns : Cert.Attns.Facts] : Prop :=
  ∀ (m : (ℓ : Loc Cert.Attns.nD Cert.Attns.τ Cert.Attns.sig) → Buf (Elt Bits) ℓ) (g : Dev Cert.Attns.nD → PrngReg), Pre_Attns m →
    θ_run (Cert.Attns.defs (F := Bits)) (onTc (τ := Cert.Attns.τ) (Cert.Attns.main (F := Bits))) ⟨m, fun _ => 0, g⟩ (fun r => (∀ c : Dev Cert.Attns.nD,
      r.2.mem ((c.tc : Thread Cert.Attns.nD Cert.Attns.τ).loc Cert.Attns.main_arg0) = m ((c.tc : Thread Cert.Attns.nD Cert.Attns.τ).loc Cert.Attns.main_arg0)
      ∧ r.2.mem ((c.tc : Thread Cert.Attns.nD Cert.Attns.τ).loc Cert.Attns.main_arg1) = m ((c.tc : Thread Cert.Attns.nD Cert.Attns.τ).loc Cert.Attns.main_arg1)
      ∧ r.2.mem ((c.tc : Thread Cert.Attns.nD Cert.Attns.τ).loc Cert.Attns.main_arg2) = m ((c.tc : Thread Cert.Attns.nD Cert.Attns.τ).loc Cert.Attns.main_arg2)
      ∧ r.2.mem ((c.tc : Thread Cert.Attns.nD Cert.Attns.τ).loc Cert.Attns.main_arg3) = m ((c.tc : Thread Cert.Attns.nD Cert.Attns.τ).loc Cert.Attns.main_arg3)
      ∧ r.2.mem ((c.tc : Thread Cert.Attns.nD Cert.Attns.τ).loc Cert.Attns.main_arg4) = m ((c.tc : Thread Cert.Attns.nD Cert.Attns.τ).loc Cert.Attns.main_arg4))
      ∧ r.2.sem = fun _ => 0)

def quiescent_AttnsIdeal [hAttnsIdeal : Cert.AttnsIdeal.Facts] : Prop :=
  ∀ (m : (ℓ : Loc Cert.AttnsIdeal.nD Cert.AttnsIdeal.τ Cert.AttnsIdeal.sig) → Buf (Elt Ideal) ℓ) (g : Dev Cert.AttnsIdeal.nD → PrngReg), Pre_AttnsIdeal m →
    θ_run (Cert.AttnsIdeal.defs (F := Ideal)) (onTc (τ := Cert.AttnsIdeal.τ) (Cert.AttnsIdeal.main (F := Ideal))) ⟨m, fun _ => 0, g⟩ (fun r => (∀ c : Dev Cert.AttnsIdeal.nD,
      r.2.mem ((c.tc : Thread Cert.AttnsIdeal.nD Cert.AttnsIdeal.τ).loc Cert.AttnsIdeal.main_arg0) = m ((c.tc : Thread Cert.AttnsIdeal.nD Cert.AttnsIdeal.τ).loc Cert.AttnsIdeal.main_arg0)
      ∧ r.2.mem ((c.tc : Thread Cert.AttnsIdeal.nD Cert.AttnsIdeal.τ).loc Cert.AttnsIdeal.main_arg1) = m ((c.tc : Thread Cert.AttnsIdeal.nD Cert.AttnsIdeal.τ).loc Cert.AttnsIdeal.main_arg1)
      ∧ r.2.mem ((c.tc : Thread Cert.AttnsIdeal.nD Cert.AttnsIdeal.τ).loc Cert.AttnsIdeal.main_arg2) = m ((c.tc : Thread Cert.AttnsIdeal.nD Cert.AttnsIdeal.τ).loc Cert.AttnsIdeal.main_arg2)
      ∧ r.2.mem ((c.tc : Thread Cert.AttnsIdeal.nD Cert.AttnsIdeal.τ).loc Cert.AttnsIdeal.main_arg3) = m ((c.tc : Thread Cert.AttnsIdeal.nD Cert.AttnsIdeal.τ).loc Cert.AttnsIdeal.main_arg3)
      ∧ r.2.mem ((c.tc : Thread Cert.AttnsIdeal.nD Cert.AttnsIdeal.τ).loc Cert.AttnsIdeal.main_arg4) = m ((c.tc : Thread Cert.AttnsIdeal.nD Cert.AttnsIdeal.τ).loc Cert.AttnsIdeal.main_arg4))
      ∧ r.2.sem = fun _ => 0)

def quiescent_AttnsIdeal_pre_scores_finite [hAttnsIdeal : Cert.AttnsIdeal.Facts] [hPre_scores_finite : Cert.Pre_scores_finite.Facts] : Prop :=
  ∀ (m : (ℓ : Loc Cert.AttnsIdeal.nD Cert.AttnsIdeal.τ Cert.AttnsIdeal.sig) → Buf (Elt Ideal) ℓ) (g : Dev Cert.AttnsIdeal.nD → PrngReg), Pre_AttnsIdeal_scores_finite m →
    θ_run (Cert.AttnsIdeal.defs (F := Ideal)) (onTc (τ := Cert.AttnsIdeal.τ) (Cert.AttnsIdeal.main (F := Ideal))) ⟨m, fun _ => 0, g⟩ (fun r => (∀ c : Dev Cert.AttnsIdeal.nD,
      r.2.mem ((c.tc : Thread Cert.AttnsIdeal.nD Cert.AttnsIdeal.τ).loc Cert.AttnsIdeal.main_arg0) = m ((c.tc : Thread Cert.AttnsIdeal.nD Cert.AttnsIdeal.τ).loc Cert.AttnsIdeal.main_arg0)
      ∧ r.2.mem ((c.tc : Thread Cert.AttnsIdeal.nD Cert.AttnsIdeal.τ).loc Cert.AttnsIdeal.main_arg1) = m ((c.tc : Thread Cert.AttnsIdeal.nD Cert.AttnsIdeal.τ).loc Cert.AttnsIdeal.main_arg1)
      ∧ r.2.mem ((c.tc : Thread Cert.AttnsIdeal.nD Cert.AttnsIdeal.τ).loc Cert.AttnsIdeal.main_arg2) = m ((c.tc : Thread Cert.AttnsIdeal.nD Cert.AttnsIdeal.τ).loc Cert.AttnsIdeal.main_arg2)
      ∧ r.2.mem ((c.tc : Thread Cert.AttnsIdeal.nD Cert.AttnsIdeal.τ).loc Cert.AttnsIdeal.main_arg3) = m ((c.tc : Thread Cert.AttnsIdeal.nD Cert.AttnsIdeal.τ).loc Cert.AttnsIdeal.main_arg3)
      ∧ r.2.mem ((c.tc : Thread Cert.AttnsIdeal.nD Cert.AttnsIdeal.τ).loc Cert.AttnsIdeal.main_arg4) = m ((c.tc : Thread Cert.AttnsIdeal.nD Cert.AttnsIdeal.τ).loc Cert.AttnsIdeal.main_arg4))
      ∧ r.2.sem = fun _ => 0)

def quiescent_PlainAttnsIdeal [hPlainAttnsIdeal : Cert.PlainAttnsIdeal.Facts] : Prop :=
  ∀ (m : (ℓ : Loc Cert.PlainAttnsIdeal.nD Cert.PlainAttnsIdeal.τ Cert.PlainAttnsIdeal.sig) → Buf (Elt Ideal) ℓ) (g : Dev Cert.PlainAttnsIdeal.nD → PrngReg), Pre_PlainAttnsIdeal m →
    θ_run (Cert.PlainAttnsIdeal.defs (F := Ideal)) (onTc (τ := Cert.PlainAttnsIdeal.τ) (Cert.PlainAttnsIdeal.main (F := Ideal))) ⟨m, fun _ => 0, g⟩ (fun r => (∀ c : Dev Cert.PlainAttnsIdeal.nD,
      r.2.mem ((c.tc : Thread Cert.PlainAttnsIdeal.nD Cert.PlainAttnsIdeal.τ).loc Cert.PlainAttnsIdeal.main_arg0) = m ((c.tc : Thread Cert.PlainAttnsIdeal.nD Cert.PlainAttnsIdeal.τ).loc Cert.PlainAttnsIdeal.main_arg0)
      ∧ r.2.mem ((c.tc : Thread Cert.PlainAttnsIdeal.nD Cert.PlainAttnsIdeal.τ).loc Cert.PlainAttnsIdeal.main_arg1) = m ((c.tc : Thread Cert.PlainAttnsIdeal.nD Cert.PlainAttnsIdeal.τ).loc Cert.PlainAttnsIdeal.main_arg1)
      ∧ r.2.mem ((c.tc : Thread Cert.PlainAttnsIdeal.nD Cert.PlainAttnsIdeal.τ).loc Cert.PlainAttnsIdeal.main_arg2) = m ((c.tc : Thread Cert.PlainAttnsIdeal.nD Cert.PlainAttnsIdeal.τ).loc Cert.PlainAttnsIdeal.main_arg2)
      ∧ r.2.mem ((c.tc : Thread Cert.PlainAttnsIdeal.nD Cert.PlainAttnsIdeal.τ).loc Cert.PlainAttnsIdeal.main_arg3) = m ((c.tc : Thread Cert.PlainAttnsIdeal.nD Cert.PlainAttnsIdeal.τ).loc Cert.PlainAttnsIdeal.main_arg3)
      ∧ r.2.mem ((c.tc : Thread Cert.PlainAttnsIdeal.nD Cert.PlainAttnsIdeal.τ).loc Cert.PlainAttnsIdeal.main_arg4) = m ((c.tc : Thread Cert.PlainAttnsIdeal.nD Cert.PlainAttnsIdeal.τ).loc Cert.PlainAttnsIdeal.main_arg4))
      ∧ r.2.sem = fun _ => 0)

def quiescent_PlainAttnsIdeal_pre_scores_finite [hPlainAttnsIdeal : Cert.PlainAttnsIdeal.Facts] [hPre_scores_finite : Cert.Pre_scores_finite.Facts] : Prop :=
  ∀ (m : (ℓ : Loc Cert.PlainAttnsIdeal.nD Cert.PlainAttnsIdeal.τ Cert.PlainAttnsIdeal.sig) → Buf (Elt Ideal) ℓ) (g : Dev Cert.PlainAttnsIdeal.nD → PrngReg), Pre_PlainAttnsIdeal_scores_finite m →
    θ_run (Cert.PlainAttnsIdeal.defs (F := Ideal)) (onTc (τ := Cert.PlainAttnsIdeal.τ) (Cert.PlainAttnsIdeal.main (F := Ideal))) ⟨m, fun _ => 0, g⟩ (fun r => (∀ c : Dev Cert.PlainAttnsIdeal.nD,
      r.2.mem ((c.tc : Thread Cert.PlainAttnsIdeal.nD Cert.PlainAttnsIdeal.τ).loc Cert.PlainAttnsIdeal.main_arg0) = m ((c.tc : Thread Cert.PlainAttnsIdeal.nD Cert.PlainAttnsIdeal.τ).loc Cert.PlainAttnsIdeal.main_arg0)
      ∧ r.2.mem ((c.tc : Thread Cert.PlainAttnsIdeal.nD Cert.PlainAttnsIdeal.τ).loc Cert.PlainAttnsIdeal.main_arg1) = m ((c.tc : Thread Cert.PlainAttnsIdeal.nD Cert.PlainAttnsIdeal.τ).loc Cert.PlainAttnsIdeal.main_arg1)
      ∧ r.2.mem ((c.tc : Thread Cert.PlainAttnsIdeal.nD Cert.PlainAttnsIdeal.τ).loc Cert.PlainAttnsIdeal.main_arg2) = m ((c.tc : Thread Cert.PlainAttnsIdeal.nD Cert.PlainAttnsIdeal.τ).loc Cert.PlainAttnsIdeal.main_arg2)
      ∧ r.2.mem ((c.tc : Thread Cert.PlainAttnsIdeal.nD Cert.PlainAttnsIdeal.τ).loc Cert.PlainAttnsIdeal.main_arg3) = m ((c.tc : Thread Cert.PlainAttnsIdeal.nD Cert.PlainAttnsIdeal.τ).loc Cert.PlainAttnsIdeal.main_arg3)
      ∧ r.2.mem ((c.tc : Thread Cert.PlainAttnsIdeal.nD Cert.PlainAttnsIdeal.τ).loc Cert.PlainAttnsIdeal.main_arg4) = m ((c.tc : Thread Cert.PlainAttnsIdeal.nD Cert.PlainAttnsIdeal.τ).loc Cert.PlainAttnsIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "qk_scale" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Inproj_InprojIdeal : Prop :=
  True

def algebraic_InprojIdeal_PlainIdeal [hInprojIdeal : Cert.InprojIdeal.Facts] [hPlainIdeal : Cert.PlainIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.PlainIdeal.nD Cert.PlainIdeal.τ Cert.PlainIdeal.sig) → Buf (Elt Ideal) ℓ) (g' : Dev Cert.PlainIdeal.nD → PrngReg), Pre_InprojIdeal m →
    (∀ c : Dev Cert.InprojIdeal.nD,
      m' ((c.tc : Thread Cert.PlainIdeal.nD Cert.PlainIdeal.τ).loc Cert.PlainIdeal.main_arg0) = m ((c.tc : Thread Cert.InprojIdeal.nD Cert.InprojIdeal.τ).loc Cert.InprojIdeal.main_arg0)
      ∧ m' ((c.tc : Thread Cert.PlainIdeal.nD Cert.PlainIdeal.τ).loc Cert.PlainIdeal.main_arg1) = m ((c.tc : Thread Cert.InprojIdeal.nD Cert.InprojIdeal.τ).loc Cert.InprojIdeal.main_arg1)
      ∧ m' ((c.tc : Thread Cert.PlainIdeal.nD Cert.PlainIdeal.τ).loc Cert.PlainIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v1_0)) (v1 : (c : Dev Cert.InprojIdeal.nD) → Buf (Elt Ideal) ((c.tc : Thread Cert.InprojIdeal.nD Cert.InprojIdeal.τ).loc Cert.InprojIdeal.main_v1_1)) (v2 : (c : Dev Cert.InprojIdeal.nD) → Buf (Elt Ideal) ((c.tc : Thread Cert.InprojIdeal.nD Cert.InprojIdeal.τ).loc Cert.InprojIdeal.main_v1_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v1_0) = v0 c
          ∧ r.2.mem ((c.tc : Thread Cert.InprojIdeal.nD Cert.InprojIdeal.τ).loc Cert.InprojIdeal.main_v1_1) = v1 c
          ∧ r.2.mem ((c.tc : Thread Cert.InprojIdeal.nD Cert.InprojIdeal.τ).loc Cert.InprojIdeal.main_v1_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.PlainIdeal.defs (F := Ideal)) (onTc (τ := Cert.PlainIdeal.τ) (Cert.PlainIdeal.main (F := Ideal))) ⟨m', fun _ => 0, g'⟩ (fun r => ∀ c : Dev Cert.PlainIdeal.nD,
          r.2.mem ((c.tc : Thread Cert.PlainIdeal.nD Cert.PlainIdeal.τ).loc Cert.PlainIdeal.main_v50) = v0 c
          ∧ r.2.mem ((c.tc : Thread Cert.PlainIdeal.nD Cert.PlainIdeal.τ).loc Cert.PlainIdeal.main_v54) = v1 c
          ∧ r.2.mem ((c.tc : Thread Cert.PlainIdeal.nD Cert.PlainIdeal.τ).loc Cert.PlainIdeal.main_v53) = v2 c
          ∧ r.2.mem ((c.tc : Thread Cert.PlainIdeal.nD Cert.PlainIdeal.τ).loc Cert.PlainIdeal.main_arg0) = m' ((c.tc : Thread Cert.PlainIdeal.nD Cert.PlainIdeal.τ).loc Cert.PlainIdeal.main_arg0)
          ∧ r.2.mem ((c.tc : Thread Cert.PlainIdeal.nD Cert.PlainIdeal.τ).loc Cert.PlainIdeal.main_arg1) = m' ((c.tc : Thread Cert.PlainIdeal.nD Cert.PlainIdeal.τ).loc Cert.PlainIdeal.main_arg1)
          ∧ r.2.mem ((c.tc : Thread Cert.PlainIdeal.nD Cert.PlainIdeal.τ).loc Cert.PlainIdeal.main_arg2) = m' ((c.tc : Thread Cert.PlainIdeal.nD Cert.PlainIdeal.τ).loc Cert.PlainIdeal.main_arg2))

def preserves_Outproj_OutprojIdeal : Prop :=
  True

def algebraic_OutprojIdeal_PlainOutIdeal [hOutprojIdeal : Cert.OutprojIdeal.Facts] [hPlainOutIdeal : Cert.PlainOutIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.PlainOutIdeal.nD Cert.PlainOutIdeal.τ Cert.PlainOutIdeal.sig) → Buf (Elt Ideal) ℓ) (g' : Dev Cert.PlainOutIdeal.nD → PrngReg), Pre_OutprojIdeal m →
    (∀ c : Dev Cert.OutprojIdeal.nD,
      m' ((c.tc : Thread Cert.PlainOutIdeal.nD Cert.PlainOutIdeal.τ).loc Cert.PlainOutIdeal.main_arg0) = m ((c.tc : Thread Cert.OutprojIdeal.nD Cert.OutprojIdeal.τ).loc Cert.OutprojIdeal.main_arg0)
      ∧ m' ((c.tc : Thread Cert.PlainOutIdeal.nD Cert.PlainOutIdeal.τ).loc Cert.PlainOutIdeal.main_arg1) = m ((c.tc : Thread Cert.OutprojIdeal.nD Cert.OutprojIdeal.τ).loc Cert.OutprojIdeal.main_arg1)
      ∧ m' ((c.tc : Thread Cert.PlainOutIdeal.nD Cert.PlainOutIdeal.τ).loc Cert.PlainOutIdeal.main_arg2) = m ((c.tc : Thread Cert.OutprojIdeal.nD Cert.OutprojIdeal.τ).loc Cert.OutprojIdeal.main_arg2)
      ∧ m' ((c.tc : Thread Cert.PlainOutIdeal.nD Cert.PlainOutIdeal.τ).loc Cert.PlainOutIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v0)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.PlainOutIdeal.defs (F := Ideal)) (onTc (τ := Cert.PlainOutIdeal.τ) (Cert.PlainOutIdeal.main (F := Ideal))) ⟨m', fun _ => 0, g'⟩ (fun r => ∀ c : Dev Cert.PlainOutIdeal.nD,
          r.2.mem ((c.tc : Thread Cert.PlainOutIdeal.nD Cert.PlainOutIdeal.τ).loc Cert.PlainOutIdeal.main_v5) = v0 c
          ∧ r.2.mem ((c.tc : Thread Cert.PlainOutIdeal.nD Cert.PlainOutIdeal.τ).loc Cert.PlainOutIdeal.main_arg0) = m' ((c.tc : Thread Cert.PlainOutIdeal.nD Cert.PlainOutIdeal.τ).loc Cert.PlainOutIdeal.main_arg0)
          ∧ r.2.mem ((c.tc : Thread Cert.PlainOutIdeal.nD Cert.PlainOutIdeal.τ).loc Cert.PlainOutIdeal.main_arg1) = m' ((c.tc : Thread Cert.PlainOutIdeal.nD Cert.PlainOutIdeal.τ).loc Cert.PlainOutIdeal.main_arg1)
          ∧ r.2.mem ((c.tc : Thread Cert.PlainOutIdeal.nD Cert.PlainOutIdeal.τ).loc Cert.PlainOutIdeal.main_arg2) = m' ((c.tc : Thread Cert.PlainOutIdeal.nD Cert.PlainOutIdeal.τ).loc Cert.PlainOutIdeal.main_arg2)
          ∧ r.2.mem ((c.tc : Thread Cert.PlainOutIdeal.nD Cert.PlainOutIdeal.τ).loc Cert.PlainOutIdeal.main_arg3) = m' ((c.tc : Thread Cert.PlainOutIdeal.nD Cert.PlainOutIdeal.τ).loc Cert.PlainOutIdeal.main_arg3))

def preserves_Prenorm_PrenormIdeal : Prop :=
  True

def algebraic_PrenormIdeal_PlainNormIdeal [hPrenormIdeal : Cert.PrenormIdeal.Facts] [hPlainNormIdeal : Cert.PlainNormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PlainNormIdeal.nD Cert.PlainNormIdeal.τ Cert.PlainNormIdeal.sig) → Buf (Elt Ideal) ℓ) (g' : Dev Cert.PlainNormIdeal.nD → PrngReg), Pre_PrenormIdeal m →
    (∀ c : Dev Cert.PrenormIdeal.nD,
      m' ((c.tc : Thread Cert.PlainNormIdeal.nD Cert.PlainNormIdeal.τ).loc Cert.PlainNormIdeal.main_arg0) = m ((c.tc : Thread Cert.PrenormIdeal.nD Cert.PrenormIdeal.τ).loc Cert.PrenormIdeal.main_arg0)
      ∧ m' ((c.tc : Thread Cert.PlainNormIdeal.nD Cert.PlainNormIdeal.τ).loc Cert.PlainNormIdeal.main_arg1) = m ((c.tc : Thread Cert.PrenormIdeal.nD Cert.PrenormIdeal.τ).loc Cert.PrenormIdeal.main_arg1)
      ∧ m' ((c.tc : Thread Cert.PlainNormIdeal.nD Cert.PlainNormIdeal.τ).loc Cert.PlainNormIdeal.main_arg2) = m ((c.tc : Thread Cert.PrenormIdeal.nD Cert.PrenormIdeal.τ).loc Cert.PrenormIdeal.main_arg2)) →
    ∃ (v0 : (c : Dev Cert.PrenormIdeal.nD) → Buf (Elt Ideal) ((c.tc : Thread Cert.PrenormIdeal.nD Cert.PrenormIdeal.τ).loc Cert.PrenormIdeal.main_v1)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v1) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2))
      ∧ θ_run (Cert.PlainNormIdeal.defs (F := Ideal)) (onTc (τ := Cert.PlainNormIdeal.τ) (Cert.PlainNormIdeal.main (F := Ideal))) ⟨m', fun _ => 0, g'⟩ (fun r => ∀ c : Dev Cert.PlainNormIdeal.nD,
          r.2.mem ((c.tc : Thread Cert.PlainNormIdeal.nD Cert.PlainNormIdeal.τ).loc Cert.PlainNormIdeal.main_v14) = v0 c
          ∧ r.2.mem ((c.tc : Thread Cert.PlainNormIdeal.nD Cert.PlainNormIdeal.τ).loc Cert.PlainNormIdeal.main_arg0) = m' ((c.tc : Thread Cert.PlainNormIdeal.nD Cert.PlainNormIdeal.τ).loc Cert.PlainNormIdeal.main_arg0)
          ∧ r.2.mem ((c.tc : Thread Cert.PlainNormIdeal.nD Cert.PlainNormIdeal.τ).loc Cert.PlainNormIdeal.main_arg1) = m' ((c.tc : Thread Cert.PlainNormIdeal.nD Cert.PlainNormIdeal.τ).loc Cert.PlainNormIdeal.main_arg1)
          ∧ r.2.mem ((c.tc : Thread Cert.PlainNormIdeal.nD Cert.PlainNormIdeal.τ).loc Cert.PlainNormIdeal.main_arg2) = m' ((c.tc : Thread Cert.PlainNormIdeal.nD Cert.PlainNormIdeal.τ).loc Cert.PlainNormIdeal.main_arg2))

def preserves_Final_FinalIdeal : Prop :=
  True

def algebraic_FinalIdeal_PlainFinalIdeal [hFinalIdeal : Cert.FinalIdeal.Facts] [hPlainFinalIdeal : Cert.PlainFinalIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.PlainFinalIdeal.nD Cert.PlainFinalIdeal.τ Cert.PlainFinalIdeal.sig) → Buf (Elt Ideal) ℓ) (g' : Dev Cert.PlainFinalIdeal.nD → PrngReg), Pre_FinalIdeal m →
    (∀ c : Dev Cert.FinalIdeal.nD,
      m' ((c.tc : Thread Cert.PlainFinalIdeal.nD Cert.PlainFinalIdeal.τ).loc Cert.PlainFinalIdeal.main_arg0) = m ((c.tc : Thread Cert.FinalIdeal.nD Cert.FinalIdeal.τ).loc Cert.FinalIdeal.main_arg0)
      ∧ m' ((c.tc : Thread Cert.PlainFinalIdeal.nD Cert.PlainFinalIdeal.τ).loc Cert.PlainFinalIdeal.main_arg1) = m ((c.tc : Thread Cert.FinalIdeal.nD Cert.FinalIdeal.τ).loc Cert.FinalIdeal.main_arg1)
      ∧ m' ((c.tc : Thread Cert.PlainFinalIdeal.nD Cert.PlainFinalIdeal.τ).loc Cert.PlainFinalIdeal.main_arg2) = m ((c.tc : Thread Cert.FinalIdeal.nD Cert.FinalIdeal.τ).loc Cert.FinalIdeal.main_arg2)
      ∧ m' ((c.tc : Thread Cert.PlainFinalIdeal.nD Cert.PlainFinalIdeal.τ).loc Cert.PlainFinalIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.PlainFinalIdeal.defs (F := Ideal)) (onTc (τ := Cert.PlainFinalIdeal.τ) (Cert.PlainFinalIdeal.main (F := Ideal))) ⟨m', fun _ => 0, g'⟩ (fun r => ∀ c : Dev Cert.PlainFinalIdeal.nD,
          r.2.mem ((c.tc : Thread Cert.PlainFinalIdeal.nD Cert.PlainFinalIdeal.τ).loc Cert.PlainFinalIdeal.main_v22) = v0 c
          ∧ r.2.mem ((c.tc : Thread Cert.PlainFinalIdeal.nD Cert.PlainFinalIdeal.τ).loc Cert.PlainFinalIdeal.main_arg0) = m' ((c.tc : Thread Cert.PlainFinalIdeal.nD Cert.PlainFinalIdeal.τ).loc Cert.PlainFinalIdeal.main_arg0)
          ∧ r.2.mem ((c.tc : Thread Cert.PlainFinalIdeal.nD Cert.PlainFinalIdeal.τ).loc Cert.PlainFinalIdeal.main_arg1) = m' ((c.tc : Thread Cert.PlainFinalIdeal.nD Cert.PlainFinalIdeal.τ).loc Cert.PlainFinalIdeal.main_arg1)
          ∧ r.2.mem ((c.tc : Thread Cert.PlainFinalIdeal.nD Cert.PlainFinalIdeal.τ).loc Cert.PlainFinalIdeal.main_arg2) = m' ((c.tc : Thread Cert.PlainFinalIdeal.nD Cert.PlainFinalIdeal.τ).loc Cert.PlainFinalIdeal.main_arg2)
          ∧ r.2.mem ((c.tc : Thread Cert.PlainFinalIdeal.nD Cert.PlainFinalIdeal.τ).loc Cert.PlainFinalIdeal.main_arg3) = m' ((c.tc : Thread Cert.PlainFinalIdeal.nD Cert.PlainFinalIdeal.τ).loc Cert.PlainFinalIdeal.main_arg3))

def preserves_Last_LastIdeal : Prop :=
  True

def algebraic_LastIdeal_PlainLastIdeal [hLastIdeal : Cert.LastIdeal.Facts] [hPlainLastIdeal : Cert.PlainLastIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.PlainLastIdeal.nD Cert.PlainLastIdeal.τ Cert.PlainLastIdeal.sig) → Buf (Elt Ideal) ℓ) (g' : Dev Cert.PlainLastIdeal.nD → PrngReg), Pre_LastIdeal m →
    (∀ c : Dev Cert.LastIdeal.nD,
      m' ((c.tc : Thread Cert.PlainLastIdeal.nD Cert.PlainLastIdeal.τ).loc Cert.PlainLastIdeal.main_arg0) = m ((c.tc : Thread Cert.LastIdeal.nD Cert.LastIdeal.τ).loc Cert.LastIdeal.main_arg0)
      ∧ m' ((c.tc : Thread Cert.PlainLastIdeal.nD Cert.PlainLastIdeal.τ).loc Cert.PlainLastIdeal.main_arg1) = m ((c.tc : Thread Cert.LastIdeal.nD Cert.LastIdeal.τ).loc Cert.LastIdeal.main_arg1)
      ∧ m' ((c.tc : Thread Cert.PlainLastIdeal.nD Cert.PlainLastIdeal.τ).loc Cert.PlainLastIdeal.main_arg2) = m ((c.tc : Thread Cert.LastIdeal.nD Cert.LastIdeal.τ).loc Cert.LastIdeal.main_arg2)
      ∧ m' ((c.tc : Thread Cert.PlainLastIdeal.nD Cert.PlainLastIdeal.τ).loc Cert.PlainLastIdeal.main_arg3) = m ((c.tc : Thread Cert.LastIdeal.nD Cert.LastIdeal.τ).loc Cert.LastIdeal.main_arg3)) →
    ∃ (v0 : (c : Dev Cert.LastIdeal.nD) → Buf (Elt Ideal) ((c.tc : Thread Cert.LastIdeal.nD Cert.LastIdeal.τ).loc Cert.LastIdeal.main_v1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v1) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ θ_run (Cert.PlainLastIdeal.defs (F := Ideal)) (onTc (τ := Cert.PlainLastIdeal.τ) (Cert.PlainLastIdeal.main (F := Ideal))) ⟨m', fun _ => 0, g'⟩ (fun r => ∀ c : Dev Cert.PlainLastIdeal.nD,
          r.2.mem ((c.tc : Thread Cert.PlainLastIdeal.nD Cert.PlainLastIdeal.τ).loc Cert.PlainLastIdeal.main_v22) = v0 c
          ∧ r.2.mem ((c.tc : Thread Cert.PlainLastIdeal.nD Cert.PlainLastIdeal.τ).loc Cert.PlainLastIdeal.main_arg0) = m' ((c.tc : Thread Cert.PlainLastIdeal.nD Cert.PlainLastIdeal.τ).loc Cert.PlainLastIdeal.main_arg0)
          ∧ r.2.mem ((c.tc : Thread Cert.PlainLastIdeal.nD Cert.PlainLastIdeal.τ).loc Cert.PlainLastIdeal.main_arg1) = m' ((c.tc : Thread Cert.PlainLastIdeal.nD Cert.PlainLastIdeal.τ).loc Cert.PlainLastIdeal.main_arg1)
          ∧ r.2.mem ((c.tc : Thread Cert.PlainLastIdeal.nD Cert.PlainLastIdeal.τ).loc Cert.PlainLastIdeal.main_arg2) = m' ((c.tc : Thread Cert.PlainLastIdeal.nD Cert.PlainLastIdeal.τ).loc Cert.PlainLastIdeal.main_arg2)
          ∧ r.2.mem ((c.tc : Thread Cert.PlainLastIdeal.nD Cert.PlainLastIdeal.τ).loc Cert.PlainLastIdeal.main_arg3) = m' ((c.tc : Thread Cert.PlainLastIdeal.nD Cert.PlainLastIdeal.τ).loc Cert.PlainLastIdeal.main_arg3))

def preserves_Sgu_SguIdeal : Prop :=
  True

def algebraic_SguIdeal_PlainSguIdeal [hSguIdeal : Cert.SguIdeal.Facts] [hPlainSguIdeal : Cert.PlainSguIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.PlainSguIdeal.nD Cert.PlainSguIdeal.τ Cert.PlainSguIdeal.sig) → Buf (Elt Ideal) ℓ) (g' : Dev Cert.PlainSguIdeal.nD → PrngReg), Pre_SguIdeal m →
    (∀ c : Dev Cert.SguIdeal.nD,
      m' ((c.tc : Thread Cert.PlainSguIdeal.nD Cert.PlainSguIdeal.τ).loc Cert.PlainSguIdeal.main_arg0) = m ((c.tc : Thread Cert.SguIdeal.nD Cert.SguIdeal.τ).loc Cert.SguIdeal.main_arg0)
      ∧ m' ((c.tc : Thread Cert.PlainSguIdeal.nD Cert.PlainSguIdeal.τ).loc Cert.PlainSguIdeal.main_arg1) = m ((c.tc : Thread Cert.SguIdeal.nD Cert.SguIdeal.τ).loc Cert.SguIdeal.main_arg1)
      ∧ m' ((c.tc : Thread Cert.PlainSguIdeal.nD Cert.PlainSguIdeal.τ).loc Cert.PlainSguIdeal.main_arg2) = m ((c.tc : Thread Cert.SguIdeal.nD Cert.SguIdeal.τ).loc Cert.SguIdeal.main_arg2)
      ∧ m' ((c.tc : Thread Cert.PlainSguIdeal.nD Cert.PlainSguIdeal.τ).loc Cert.PlainSguIdeal.main_arg3) = m ((c.tc : Thread Cert.SguIdeal.nD Cert.SguIdeal.τ).loc Cert.SguIdeal.main_arg3)) →
    ∃ (v0 : (c : Dev Cert.SguIdeal.nD) → Buf (Elt Ideal) ((c.tc : Thread Cert.SguIdeal.nD Cert.SguIdeal.τ).loc Cert.SguIdeal.main_v22)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v22) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3))
      ∧ θ_run (Cert.PlainSguIdeal.defs (F := Ideal)) (onTc (τ := Cert.PlainSguIdeal.τ) (Cert.PlainSguIdeal.main (F := Ideal))) ⟨m', fun _ => 0, g'⟩ (fun r => ∀ c : Dev Cert.PlainSguIdeal.nD,
          r.2.mem ((c.tc : Thread Cert.PlainSguIdeal.nD Cert.PlainSguIdeal.τ).loc Cert.PlainSguIdeal.main_v44) = v0 c
          ∧ r.2.mem ((c.tc : Thread Cert.PlainSguIdeal.nD Cert.PlainSguIdeal.τ).loc Cert.PlainSguIdeal.main_arg0) = m' ((c.tc : Thread Cert.PlainSguIdeal.nD Cert.PlainSguIdeal.τ).loc Cert.PlainSguIdeal.main_arg0)
          ∧ r.2.mem ((c.tc : Thread Cert.PlainSguIdeal.nD Cert.PlainSguIdeal.τ).loc Cert.PlainSguIdeal.main_arg1) = m' ((c.tc : Thread Cert.PlainSguIdeal.nD Cert.PlainSguIdeal.τ).loc Cert.PlainSguIdeal.main_arg1)
          ∧ r.2.mem ((c.tc : Thread Cert.PlainSguIdeal.nD Cert.PlainSguIdeal.τ).loc Cert.PlainSguIdeal.main_arg2) = m' ((c.tc : Thread Cert.PlainSguIdeal.nD Cert.PlainSguIdeal.τ).loc Cert.PlainSguIdeal.main_arg2)
          ∧ r.2.mem ((c.tc : Thread Cert.PlainSguIdeal.nD Cert.PlainSguIdeal.τ).loc Cert.PlainSguIdeal.main_arg3) = m' ((c.tc : Thread Cert.PlainSguIdeal.nD Cert.PlainSguIdeal.τ).loc Cert.PlainSguIdeal.main_arg3))

def preserves_Outs_OutsIdeal : Prop :=
  True

def algebraic_OutsIdeal_PlainOutsIdeal [hOutsIdeal : Cert.OutsIdeal.Facts] [hPlainOutsIdeal : Cert.PlainOutsIdeal.Facts] : Prop :=
  ∀ (m : (ℓ : Loc Cert.OutsIdeal.nD Cert.OutsIdeal.τ Cert.OutsIdeal.sig) → Buf (Elt Ideal) ℓ) (g : Dev Cert.OutsIdeal.nD → PrngReg)
    (m' : (ℓ : Loc Cert.PlainOutsIdeal.nD Cert.PlainOutsIdeal.τ Cert.PlainOutsIdeal.sig) → Buf (Elt Ideal) ℓ) (g' : Dev Cert.PlainOutsIdeal.nD → PrngReg), Pre_OutsIdeal m →
    (∀ c : Dev Cert.OutsIdeal.nD,
      m' ((c.tc : Thread Cert.PlainOutsIdeal.nD Cert.PlainOutsIdeal.τ).loc Cert.PlainOutsIdeal.main_arg0) = m ((c.tc : Thread Cert.OutsIdeal.nD Cert.OutsIdeal.τ).loc Cert.OutsIdeal.main_arg0)
      ∧ m' ((c.tc : Thread Cert.PlainOutsIdeal.nD Cert.PlainOutsIdeal.τ).loc Cert.PlainOutsIdeal.main_arg1) = m ((c.tc : Thread Cert.OutsIdeal.nD Cert.OutsIdeal.τ).loc Cert.OutsIdeal.main_arg1)
      ∧ m' ((c.tc : Thread Cert.PlainOutsIdeal.nD Cert.PlainOutsIdeal.τ).loc Cert.PlainOutsIdeal.main_arg2) = m ((c.tc : Thread Cert.OutsIdeal.nD Cert.OutsIdeal.τ).loc Cert.OutsIdeal.main_arg2)
      ∧ m' ((c.tc : Thread Cert.PlainOutsIdeal.nD Cert.PlainOutsIdeal.τ).loc Cert.PlainOutsIdeal.main_arg3) = m ((c.tc : Thread Cert.OutsIdeal.nD Cert.OutsIdeal.τ).loc Cert.OutsIdeal.main_arg3)) →
    ∃ (v0 : (c : Dev Cert.OutsIdeal.nD) → Buf (Elt Ideal) ((c.tc : Thread Cert.OutsIdeal.nD Cert.OutsIdeal.τ).loc Cert.OutsIdeal.main_v0)),
      θ_run (Cert.OutsIdeal.defs (F := Ideal)) (onTc (τ := Cert.OutsIdeal.τ) (Cert.OutsIdeal.main (F := Ideal))) ⟨m, fun _ => 0, g⟩ (fun r => ∀ c : Dev Cert.OutsIdeal.nD,
          r.2.mem ((c.tc : Thread Cert.OutsIdeal.nD Cert.OutsIdeal.τ).loc Cert.OutsIdeal.main_v0) = v0 c
          ∧ r.2.mem ((c.tc : Thread Cert.OutsIdeal.nD Cert.OutsIdeal.τ).loc Cert.OutsIdeal.main_arg0) = m ((c.tc : Thread Cert.OutsIdeal.nD Cert.OutsIdeal.τ).loc Cert.OutsIdeal.main_arg0)
          ∧ r.2.mem ((c.tc : Thread Cert.OutsIdeal.nD Cert.OutsIdeal.τ).loc Cert.OutsIdeal.main_arg1) = m ((c.tc : Thread Cert.OutsIdeal.nD Cert.OutsIdeal.τ).loc Cert.OutsIdeal.main_arg1)
          ∧ r.2.mem ((c.tc : Thread Cert.OutsIdeal.nD Cert.OutsIdeal.τ).loc Cert.OutsIdeal.main_arg2) = m ((c.tc : Thread Cert.OutsIdeal.nD Cert.OutsIdeal.τ).loc Cert.OutsIdeal.main_arg2)
          ∧ r.2.mem ((c.tc : Thread Cert.OutsIdeal.nD Cert.OutsIdeal.τ).loc Cert.OutsIdeal.main_arg3) = m ((c.tc : Thread Cert.OutsIdeal.nD Cert.OutsIdeal.τ).loc Cert.OutsIdeal.main_arg3))
      ∧ θ_run (Cert.PlainOutsIdeal.defs (F := Ideal)) (onTc (τ := Cert.PlainOutsIdeal.τ) (Cert.PlainOutsIdeal.main (F := Ideal))) ⟨m', fun _ => 0, g'⟩ (fun r => ∀ c : Dev Cert.PlainOutsIdeal.nD,
          r.2.mem ((c.tc : Thread Cert.PlainOutsIdeal.nD Cert.PlainOutsIdeal.τ).loc Cert.PlainOutsIdeal.main_v5) = v0 c
          ∧ r.2.mem ((c.tc : Thread Cert.PlainOutsIdeal.nD Cert.PlainOutsIdeal.τ).loc Cert.PlainOutsIdeal.main_arg0) = m' ((c.tc : Thread Cert.PlainOutsIdeal.nD Cert.PlainOutsIdeal.τ).loc Cert.PlainOutsIdeal.main_arg0)
          ∧ r.2.mem ((c.tc : Thread Cert.PlainOutsIdeal.nD Cert.PlainOutsIdeal.τ).loc Cert.PlainOutsIdeal.main_arg1) = m' ((c.tc : Thread Cert.PlainOutsIdeal.nD Cert.PlainOutsIdeal.τ).loc Cert.PlainOutsIdeal.main_arg1)
          ∧ r.2.mem ((c.tc : Thread Cert.PlainOutsIdeal.nD Cert.PlainOutsIdeal.τ).loc Cert.PlainOutsIdeal.main_arg2) = m' ((c.tc : Thread Cert.PlainOutsIdeal.nD Cert.PlainOutsIdeal.τ).loc Cert.PlainOutsIdeal.main_arg2)
          ∧ r.2.mem ((c.tc : Thread Cert.PlainOutsIdeal.nD Cert.PlainOutsIdeal.τ).loc Cert.PlainOutsIdeal.main_arg3) = m' ((c.tc : Thread Cert.PlainOutsIdeal.nD Cert.PlainOutsIdeal.τ).loc Cert.PlainOutsIdeal.main_arg3))

def preserves_Attns_AttnsIdeal : Prop :=
  True

def algebraic_AttnsIdeal_PlainAttnsIdeal_pre_scores_finite [hAttnsIdeal : Cert.AttnsIdeal.Facts] [hPlainAttnsIdeal : Cert.PlainAttnsIdeal.Facts] [hPre_scores_finite : Cert.Pre_scores_finite.Facts] : Prop :=
  ∀ (m : (ℓ : Loc Cert.AttnsIdeal.nD Cert.AttnsIdeal.τ Cert.AttnsIdeal.sig) → Buf (Elt Ideal) ℓ) (g : Dev Cert.AttnsIdeal.nD → PrngReg)
    (m' : (ℓ : Loc Cert.PlainAttnsIdeal.nD Cert.PlainAttnsIdeal.τ Cert.PlainAttnsIdeal.sig) → Buf (Elt Ideal) ℓ) (g' : Dev Cert.PlainAttnsIdeal.nD → PrngReg), Pre_AttnsIdeal_scores_finite m →
    (∀ c : Dev Cert.AttnsIdeal.nD,
      m' ((c.tc : Thread Cert.PlainAttnsIdeal.nD Cert.PlainAttnsIdeal.τ).loc Cert.PlainAttnsIdeal.main_arg0) = m ((c.tc : Thread Cert.AttnsIdeal.nD Cert.AttnsIdeal.τ).loc Cert.AttnsIdeal.main_arg0)
      ∧ m' ((c.tc : Thread Cert.PlainAttnsIdeal.nD Cert.PlainAttnsIdeal.τ).loc Cert.PlainAttnsIdeal.main_arg1) = m ((c.tc : Thread Cert.AttnsIdeal.nD Cert.AttnsIdeal.τ).loc Cert.AttnsIdeal.main_arg1)
      ∧ m' ((c.tc : Thread Cert.PlainAttnsIdeal.nD Cert.PlainAttnsIdeal.τ).loc Cert.PlainAttnsIdeal.main_arg2) = m ((c.tc : Thread Cert.AttnsIdeal.nD Cert.AttnsIdeal.τ).loc Cert.AttnsIdeal.main_arg2)
      ∧ m' ((c.tc : Thread Cert.PlainAttnsIdeal.nD Cert.PlainAttnsIdeal.τ).loc Cert.PlainAttnsIdeal.main_arg3) = m ((c.tc : Thread Cert.AttnsIdeal.nD Cert.AttnsIdeal.τ).loc Cert.AttnsIdeal.main_arg3)
      ∧ m' ((c.tc : Thread Cert.PlainAttnsIdeal.nD Cert.PlainAttnsIdeal.τ).loc Cert.PlainAttnsIdeal.main_arg4) = m ((c.tc : Thread Cert.AttnsIdeal.nD Cert.AttnsIdeal.τ).loc Cert.AttnsIdeal.main_arg4)) →
    ∃ (v0 : (c : Dev Cert.AttnsIdeal.nD) → Buf (Elt Ideal) ((c.tc : Thread Cert.AttnsIdeal.nD Cert.AttnsIdeal.τ).loc Cert.AttnsIdeal.main_v9)),
      θ_run (Cert.AttnsIdeal.defs (F := Ideal)) (onTc (τ := Cert.AttnsIdeal.τ) (Cert.AttnsIdeal.main (F := Ideal))) ⟨m, fun _ => 0, g⟩ (fun r => ∀ c : Dev Cert.AttnsIdeal.nD,
          r.2.mem ((c.tc : Thread Cert.AttnsIdeal.nD Cert.AttnsIdeal.τ).loc Cert.AttnsIdeal.main_v9) = v0 c
          ∧ r.2.mem ((c.tc : Thread Cert.AttnsIdeal.nD Cert.AttnsIdeal.τ).loc Cert.AttnsIdeal.main_arg0) = m ((c.tc : Thread Cert.AttnsIdeal.nD Cert.AttnsIdeal.τ).loc Cert.AttnsIdeal.main_arg0)
          ∧ r.2.mem ((c.tc : Thread Cert.AttnsIdeal.nD Cert.AttnsIdeal.τ).loc Cert.AttnsIdeal.main_arg1) = m ((c.tc : Thread Cert.AttnsIdeal.nD Cert.AttnsIdeal.τ).loc Cert.AttnsIdeal.main_arg1)
          ∧ r.2.mem ((c.tc : Thread Cert.AttnsIdeal.nD Cert.AttnsIdeal.τ).loc Cert.AttnsIdeal.main_arg2) = m ((c.tc : Thread Cert.AttnsIdeal.nD Cert.AttnsIdeal.τ).loc Cert.AttnsIdeal.main_arg2)
          ∧ r.2.mem ((c.tc : Thread Cert.AttnsIdeal.nD Cert.AttnsIdeal.τ).loc Cert.AttnsIdeal.main_arg3) = m ((c.tc : Thread Cert.AttnsIdeal.nD Cert.AttnsIdeal.τ).loc Cert.AttnsIdeal.main_arg3)
          ∧ r.2.mem ((c.tc : Thread Cert.AttnsIdeal.nD Cert.AttnsIdeal.τ).loc Cert.AttnsIdeal.main_arg4) = m ((c.tc : Thread Cert.AttnsIdeal.nD Cert.AttnsIdeal.τ).loc Cert.AttnsIdeal.main_arg4))
      ∧ θ_run (Cert.PlainAttnsIdeal.defs (F := Ideal)) (onTc (τ := Cert.PlainAttnsIdeal.τ) (Cert.PlainAttnsIdeal.main (F := Ideal))) ⟨m', fun _ => 0, g'⟩ (fun r => ∀ c : Dev Cert.PlainAttnsIdeal.nD,
          r.2.mem ((c.tc : Thread Cert.PlainAttnsIdeal.nD Cert.PlainAttnsIdeal.τ).loc Cert.PlainAttnsIdeal.main_v65) = v0 c
          ∧ r.2.mem ((c.tc : Thread Cert.PlainAttnsIdeal.nD Cert.PlainAttnsIdeal.τ).loc Cert.PlainAttnsIdeal.main_arg0) = m' ((c.tc : Thread Cert.PlainAttnsIdeal.nD Cert.PlainAttnsIdeal.τ).loc Cert.PlainAttnsIdeal.main_arg0)
          ∧ r.2.mem ((c.tc : Thread Cert.PlainAttnsIdeal.nD Cert.PlainAttnsIdeal.τ).loc Cert.PlainAttnsIdeal.main_arg1) = m' ((c.tc : Thread Cert.PlainAttnsIdeal.nD Cert.PlainAttnsIdeal.τ).loc Cert.PlainAttnsIdeal.main_arg1)
          ∧ r.2.mem ((c.tc : Thread Cert.PlainAttnsIdeal.nD Cert.PlainAttnsIdeal.τ).loc Cert.PlainAttnsIdeal.main_arg2) = m' ((c.tc : Thread Cert.PlainAttnsIdeal.nD Cert.PlainAttnsIdeal.τ).loc Cert.PlainAttnsIdeal.main_arg2)
          ∧ r.2.mem ((c.tc : Thread Cert.PlainAttnsIdeal.nD Cert.PlainAttnsIdeal.τ).loc Cert.PlainAttnsIdeal.main_arg3) = m' ((c.tc : Thread Cert.PlainAttnsIdeal.nD Cert.PlainAttnsIdeal.τ).loc Cert.PlainAttnsIdeal.main_arg3)
          ∧ r.2.mem ((c.tc : Thread Cert.PlainAttnsIdeal.nD Cert.PlainAttnsIdeal.τ).loc Cert.PlainAttnsIdeal.main_arg4) = m' ((c.tc : Thread Cert.PlainAttnsIdeal.nD Cert.PlainAttnsIdeal.τ).loc Cert.PlainAttnsIdeal.main_arg4))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hPlainIdeal : Cert.PlainIdeal.Facts) (hOutproj : Cert.Outproj.Facts) (hOutprojIdeal : Cert.OutprojIdeal.Facts) (hPlainOutIdeal : Cert.PlainOutIdeal.Facts) (hPrenorm : Cert.Prenorm.Facts) (hPrenormIdeal : Cert.PrenormIdeal.Facts) (hPlainNormIdeal : Cert.PlainNormIdeal.Facts) (hFinal : Cert.Final.Facts) (hFinalIdeal : Cert.FinalIdeal.Facts) (hPlainFinalIdeal : Cert.PlainFinalIdeal.Facts) (hLast : Cert.Last.Facts) (hLastIdeal : Cert.LastIdeal.Facts) (hPlainLastIdeal : Cert.PlainLastIdeal.Facts) (hSgu : Cert.Sgu.Facts) (hSguIdeal : Cert.SguIdeal.Facts) (hPlainSguIdeal : Cert.PlainSguIdeal.Facts) (hOuts : Cert.Outs.Facts) (hOutsIdeal : Cert.OutsIdeal.Facts) (hPlainOutsIdeal : Cert.PlainOutsIdeal.Facts) (hAttns : Cert.Attns.Facts) (hAttnsIdeal : Cert.AttnsIdeal.Facts) (hPlainAttnsIdeal : Cert.PlainAttnsIdeal.Facts) (hPre_finite : Cert.Pre_finite.Facts) (hPre_scores_finite : Cert.Pre_scores_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Inproj (hInproj := hInproj)
    ∧ quiescent_InprojIdeal (hInprojIdeal := hInprojIdeal)
    ∧ quiescent_PlainIdeal (hPlainIdeal := hPlainIdeal)
    ∧ quiescent_Outproj (hOutproj := hOutproj)
    ∧ quiescent_OutprojIdeal (hOutprojIdeal := hOutprojIdeal)
    ∧ quiescent_PlainOutIdeal (hPlainOutIdeal := hPlainOutIdeal)
    ∧ quiescent_Prenorm (hPrenorm := hPrenorm)
    ∧ quiescent_PrenormIdeal (hPrenormIdeal := hPrenormIdeal)
    ∧ quiescent_PlainNormIdeal (hPlainNormIdeal := hPlainNormIdeal)
    ∧ quiescent_Final (hFinal := hFinal)
    ∧ quiescent_FinalIdeal (hFinalIdeal := hFinalIdeal)
    ∧ quiescent_PlainFinalIdeal (hPlainFinalIdeal := hPlainFinalIdeal)
    ∧ quiescent_Last (hLast := hLast)
    ∧ quiescent_LastIdeal (hLastIdeal := hLastIdeal)
    ∧ quiescent_PlainLastIdeal (hPlainLastIdeal := hPlainLastIdeal)
    ∧ quiescent_Sgu (hSgu := hSgu)
    ∧ quiescent_SguIdeal (hSguIdeal := hSguIdeal)
    ∧ quiescent_PlainSguIdeal (hPlainSguIdeal := hPlainSguIdeal)
    ∧ quiescent_Outs (hOuts := hOuts)
    ∧ quiescent_OutsIdeal (hOutsIdeal := hOutsIdeal)
    ∧ quiescent_PlainOutsIdeal (hPlainOutsIdeal := hPlainOutsIdeal)
    ∧ quiescent_Attns (hAttns := hAttns)
    ∧ quiescent_AttnsIdeal (hAttnsIdeal := hAttnsIdeal)
    ∧ quiescent_AttnsIdeal_pre_scores_finite (hAttnsIdeal := hAttnsIdeal) (hPre_scores_finite := hPre_scores_finite)
    ∧ quiescent_PlainAttnsIdeal (hPlainAttnsIdeal := hPlainAttnsIdeal)
    ∧ quiescent_PlainAttnsIdeal_pre_scores_finite (hPlainAttnsIdeal := hPlainAttnsIdeal) (hPre_scores_finite := hPre_scores_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Inproj_InprojIdeal
    ∧ algebraic_InprojIdeal_PlainIdeal (hInprojIdeal := hInprojIdeal) (hPlainIdeal := hPlainIdeal)
    ∧ preserves_Outproj_OutprojIdeal
    ∧ algebraic_OutprojIdeal_PlainOutIdeal (hOutprojIdeal := hOutprojIdeal) (hPlainOutIdeal := hPlainOutIdeal)
    ∧ preserves_Prenorm_PrenormIdeal
    ∧ algebraic_PrenormIdeal_PlainNormIdeal (hPrenormIdeal := hPrenormIdeal) (hPlainNormIdeal := hPlainNormIdeal)
    ∧ preserves_Final_FinalIdeal
    ∧ algebraic_FinalIdeal_PlainFinalIdeal (hFinalIdeal := hFinalIdeal) (hPlainFinalIdeal := hPlainFinalIdeal)
    ∧ preserves_Last_LastIdeal
    ∧ algebraic_LastIdeal_PlainLastIdeal (hLastIdeal := hLastIdeal) (hPlainLastIdeal := hPlainLastIdeal)
    ∧ preserves_Sgu_SguIdeal
    ∧ algebraic_SguIdeal_PlainSguIdeal (hSguIdeal := hSguIdeal) (hPlainSguIdeal := hPlainSguIdeal)
    ∧ preserves_Outs_OutsIdeal
    ∧ algebraic_OutsIdeal_PlainOutsIdeal (hOutsIdeal := hOutsIdeal) (hPlainOutsIdeal := hPlainOutsIdeal)
    ∧ preserves_Attns_AttnsIdeal
    ∧ algebraic_AttnsIdeal_PlainAttnsIdeal_pre_scores_finite (hAttnsIdeal := hAttnsIdeal) (hPlainAttnsIdeal := hPlainAttnsIdeal) (hPre_scores_finite := hPre_scores_finite)
-- ==== Pre_finite.lean ====
abbrev S48x8448x128 : Shape := ⟨3, ![48, 8448, 128]⟩
abbrev S16x320 : Shape := ⟨2, ![16, 320]⟩
abbrev S2048 : Shape := ⟨1, ![2048]⟩
abbrev S32x8192x128 : Shape := ⟨3, ![32, 8192, 128]⟩
abbrev S_ : Shape := ⟨0, ![]⟩

class Facts : Prop where
  slices_S48x8448x128_S32x8192x128_0_0_0 : S48x8448x128.Slices ![0, 0, 0] S32x8192x128
  bitsLt_bf16_f32 : FTy.bits .bf16 < FTy.bits .f32
  bcast_S_S32x8192x128 : S_.BroadcastsInDim S32x8192x128 (![] : Fin 0 → Fin S32x8192x128.rank)
  reducesTo_S32x8192x128_S_d0_1_2 : S32x8192x128.ReducesTo [0, 1, 2] S_
  h_S_ : 0 < S_.numel
  bcast_S_S16x320 : S_.BroadcastsInDim S16x320 (![] : Fin 0 → Fin S16x320.rank)
  reducesTo_S16x320_S_d0_1 : S16x320.ReducesTo [0, 1] S_

variable [Facts]

def fn {F : FTy → Type} [FloatOps F] (main_arg0 : FVec F S48x8448x128 .bf16) (main_arg1 : FVec F S16x320 .f32) (main_arg2 : FVec F S2048 .f32) : IVec S_ 1 :=
  let main_v0 : FVec F S32x8192x128 .bf16 := (extractStridedSlice S32x8192x128 ![0, 0, 0] · slices_S48x8448x128_S32x8192x128_0_0_0) main_arg0
  let main_v1 : FVec F S32x8192x128 .f32 := (extf .f32 · bitsLt_bf16_f32) main_v0
  let main_v2 : FVec F S32x8192x128 .f32 := Host.absf main_v1
  let main_cst : FVec F S_ .f32 := constant S_ .f32 0x7F800000#32
  let main_v3 : FVec F S32x8192x128 .f32 := broadcastInDim S32x8192x128 ![] bcast_S_S32x8192x128 main_cst
  let main_v4 : IVec S32x8192x128 1 := cmpf .olt main_v2 main_v3
  let main_c : IVec S_ 1 := constantI S_ 1 1#1
  let main_v5 : IVec S_ 1 := (fun x v => Host.reduce IntOp.andi x v reducesTo_S32x8192x128_S_d0_1_2 h_S_) main_v4 main_c
  let main_v6 : FVec F S16x320 .f32 := Host.absf main_arg1
  let main_cst_0 : FVec F S_ .f32 := constant S_ .f32 0x7F800000#32
  let main_v7 : FVec F S16x320 .f32 := broadcastInDim S16x320 ![] bcast_S_S16x320 main_cst_0
  let main_v8 : IVec S16x320 1 := cmpf .olt main_v6 main_v7
  let main_c_1 : IVec S_ 1 := constantI S_ 1 1#1
  let main_v9 : IVec S_ 1 := (fun x v => Host.reduce IntOp.andi x v reducesTo_S16x320_S_d0_1 h_S_) main_v8 main_c_1
  let main_v10 : IVec S_ 1 := andi main_v5 main_v9
  main_v10
-- ==== Pre_scores_finite.lean ====
abbrev S48x8448x128 : Shape := ⟨3, ![48, 8448, 128]⟩
abbrev S8x8192x128 : Shape := ⟨3, ![8, 8192, 128]⟩
abbrev S16x320 : Shape := ⟨2, ![16, 320]⟩
abbrev S2048 : Shape := ⟨1, ![2048]⟩
abbrev S32x256x128 : Shape := ⟨3, ![32, 256, 128]⟩
abbrev S_ : Shape := ⟨0, ![]⟩
abbrev S16x288 : Shape := ⟨2, ![16, 288]⟩

class Facts : Prop where
  slices_S48x8448x128_S32x256x128_0_8192_0 : S48x8448x128.Slices ![0, 8192, 0] S32x256x128
  bitsLt_bf16_f32 : FTy.bits .bf16 < FTy.bits .f32
  bcast_S_S32x256x128 : S_.BroadcastsInDim S32x256x128 (![] : Fin 0 → Fin S32x256x128.rank)
  reducesTo_S32x256x128_S_d0_1_2 : S32x256x128.ReducesTo [0, 1, 2] S_
  h_S_ : 0 < S_.numel
  bcast_S_S8x8192x128 : S_.BroadcastsInDim S8x8192x128 (![] : Fin 0 → Fin S8x8192x128.rank)
  reducesTo_S8x8192x128_S_d0_1_2 : S8x8192x128.ReducesTo [0, 1, 2] S_
  slices_S16x320_S16x288_0_32 : S16x320.Slices ![0, 32] S16x288
  bcast_S_S16x288 : S_.BroadcastsInDim S16x288 (![] : Fin 0 → Fin S16x288.rank)
  reducesTo_S16x288_S_d0_1 : S16x288.ReducesTo [0, 1] S_

variable [Facts]

def fn {F : FTy → Type} [FloatOps F] (main_arg0 : FVec F S48x8448x128 .bf16) (main_arg1 : FVec F S8x8192x128 .f32) (main_arg2 : FVec F S8x8192x128 .f32) (main_arg3 : FVec F S16x320 .f32) (main_arg4 : FVec F S2048 .f32) : IVec S_ 1 :=
  let main_v0 : FVec F S32x256x128 .bf16 := (extractStridedSlice S32x256x128 ![0, 8192, 0] · slices_S48x8448x128_S32x256x128_0_8192_0) main_arg0
  let main_v1 : FVec F S32x256x128 .f32 := (extf .f32 · bitsLt_bf16_f32) main_v0
  let main_v2 : FVec F S32x256x128 .f32 := Host.absf main_v1
  let main_cst : FVec F S_ .f32 := constant S_ .f32 0x7F800000#32
  let main_v3 : FVec F S32x256x128 .f32 := broadcastInDim S32x256x128 ![] bcast_S_S32x256x128 main_cst
  let main_v4 : IVec S32x256x128 1 := cmpf .olt main_v2 main_v3
  let main_c : IVec S_ 1 := constantI S_ 1 1#1
  let main_v5 : IVec S_ 1 := (fun x v => Host.reduce IntOp.andi x v reducesTo_S32x256x128_S_d0_1_2 h_S_) main_v4 main_c
  let main_v6 : FVec F S8x8192x128 .f32 := Host.absf main_arg1
  let main_cst_0 : FVec F S_ .f32 := constant S_ .f32 0x7F800000#32
  let main_v7 : FVec F S8x8192x128 .f32 := broadcastInDim S8x8192x128 ![] bcast_S_S8x8192x128 main_cst_0
  let main_v8 : IVec S8x8192x128 1 := cmpf .olt main_v6 main_v7
  let main_c_1 : IVec S_ 1 := constantI S_ 1 1#1
  let main_v9 : IVec S_ 1 := (fun x v => Host.reduce IntOp.andi x v reducesTo_S8x8192x128_S_d0_1_2 h_S_) main_v8 main_c_1
  let main_v10 : IVec S_ 1 := andi main_v5 main_v9
  let main_v11 : FVec F S16x288 .f32 := (extractStridedSlice S16x288 ![0, 32] · slices_S16x320_S16x288_0_32) main_arg3
  let main_v12 : FVec F S16x288 .f32 := Host.absf main_v11
  let main_cst_2 : FVec F S_ .f32 := constant S_ .f32 0x7F800000#32
  let main_v13 : FVec F S16x288 .f32 := broadcastInDim S16x288 ![] bcast_S_S16x288 main_cst_2
  let main_v14 : IVec S16x288 1 := cmpf .olt main_v12 main_v13
  let main_c_3 : IVec S_ 1 := constantI S_ 1 1#1
  let main_v15 : IVec S_ 1 := (fun x v => Host.reduce IntOp.andi x v reducesTo_S16x288_S_d0_1 h_S_) main_v14 main_c_3
  let main_v16 : IVec S_ 1 := andi main_v10 main_v15
  main_v16
-- ==== Kernel.lean ====
abbrev S48x8448x128 : Shape := ⟨3, ![48, 8448, 128]⟩
abbrev S16x320 : Shape := ⟨2, ![16, 320]⟩
abbrev S2048 : Shape := ⟨1, ![2048]⟩
abbrev S16x1 : Shape := ⟨2, ![16, 1]⟩
abbrev S16x257 : Shape := ⟨2, ![16, 257]⟩
abbrev S16x319 : Shape := ⟨2, ![16, 319]⟩
abbrev S16x192 : Shape := ⟨2, ![16, 192]⟩
abbrev S16x256 : Shape := ⟨2, ![16, 256]⟩
abbrev S16x1024 : Shape := ⟨2, ![16, 1024]⟩
abbrev S1x2048 : Shape := ⟨2, ![1, 2048]⟩
abbrev S8192x2048 : Shape := ⟨2, ![8192, 2048]⟩
abbrev S16x256x128 : Shape := ⟨3, ![16, 256, 128]⟩
abbrev S256x2048 : Shape := ⟨2, ![256, 2048]⟩
abbrev S16x256x768 : Shape := ⟨3, ![16, 256, 768]⟩
abbrev S256x768 : Shape := ⟨2, ![256, 768]⟩
abbrev S1x1024 : Shape := ⟨2, ![1, 1024]⟩
abbrev S256x1024 : Shape := ⟨2, ![256, 1024]⟩
abbrev S1x256x768 : Shape := ⟨3, ![1, 256, 768]⟩
abbrev S1x256x128 : Shape := ⟨3, ![1, 256, 128]⟩
abbrev S256x128 : Shape := ⟨2, ![256, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S1x128 : Shape := ⟨2, ![1, 128]⟩

abbrev nBuf : Space → Nat
  | .hbm => 13
  | .vmem => 20
  | .smem => 0
  | _ => 0

abbrev bufTy : (tb : Table) → Fin (tcTables nBuf tb) → BufTy
  | .hbm, ⟨0, _⟩ => ⟨S48x8448x128, .bf16⟩
  | .hbm, ⟨1, _⟩ => ⟨S16x320, .f32⟩
  | .hbm, ⟨2, _⟩ => ⟨S2048, .f32⟩
  | .hbm, ⟨3, _⟩ => ⟨S16x1, .f32⟩
  | .hbm, ⟨4, _⟩ => ⟨S16x1, .f32⟩
  | .hbm, ⟨5, _⟩ => ⟨S16x257, .f32⟩
  | .hbm, ⟨6, _⟩ => ⟨S16x319, .f32⟩
  | .hbm, ⟨7, _⟩ => ⟨S16x319, .f32⟩
  | .hbm, ⟨8, _⟩ => ⟨S16x192, .f32⟩
  | .hbm, ⟨9, _⟩ => ⟨S16x256, .f32⟩
  | .hbm, ⟨10, _⟩ => ⟨S16x1024, .f32⟩
  | .hbm, ⟨11, _⟩ => ⟨S1x2048, .f32⟩
  | .hbm, ⟨12, _⟩ => ⟨S8192x2048, .bf16⟩
  | .local _ .vmem, ⟨0, _⟩ => ⟨S16x256x128, .bf16⟩
  | .local _ .vmem, ⟨1, _⟩ => ⟨S16x256x128, .bf16⟩
  | .local _ .vmem, ⟨2, _⟩ => ⟨S16x256x128, .bf16⟩
  | .local _ .vmem, ⟨3, _⟩ => ⟨S16x256x128, .bf16⟩
  | .local _ .vmem, ⟨4, _⟩ => ⟨S16x256x128, .bf16⟩
  | .local _ .vmem, ⟨5, _⟩ => ⟨S16x256x128, .bf16⟩
  | .local _ .vmem, ⟨6, _⟩ => ⟨S16x256x128, .bf16⟩
  | .local _ .vmem, ⟨7, _⟩ => ⟨S16x256x128, .bf16⟩
  | .local _ .vmem, ⟨8, _⟩ => ⟨S16x256x128, .bf16⟩
  | .local _ .vmem, ⟨9, _⟩ => ⟨S16x256x128, .bf16⟩
  | .local _ .vmem, ⟨10, _⟩ => ⟨S16x256x128, .bf16⟩
  | .local _ .vmem, ⟨11, _⟩ => ⟨S16x256x128, .bf16⟩
  | .local _ .vmem, ⟨12, _⟩ => ⟨S16x256x128, .bf16⟩
  | .local _ .vmem, ⟨13, _⟩ => ⟨S16x256x128, .bf16⟩
  | .local _ .vmem, ⟨14, _⟩ => ⟨S16x1024, .f32⟩
  | .local _ .vmem, ⟨15, _⟩ => ⟨S1x2048, .f32⟩
  | .local _ .vmem, ⟨16, _⟩ => ⟨S256x2048, .bf16⟩
  | .local _ .vmem, ⟨17, _⟩ => ⟨S256x2048, .bf16⟩
  | .local _ .vmem, ⟨18, _⟩ => ⟨S16x256x128, .f32⟩
  | .local _ .vmem, ⟨19, _⟩ => ⟨S16x256x768, .f32⟩
  | _, _ => ⟨S48x8448x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_139 : BitVec 32 := 0#32
  let c16_i32 : BitVec 32 := 16#32
  let v255 : BitVec 32 := Scalar.addi c0_i32_139 c16_i32
  let c1_i32 : BitVec 32 := 1#32
  ⟨c0_i32_139, v255, c1_i32⟩
def k0_off1 (k0_t1 : Fin k0_t1_loop.trips) : Fin 2 → Nat :=
  let c0_i32_139 : BitVec 32 := 0#32
  let c1_i32 : BitVec 32 := 1#32
  let arg13 : BitVec 32 := Scf.iv c0_i32_139 c1_i32 k0_t1
  let v256 : Index := Scalar.indexCast arg13
  let c0_141 : Index := 0#32
  ![v256.toNat, 0]
def k0_off2 (k0_t1 : Fin k0_t1_loop.trips) : Fin 3 → Nat :=
  let c0_i32_139 : BitVec 32 := 0#32
  let c1_i32 : BitVec 32 := 1#32
  let arg13 : BitVec 32 := Scf.iv c0_i32_139 c1_i32 k0_t1
  let v267 : Index := Scalar.indexCast arg13
  let c0_145 : Index := 0#32
  let c0_146 : Index := 0#32
  ![v267.toNat, 0, 0]
def k0_cond2 (i : grid0.Coords) : BitVec 1 :=
  let arg0 : BitVec 32 := BitVec.ofNat 32 (i 0).val
  let c2_i32 : BitVec 32 := 2#32
  let v3 : BitVec 1 := Scalar.cmpi .slt arg0 c2_i32
  let v4 : BitVec 32 := Scalar.extui v3
  let c0_i32_1 : BitVec 32 := 0#32
  let v5 : BitVec 1 := Scalar.cmpi .ne v4 c0_i32_1
  v5

@[reducible] def k0_t2_loop : Scf.Loop 32 :=
  let c0_i32_136 : BitVec 32 := 0#32
  let c16_i32 : BitVec 32 := 16#32
  let v241 : BitVec 32 := Scalar.addi c0_i32_136 c16_i32
  let c1_i32 : BitVec 32 := 1#32
  ⟨c0_i32_136, v241, c1_i32⟩
def k0_off3 (k0_t2 : Fin k0_t2_loop.trips) : Fin 3 → Nat :=
  let c0_i32_136 : BitVec 32 := 0#32
  let c1_i32 : BitVec 32 := 1#32
  let arg13 : BitVec 32 := Scf.iv c0_i32_136 c1_i32 k0_t2
  let v242 : Index := Scalar.indexCast arg13
  let c0_138 : Index := 0#32
  let c0_139 : Index := 0#32
  ![v242.toNat, 0, 0]
def k0_off4 (k0_t2 : Fin k0_t2_loop.trips) : Fin 3 → Nat :=
  let c0_i32_136 : BitVec 32 := 0#32
  let c1_i32 : BitVec 32 := 1#32
  let arg13 : BitVec 32 := Scf.iv c0_i32_136 c1_i32 k0_t2
  let v251 : Index := Scalar.indexCast arg13
  let c0_144 : Index := 0#32
  let c0_145 : Index := 0#32
  ![v251.toNat, 0, 0]
def k0_off5 (k0_t2 : Fin k0_t2_loop.trips) : Fin 3 → Nat :=
  let c0_i32_136 : BitVec 32 := 0#32
  let c1_i32 : BitVec 32 := 1#32
  let arg13 : BitVec 32 := Scf.iv c0_i32_136 c1_i32 k0_t2
  let v264 : Index := Scalar.indexCast arg13
  let c0_152 : Index := 0#32
  let c256_153 : Index := 256#32
  ![v264.toNat, 0, 256]
def k0_off6 (k0_t2 : Fin k0_t2_loop.trips) : Fin 3 → Nat :=
  let c0_i32_136 : BitVec 32 := 0#32
  let c1_i32 : BitVec 32 := 1#32
  let arg13 : BitVec 32 := Scf.iv c0_i32_136 c1_i32 k0_t2
  let v277 : Index := Scalar.indexCast arg13
  let c0_160 : Index := 0#32
  let c512_161 : Index := 512#32
  ![v277.toNat, 0, 512]
def k0_cond3 (i : grid0.Coords) : BitVec 1 :=
  let arg0 : BitVec 32 := BitVec.ofNat 32 (i 0).val
  let c2_i32_2 : BitVec 32 := 2#32
  let v6 : BitVec 1 := Scalar.cmpi .sge arg0 c2_i32_2
  let v7 : BitVec 32 := Scalar.extui v6
  let c0_i32_3 : BitVec 32 := 0#32
  let v8 : BitVec 1 := Scalar.cmpi .ne v7 c0_i32_3
  v8

@[reducible] def k0_t3_loop : Scf.Loop 32 :=
  let c0_i32_136 : BitVec 32 := 0#32
  let c16_i32 : BitVec 32 := 16#32
  let v241 : BitVec 32 := Scalar.addi c0_i32_136 c16_i32
  let c1_i32 : BitVec 32 := 1#32
  ⟨c0_i32_136, v241, c1_i32⟩
def k0_off7 (k0_t3 : Fin k0_t3_loop.trips) : Fin 3 → Nat :=
  let c0_i32_136 : BitVec 32 := 0#32
  let c1_i32 : BitVec 32 := 1#32
  let arg13 : BitVec 32 := Scf.iv c0_i32_136 c1_i32 k0_t3
  let v242 : Index := Scalar.indexCast arg13
  let c0_138 : Index := 0#32
  let c0_139 : Index := 0#32
  ![v242.toNat, 0, 0]
def k0_off8 (k0_t3 : Fin k0_t3_loop.trips) : Fin 3 → Nat :=
  let c0_i32_136 : BitVec 32 := 0#32
  let c1_i32 : BitVec 32 := 1#32
  let arg13 : BitVec 32 := Scf.iv c0_i32_136 c1_i32 k0_t3
  let v251 : Index := Scalar.indexCast arg13
  let c0_144 : Index := 0#32
  let c0_145 : Index := 0#32
  ![v251.toNat, 0, 0]
def k0_off9 (k0_t3 : Fin k0_t3_loop.trips) : Fin 3 → Nat :=
  let c0_i32_136 : BitVec 32 := 0#32
  let c1_i32 : BitVec 32 := 1#32
  let arg13 : BitVec 32 := Scf.iv c0_i32_136 c1_i32 k0_t3
  let v261 : Index := Scalar.indexCast arg13
  let c0_150 : Index := 0#32
  let c256_151 : Index := 256#32
  ![v261.toNat, 0, 256]
def k0_off10 (k0_t3 : Fin k0_t3_loop.trips) : Fin 3 → Nat :=
  let c0_i32_136 : BitVec 32 := 0#32
  let c1_i32 : BitVec 32 := 1#32
  let arg13 : BitVec 32 := Scf.iv c0_i32_136 c1_i32 k0_t3
  let v271 : Index := Scalar.indexCast arg13
  let c0_156 : Index := 0#32
  let c512_157 : Index := 512#32
  ![v271.toNat, 0, 512]
def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c1_i32 : BitVec 32 := 1#32
  let c0_i32_0 : BitVec 32 := 0#32
  let c0_i32_1 : BitVec 32 := 0#32
  ![c1_i32.toNat, v1.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  let c0_i32_2 : BitVec 32 := 0#32
  ![c1_i32_0.toNat, v1.toNat, c0_i32_1.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let c0_i32_1 : BitVec 32 := 0#32
  let c0_i32_2 : BitVec 32 := 0#32
  ![c1_i32.toNat, v1.toNat, c0_i32_1.toNat]

def cc0_transform_4 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c2_i32_0 : BitVec 32 := 2#32
  let c0_i32_1 : BitVec 32 := 0#32
  let c0_i32_2 : BitVec 32 := 0#32
  ![c2_i32_0.toNat, v1.toNat, c0_i32_1.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let c0_i32_1 : BitVec 32 := 0#32
  ![c2_i32.toNat, v1.toNat, c0_i32_0.toNat]

def cc0_transform_6 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c2_i32 : BitVec 32 := 2#32
  let c0_i32_1 : BitVec 32 := 0#32
  let c0_i32_2 : BitVec 32 := 0#32
  ![c2_i32.toNat, v1.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | "qk_scale" => some (((11863283 / 134217728) * (Real.log 2)⁻¹ : ℝ) : EReal)
  | _ => none
-- ==== ReferenceIdeal.lean ====
abbrev S48x8448x128 : Shape := ⟨3, ![48, 8448, 128]⟩
abbrev S16x320 : Shape := ⟨2, ![16, 320]⟩
abbrev S2048 : Shape := ⟨1, ![2048]⟩
abbrev S16x8192x128 : Shape := ⟨3, ![16, 8192, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S8192x8192x1 : Shape := ⟨3, ![8192, 8192, 1]⟩
abbrev S16x8192x8192 : Shape := ⟨3, ![16, 8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S8192x16x128 : Shape := ⟨3, ![8192, 16, 128]⟩
abbrev S8192x2048 : Shape := ⟨2, ![8192, 2048]⟩
abbrev S1x2048 : Shape := ⟨2, ![1, 2048]⟩

abbrev nBuf : Space → Nat
  | .hbm => 90
  | .vmem => 0
  | .smem => 0
  | _ => 0

abbrev bufTy : (tb : Table) → Fin (tcTables nBuf tb) → BufTy
  | .hbm, ⟨0, _⟩ => ⟨S48x8448x128, .bf16⟩
  | .hbm, ⟨1, _⟩ => ⟨S16x320, .f32⟩
  | .hbm, ⟨2, _⟩ => ⟨S2048, .f32⟩
  | .hbm, ⟨3, _⟩ => ⟨S48x8448x128, .f32⟩
  | .hbm, ⟨4, _⟩ => ⟨S16x8192x128, .f32⟩
  | .hbm, ⟨5, _⟩ => ⟨S16x8192x128, .f32⟩
  | .hbm, ⟨6, _⟩ => ⟨S16x8192x128, .f32⟩
  | .hbm, ⟨7, _⟩ => ⟨S8192, .i32⟩
  | .hbm, ⟨8, _⟩ => ⟨S8192x1, .i32⟩
  | .hbm, ⟨9, _⟩ => ⟨S1x8192, .i32⟩
  | .hbm, ⟨10, _⟩ => ⟨S8192x8192, .i32⟩
  | .hbm, ⟨11, _⟩ => ⟨S8192x8192, .i32⟩
  | .hbm, ⟨12, _⟩ => ⟨S8192x8192, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i1⟩
  | .hbm, ⟨27, _⟩ => ⟨S_, .i32⟩
  | .hbm, ⟨28, _⟩ => ⟨S8192x8192, .i32⟩
  | .hbm, ⟨29, _⟩ => ⟨S8192x8192, .i32⟩
  | .hbm, ⟨30, _⟩ => ⟨S8192x8192, .i32⟩
  | .hbm, ⟨31, _⟩ => ⟨S8192x8192x1, .i32⟩
  | .hbm, ⟨32, _⟩ => ⟨S16x8192x8192, .f32⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S1x8192, .i32⟩
  | .hbm, ⟨38, _⟩ => ⟨S8192x8192, .i32⟩
  | .hbm, ⟨39, _⟩ => ⟨S8192x8192, .i32⟩
  | .hbm, ⟨40, _⟩ => ⟨S8192x8192, .i32⟩
  | .hbm, ⟨41, _⟩ => ⟨S_, .i32⟩
  | .hbm, ⟨42, _⟩ => ⟨S8192x8192, .i32⟩
  | .hbm, ⟨43, _⟩ => ⟨S8192x8192, .i1⟩
  | .hbm, ⟨44, _⟩ => ⟨S_, .i32⟩
  | .hbm, ⟨45, _⟩ => ⟨S8192x8192, .i32⟩
  | .hbm, ⟨46, _⟩ => ⟨S8192x8192, .i1⟩
  | .hbm, ⟨47, _⟩ => ⟨S8192x8192, .i1⟩
  | .hbm, ⟨48, _⟩ => ⟨S16x8192x8192, .f32⟩
  | .hbm, ⟨49, _⟩ => ⟨S_, .f32⟩
  | .hbm, ⟨50, _⟩ => ⟨S16x8192x8192, .f32⟩
  | .hbm, ⟨51, _⟩ => ⟨S16x8192x8192, .f32⟩
  | .hbm, ⟨52, _⟩ => ⟨S16x8192x8192, .f32⟩
  | .hbm, ⟨53, _⟩ => ⟨S_, .f32⟩
  | .hbm, ⟨54, _⟩ => ⟨S_, .f32⟩
  | .hbm, ⟨55, _⟩ => ⟨S16x8192x8192, .i1⟩
  | .hbm, ⟨56, _⟩ => ⟨S16x8192x8192, .f32⟩
  | .hbm, ⟨57, _⟩ => ⟨S16x8192x8192, .f32⟩
  | .hbm, ⟨58, _⟩ => ⟨S_, .f32⟩
  | .hbm, ⟨59, _⟩ => ⟨S16x8192, .f32⟩
  | .hbm, ⟨60, _⟩ => ⟨S_, .f32⟩
  | .hbm, ⟨61, _⟩ => ⟨S16x8192, .f32⟩
  | .hbm, ⟨62, _⟩ => ⟨S16x8192, .f32⟩
  | .hbm, ⟨63, _⟩ => ⟨S16x8192x1, .f32⟩
  | .hbm, ⟨64, _⟩ => ⟨S16x8192x8192, .f32⟩
  | .hbm, ⟨65, _⟩ => ⟨S16x8192x8192, .f32⟩
  | .hbm, ⟨66, _⟩ => ⟨S16x8192x8192, .f32⟩
  | .hbm, ⟨67, _⟩ => ⟨S_, .f32⟩
  | .hbm, ⟨68, _⟩ => ⟨S16x8192, .f32⟩
  | .hbm, ⟨69, _⟩ => ⟨S16x8192x1, .f32⟩
  | .hbm, ⟨70, _⟩ => ⟨S16x8192x8192, .f32⟩
  | .hbm, ⟨71, _⟩ => ⟨S16x8192x8192, .f32⟩
  | .hbm, ⟨72, _⟩ => ⟨S16x128x8192, .f32⟩
  | .hbm, ⟨73, _⟩ => ⟨S8192x16x128, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S8192x2048, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S8192x2048, .f32⟩
  | .hbm, ⟨85, _⟩ => ⟨S8192x2048, .f32⟩
  | .hbm, ⟨86, _⟩ => ⟨S1x2048, .f32⟩
  | .hbm, ⟨87, _⟩ => ⟨S8192x2048, .f32⟩
  | .hbm, ⟨88, _⟩ => ⟨S8192x2048, .f32⟩
  | .hbm, ⟨89, _⟩ => ⟨S8192x2048, .bf16⟩
  | _, _ => ⟨S48x8448x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Inproj.lean ====
abbrev S8448x4096 : Shape := ⟨2, ![8448, 4096]⟩
abbrev S4096x10240 : Shape := ⟨2, ![4096, 10240]⟩
abbrev S2048 : Shape := ⟨1, ![2048]⟩
abbrev S1x2048 : Shape := ⟨2, ![1, 2048]⟩
abbrev S48x8448x128 : Shape := ⟨3, ![48, 8448, 128]⟩
abbrev S1408x6144 : Shape := ⟨2, ![1408, 6144]⟩
abbrev S1408x4096 : Shape := ⟨2, ![1408, 4096]⟩
abbrev S4096x512 : Shape := ⟨2, ![4096, 512]⟩
abbrev S1x512 : Shape := ⟨2, ![1, 512]⟩
abbrev S1408x512 : Shape := ⟨2, ![1408, 512]⟩
abbrev S4x1408x128 : Shape := ⟨3, ![4, 1408, 128]⟩
abbrev S1408 : Shape := ⟨1, ![1408]⟩
abbrev S1408x1 : Shape := ⟨2, ![1408, 1]⟩
abbrev S1408x128 : Shape := ⟨2, ![1408, 128]⟩
abbrev S1x1408x128 : Shape := ⟨3, ![1, 1408, 128]⟩

abbrev nBuf : Space → Nat
  | .hbm => 7
  | .vmem => 12
  | .smem => 0
  | _ => 0

abbrev bufTy : (tb : Table) → Fin (tcTables nBuf tb) → BufTy
  | .hbm, ⟨0, _⟩ => ⟨S8448x4096, .bf16⟩
  | .hbm, ⟨1, _⟩ => ⟨S4096x10240, .f32⟩
  | .hbm, ⟨2, _⟩ => ⟨S2048, .f32⟩
  | .hbm, ⟨3, _⟩ => ⟨S1x2048, .f32⟩
  | .hbm, ⟨4, _⟩ => ⟨S8448x4096, .bf16⟩
  | .hbm, ⟨5, _⟩ => ⟨S48x8448x128, .bf16⟩
  | .hbm, ⟨6, _⟩ => ⟨S1408x6144, .f32⟩
  | .local _ .vmem, ⟨0, _⟩ => ⟨S1408x4096, .bf16⟩
  | .local _ .vmem, ⟨1, _⟩ => ⟨S1408x4096, .bf16⟩
  | .local _ .vmem, ⟨2, _⟩ => ⟨S4096x512, .f32⟩
  | .local _ .vmem, ⟨3, _⟩ => ⟨S4096x512, .f32⟩
  | .local _ .vmem, ⟨4, _⟩ => ⟨S1x512, .f32⟩
  | .local _ .vmem, ⟨5, _⟩ => ⟨S1x512, .f32⟩
  | .local _ .vmem, ⟨6, _⟩ => ⟨S1408x512, .bf16⟩
  | .local _ .vmem, ⟨7, _⟩ => ⟨S1408x512, .bf16⟩
  | .local _ .vmem, ⟨8, _⟩ => ⟨S4x1408x128, .bf16⟩
  | .local _ .vmem, ⟨9, _⟩ => ⟨S4x1408x128, .bf16⟩
  | .local _ .vmem, ⟨10, _⟩ => ⟨S1408x512, .f32⟩
  | .local _ .vmem, ⟨11, _⟩ => ⟨S1408x512, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 20], ![false, false]⟩

def k0_cond1 (i : grid0.Coords) : BitVec 1 :=
  let arg1 : BitVec 32 := BitVec.ofNat 32 (i 1).val
  let c4_i32 : BitVec 32 := 4#32
  let v4 : BitVec 1 := Scalar.cmpi .slt arg1 c4_i32
  let v5 : BitVec 32 := Scalar.extui v4
  let c0_i32 : BitVec 32 := 0#32
  let v6 : BitVec 1 := Scalar.cmpi .ne v5 c0_i32
  v6

def k0_cond2 (i : grid0.Coords) : BitVec 1 :=
  let arg1 : BitVec 32 := BitVec.ofNat 32 (i 1).val
  let c4_i32_3 : BitVec 32 := 4#32
  let v7 : BitVec 1 := Scalar.cmpi .sge arg1 c4_i32_3
  let c8_i32 : BitVec 32 := 8#32
  let v8 : BitVec 1 := Scalar.cmpi .slt arg1 c8_i32
  let v9 : BitVec 1 := Scalar.andi v7 v8
  let v10 : BitVec 32 := Scalar.extui v9
  let c0_i32_4 : BitVec 32 := 0#32
  let v11 : BitVec 1 := Scalar.cmpi .ne v10 c0_i32_4
  v11

def k0_cond4 (i : grid0.Coords) : BitVec 1 :=
  let arg1 : BitVec 32 := BitVec.ofNat 32 (i 1).val
  let c8_i32_5 : BitVec 32 := 8#32
  let v12 : BitVec 1 := Scalar.cmpi .sge arg1 c8_i32_5
  let v13 : BitVec 32 := Scalar.extui v12
  let c0_i32_6 : BitVec 32 := 0#32
  let v14 : BitVec 1 := Scalar.cmpi .ne v13 c0_i32_6
  v14

def k0_cond3 (i : grid0.Coords) : BitVec 1 :=
  let arg0 : BitVec 32 := BitVec.ofNat 32 (i 0).val
  let c5_i32 : BitVec 32 := 5#32
  let v44 : BitVec 1 := Scalar.cmpi .eq arg0 c5_i32
  let v45 : BitVec 32 := Scalar.extui v44
  let c0_i32_18 : BitVec 32 := 0#32
  let v46 : BitVec 1 := Scalar.cmpi .ne v45 c0_i32_18
  v46

def k0_cond5 (i : grid0.Coords) : BitVec 1 :=
  let arg0 : BitVec 32 := BitVec.ofNat 32 (i 0).val
  let c5_i32 : BitVec 32 := 5#32
  let v35 : BitVec 1 := Scalar.cmpi .eq arg0 c5_i32
  let arg1 : BitVec 32 := BitVec.ofNat 32 (i 1).val
  let c12_i32 : BitVec 32 := 12#32
  let v36 : BitVec 1 := Scalar.cmpi .sge arg1 c12_i32
  let v37 : BitVec 1 := Scalar.andi v35 v36
  let v38 : BitVec 32 := Scalar.extui v37
  let c0_i32_16 : BitVec 32 := 0#32
  let v39 : BitVec 1 := Scalar.cmpi .ne v38 c0_i32_16
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c4_i32_0 : BitVec 32 := 4#32
  let v1 : BitVec 32 := Scalar.subi v0 c4_i32_0
  let c0_i32 : BitVec 32 := 0#32
  let v2 : BitVec 32 := Scalar.maxsi v1 c0_i32
  let c0_i32_1 : BitVec 32 := 0#32
  let c0_i32_2 : BitVec 32 := 0#32
  ![v2.toNat, arg0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c8_i32 : BitVec 32 := 8#32
  let v1 : BitVec 1 := Scalar.cmpi .slt arg1 c8_i32
  let c4_i32_0 : BitVec 32 := 4#32
  let v2 : BitVec 32 := Scalar.subi arg1 c4_i32_0
  let c12_i32 : BitVec 32 := 12#32
  let v3 : BitVec 1 := Scalar.cmpi .slt arg1 c12_i32
  let c4_i32_1 : BitVec 32 := 4#32
  let v4 : BitVec 32 := Scalar.subi arg1 c4_i32_1
  let c4_i32_2 : BitVec 32 := 4#32
  let v5 : BitVec 32 := Scalar.subi v4 c4_i32_2
  let c3_i32 : BitVec 32 := 3#32
  let v6 : BitVec 32 := Scalar.select v3 c3_i32 v5
  let v7 : BitVec 32 := Scalar.select v1 v2 v6
  let c0_i32 : BitVec 32 := 0#32
  let v8 : BitVec 32 := Scalar.select v0 c0_i32 v7
  let c5_i32 : BitVec 32 := 5#32
  let v9 : BitVec 1 := Scalar.cmpi .eq arg0 c5_i32
  let c0_i32_3 : BitVec 32 := 0#32
  let v10 : BitVec 32 := Scalar.select v9 v8 c0_i32_3
  let c0_i32_4 : BitVec 32 := 0#32
  let c0_i32_5 : BitVec 32 := 0#32
  ![c0_i32_4.toNat, v10.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1408x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PlainIdeal.lean ====
abbrev S8448x4096 : Shape := ⟨2, ![8448, 4096]⟩
abbrev S4096x10240 : Shape := ⟨2, ![4096, 10240]⟩
abbrev S2048 : Shape := ⟨1, ![2048]⟩
abbrev S8448x10240 : Shape := ⟨2, ![8448, 10240]⟩
abbrev S8448x2048 : Shape := ⟨2, ![8448, 2048]⟩
abbrev S_ : Shape := ⟨0, ![]⟩
abbrev S8448x4x512 : Shape := ⟨3, ![8448, 4, 512]⟩
abbrev S8448x4 : Shape := ⟨2, ![8448, 4]⟩
abbrev S8448x4x1 : Shape := ⟨3, ![8448, 4, 1]⟩
abbrev S4x512 : Shape := ⟨2, ![4, 512]⟩
abbrev S1x4x512 : Shape := ⟨3, ![1, 4, 512]⟩
abbrev S8448x6144 : Shape := ⟨2, ![8448, 6144]⟩
abbrev S8448x48x128 : Shape := ⟨3, ![8448, 48, 128]⟩
abbrev S48x8448x128 : Shape := ⟨3, ![48, 8448, 128]⟩
abbrev S1408x6144 : Shape := ⟨2, ![1408, 6144]⟩

abbrev nBuf : Space → Nat
  | .hbm => 69
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x10240, .f32⟩
  | .hbm, ⟨2, _⟩ => ⟨S2048, .f32⟩
  | .hbm, ⟨3, _⟩ => ⟨S8448x4096, .f32⟩
  | .hbm, ⟨4, _⟩ => ⟨S8448x10240, .f32⟩
  | .hbm, ⟨5, _⟩ => ⟨S8448x2048, .f32⟩
  | .hbm, ⟨6, _⟩ => ⟨S8448x2048, .f32⟩
  | .hbm, ⟨7, _⟩ => ⟨S8448x2048, .f32⟩
  | .hbm, ⟨8, _⟩ => ⟨S_, .f32⟩
  | .hbm, ⟨9, _⟩ => ⟨S8448x2048, .f32⟩
  | .hbm, ⟨10, _⟩ => ⟨S8448x2048, .f32⟩
  | .hbm, ⟨11, _⟩ => ⟨S8448x2048, .f32⟩
  | .hbm, ⟨12, _⟩ => ⟨S_, .f32⟩
  | .hbm, ⟨13, _⟩ => ⟨S8448x2048, .f32⟩
  | .hbm, ⟨14, _⟩ => ⟨S8448x2048, .f32⟩
  | .hbm, ⟨15, _⟩ => ⟨S8448x2048, .f32⟩
  | .hbm, ⟨16, _⟩ => ⟨S_, .f32⟩
  | .hbm, ⟨17, _⟩ => ⟨S8448x2048, .f32⟩
  | .hbm, ⟨18, _⟩ => ⟨S8448x2048, .f32⟩
  | .hbm, ⟨19, _⟩ => ⟨S_, .f32⟩
  | .hbm, ⟨20, _⟩ => ⟨S8448x2048, .f32⟩
  | .hbm, ⟨21, _⟩ => ⟨S8448x2048, .f32⟩
  | .hbm, ⟨22, _⟩ => ⟨S8448x2048, .f32⟩
  | .hbm, ⟨23, _⟩ => ⟨S8448x2048, .f32⟩
  | .hbm, ⟨24, _⟩ => ⟨S8448x2048, .f32⟩
  | .hbm, ⟨25, _⟩ => ⟨S8448x2048, .f32⟩
  | .hbm, ⟨26, _⟩ => ⟨S_, .f32⟩
  | .hbm, ⟨27, _⟩ => ⟨S8448x2048, .f32⟩
  | .hbm, ⟨28, _⟩ => ⟨S8448x2048, .f32⟩
  | .hbm, ⟨29, _⟩ => ⟨S8448x2048, .f32⟩
  | .hbm, ⟨30, _⟩ => ⟨S_, .f32⟩
  | .hbm, ⟨31, _⟩ => ⟨S8448x2048, .f32⟩
  | .hbm, ⟨32, _⟩ => ⟨S8448x2048, .f32⟩
  | .hbm, ⟨33, _⟩ => ⟨S8448x2048, .f32⟩
  | .hbm, ⟨34, _⟩ => ⟨S_, .f32⟩
  | .hbm, ⟨35, _⟩ => ⟨S8448x2048, .f32⟩
  | .hbm, ⟨36, _⟩ => ⟨S8448x2048, .f32⟩
  | .hbm, ⟨37, _⟩ => ⟨S_, .f32⟩
  | .hbm, ⟨38, _⟩ => ⟨S8448x2048, .f32⟩
  | .hbm, ⟨39, _⟩ => ⟨S8448x2048, .f32⟩
  | .hbm, ⟨40, _⟩ => ⟨S8448x2048, .f32⟩
  | .hbm, ⟨41, _⟩ => ⟨S8448x4x512, .f32⟩
  | .hbm, ⟨42, _⟩ => ⟨S8448x4x512, .f32⟩
  | .hbm, ⟨43, _⟩ => ⟨S_, .f32⟩
  | .hbm, ⟨44, _⟩ => ⟨S8448x4, .f32⟩
  | .hbm, ⟨45, _⟩ => ⟨S8448x4x1, .f32⟩
  | .hbm, ⟨46, _⟩ => ⟨S_, .f32⟩
  | .hbm, ⟨47, _⟩ => ⟨S8448x4x1, .f32⟩
  | .hbm, ⟨48, _⟩ => ⟨S8448x4x1, .f32⟩
  | .hbm, ⟨49, _⟩ => ⟨S_, .f32⟩
  | .hbm, ⟨50, _⟩ => ⟨S8448x4x1, .f32⟩
  | .hbm, ⟨51, _⟩ => ⟨S8448x4x1, .f32⟩
  | .hbm, ⟨52, _⟩ => ⟨S8448x4x1, .f32⟩
  | .hbm, ⟨53, _⟩ => ⟨S8448x4x512, .f32⟩
  | .hbm, ⟨54, _⟩ => ⟨S8448x4x512, .f32⟩
  | .hbm, ⟨55, _⟩ => ⟨S4x512, .f32⟩
  | .hbm, ⟨56, _⟩ => ⟨S1x4x512, .f32⟩
  | .hbm, ⟨57, _⟩ => ⟨S8448x4x512, .f32⟩
  | .hbm, ⟨58, _⟩ => ⟨S8448x4x512, .f32⟩
  | .hbm, ⟨59, _⟩ => ⟨S8448x2048, .f32⟩
  | .hbm, ⟨60, _⟩ => ⟨S8448x6144, .f32⟩
  | .hbm, ⟨61, _⟩ => ⟨S8448x48x128, .f32⟩
  | .hbm, ⟨62, _⟩ => ⟨S48x8448x128, .f32⟩
  | .hbm, ⟨63, _⟩ => ⟨S8448x4096, .f32⟩
  | .hbm, ⟨64, _⟩ => ⟨S8448x4096, .bf16⟩
  | .hbm, ⟨65, _⟩ => ⟨S8448x4096, .f32⟩
  | .hbm, ⟨66, _⟩ => ⟨S8448x6144, .f32⟩
  | .hbm, ⟨67, _⟩ => ⟨S1408x6144, .f32⟩
  | .hbm, ⟨68, _⟩ => ⟨S48x8448x128, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Outproj.lean ====
abbrev S8448x2048 : Shape := ⟨2, ![8448, 2048]⟩
abbrev S8192x2048 : Shape := ⟨2, ![8192, 2048]⟩
abbrev S4096x4096 : Shape := ⟨2, ![4096, 4096]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 14
  | .smem => 0
  | _ => 0

abbrev bufTy : (tb : Table) → Fin (tcTables nBuf tb) → BufTy
  | .hbm, ⟨0, _⟩ => ⟨S8448x2048, .bf16⟩
  | .hbm, ⟨1, _⟩ => ⟨S8192x2048, .bf16⟩
  | .hbm, ⟨2, _⟩ => ⟨S4096x4096, .f32⟩
  | .hbm, ⟨3, _⟩ => ⟨S8192x4096, .f32⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S2048x512, .bf16⟩
  | .local _ .vmem, ⟨13, _⟩ => ⟨S2048x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PlainOutIdeal.lean ====
abbrev S8448x2048 : Shape := ⟨2, ![8448, 2048]⟩
abbrev S8192x2048 : Shape := ⟨2, ![8192, 2048]⟩
abbrev S4096x4096 : Shape := ⟨2, ![4096, 4096]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8192x2048, .bf16⟩
  | .hbm, ⟨2, _⟩ => ⟨S4096x4096, .f32⟩
  | .hbm, ⟨3, _⟩ => ⟨S8192x4096, .f32⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x4096, .f32⟩
  | .hbm, ⟨8, _⟩ => ⟨S8192x4096, .f32⟩
  | .hbm, ⟨9, _⟩ => ⟨S8192x4096, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Prenorm.lean ====
abbrev S8192x4096 : Shape := ⟨2, ![8192, 4096]⟩
abbrev S256x4096 : Shape := ⟨2, ![256, 4096]⟩
abbrev S4096 : Shape := ⟨1, ![4096]⟩
abbrev S1x4096 : Shape := ⟨2, ![1, 4096]⟩
abbrev S8448x4096 : Shape := ⟨2, ![8448, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S256x4096, .f32⟩
  | .hbm, ⟨2, _⟩ => ⟨S4096, .f32⟩
  | .hbm, ⟨3, _⟩ => ⟨S1x4096, .f32⟩
  | .hbm, ⟨4, _⟩ => ⟨S8448x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PlainNormIdeal.lean ====
abbrev S8192x4096 : Shape := ⟨2, ![8192, 4096]⟩
abbrev S256x4096 : Shape := ⟨2, ![256, 4096]⟩
abbrev S4096 : Shape := ⟨1, ![4096]⟩
abbrev S8448x4096 : Shape := ⟨2, ![8448, 4096]⟩
abbrev S_ : Shape := ⟨0, ![]⟩
abbrev S8448 : Shape := ⟨1, ![8448]⟩
abbrev S8448x1 : Shape := ⟨2, ![8448, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S256x4096, .f32⟩
  | .hbm, ⟨2, _⟩ => ⟨S4096, .f32⟩
  | .hbm, ⟨3, _⟩ => ⟨S8448x4096, .f32⟩
  | .hbm, ⟨4, _⟩ => ⟨S8448x4096, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x4096, .f32⟩
  | .hbm, ⟨16, _⟩ => ⟨S8448x4096, .f32⟩
  | .hbm, ⟨17, _⟩ => ⟨S1x4096, .f32⟩
  | .hbm, ⟨18, _⟩ => ⟨S8448x4096, .f32⟩
  | .hbm, ⟨19, _⟩ => ⟨S8448x4096, .f32⟩
  | .hbm, ⟨20, _⟩ => ⟨S8448x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Final.lean ====
abbrev S8192x4096 : Shape := ⟨2, ![8192, 4096]⟩
abbrev S17216x4096 : Shape := ⟨2, ![17216, 4096]⟩
abbrev S8448x128 : Shape := ⟨2, ![8448, 128]⟩
abbrev S4096 : Shape := ⟨1, ![4096]⟩
abbrev S1x4096 : Shape := ⟨2, ![1, 4096]⟩
abbrev S256x4096 : Shape := ⟨2, ![256, 4096]⟩
abbrev S256x128 : Shape := ⟨2, ![256, 128]⟩
abbrev S256x1 : Shape := ⟨2, ![256, 1]⟩
abbrev S256 : Shape := ⟨1, ![256]⟩

abbrev nBuf : Space → Nat
  | .hbm => 6
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S17216x4096, .f32⟩
  | .hbm, ⟨2, _⟩ => ⟨S8448x128, .f32⟩
  | .hbm, ⟨3, _⟩ => ⟨S4096, .f32⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x128, .f32⟩
  | .local _ .vmem, ⟨7, _⟩ => ⟨S256x128, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c33_i32 : BitVec 32 := 33#32
  let v0 : BitVec 32 := Scalar.addi c33_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PlainFinalIdeal.lean ====
abbrev S8192x4096 : Shape := ⟨2, ![8192, 4096]⟩
abbrev S17216x4096 : Shape := ⟨2, ![17216, 4096]⟩
abbrev S8448x128 : Shape := ⟨2, ![8448, 128]⟩
abbrev S4096 : Shape := ⟨1, ![4096]⟩
abbrev S8192x1 : Shape := ⟨2, ![8192, 1]⟩
abbrev S_ : Shape := ⟨0, ![]⟩
abbrev S8192 : Shape := ⟨1, ![8192]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S17216x4096, .f32⟩
  | .hbm, ⟨2, _⟩ => ⟨S8448x128, .f32⟩
  | .hbm, ⟨3, _⟩ => ⟨S4096, .f32⟩
  | .hbm, ⟨4, _⟩ => ⟨S8192x4096, .f32⟩
  | .hbm, ⟨5, _⟩ => ⟨S8192x1, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x4096, .f32⟩
  | .hbm, ⟨26, _⟩ => ⟨S8192x4096, .f32⟩
  | .hbm, ⟨27, _⟩ => ⟨S1x4096, .f32⟩
  | .hbm, ⟨28, _⟩ => ⟨S8192x4096, .f32⟩
  | .hbm, ⟨29, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Last.lean ====
abbrev S256x4096 : Shape := ⟨2, ![256, 4096]⟩
abbrev S17216x4096 : Shape := ⟨2, ![17216, 4096]⟩
abbrev S8448x128 : Shape := ⟨2, ![8448, 128]⟩
abbrev S4096 : Shape := ⟨1, ![4096]⟩
abbrev S1x4096 : Shape := ⟨2, ![1, 4096]⟩
abbrev S256x128 : Shape := ⟨2, ![256, 128]⟩
abbrev S256x1 : Shape := ⟨2, ![256, 1]⟩
abbrev S256 : Shape := ⟨1, ![256]⟩

abbrev nBuf : Space → Nat
  | .hbm => 6
  | .vmem => 6
  | .smem => 0
  | _ => 0

abbrev bufTy : (tb : Table) → Fin (tcTables nBuf tb) → BufTy
  | .hbm, ⟨0, _⟩ => ⟨S256x4096, .f32⟩
  | .hbm, ⟨1, _⟩ => ⟨S17216x4096, .f32⟩
  | .hbm, ⟨2, _⟩ => ⟨S8448x128, .f32⟩
  | .hbm, ⟨3, _⟩ => ⟨S4096, .f32⟩
  | .hbm, ⟨4, _⟩ => ⟨S1x4096, .f32⟩
  | .hbm, ⟨5, _⟩ => ⟨S256x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x128, .f32⟩
  | .local _ .vmem, ⟨4, _⟩ => ⟨S1x4096, .f32⟩
  | .local _ .vmem, ⟨5, _⟩ => ⟨S256x4096, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c65_i32 : BitVec 32 := 65#32
  let v0 : BitVec 32 := Scalar.addi c65_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== PlainLastIdeal.lean ====
abbrev S256x4096 : Shape := ⟨2, ![256, 4096]⟩
abbrev S17216x4096 : Shape := ⟨2, ![17216, 4096]⟩
abbrev S8448x128 : Shape := ⟨2, ![8448, 128]⟩
abbrev S4096 : Shape := ⟨1, ![4096]⟩
abbrev S256x1 : Shape := ⟨2, ![256, 1]⟩
abbrev S_ : Shape := ⟨0, ![]⟩
abbrev S256 : Shape := ⟨1, ![256]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S17216x4096, .f32⟩
  | .hbm, ⟨2, _⟩ => ⟨S8448x128, .f32⟩
  | .hbm, ⟨3, _⟩ => ⟨S4096, .f32⟩
  | .hbm, ⟨4, _⟩ => ⟨S256x4096, .f32⟩
  | .hbm, ⟨5, _⟩ => ⟨S256x1, .f32⟩
  | .hbm, ⟨6, _⟩ => ⟨S256x4096, .f32⟩
  | .hbm, ⟨7, _⟩ => ⟨S256x4096, .f32⟩
  | .hbm, ⟨8, _⟩ => ⟨S256x4096, .f32⟩
  | .hbm, ⟨9, _⟩ => ⟨S256x1, .f32⟩
  | .hbm, ⟨10, _⟩ => ⟨S256x4096, .f32⟩
  | .hbm, ⟨11, _⟩ => ⟨S256x4096, .f32⟩
  | .hbm, ⟨12, _⟩ => ⟨S256x4096, .f32⟩
  | .hbm, ⟨13, _⟩ => ⟨S256x4096, .f32⟩
  | .hbm, ⟨14, _⟩ => ⟨S256x4096, .f32⟩
  | .hbm, ⟨15, _⟩ => ⟨S_, .f32⟩
  | .hbm, ⟨16, _⟩ => ⟨S256, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S_, .f32⟩
  | .hbm, ⟨22, _⟩ => ⟨S256x1, .f32⟩
  | .hbm, ⟨23, _⟩ => ⟨S256x1, .f32⟩
  | .hbm, ⟨24, _⟩ => ⟨S256x1, .f32⟩
  | .hbm, ⟨25, _⟩ => ⟨S256x4096, .f32⟩
  | .hbm, ⟨26, _⟩ => ⟨S256x4096, .f32⟩
  | .hbm, ⟨27, _⟩ => ⟨S1x4096, .f32⟩
  | .hbm, ⟨28, _⟩ => ⟨S256x4096, .f32⟩
  | .hbm, ⟨29, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Sgu.lean ====
abbrev S8448x4096 : Shape := ⟨2, ![8448, 4096]⟩
abbrev S4x128x128 : Shape := ⟨3, ![4, 128, 128]⟩
abbrev S4x128 : Shape := ⟨2, ![4, 128]⟩
abbrev S2048 : Shape := ⟨1, ![2048]⟩
abbrev S1x4x1x128x1x128 : Shape := ⟨6, ![1, 4, 1, 128, 1, 128]⟩
abbrev S1x4x2x128x2x128 : Shape := ⟨6, ![1, 4, 2, 128, 2, 128]⟩
abbrev S4x256x256 : Shape := ⟨3, ![4, 256, 256]⟩
abbrev S4x32x32 : Shape := ⟨3, ![4, 32, 32]⟩
abbrev S1x4x1x32x1x32 : Shape := ⟨6, ![1, 4, 1, 32, 1, 32]⟩
abbrev S1x4x8x32x8x32 : Shape := ⟨6, ![1, 4, 8, 32, 8, 32]⟩
abbrev S1x4x1x128 : Shape := ⟨4, ![1, 4, 1, 128]⟩
abbrev S1x4x2x128 : Shape := ⟨4, ![1, 4, 2, 128]⟩
abbrev S4x256 : Shape := ⟨2, ![4, 256]⟩
abbrev S4x32 : Shape := ⟨2, ![4, 32]⟩
abbrev S1x4x1x32 : Shape := ⟨4, ![1, 4, 1, 32]⟩
abbrev S1x4x8x32 : Shape := ⟨4, ![1, 4, 8, 32]⟩
abbrev S1x4x256x256 : Shape := ⟨4, ![1, 4, 256, 256]⟩
abbrev S2x4x256x256 : Shape := ⟨4, ![2, 4, 256, 256]⟩
abbrev S1x4x256 : Shape := ⟨3, ![1, 4, 256]⟩
abbrev S2x4x256 : Shape := ⟨3, ![2, 4, 256]⟩
abbrev S2x4x256x1 : Shape := ⟨4, ![2, 4, 256, 1]⟩
abbrev S1x2048 : Shape := ⟨2, ![1, 2048]⟩
abbrev S8448x2048 : Shape := ⟨2, ![8448, 2048]⟩
abbrev S256x2048 : Shape := ⟨2, ![256, 2048]⟩
abbrev S1x4x256x1 : Shape := ⟨4, ![1, 4, 256, 1]⟩
abbrev S256x256 : Shape := ⟨2, ![256, 256]⟩
abbrev S1x1x256x256 : Shape := ⟨4, ![1, 1, 256, 256]⟩
abbrev S256x512 : Shape := ⟨2, ![256, 512]⟩
abbrev S1x1x256x1 : Shape := ⟨4, ![1, 1, 256, 1]⟩
abbrev S256x1 : Shape := ⟨2, ![256, 1]⟩
abbrev S256 : Shape := ⟨1, ![256]⟩
abbrev S1x512 : Shape := ⟨2, ![1, 512]⟩

abbrev nBuf : Space → Nat
  | .hbm => 27
  | .vmem => 11
  | .smem => 0
  | _ => 0

abbrev bufTy : (tb : Table) → Fin (tcTables nBuf tb) → BufTy
  | .hbm, ⟨0, _⟩ => ⟨S8448x4096, .bf16⟩
  | .hbm, ⟨1, _⟩ => ⟨S4x128x128, .f32⟩
  | .hbm, ⟨2, _⟩ => ⟨S4x128, .f32⟩
  | .hbm, ⟨3, _⟩ => ⟨S2048, .f32⟩
  | .hbm, ⟨4, _⟩ => ⟨S1x4x1x128x1x128, .f32⟩
  | .hbm, ⟨5, _⟩ => ⟨S1x4x2x128x2x128, .f32⟩
  | .hbm, ⟨6, _⟩ => ⟨S4x256x256, .f32⟩
  | .hbm, ⟨7, _⟩ => ⟨S4x32x32, .f32⟩
  | .hbm, ⟨8, _⟩ => ⟨S1x4x1x32x1x32, .f32⟩
  | .hbm, ⟨9, _⟩ => ⟨S1x4x8x32x8x32, .f32⟩
  | .hbm, ⟨10, _⟩ => ⟨S4x256x256, .f32⟩
  | .hbm, ⟨11, _⟩ => ⟨S1x4x1x128, .f32⟩
  | .hbm, ⟨12, _⟩ => ⟨S1x4x2x128, .f32⟩
  | .hbm, ⟨13, _⟩ => ⟨S4x256, .f32⟩
  | .hbm, ⟨14, _⟩ => ⟨S4x32, .f32⟩
  | .hbm, ⟨15, _⟩ => ⟨S1x4x1x32, .f32⟩
  | .hbm, ⟨16, _⟩ => ⟨S1x4x8x32, .f32⟩
  | .hbm, ⟨17, _⟩ => ⟨S4x256, .f32⟩
  | .hbm, ⟨18, _⟩ => ⟨S1x4x256x256, .f32⟩
  | .hbm, ⟨19, _⟩ => ⟨S1x4x256x256, .f32⟩
  | .hbm, ⟨20, _⟩ => ⟨S2x4x256x256, .f32⟩
  | .hbm, ⟨21, _⟩ => ⟨S1x4x256, .f32⟩
  | .hbm, ⟨22, _⟩ => ⟨S1x4x256, .f32⟩
  | .hbm, ⟨23, _⟩ => ⟨S2x4x256, .f32⟩
  | .hbm, ⟨24, _⟩ => ⟨S2x4x256x1, .f32⟩
  | .hbm, ⟨25, _⟩ => ⟨S1x2048, .f32⟩
  | .hbm, ⟨26, _⟩ => ⟨S8448x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S1x4x256x256, .f32⟩
  | .local _ .vmem, ⟨5, _⟩ => ⟨S1x4x256x256, .f32⟩
  | .local _ .vmem, ⟨6, _⟩ => ⟨S1x4x256x1, .f32⟩
  | .local _ .vmem, ⟨7, _⟩ => ⟨S1x4x256x1, .f32⟩
  | .local _ .vmem, ⟨8, _⟩ => ⟨S1x2048, .f32⟩
  | .local _ .vmem, ⟨9, _⟩ => ⟨S256x2048, .bf16⟩
  | .local _ .vmem, ⟨10, _⟩ => ⟨S256x2048, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 4 → Nat :=
  let arg0 : BitVec 32 := BitVec.ofNat 32 (i 0).val
  let c32_i32 : BitVec 32 := 32#32
  let v0 : BitVec 1 := Scalar.cmpi .slt arg0 c32_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_3 (i : grid0.Coords) : Fin 4 → Nat :=
  let arg0 : BitVec 32 := BitVec.ofNat 32 (i 0).val
  let c32_i32 : BitVec 32 := 32#32
  let v0 : BitVec 1 := Scalar.cmpi .slt arg0 c32_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PlainSguIdeal.lean ====
abbrev S8448x4096 : Shape := ⟨2, ![8448, 4096]⟩
abbrev S4x128x128 : Shape := ⟨3, ![4, 128, 128]⟩
abbrev S4x128 : Shape := ⟨2, ![4, 128]⟩
abbrev S2048 : Shape := ⟨1, ![2048]⟩
abbrev S_ : Shape := ⟨0, ![]⟩
abbrev S128x128 : Shape := ⟨2, ![128, 128]⟩
abbrev S1x128x128 : Shape := ⟨3, ![1, 128, 128]⟩
abbrev S8192x2048 : Shape := ⟨2, ![8192, 2048]⟩
abbrev S64x128x4x512 : Shape := ⟨4, ![64, 128, 4, 512]⟩
abbrev S256x2048 : Shape := ⟨2, ![256, 2048]⟩
abbrev S8x32x4x512 : Shape := ⟨4, ![8, 32, 4, 512]⟩
abbrev S4x64x512x128 : Shape := ⟨4, ![4, 64, 512, 128]⟩
abbrev S128x4 : Shape := ⟨2, ![128, 4]⟩
abbrev S128x4x1 : Shape := ⟨3, ![128, 4, 1]⟩
abbrev S1x128x4x1 : Shape := ⟨4, ![1, 128, 4, 1]⟩
abbrev S4x32x32 : Shape := ⟨3, ![4, 32, 32]⟩
abbrev S4x8x512x32 : Shape := ⟨4, ![4, 8, 512, 32]⟩
abbrev S4x32 : Shape := ⟨2, ![4, 32]⟩
abbrev S32x4 : Shape := ⟨2, ![32, 4]⟩
abbrev S32x4x1 : Shape := ⟨3, ![32, 4, 1]⟩
abbrev S1x32x4x1 : Shape := ⟨4, ![1, 32, 4, 1]⟩
abbrev S8448x2048 : Shape := ⟨2, ![8448, 2048]⟩
abbrev S8448 : Shape := ⟨1, ![8448]⟩
abbrev S8448x1 : Shape := ⟨2, ![8448, 1]⟩
abbrev S1x2048 : Shape := ⟨2, ![1, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4x128x128, .f32⟩
  | .hbm, ⟨2, _⟩ => ⟨S4x128, .f32⟩
  | .hbm, ⟨3, _⟩ => ⟨S2048, .f32⟩
  | .hbm, ⟨4, _⟩ => ⟨S8448x4096, .f32⟩
  | .hbm, ⟨5, _⟩ => ⟨S_, .f32⟩
  | .hbm, ⟨6, _⟩ => ⟨S128x128, .f32⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .f32⟩
  | .hbm, ⟨14, _⟩ => ⟨S128x128, .f32⟩
  | .hbm, ⟨15, _⟩ => ⟨S128x128, .f32⟩
  | .hbm, ⟨16, _⟩ => ⟨S1x128x128, .f32⟩
  | .hbm, ⟨17, _⟩ => ⟨S4x128x128, .f32⟩
  | .hbm, ⟨18, _⟩ => ⟨S4x128x128, .f32⟩
  | .hbm, ⟨19, _⟩ => ⟨S8192x2048, .f32⟩
  | .hbm, ⟨20, _⟩ => ⟨S64x128x4x512, .f32⟩
  | .hbm, ⟨21, _⟩ => ⟨S256x2048, .f32⟩
  | .hbm, ⟨22, _⟩ => ⟨S8x32x4x512, .f32⟩
  | .hbm, ⟨23, _⟩ => ⟨S4x64x512x128, .f32⟩
  | .hbm, ⟨24, _⟩ => ⟨S64x128x4x512, .f32⟩
  | .hbm, ⟨25, _⟩ => ⟨S128x4, .f32⟩
  | .hbm, ⟨26, _⟩ => ⟨S128x4x1, .f32⟩
  | .hbm, ⟨27, _⟩ => ⟨S1x128x4x1, .f32⟩
  | .hbm, ⟨28, _⟩ => ⟨S64x128x4x512, .f32⟩
  | .hbm, ⟨29, _⟩ => ⟨S64x128x4x512, .f32⟩
  | .hbm, ⟨30, _⟩ => ⟨S4x32x32, .f32⟩
  | .hbm, ⟨31, _⟩ => ⟨S4x8x512x32, .f32⟩
  | .hbm, ⟨32, _⟩ => ⟨S8x32x4x512, .f32⟩
  | .hbm, ⟨33, _⟩ => ⟨S4x32, .f32⟩
  | .hbm, ⟨34, _⟩ => ⟨S32x4, .f32⟩
  | .hbm, ⟨35, _⟩ => ⟨S32x4x1, .f32⟩
  | .hbm, ⟨36, _⟩ => ⟨S1x32x4x1, .f32⟩
  | .hbm, ⟨37, _⟩ => ⟨S8x32x4x512, .f32⟩
  | .hbm, ⟨38, _⟩ => ⟨S8x32x4x512, .f32⟩
  | .hbm, ⟨39, _⟩ => ⟨S8448x2048, .f32⟩
  | .hbm, ⟨40, _⟩ => ⟨S8192x2048, .f32⟩
  | .hbm, ⟨41, _⟩ => ⟨S256x2048, .f32⟩
  | .hbm, ⟨42, _⟩ => ⟨S8448x2048, .f32⟩
  | .hbm, ⟨43, _⟩ => ⟨S8448x2048, .f32⟩
  | .hbm, ⟨44, _⟩ => ⟨S8448x2048, .f32⟩
  | .hbm, ⟨45, _⟩ => ⟨S_, .f32⟩
  | .hbm, ⟨46, _⟩ => ⟨S8448, .f32⟩
  | .hbm, ⟨47, _⟩ => ⟨S8448x1, .f32⟩
  | .hbm, ⟨48, _⟩ => ⟨S_, .f32⟩
  | .hbm, ⟨49, _⟩ => ⟨S8448x1, .f32⟩
  | .hbm, ⟨50, _⟩ => ⟨S8448x1, .f32⟩
  | .hbm, ⟨51, _⟩ => ⟨S_, .f32⟩
  | .hbm, ⟨52, _⟩ => ⟨S8448x1, .f32⟩
  | .hbm, ⟨53, _⟩ => ⟨S8448x1, .f32⟩
  | .hbm, ⟨54, _⟩ => ⟨S8448x1, .f32⟩
  | .hbm, ⟨55, _⟩ => ⟨S8448x2048, .f32⟩
  | .hbm, ⟨56, _⟩ => ⟨S8448x2048, .f32⟩
  | .hbm, ⟨57, _⟩ => ⟨S1x2048, .f32⟩
  | .hbm, ⟨58, _⟩ => ⟨S8448x2048, .f32⟩
  | .hbm, ⟨59, _⟩ => ⟨S8448x2048, .f32⟩
  | .hbm, ⟨60, _⟩ => ⟨S8448x2048, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_cst : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_0 : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Outs.lean ====
abbrev S8448x2048 : Shape := ⟨2, ![8448, 2048]⟩
abbrev S256x2048 : Shape := ⟨2, ![256, 2048]⟩
abbrev S4096x4096 : Shape := ⟨2, ![4096, 4096]⟩
abbrev S256x4096 : Shape := ⟨2, ![256, 4096]⟩
abbrev S2048x512 : Shape := ⟨2, ![2048, 512]⟩
abbrev S256x512 : Shape := ⟨2, ![256, 512]⟩

abbrev nBuf : Space → Nat
  | .hbm => 5
  | .vmem => 12
  | .smem => 0
  | _ => 0

abbrev bufTy : (tb : Table) → Fin (tcTables nBuf tb) → BufTy
  | .hbm, ⟨0, _⟩ => ⟨S8448x2048, .bf16⟩
  | .hbm, ⟨1, _⟩ => ⟨S256x2048, .bf16⟩
  | .hbm, ⟨2, _⟩ => ⟨S4096x4096, .f32⟩
  | .hbm, ⟨3, _⟩ => ⟨S256x4096, .f32⟩
  | .hbm, ⟨4, _⟩ => ⟨S256x4096, .f32⟩
  | .local _ .vmem, ⟨0, _⟩ => ⟨S256x2048, .bf16⟩
  | .local _ .vmem, ⟨1, _⟩ => ⟨S256x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S2048x512, .bf16⟩
  | .local _ .vmem, ⟨11, _⟩ => ⟨S2048x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PlainOutsIdeal.lean ====
abbrev S8448x2048 : Shape := ⟨2, ![8448, 2048]⟩
abbrev S256x2048 : Shape := ⟨2, ![256, 2048]⟩
abbrev S4096x4096 : Shape := ⟨2, ![4096, 4096]⟩
abbrev S256x4096 : Shape := ⟨2, ![256, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S256x2048, .bf16⟩
  | .hbm, ⟨2, _⟩ => ⟨S4096x4096, .f32⟩
  | .hbm, ⟨3, _⟩ => ⟨S256x4096, .f32⟩
  | .hbm, ⟨4, _⟩ => ⟨S256x2048, .bf16⟩
  | .hbm, ⟨5, _⟩ => ⟨S256x2048, .f32⟩
  | .hbm, ⟨6, _⟩ => ⟨S256x2048, .f32⟩
  | .hbm, ⟨7, _⟩ => ⟨S256x4096, .f32⟩
  | .hbm, ⟨8, _⟩ => ⟨S256x4096, .f32⟩
  | .hbm, ⟨9, _⟩ => ⟨S256x4096, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Attns.lean ====
abbrev S48x8448x128 : Shape := ⟨3, ![48, 8448, 128]⟩
abbrev S8x8192x128 : Shape := ⟨3, ![8, 8192, 128]⟩
abbrev S16x320 : Shape := ⟨2, ![16, 320]⟩
abbrev S2048 : Shape := ⟨1, ![2048]⟩
abbrev S16x1 : Shape := ⟨2, ![16, 1]⟩
abbrev S16x257 : Shape := ⟨2, ![16, 257]⟩
abbrev S16x319 : Shape := ⟨2, ![16, 319]⟩
abbrev S16x192 : Shape := ⟨2, ![16, 192]⟩
abbrev S16x256 : Shape := ⟨2, ![16, 256]⟩
abbrev S16x1024 : Shape := ⟨2, ![16, 1024]⟩
abbrev S1x2048 : Shape := ⟨2, ![1, 2048]⟩
abbrev S256x2048 : Shape := ⟨2, ![256, 2048]⟩
abbrev S16x32x128 : Shape := ⟨3, ![16, 32, 128]⟩
abbrev S1x8192x128 : Shape := ⟨3, ![1, 8192, 128]⟩
abbrev S32x2048 : Shape := ⟨2, ![32, 2048]⟩
abbrev S1x32x128 : Shape := ⟨3, ![1, 32, 128]⟩
abbrev S32x128 : Shape := ⟨2, ![32, 128]⟩
abbrev S1x512x128 : Shape := ⟨3, ![1, 512, 128]⟩
abbrev S512x128 : Shape := ⟨2, ![512, 128]⟩
abbrev S1x1024 : Shape := ⟨2, ![1, 1024]⟩
abbrev S32x1024 : Shape := ⟨2, ![32, 1024]⟩
abbrev S32x512 : Shape := ⟨2, ![32, 512]⟩
abbrev S32x32 : Shape := ⟨2, ![32, 32]⟩
abbrev S32 : Shape := ⟨1, ![32]⟩
abbrev S32x1 : Shape := ⟨2, ![32, 1]⟩

abbrev nBuf : Space → Nat
  | .hbm => 15
  | .vmem => 15
  | .smem => 0
  | _ => 0

abbrev bufTy : (tb : Table) → Fin (tcTables nBuf tb) → BufTy
  | .hbm, ⟨0, _⟩ => ⟨S48x8448x128, .bf16⟩
  | .hbm, ⟨1, _⟩ => ⟨S8x8192x128, .f32⟩
  | .hbm, ⟨2, _⟩ => ⟨S8x8192x128, .f32⟩
  | .hbm, ⟨3, _⟩ => ⟨S16x320, .f32⟩
  | .hbm, ⟨4, _⟩ => ⟨S2048, .f32⟩
  | .hbm, ⟨5, _⟩ => ⟨S16x1, .f32⟩
  | .hbm, ⟨6, _⟩ => ⟨S16x1, .f32⟩
  | .hbm, ⟨7, _⟩ => ⟨S16x257, .f32⟩
  | .hbm, ⟨8, _⟩ => ⟨S16x319, .f32⟩
  | .hbm, ⟨9, _⟩ => ⟨S16x319, .f32⟩
  | .hbm, ⟨10, _⟩ => ⟨S16x192, .f32⟩
  | .hbm, ⟨11, _⟩ => ⟨S16x256, .f32⟩
  | .hbm, ⟨12, _⟩ => ⟨S16x1024, .f32⟩
  | .hbm, ⟨13, _⟩ => ⟨S1x2048, .f32⟩
  | .hbm, ⟨14, _⟩ => ⟨S256x2048, .bf16⟩
  | .local _ .vmem, ⟨0, _⟩ => ⟨S16x32x128, .bf16⟩
  | .local _ .vmem, ⟨1, _⟩ => ⟨S16x32x128, .bf16⟩
  | .local _ .vmem, ⟨2, _⟩ => ⟨S16x32x128, .bf16⟩
  | .local _ .vmem, ⟨3, _⟩ => ⟨S16x32x128, .bf16⟩
  | .local _ .vmem, ⟨4, _⟩ => ⟨S16x32x128, .bf16⟩
  | .local _ .vmem, ⟨5, _⟩ => ⟨S16x32x128, .bf16⟩
  | .local _ .vmem, ⟨6, _⟩ => ⟨S1x8192x128, .f32⟩
  | .local _ .vmem, ⟨7, _⟩ => ⟨S1x8192x128, .f32⟩
  | .local _ .vmem, ⟨8, _⟩ => ⟨S1x8192x128, .f32⟩
  | .local _ .vmem, ⟨9, _⟩ => ⟨S1x8192x128, .f32⟩
  | .local _ .vmem, ⟨10, _⟩ => ⟨S16x1024, .f32⟩
  | .local _ .vmem, ⟨11, _⟩ => ⟨S1x2048, .f32⟩
  | .local _ .vmem, ⟨12, _⟩ => ⟨S32x2048, .bf16⟩
  | .local _ .vmem, ⟨13, _⟩ => ⟨S32x2048, .bf16⟩
  | .local _ .vmem, ⟨14, _⟩ => ⟨S32x2048, .f32⟩
  | _, _ => ⟨S48x8448x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c256_i32 : BitVec 32 := 256#32
  let v0 : BitVec 32 := Scalar.addi c256_i32 arg0
  let c1_i32 : BitVec 32 := 1#32
  let c0_i32 : BitVec 32 := 0#32
  let c0_i32_0 : BitVec 32 := 0#32
  ![c1_i32.toNat, v0.toNat, c0_i32.toNat]

def cc0_transform_2 (i : grid0.Coords) : Fin 3 → Nat :=
  let arg0 : BitVec 32 := BitVec.ofNat 32 (i 0).val
  let c256_i32 : BitVec 32 := 256#32
  let v0 : BitVec 32 := Scalar.addi c256_i32 arg0
  let c2_i32 : BitVec 32 := 2#32
  let c0_i32 : BitVec 32 := 0#32
  let c0_i32_0 : BitVec 32 := 0#32
  ![c2_i32.toNat, v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PlainAttnsIdeal.lean ====
abbrev S48x8448x128 : Shape := ⟨3, ![48, 8448, 128]⟩
abbrev S8x8192x128 : Shape := ⟨3, ![8, 8192, 128]⟩
abbrev S16x320 : Shape := ⟨2, ![16, 320]⟩
abbrev S2048 : Shape := ⟨1, ![2048]⟩
abbrev S16x256x128 : Shape := ⟨3, ![16, 256, 128]⟩
abbrev S16x8x32x128 : Shape := ⟨4, ![16, 8, 32, 128]⟩
abbrev S8x512x16x128 : Shape := ⟨4, ![8, 512, 16, 128]⟩
abbrev S8x32x16x128 : Shape := ⟨4, ![8, 32, 16, 128]⟩
abbrev S8x544x16x128 : Shape := ⟨4, ![8, 544, 16, 128]⟩
abbrev S32 : Shape := ⟨1, ![32]⟩
abbrev S32x1 : Shape := ⟨2, ![32, 1]⟩
abbrev S_ : Shape := ⟨0, ![]⟩
abbrev S544 : Shape := ⟨1, ![544]⟩
abbrev S1x544 : Shape := ⟨2, ![1, 544]⟩
abbrev S32x544 : Shape := ⟨2, ![32, 544]⟩
abbrev S32x544x1 : Shape := ⟨3, ![32, 544, 1]⟩
abbrev S16x32x544 : Shape := ⟨3, ![16, 32, 544]⟩
abbrev S8x16x32x544 : Shape := ⟨4, ![8, 16, 32, 544]⟩
abbrev S1x16x32x544 : Shape := ⟨4, ![1, 16, 32, 544]⟩
abbrev S8x16x32 : Shape := ⟨3, ![8, 16, 32]⟩
abbrev S8x16x32x1 : Shape := ⟨4, ![8, 16, 32, 1]⟩
abbrev S8x16x128x32 : Shape := ⟨4, ![8, 16, 128, 32]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩

abbrev nBuf : Space → Nat
  | .hbm => 89
  | .vmem => 0
  | .smem => 0
  | _ => 0

abbrev bufTy : (tb : Table) → Fin (tcTables nBuf tb) → BufTy
  | .hbm, ⟨0, _⟩ => ⟨S48x8448x128, .bf16⟩
  | .hbm, ⟨1, _⟩ => ⟨S8x8192x128, .f32⟩
  | .hbm, ⟨2, _⟩ => ⟨S8x8192x128, .f32⟩
  | .hbm, ⟨3, _⟩ => ⟨S16x320, .f32⟩
  | .hbm, ⟨4, _⟩ => ⟨S2048, .f32⟩
  | .hbm, ⟨5, _⟩ => ⟨S48x8448x128, .f32⟩
  | .hbm, ⟨6, _⟩ => ⟨S16x256x128, .f32⟩
  | .hbm, ⟨7, _⟩ => ⟨S16x8x32x128, .f32⟩
  | .hbm, ⟨8, _⟩ => ⟨S16x256x128, .f32⟩
  | .hbm, ⟨9, _⟩ => ⟨S16x8x32x128, .f32⟩
  | .hbm, ⟨10, _⟩ => ⟨S16x256x128, .f32⟩
  | .hbm, ⟨11, _⟩ => ⟨S16x8x32x128, .f32⟩
  | .hbm, ⟨12, _⟩ => ⟨S8x512x16x128, .f32⟩
  | .hbm, ⟨13, _⟩ => ⟨S8x32x16x128, .f32⟩
  | .hbm, ⟨14, _⟩ => ⟨S8x544x16x128, .f32⟩
  | .hbm, ⟨15, _⟩ => ⟨S8x512x16x128, .f32⟩
  | .hbm, ⟨16, _⟩ => ⟨S8x32x16x128, .f32⟩
  | .hbm, ⟨17, _⟩ => ⟨S8x544x16x128, .f32⟩
  | .hbm, ⟨18, _⟩ => ⟨S32, .i32⟩
  | .hbm, ⟨19, _⟩ => ⟨S32x1, .i32⟩
  | .hbm, ⟨20, _⟩ => ⟨S_, .i32⟩
  | .hbm, ⟨21, _⟩ => ⟨S32x1, .i32⟩
  | .hbm, ⟨22, _⟩ => ⟨S32x1, .i32⟩
  | .hbm, ⟨23, _⟩ => ⟨S544, .i32⟩
  | .hbm, ⟨24, _⟩ => ⟨S1x544, .i32⟩
  | .hbm, ⟨25, _⟩ => ⟨S32x544, .i32⟩
  | .hbm, ⟨26, _⟩ => ⟨S32x544, .i32⟩
  | .hbm, ⟨27, _⟩ => ⟨S32x544, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S32x544, .i32⟩
  | .hbm, ⟨32, _⟩ => ⟨S32x544, .i32⟩
  | .hbm, ⟨33, _⟩ => ⟨S_, .i32⟩
  | .hbm, ⟨34, _⟩ => ⟨S32x544, .i32⟩
  | .hbm, ⟨35, _⟩ => ⟨S32x544, .i32⟩
  | .hbm, ⟨36, _⟩ => ⟨S_, .i32⟩
  | .hbm, ⟨37, _⟩ => ⟨S32x544, .i32⟩
  | .hbm, ⟨38, _⟩ => ⟨S32x544, .i32⟩
  | .hbm, ⟨39, _⟩ => ⟨S_, .i32⟩
  | .hbm, ⟨40, _⟩ => ⟨S32x544, .i32⟩
  | .hbm, ⟨41, _⟩ => ⟨S32x544, .i1⟩
  | .hbm, ⟨42, _⟩ => ⟨S_, .i32⟩
  | .hbm, ⟨43, _⟩ => ⟨S32x544, .i32⟩
  | .hbm, ⟨44, _⟩ => ⟨S32x544, .i32⟩
  | .hbm, ⟨45, _⟩ => ⟨S32x544, .i32⟩
  | .hbm, ⟨46, _⟩ => ⟨S32x544x1, .i32⟩
  | .hbm, ⟨47, _⟩ => ⟨S16x32x544, .f32⟩
  | .hbm, ⟨48, _⟩ => ⟨S8x16x32x544, .f32⟩
  | .hbm, ⟨49, _⟩ => ⟨S_, .f32⟩
  | .hbm, ⟨50, _⟩ => ⟨S8x16x32x544, .f32⟩
  | .hbm, ⟨51, _⟩ => ⟨S8x16x32x544, .f32⟩
  | .hbm, ⟨52, _⟩ => ⟨S1x16x32x544, .f32⟩
  | .hbm, ⟨53, _⟩ => ⟨S8x16x32x544, .f32⟩
  | .hbm, ⟨54, _⟩ => ⟨S8x16x32x544, .f32⟩
  | .hbm, ⟨55, _⟩ => ⟨S_, .f32⟩
  | .hbm, ⟨56, _⟩ => ⟨S8x16x32, .f32⟩
  | .hbm, ⟨57, _⟩ => ⟨S_, .f32⟩
  | .hbm, ⟨58, _⟩ => ⟨S8x16x32, .f32⟩
  | .hbm, ⟨59, _⟩ => ⟨S8x16x32, .f32⟩
  | .hbm, ⟨60, _⟩ => ⟨S8x16x32x1, .f32⟩
  | .hbm, ⟨61, _⟩ => ⟨S8x16x32x544, .f32⟩
  | .hbm, ⟨62, _⟩ => ⟨S8x16x32x544, .f32⟩
  | .hbm, ⟨63, _⟩ => ⟨S8x16x32x544, .f32⟩
  | .hbm, ⟨64, _⟩ => ⟨S_, .f32⟩
  | .hbm, ⟨65, _⟩ => ⟨S8x16x32, .f32⟩
  | .hbm, ⟨66, _⟩ => ⟨S8x16x32x1, .f32⟩
  | .hbm, ⟨67, _⟩ => ⟨S8x16x32x544, .f32⟩
  | .hbm, ⟨68, _⟩ => ⟨S8x16x32x544, .f32⟩
  | .hbm, ⟨69, _⟩ => ⟨S8x16x128x32, .f32⟩
  | .hbm, ⟨70, _⟩ => ⟨S8x32x16x128, .f32⟩
  | .hbm, ⟨71, _⟩ => ⟨S256x2048, .f32⟩
  | .hbm, ⟨72, _⟩ => ⟨S256x2048, .f32⟩
  | .hbm, ⟨73, _⟩ => ⟨S_, .f32⟩
  | .hbm, ⟨74, _⟩ => ⟨S256, .f32⟩
  | .hbm, ⟨75, _⟩ => ⟨S256x1, .f32⟩
  | .hbm, ⟨76, _⟩ => ⟨S_, .f32⟩
  | .hbm, ⟨77, _⟩ => ⟨S256x1, .f32⟩
  | .hbm, ⟨78, _⟩ => ⟨S256x1, .f32⟩
  | .hbm, ⟨79, _⟩ => ⟨S_, .f32⟩
  | .hbm, ⟨80, _⟩ => ⟨S256x1, .f32⟩
  | .hbm, ⟨81, _⟩ => ⟨S256x1, .f32⟩
  | .hbm, ⟨82, _⟩ => ⟨S256x1, .f32⟩
  | .hbm, ⟨83, _⟩ => ⟨S256x2048, .f32⟩
  | .hbm, ⟨84, _⟩ => ⟨S256x2048, .f32⟩
  | .hbm, ⟨85, _⟩ => ⟨S1x2048, .f32⟩
  | .hbm, ⟨86, _⟩ => ⟨S256x2048, .f32⟩
  | .hbm, ⟨87, _⟩ => ⟨S256x2048, .f32⟩
  | .hbm, ⟨88, _⟩ => ⟨S256x2048, .bf16⟩
  | _, _ => ⟨S48x8448x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c_0 : Ref sig .tc := ⟨.hbm, 28, rfl⟩
abbrev main_c_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== Proof.Attn.RunA.lean ====
/- The attention kernel's body at the grid's first point, run once over symbolic memrefs: the pieces its stores leave in the output window and in the two scratch buffers, over the values the scratch buffers held. -/
module

public import proofs.«01_k».proof.Proof.Gen.KernelIdeal.Launch
public import proofs.«01_k».proof.Proof.Gen.KernelIdeal.Loops
public import proofs.«01_k».proof.Proof.Gen.KernelIdeal.Frame
public import Idealize.ShloMosaic.Lib.Tactic

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 2000000 in
/-- The body at the grid's first point: from the windows at `x0 … x8`, the output window at anything and the two scratch buffers at the
    values `s0`, `s1`, it runs to the windows as they were, the output window with the pieces `.1` written over what it
    held, and the scratch buffers with the pieces `.2.1` and `.2.2` written over theirs. -/
def runA (c : Dev nD) (i : grid0.Coords) (arg1 : Memref sig .tc .vmem S16x256x128 .bf16) (harg1 : arg1.IsWhole) (arg2 : Memref sig .tc .vmem S16x256x128 .bf16) (harg2 : arg2.IsWhole) (arg3 : Memref sig .tc .vmem S16x256x128 .bf16) (harg3 : arg3.IsWhole) (arg4 : Memref sig .tc .vmem S16x256x128 .bf16) (harg4 : arg4.IsWhole) (arg5 : Memref sig .tc .vmem S16x256x128 .bf16) (harg5 : arg5.IsWhole) (arg6 : Memref sig .tc .vmem S16x256x128 .bf16) (harg6 : arg6.IsWhole) (arg7 : Memref sig .tc .vmem S16x256x128 .bf16) (harg7 : arg7.IsWhole) (arg8 : Memref sig .tc .vmem S16x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S16x256x128 .f32) (harg11 : arg11.IsWhole) (arg12 : Memref sig .tc .vmem S16x256x768 .f32) (harg12 : arg12.IsWhole) (hc0 : k0_cond1 i = 1#1) (hc1 : k0_cond2 i = 1#1) (hc2 : ¬(k0_cond3 i = 1#1))
    (x0 : Vec F S16x256x128 .bf16) (x1 : Vec F S16x256x128 .bf16) (x2 : Vec F S16x256x128 .bf16) (x3 : Vec F S16x256x128 .bf16) (x4 : Vec F S16x256x128 .bf16) (x5 : Vec F S16x256x128 .bf16) (x6 : Vec F S16x256x128 .bf16) (x7 : Vec F S16x1024 .f32) (x8 : Vec F S1x2048 .f32) (s0 : Vec F S16x256x128 .f32) (s1 : Vec F S16x256x768 .f32) :
    Σ' (LO : List (View.Piece (Elt F) S256x2048 .bf16)) (LS0 : List (View.Piece (Elt F) S16x256x128 .f32)), { LS1 : List (View.Piece (Elt F) S16x256x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare s0 ∗ owns (c : Thread nD τ) arg12 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f LO) ∗ (arg11.view.loc (c : Thread nD τ) ↦[arg11.view.set]{fullShare} arg11.view.writes (Elt F) (harg11.unread s0) LS0) ∗ (arg12.view.loc (c : Thread nD τ) ↦[arg12.view.set]{fullShare} arg12.view.writes (Elt F) (harg12.unread s1) LS1)) -∗ K ⟨⟩))
          ⊢ wp frame (wpE (defs₀ (F := F)) Variants.none c none) E (cc0_attn_prompt i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_attn_prompt_eq_skeleton]; unfold cc0_attn_prompt_skel
    simp only [k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%g0, %hg0, HS0⟩, ⟨%g1, %hg1, HS1⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg11.eq_unread hg0
    obtain rfl := harg12.eq_unread hg1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [HS0]; · iexact HS0
    iexact HS1

end Cert.Attn

end
-- ==== Proof.Attn.Loops.lean ====
/- The attention kernel's three counted loops in closed form: what the bias table's scratch buffer and the heads' scratch buffer hold after them, whatever they held before. -/
module

public import proofs.«01_k».proof.Proof.Attn.RunA
public import Idealize.ShloMosaic.Lib.VecWindow
public import Idealize.ShloMosaic.Lib.WholeRead

@[expose] public section

set_option maxRecDepth 16384

noncomputable section

namespace Cert.Attn

open Idealize.ShloMosaic Idealize.ShloMosaic.TcCoe Idealize.ShloMosaic.Tactic
open Cert.KernelIdeal Cert.KernelIdeal.Gen

variable {F : FTy → Type} [FloatOps F] [Named F]

/-- One head's rectangle lies inside a stack of sixteen. -/
theorem inbH : ∀ h : Fin 16, ∀ a, (![h.val, 0, 0] : Fin 3 → ℕ) a + S1x256x128.size a ≤ S16x256x128.size a := by decide
/-- One head's row lies inside the table of sixteen rows. -/
theorem inbR : ∀ h : Fin 16, ∀ a, (![h.val, 0] : Fin 2 → ℕ) a + S1x1024.size a ≤ S16x1024.size a := by decide
/-- One head's bias block lies inside the stack. -/
theorem inbB : ∀ h : Fin 16, ∀ a, (![h.val, 0, 0] : Fin 3 → ℕ) a + S1x256x768.size a ≤ S16x256x768.size a := by decide
/-- One third of one head's bias block lies inside the stack. -/
theorem inbC : ∀ h : Fin 16, ∀ j : Fin 3, ∀ a, (![h.val, 0, 256 * j.val] : Fin 3 → ℕ) a + S1x256x256.size a ≤ S16x256x768.size a := by decide

/-- Head `h` of a stack of sixteen 256×128 matrices. -/
def hd {e : EltTy} (X : Vec F S16x256x128 e) (h : Fin 16) : Vec F S1x256x128 e := VecWindow.window X ![h.val, 0, 0] S1x256x128.size (inbH h)
/-- Row `h` of the bias table. -/
def rowOf (X : Vec F S16x1024 .f32) (h : Fin 16) : Vec F S1x1024 .f32 := VecWindow.window X ![h.val, 0] S1x1024.size (inbR h)
/-- The bias of head `h` against the `j`-th block of 256 keys. -/
def bcol (X : Vec F S16x256x768 .f32) (h : Fin 16) (j : Fin 3) : Vec F S1x256x256 .f32 := VecWindow.window X ![h.val, 0, 256 * j.val] S1x256x256.size (inbC h j)

/-- An index of a stack of heads, within its head. -/
def inH (y : S16x256x128.Idx) : S1x256x128.Idx := fun a => match a with
  | ⟨0, _⟩ => ⟨0, Nat.one_pos⟩
  | ⟨1, _⟩ => ⟨(y 1).val, (y 1).isLt⟩
  | ⟨2, _⟩ => ⟨(y 2).val, (y 2).isLt⟩
/-- An index of the stack of bias blocks, within its block. -/
def inB (y : S16x256x768.Idx) : S1x256x768.Idx := fun a => match a with
  | ⟨0, _⟩ => ⟨0, Nat.one_pos⟩
  | ⟨1, _⟩ => ⟨(y 1).val, (y 1).isLt⟩
  | ⟨2, _⟩ => ⟨(y 2).val, (y 2).isLt⟩

/-- The bias blocks of all heads, from the table's rows. -/
def biasOf (x7 : Vec F S16x1024 .f32) : Vec F S16x256x768 .f32 := fun y => k0_pay21 (rowOf x7 (y 0)) (inB y)

/-- One head's attention over its three key blocks, the first two of them masked below the second point. -/
def headM (a0 : BitVec 32) (q k0 k1 k2 v0 v1 v2 : Vec F S1x256x128 .bf16) (b0 b1 b2 : Vec F S1x256x256 .f32) : Vec F S1x256x128 .f32 :=
  k0_pay22 (k0_pay11 (k0_pay3 a0 q k0 b0) (k0_pay4 a0 q k1 b1) (k0_pay5 q k2) b2)
    (k0_pay12 (k0_pay3 a0 q k0 b0) (k0_pay4 a0 q k1 b1) (k0_pay5 q k2) b2 v0 v1)
    (k0_pay13 (k0_pay3 a0 q k0 b0) (k0_pay4 a0 q k1 b1) (k0_pay5 q k2) b2 v2)
/-- One head's attention over its three key blocks, nothing masked. -/
def headU (q k0 k1 k2 v0 v1 v2 : Vec F S1x256x128 .bf16) (b0 b1 b2 : Vec F S1x256x256 .f32) : Vec F S1x256x128 .f32 :=
  k0_pay20 (k0_pay15 q k0 b0) (k0_pay16 q k1 b1) (k0_pay17 q k2 b2) (k0_pay18 q k0 b0) (k0_pay19 q k1 b1) v0 v1 v2

/-- Every head's masked attention, as the heads' scratch buffer holds it. -/
def headsM (a0 : BitVec 32) (x0 x1 x2 x3 x4 x5 x6 : Vec F S16x256x128 .bf16) (B : Vec F S16x256x768 .f32) : Vec F S16x256x128 .f32 := fun y =>
  headM a0 (hd x0 (y 0)) (hd x1 (y 0)) (hd x2 (y 0)) (hd x3 (y 0)) (hd x4 (y 0)) (hd x5 (y 0)) (hd x6 (y 0)) (bcol B (y 0) 0) (bcol B (y 0) 1) (bcol B (y 0) 2) (inH y)
/-- Every head's unmasked attention, as the heads' scratch buffer holds it. -/
def headsU (x0 x1 x2 x3 x4 x5 x6 : Vec F S16x256x128 .bf16) (B : Vec F S16x256x768 .f32) : Vec F S16x256x128 .f32 := fun y =>
  headU (hd x0 (y 0)) (hd x1 (y 0)) (hd x2 (y 0)) (hd x3 (y 0)) (hd x4 (y 0)) (hd x5 (y 0)) (hd x6 (y 0)) (bcol B (y 0) 0) (bcol B (y 0) 1) (bcol B (y 0) 2) (inH y)

variable (c : Dev nD) (i : grid0.Coords) (arg1 : Memref sig .tc .vmem S16x256x128 .bf16) (harg1 : arg1.IsWhole) (arg2 : Memref sig .tc .vmem S16x256x128 .bf16) (harg2 : arg2.IsWhole) (arg3 : Memref sig .tc .vmem S16x256x128 .bf16) (harg3 : arg3.IsWhole) (arg4 : Memref sig .tc .vmem S16x256x128 .bf16) (harg4 : arg4.IsWhole) (arg5 : Memref sig .tc .vmem S16x256x128 .bf16) (harg5 : arg5.IsWhole) (arg6 : Memref sig .tc .vmem S16x256x128 .bf16) (harg6 : arg6.IsWhole) (arg7 : Memref sig .tc .vmem S16x256x128 .bf16) (harg7 : arg7.IsWhole) (arg8 : Memref sig .tc .vmem S16x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S16x256x128 .f32) (harg11 : arg11.IsWhole) (arg12 : Memref sig .tc .vmem S16x256x768 .f32) (harg12 : arg12.IsWhole)

/-- A trip's number as a head's number. -/
def t1h (k : Fin k0_t1_loop.trips) : Fin 16 := ⟨k.val, Nat.lt_of_lt_of_le k.isLt k0_t1_abs.2.1⟩
/-- A trip's number as a head's number. -/
def t2h (k : Fin k0_t2_loop.trips) : Fin 16 := ⟨k.val, Nat.lt_of_lt_of_le k.isLt k0_t2_abs.2.1⟩
/-- A trip's number as a head's number. -/
def t3h (k : Fin k0_t3_loop.trips) : Fin 16 := ⟨k.val, Nat.lt_of_lt_of_le k.isLt k0_t3_abs.2.1⟩

/-- Loop 1 runs over the sixteen heads. -/
theorem t1_trips : k0_t1_loop.trips = 16 := by decide +kernel
/-- Loop 2 runs over the sixteen heads. -/
theorem t2_trips : k0_t2_loop.trips = 16 := by decide +kernel
/-- Loop 3 runs over the sixteen heads. -/
theorem t3_trips : k0_t3_loop.trips = 16 := by decide +kernel

/-- A read of one head's matrix from a buffer held at `x` is that head of `x`. -/
theorem readH {e : EltTy} {m : Memref sig .tc .vmem S16x256x128 e} (hm : m.IsWhole) (x : Vec F S16x256x128 e) (f : m.view.ty.Contents (Elt F))
    (hf : m.view.read (Elt F) f = x) (h : Fin 16) {off : Fin 3 → ℕ} (inb : ∀ a, off a + S1x256x128.size a ≤ S16x256x128.size a) (ho : off = ![h.val, 0, 0]) :
    View.readAt (Elt F) m.view (Rect.unit (s := S16x256x128) off S1x256x128.size inb).toLoadRect f = hd x h := by
  rw [View.readAt_unit m.view f inb ho (inbH h), hf]; rfl

/-- A read of one head's row from a table held at `x` is that row of `x`. -/
theorem readR {m : Memref sig .tc .vmem S16x1024 .f32} (hm : m.IsWhole) (x : Vec F S16x1024 .f32) (f : m.view.ty.Contents (Elt F))
    (hf : m.view.read (Elt F) f = x) (h : Fin 16) {off : Fin 2 → ℕ} (inb : ∀ a, off a + S1x1024.size a ≤ S16x1024.size a) (ho : off = ![h.val, 0]) :
    View.readAt (Elt F) m.view (Rect.unit (s := S16x1024) off S1x1024.size inb).toLoadRect f = rowOf x h := by
  rw [View.readAt_unit m.view f inb ho (inbR h), hf]; rfl

/-- A read of one third of one head's bias from a buffer held at `x` is that third of `x`. -/
theorem readC {m : Memref sig .tc .vmem S16x256x768 .f32} (hm : m.IsWhole) (x : Vec F S16x256x768 .f32) (f : m.view.ty.Contents (Elt F))
    (hf : m.view.read (Elt F) f = x) (h : Fin 16) (j : Fin 3) {off : Fin 3 → ℕ} (inb : ∀ a, off a + S1x256x256.size a ≤ S16x256x768.size a) (ho : off = ![h.val, 0, 256 * j.val]) :
    View.readAt (Elt F) m.view (Rect.unit (s := S16x256x768) off S1x256x256.size inb).toLoadRect f = bcol x h j := by
  rw [View.readAt_unit m.view f inb ho (inbC h j), hf]; rfl

/-- An index is in a unit-stride rectangle when every coordinate is. -/
theorem _root_.Idealize.ShloMosaic.Rect.mem_set_unit_of {s : Shape} {off size : Fin s.rank → ℕ} {inb : ∀ a, off a + size a ≤ s.size a} {y : s.Idx}
    (h : ∀ a, off a ≤ (y a).val ∧ (y a).val < off a + size a) : y ∈ (Rect.unit off size inb).set :=
  (Rect.unit off size inb).mem_set.mpr fun a => ⟨(y a).val - off a, by have := h a; show (y a).val - off a < size a; omega, by
    have := h a; show (y a).val = off a + 1 * ((y a).val - off a); omega⟩

/-- Where one head's rectangle places an index: in that head, at the same place. -/
theorem embH (h : Fin 16) {off : Fin 3 → ℕ} (inb : ∀ a, off a + S1x256x128.size a ≤ S16x256x128.size a) (ho : off = ![h.val, 0, 0]) (x : S1x256x128.Idx) :
    ((Rect.unit (s := S16x256x128) off S1x256x128.size inb).emb x) 0 = h ∧ inH ((Rect.unit (s := S16x256x128) off S1x256x128.size inb).emb x) = x := by
  subst ho
  have h0 : (x 0).val < 1 := (x 0).isLt
  refine ⟨Fin.ext ?_, funext fun a => ?_⟩
  · show h.val + 1 * (x 0).val = h.val; omega
  · match a with
    | ⟨0, _⟩ => exact Subsingleton.elim (α := Fin 1) _ _
    | ⟨1, _⟩ => apply Fin.ext; show 0 + 1 * (x 1).val = (x 1).val; omega
    | ⟨2, _⟩ => apply Fin.ext; show 0 + 1 * (x 2).val = (x 2).val; omega
/-- The same of one head's bias block. -/
theorem embB (h : Fin 16) {off : Fin 3 → ℕ} (inb : ∀ a, off a + S1x256x768.size a ≤ S16x256x768.size a) (ho : off = ![h.val, 0, 0]) (x : S1x256x768.Idx) :
    ((Rect.unit (s := S16x256x768) off S1x256x768.size inb).emb x) 0 = h ∧ inB ((Rect.unit (s := S16x256x768) off S1x256x768.size inb).emb x) = x := by
  subst ho
  have h0 : (x 0).val < 1 := (x 0).isLt
  refine ⟨Fin.ext ?_, funext fun a => ?_⟩
  · show h.val + 1 * (x 0).val = h.val; omega
  · match a with
    | ⟨0, _⟩ => exact Subsingleton.elim (α := Fin 1) _ _
    | ⟨1, _⟩ => apply Fin.ext; show 0 + 1 * (x 1).val = (x 1).val; omega
    | ⟨2, _⟩ => apply Fin.ext; show 0 + 1 * (x 2).val = (x 2).val; omega

/-! ## The bias loop -/

/-- The one piece a trip of the bias loop writes. -/
theorem trip1_eq (h1 : k0_cond1 i = 1#1) (X : arg8.view.ty.Contents (Elt F)) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 h1 X k
      = [⟨Rect.unit (s := S16x256x768) (k0_off2 k) S1x256x768.size (k0_off2_inb i k h1), k0_pay21 (View.readAt (Elt F) arg8.view (Rect.unit (s := S16x1024) (k0_off1 k) S1x1024.size (k0_off1_inb i k h1)).toLoadRect X)⟩] := by
  unfold tripL_k0_t1 trip_k0_t1; rfl

/-- Every piece the bias loop's trips leave is some trip's. -/
theorem pb1_mem (h1 : k0_cond1 i = 1#1) (X : arg8.view.ty.Contents (Elt F)) : ∀ n, n ≤ k0_t1_loop.trips →
    (∀ p ∈ pb_k0_t1 (F := F) Variants.none c none i arg1 harg1 arg2 harg2 arg3 harg3 arg4 harg4 arg5 harg5 arg6 harg6 arg7 harg7 arg8 harg8 arg9 harg9 arg10 harg10 arg11 harg11 arg12 harg12 h1 X n, ∃ k, p ∈ tripL_k0_t1 (F := F) Variants.none c none i arg1 harg1 arg2 harg2 arg3 harg3 arg4 harg4 arg5 harg5 arg6 harg6 arg7 harg7 arg8 harg8 arg9 harg9 arg10 harg10 arg11 harg11 arg12 harg12 h1 X k)
    ∧ ∀ k : Fin k0_t1_loop.trips, k.val < n → ∀ p ∈ tripL_k0_t1 (F := F) Variants.none c none i arg1 harg1 arg2 harg2 arg3 harg3 arg4 harg4 arg5 harg5 arg6 harg6 arg7 harg7 arg8 harg8 arg9 harg9 arg10 harg10 arg11 harg11 arg12 harg12 h1 X k, p ∈ pb_k0_t1 (F := F) Variants.none c none i arg1 harg1 arg2 harg2 arg3 harg3 arg4 harg4 arg5 harg5 arg6 harg6 arg7 harg7 arg8 harg8 arg9 harg9 arg10 harg10 arg11 harg11 arg12 harg12 h1 X n
  | 0, _ => ⟨fun p hp => by rw [pb_k0_t1.eq_1] at hp; exact absurd hp List.not_mem_nil, fun k hk => absurd hk (Nat.not_lt_zero _)⟩
  | n + 1, hn => by
    obtain ⟨ih1, ih2⟩ := pb1_mem h1 X n (Nat.le_of_succ_le hn)
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 h1 X ⟨n, hn⟩
    refine ⟨fun p hp => ?_, fun k hk p hp => ?_⟩
    · rw [e] at hp
      rcases List.mem_append.mp hp with hp | hp
      · exact ⟨_, hp⟩
      · exact ih1 p hp
    · rw [e]
      by_cases hkn : k.val = n
      · exact List.mem_append_left _ (by have : k = ⟨n, hn⟩ := Fin.ext hkn; rw [← this]; exact hp)
      · exact List.mem_append_right _ (ih2 k (by omega) p hp)

/-- After the bias loop the bias buffer reads the bias of every head, whatever it held. -/
theorem bias_read (h1 : k0_cond1 i = 1#1) (x7 : Vec F S16x1024 .f32) (f : arg12.view.ty.Contents (Elt F)) :
    arg12.view.read (Elt F) (arg12.view.writes (Elt F) f (pb_k0_t1 (F := F) Variants.none c none i arg1 harg1 arg2 harg2 arg3 harg3 arg4 harg4 arg5 harg5 arg6 harg6 arg7 harg7 arg8 harg8 arg9 harg9 arg10 harg10 arg11 harg11 arg12 harg12 h1 (harg8.unread x7) k0_t1_loop.trips)) = biasOf x7 := by
  funext y
  refine View.read_writes_apply_of_pieces _ _ (biasOf x7) _ (fun p hp x => ?_) y ?_
  · obtain ⟨k, hk⟩ := (pb1_mem c i arg1 harg1 arg2 harg2 arg3 harg3 arg4 harg4 arg5 harg5 arg6 harg6 arg7 harg7 arg8 harg8 arg9 harg9 arg10 harg10 arg11 harg11 arg12 harg12 h1 _ _ le_rfl).1 p hp
    rw [trip1_eq, List.mem_singleton] at hk
    subst hk
    show k0_pay21 _ x = k0_pay21 (rowOf x7 _) (inB _)
    rw [readR harg8 x7 _ (harg8.read_unread x7) (t1h k) _ (k0_off1_eq k)]
    obtain ⟨e0, e1⟩ := embB (t1h k) (k0_off2_inb i k h1) (k0_off2_eq k) x
    rw [e0, e1]
  · have hy : (y 0).val < k0_t1_loop.trips := by rw [t1_trips]; exact (y 0).isLt
    refine ⟨_, (pb1_mem c i arg1 harg1 arg2 harg2 arg3 harg3 arg4 harg4 arg5 harg5 arg6 harg6 arg7 harg7 arg8 harg8 arg9 harg9 arg10 harg10 arg11 harg11 arg12 harg12 h1 _ _ le_rfl).2 ⟨(y 0).val, hy⟩ hy _ (by rw [trip1_eq]; exact List.mem_singleton_self _), ?_⟩
    refine Rect.mem_set_unit_of (inb := k0_off2_inb i _ h1) ?_
    intro a
    rw [k0_off2_eq]
    have h1 : (y 1).val < 256 := (y 1).isLt
    have h2 : (y 2).val < 768 := (y 2).isLt
    fin_cases a
    · show (y 0).val ≤ (y 0).val ∧ (y 0).val < (y 0).val + 1; omega
    · show 0 ≤ (y 1).val ∧ (y 1).val < 0 + 256; omega
    · show 0 ≤ (y 2).val ∧ (y 2).val < 0 + 768; omega

/-! ## The heads' loop, masked -/

/-- The one piece a trip of the masked heads' loop writes. -/
theorem trip2_eq (a0 : BitVec 32) (h1 : k0_cond2 i = 1#1) (X1 : arg1.view.ty.Contents (Elt F)) (X2 : arg2.view.ty.Contents (Elt F)) (X3 : arg3.view.ty.Contents (Elt F)) (X4 : arg4.view.ty.Contents (Elt F)) (X5 : arg5.view.ty.Contents (Elt F)) (X6 : arg6.view.ty.Contents (Elt F)) (X7 : arg7.view.ty.Contents (Elt F)) (X12 : arg12.view.ty.Contents (Elt F)) (k : Fin k0_t2_loop.trips) :
    tripL_k0_t2 (F := F) Variants.none c none i arg1 harg1 arg2 harg2 arg3 harg3 arg4 harg4 arg5 harg5 arg6 harg6 arg7 harg7 arg8 harg8 arg9 harg9 arg10 harg10 arg11 harg11 arg12 harg12 a0 h1 X1 X2 X3 X4 X5 X6 X7 X12 k
      = [⟨Rect.unit (s := S16x256x128) (k0_off3 k) S1x256x128.size (k0_off3_inb i k h1), headM a0 (View.readAt (Elt F) arg1.view (Rect.unit (s := S16x256x128) (k0_off3 k) S1x256x128.size (k0_off3_inb i k h1)).toLoadRect X1) (View.readAt (Elt F) arg2.view (Rect.unit (s := S16x256x128) (k0_off3 k) S1x256x128.size (k0_off3_inb i k h1)).toLoadRect X2) (View.readAt (Elt F) arg3.view (Rect.unit (s := S16x256x128) (k0_off3 k) S1x256x128.size (k0_off3_inb i k h1)).toLoadRect X3) (View.readAt (Elt F) arg4.view (Rect.unit (s := S16x256x128) (k0_off3 k) S1x256x128.size (k0_off3_inb i k h1)).toLoadRect X4) (View.readAt (Elt F) arg5.view (Rect.unit (s := S16x256x128) (k0_off3 k) S1x256x128.size (k0_off3_inb i k h1)).toLoadRect X5) (View.readAt (Elt F) arg6.view (Rect.unit (s := S16x256x128) (k0_off3 k) S1x256x128.size (k0_off3_inb i k h1)).toLoadRect X6) (View.readAt (Elt F) arg7.view (Rect.unit (s := S16x256x128) (k0_off3 k) S1x256x128.size (k0_off3_inb i k h1)).toLoadRect X7) (View.readAt (Elt F) arg12.view (Rect.unit (s := S16x256x768) (k0_off4 k) S1x256x256.size (k0_off4_inb i k h1)).toLoadRect X12) (View.readAt (Elt F) arg12.view (Rect.unit (s := S16x256x768) (k0_off5 k) S1x256x256.size (k0_off5_inb i k h1)).toLoadRect X12) (View.readAt (Elt F) arg12.view (Rect.unit (s := S16x256x768) (k0_off6 k) S1x256x256.size (k0_off6_inb i k h1)).toLoadRect X12)⟩] := by
  unfold tripL_k0_t2 trip_k0_t2; rfl

/-- Every piece the masked heads' loop's trips leave is some trip's, and every trip's is left. -/
theorem pb2_mem (a0 : BitVec 32) (h1 : k0_cond2 i = 1#1) (X1 : arg1.view.ty.Contents (Elt F)) (X2 : arg2.view.ty.Contents (Elt F)) (X3 : arg3.view.ty.Contents (Elt F)) (X4 : arg4.view.ty.Contents (Elt F)) (X5 : arg5.view.ty.Contents (Elt F)) (X6 : arg6.view.ty.Contents (Elt F)) (X7 : arg7.view.ty.Contents (Elt F)) (X12 : arg12.view.ty.Contents (Elt F)) : ∀ n, n ≤ k0_t2_loop.trips →
    (∀ p ∈ pb_k0_t2 (F := F) Variants.none c none i arg1 harg1 arg2 harg2 arg3 harg3 arg4 harg4 arg5 harg5 arg6 harg6 arg7 harg7 arg8 harg8 arg9 harg9 arg10 harg10 arg11 harg11 arg12 harg12 a0 h1 X1 X2 X3 X4 X5 X6 X7 X12 n, ∃ k, p ∈ tripL_k0_t2 (F := F) Variants.none c none i arg1 harg1 arg2 harg2 arg3 harg3 arg4 harg4 arg5 harg5 arg6 harg6 arg7 harg7 arg8 harg8 arg9 harg9 arg10 harg10 arg11 harg11 arg12 harg12 a0 h1 X1 X2 X3 X4 X5 X6 X7 X12 k)
    ∧ ∀ k : Fin k0_t2_loop.trips, k.val < n → ∀ p ∈ tripL_k0_t2 (F := F) Variants.none c none i arg1 harg1 arg2 harg2 arg3 harg3 arg4 harg4 arg5 harg5 arg6 harg6 arg7 harg7 arg8 harg8 arg9 harg9 arg10 harg10 arg11 harg11 arg12 harg12 a0 h1 X1 X2 X3 X4 X5 X6 X7 X12 k, p ∈ pb_k0_t2 (F := F) Variants.none c none i arg1 harg1 arg2 harg2 arg3 harg3 arg4 harg4 arg5 harg5 arg6 harg6 arg7 harg7 arg8 harg8 arg9 harg9 arg10 harg10 arg11 harg11 arg12 harg12 a0 h1 X1 X2 X3 X4 X5 X6 X7 X12 n
  | 0, _ => ⟨fun p hp => by rw [pb_k0_t2.eq_1] at hp; exact absurd hp List.not_mem_nil, fun k hk => absurd hk (Nat.not_lt_zero _)⟩
  | n + 1, hn => by
    obtain ⟨ih1, ih2⟩ := pb2_mem a0 h1 X1 X2 X3 X4 X5 X6 X7 X12 n (Nat.le_of_succ_le hn)
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 a0 h1 X1 X2 X3 X4 X5 X6 X7 X12 ⟨n, hn⟩
    refine ⟨fun p hp => ?_, fun k hk p hp => ?_⟩
    · rw [e] at hp
      rcases List.mem_append.mp hp with hp | hp
      · exact ⟨_, hp⟩
      · exact ih1 p hp
    · rw [e]
      by_cases hkn : k.val = n
      · exact List.mem_append_left _ (by have : k = ⟨n, hn⟩ := Fin.ext hkn; rw [← this]; exact hp)
      · exact List.mem_append_right _ (ih2 k (by omega) p hp)

/-- After the masked heads' loop the heads' buffer reads every head's attention, whatever it held: the windows at `x0 … x6`, the bias buffer reading `B`. -/
theorem heads2_read (a0 : BitVec 32) (h1 : k0_cond2 i = 1#1) (x0 x1 x2 x3 x4 x5 x6 : Vec F S16x256x128 .bf16) (B : Vec F S16x256x768 .f32) (fB : arg12.view.ty.Contents (Elt F)) (hB : arg12.view.read (Elt F) fB = B) (f : arg11.view.ty.Contents (Elt F)) :
    arg11.view.read (Elt F) (arg11.view.writes (Elt F) f (pb_k0_t2 (F := F) Variants.none c none i arg1 harg1 arg2 harg2 arg3 harg3 arg4 harg4 arg5 harg5 arg6 harg6 arg7 harg7 arg8 harg8 arg9 harg9 arg10 harg10 arg11 harg11 arg12 harg12 a0 h1 (harg1.unread x0) (harg2.unread x1) (harg3.unread x2) (harg4.unread x3) (harg5.unread x4) (harg6.unread x5) (harg7.unread x6) fB k0_t2_loop.trips)) = headsM a0 x0 x1 x2 x3 x4 x5 x6 B := by
  funext y
  refine View.read_writes_apply_of_pieces _ _ (headsM a0 x0 x1 x2 x3 x4 x5 x6 B) _ (fun p hp x => ?_) y ?_
  · obtain ⟨k, hk⟩ := (pb2_mem c i arg1 harg1 arg2 harg2 arg3 harg3 arg4 harg4 arg5 harg5 arg6 harg6 arg7 harg7 arg8 harg8 arg9 harg9 arg10 harg10 arg11 harg11 arg12 harg12 a0 h1 _ _ _ _ _ _ _ _ _ le_rfl).1 p hp
    rw [trip2_eq, List.mem_singleton] at hk
    subst hk
    obtain ⟨e0, e1⟩ := embH (t2h k) (k0_off3_inb i k h1) (k0_off3_eq k) x
    unfold headsM
    rw [e0, e1]
    dsimp only
    rw [readH harg1 x0 _ (harg1.read_unread x0) (t2h k) _ (k0_off3_eq k), readH harg2 x1 _ (harg2.read_unread x1) (t2h k) _ (k0_off3_eq k), readH harg3 x2 _ (harg3.read_unread x2) (t2h k) _ (k0_off3_eq k), readH harg4 x3 _ (harg4.read_unread x3) (t2h k) _ (k0_off3_eq k), readH harg5 x4 _ (harg5.read_unread x4) (t2h k) _ (k0_off3_eq k), readH harg6 x5 _ (harg6.read_unread x5) (t2h k) _ (k0_off3_eq k), readH harg7 x6 _ (harg7.read_unread x6) (t2h k) _ (k0_off3_eq k),
      readC harg12 B fB hB (t2h k) 0 _ (k0_off4_eq k), readC harg12 B fB hB (t2h k) 1 _ (k0_off5_eq k), readC harg12 B fB hB (t2h k) 2 _ (k0_off6_eq k)]
  · have hy : (y 0).val < k0_t2_loop.trips := by rw [t2_trips]; exact (y 0).isLt
    refine ⟨_, (pb2_mem c i arg1 harg1 arg2 harg2 arg3 harg3 arg4 harg4 arg5 harg5 arg6 harg6 arg7 harg7 arg8 harg8 arg9 harg9 arg10 harg10 arg11 harg11 arg12 harg12 a0 h1 _ _ _ _ _ _ _ _ _ le_rfl).2 ⟨(y 0).val, hy⟩ hy _ (by rw [trip2_eq]; exact List.mem_singleton_self _), ?_⟩
    refine Rect.mem_set_unit_of (inb := k0_off3_inb i _ h1) ?_
    intro a
    rw [k0_off3_eq]
    have h1 : (y 1).val < 256 := (y 1).isLt
    have h2 : (y 2).val < 128 := (y 2).isLt
    fin_cases a
    · show (y 0).val ≤ (y 0).val ∧ (y 0).val < (y 0).val + 1; omega
    · show 0 ≤ (y 1).val ∧ (y 1).val < 0 + 256; omega
    · show 0 ≤ (y 2).val ∧ (y 2).val < 0 + 128; omega

/-! ## The heads' loop, unmasked -/

/-- The one piece a trip of the unmasked heads' loop writes. -/
theorem trip3_eq (h1 : k0_cond3 i = 1#1) (X1 : arg1.view.ty.Contents (Elt F)) (X2 : arg2.view.ty.Contents (Elt F)) (X3 : arg3.view.ty.Contents (Elt F)) (X4 : arg4.view.ty.Contents (Elt F)) (X5 : arg5.view.ty.Contents (Elt F)) (X6 : arg6.view.ty.Contents (Elt F)) (X7 : arg7.view.ty.Contents (Elt F)) (X12 : arg12.view.ty.Contents (Elt F)) (k : Fin k0_t3_loop.trips) :
    tripL_k0_t3 (F := F) Variants.none c none i arg1 harg1 arg2 harg2 arg3 harg3 arg4 harg4 arg5 harg5 arg6 harg6 arg7 harg7 arg8 harg8 arg9 harg9 arg10 harg10 arg11 harg11 arg12 harg12 h1 X1 X2 X3 X4 X5 X6 X7 X12 k
      = [⟨Rect.unit (s := S16x256x128) (k0_off7 k) S1x256x128.size (k0_off7_inb i k h1), headU (View.readAt (Elt F) arg1.view (Rect.unit (s := S16x256x128) (k0_off7 k) S1x256x128.size (k0_off7_inb i k h1)).toLoadRect X1) (View.readAt (Elt F) arg2.view (Rect.unit (s := S16x256x128) (k0_off7 k) S1x256x128.size (k0_off7_inb i k h1)).toLoadRect X2) (View.readAt (Elt F) arg3.view (Rect.unit (s := S16x256x128) (k0_off7 k) S1x256x128.size (k0_off7_inb i k h1)).toLoadRect X3) (View.readAt (Elt F) arg4.view (Rect.unit (s := S16x256x128) (k0_off7 k) S1x256x128.size (k0_off7_inb i k h1)).toLoadRect X4) (View.readAt (Elt F) arg5.view (Rect.unit (s := S16x256x128) (k0_off7 k) S1x256x128.size (k0_off7_inb i k h1)).toLoadRect X5) (View.readAt (Elt F) arg6.view (Rect.unit (s := S16x256x128) (k0_off7 k) S1x256x128.size (k0_off7_inb i k h1)).toLoadRect X6) (View.readAt (Elt F) arg7.view (Rect.unit (s := S16x256x128) (k0_off7 k) S1x256x128.size (k0_off7_inb i k h1)).toLoadRect X7) (View.readAt (Elt F) arg12.view (Rect.unit (s := S16x256x768) (k0_off8 k) S1x256x256.size (k0_off8_inb i k h1)).toLoadRect X12) (View.readAt (Elt F) arg12.view (Rect.unit (s := S16x256x768) (k0_off9 k) S1x256x256.size (k0_off9_inb i k h1)).toLoadRect X12) (View.readAt (Elt F) arg12.view (Rect.unit (s := S16x256x768) (k0_off10 k) S1x256x256.size (k0_off10_inb i k h1)).toLoadRect X12)⟩] := by
  unfold tripL_k0_t3 trip_k0_t3; rfl

/-- Every piece the unmasked heads' loop's trips leave is some trip's, and every trip's is left. -/
theorem pb3_mem (h1 : k0_cond3 i = 1#1) (X1 : arg1.view.ty.Contents (Elt F)) (X2 : arg2.view.ty.Contents (Elt F)) (X3 : arg3.view.ty.Contents (Elt F)) (X4 : arg4.view.ty.Contents (Elt F)) (X5 : arg5.view.ty.Contents (Elt F)) (X6 : arg6.view.ty.Contents (Elt F)) (X7 : arg7.view.ty.Contents (Elt F)) (X12 : arg12.view.ty.Contents (Elt F)) : ∀ n, n ≤ k0_t3_loop.trips →
    (∀ p ∈ pb_k0_t3 (F := F) Variants.none c none i arg1 harg1 arg2 harg2 arg3 harg3 arg4 harg4 arg5 harg5 arg6 harg6 arg7 harg7 arg8 harg8 arg9 harg9 arg10 harg10 arg11 harg11 arg12 harg12 h1 X1 X2 X3 X4 X5 X6 X7 X12 n, ∃ k, p ∈ tripL_k0_t3 (F := F) Variants.none c none i arg1 harg1 arg2 harg2 arg3 harg3 arg4 harg4 arg5 harg5 arg6 harg6 arg7 harg7 arg8 harg8 arg9 harg9 arg10 harg10 arg11 harg11 arg12 harg12 h1 X1 X2 X3 X4 X5 X6 X7 X12 k)
    ∧ ∀ k : Fin k0_t3_loop.trips, k.val < n → ∀ p ∈ tripL_k0_t3 (F := F) Variants.none c none i arg1 harg1 arg2 harg2 arg3 harg3 arg4 harg4 arg5 harg5 arg6 harg6 arg7 harg7 arg8 harg8 arg9 harg9 arg10 harg10 arg11 harg11 arg12 harg12 h1 X1 X2 X3 X4 X5 X6 X7 X12 k, p ∈ pb_k0_t3 (F := F) Variants.none c none i arg1 harg1 arg2 harg2 arg3 harg3 arg4 harg4 arg5 harg5 arg6 harg6 arg7 harg7 arg8 harg8 arg9 harg9 arg10 harg10 arg11 harg11 arg12 harg12 h1 X1 X2 X3 X4 X5 X6 X7 X12 n
  | 0, _ => ⟨fun p hp => by rw [pb_k0_t3.eq_1] at hp; exact absurd hp List.not_mem_nil, fun k hk => absurd hk (Nat.not_lt_zero _)⟩
  | n + 1, hn => by
    obtain ⟨ih1, ih2⟩ := pb3_mem h1 X1 X2 X3 X4 X5 X6 X7 X12 n (Nat.le_of_succ_le hn)
    have e := pb_k0_t3_succ (F := F) Variants.none c none i arg1 harg1 arg2 harg2 arg3 harg3 arg4 harg4 arg5 harg5 arg6 harg6 arg7 harg7 arg8 harg8 arg9 harg9 arg10 harg10 arg11 harg11 arg12 harg12 h1 X1 X2 X3 X4 X5 X6 X7 X12 ⟨n, hn⟩
    refine ⟨fun p hp => ?_, fun k hk p hp => ?_⟩
    · rw [e] at hp
      rcases List.mem_append.mp hp with hp | hp
      · exact ⟨_, hp⟩
      · exact ih1 p hp
    · rw [e]
      by_cases hkn : k.val = n
      · exact List.mem_append_left _ (by have : k = ⟨n, hn⟩ := Fin.ext hkn; rw [← this]; exact hp)
      · exact List.mem_append_right _ (ih2 k (by omega) p hp)

/-- After the unmasked heads' loop the heads' buffer reads every head's attention, whatever it held: the windows at `x0 … x6`, the bias buffer reading `B`. -/
theorem heads3_read (h1 : k0_cond3 i = 1#1) (x0 x1 x2 x3 x4 x5 x6 : Vec F S16x256x128 .bf16) (B : Vec F S16x256x768 .f32) (fB : arg12.view.ty.Contents (Elt F)) (hB : arg12.view.read (Elt F) fB = B) (f : arg11.view.ty.Contents (Elt F)) :
    arg11.view.read (Elt F) (arg11.view.writes (Elt F) f (pb_k0_t3 (F := F) Variants.none c none i arg1 harg1 arg2 harg2 arg3 harg3 arg4 harg4 arg5 harg5 arg6 harg6 arg7 harg7 arg8 harg8 arg9 harg9 arg10 harg10 arg11 harg11 arg12 harg12 h1 (harg1.unread x0) (harg2.unread x1) (harg3.unread x2) (harg4.unread x3) (harg5.unread x4) (harg6.unread x5) (harg7.unread x6) fB k0_t3_loop.trips)) = headsU x0 x1 x2 x3 x4 x5 x6 B := by
  funext y
  refine View.read_writes_apply_of_pieces _ _ (headsU x0 x1 x2 x3 x4 x5 x6 B) _ (fun p hp x => ?_) y ?_
  · obtain ⟨k, hk⟩ := (pb3_mem c i arg1 harg1 arg2 harg2 arg3 harg3 arg4 harg4 arg5 harg5 arg6 harg6 arg7 harg7 arg8 harg8 arg9 harg9 arg10 harg10 arg11 harg11 arg12 harg12 h1 _ _ _ _ _ _ _ _ _ le_rfl).1 p hp
    rw [trip3_eq, List.mem_singleton] at hk
    subst hk
    obtain ⟨e0, e1⟩ := embH (t3h k) (k0_off7_inb i k h1) (k0_off7_eq k) x
    unfold headsU
    rw [e0, e1]
    dsimp only
    rw [readH harg1 x0 _ (harg1.read_unread x0) (t3h k) _ (k0_off7_eq k), readH harg2 x1 _ (harg2.read_unread x1) (t3h k) _ (k0_off7_eq k), readH harg3 x2 _ (harg3.read_unread x2) (t3h k) _ (k0_off7_eq k), readH harg4 x3 _ (harg4.read_unread x3) (t3h k) _ (k0_off7_eq k), readH harg5 x4 _ (harg5.read_unread x4) (t3h k) _ (k0_off7_eq k), readH harg6 x5 _ (harg6.read_unread x5) (t3h k) _ (k0_off7_eq k), readH harg7 x6 _ (harg7.read_unread x6) (t3h k) _ (k0_off7_eq k),
      readC harg12 B fB hB (t3h k) 0 _ (k0_off8_eq k), readC harg12 B fB hB (t3h k) 1 _ (k0_off9_eq k), readC harg12 B fB hB (t3h k) 2 _ (k0_off10_eq k)]
  · have hy : (y 0).val < k0_t3_loop.trips := by rw [t3_trips]; exact (y 0).isLt
    refine ⟨_, (pb3_mem c i arg1 harg1 arg2 harg2 arg3 harg3 arg4 harg4 arg5 harg5 arg6 harg6 arg7 harg7 arg8 harg8 arg9 harg9 arg10 harg10 arg11 harg11 arg12 harg12 h1 _ _ _ _ _ _ _ _ _ le_rfl).2 ⟨(y 0).val, hy⟩ hy _ (by rw [trip3_eq]; exact List.mem_singleton_self _), ?_⟩
    refine Rect.mem_set_unit_of (inb := k0_off7_inb i _ h1) ?_
    intro a
    rw [k0_off7_eq]
    have h1 : (y 1).val < 256 := (y 1).isLt
    have h2 : (y 2).val < 128 := (y 2).isLt
    fin_cases a
    · show (y 0).val ≤ (y 0).val ∧ (y 0).val < (y 0).val + 1; omega
    · show 0 ≤ (y 1).val ∧ (y 1).val < 0 + 256; omega
    · show 0 ≤ (y 2).val ∧ (y 2).val < 0 + 128; omega

end Cert.Attn

end
-- ==== Proof.Attn.RunB.lean ====
/- The attention kernel's body at the grid's second point, run once over symbolic memrefs: the pieces its stores leave in the output window and in the two scratch buffers, over the values the scratch buffers held. -/
module

public import proofs.«01_k».proof.Proof.Attn.RunA

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 2000000 in
/-- The body at the grid's second point: from the windows at `x0 … x8`, the output window at anything and the two scratch buffers at the
    values `s0`, `s1`, it runs to the windows as they were, the output window with the pieces `.1` written over what it
    held, and the scratch buffers with the pieces `.2.1` and `.2.2` written over theirs. -/
def runB (c : Dev nD) (i : grid0.Coords) (arg1 : Memref sig .tc .vmem S16x256x128 .bf16) (harg1 : arg1.IsWhole) (arg2 : Memref sig .tc .vmem S16x256x128 .bf16) (harg2 : arg2.IsWhole) (arg3 : Memref sig .tc .vmem S16x256x128 .bf16) (harg3 : arg3.IsWhole) (arg4 : Memref sig .tc .vmem S16x256x128 .bf16) (harg4 : arg4.IsWhole) (arg5 : Memref sig .tc .vmem S16x256x128 .bf16) (harg5 : arg5.IsWhole) (arg6 : Memref sig .tc .vmem S16x256x128 .bf16) (harg6 : arg6.IsWhole) (arg7 : Memref sig .tc .vmem S16x256x128 .bf16) (harg7 : arg7.IsWhole) (arg8 : Memref sig .tc .vmem S16x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S16x256x128 .f32) (harg11 : arg11.IsWhole) (arg12 : Memref sig .tc .vmem S16x256x768 .f32) (harg12 : arg12.IsWhole) (hc0 : ¬(k0_cond1 i = 1#1)) (hc1 : k0_cond2 i = 1#1) (hc2 : ¬(k0_cond3 i = 1#1))
    (x0 : Vec F S16x256x128 .bf16) (x1 : Vec F S16x256x128 .bf16) (x2 : Vec F S16x256x128 .bf16) (x3 : Vec F S16x256x128 .bf16) (x4 : Vec F S16x256x128 .bf16) (x5 : Vec F S16x256x128 .bf16) (x6 : Vec F S16x256x128 .bf16) (x7 : Vec F S16x1024 .f32) (x8 : Vec F S1x2048 .f32) (s0 : Vec F S16x256x128 .f32) (s1 : Vec F S16x256x768 .f32) :
    Σ' (LO : List (View.Piece (Elt F) S256x2048 .bf16)) (LS0 : List (View.Piece (Elt F) S16x256x128 .f32)), { LS1 : List (View.Piece (Elt F) S16x256x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare s0 ∗ owns (c : Thread nD τ) arg12 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f LO) ∗ (arg11.view.loc (c : Thread nD τ) ↦[arg11.view.set]{fullShare} arg11.view.writes (Elt F) (harg11.unread s0) LS0) ∗ (arg12.view.loc (c : Thread nD τ) ↦[arg12.view.set]{fullShare} arg12.view.writes (Elt F) (harg12.unread s1) LS1)) -∗ K ⟨⟩))
          ⊢ wp frame (wpE (defs₀ (F := F)) Variants.none c none) E (cc0_attn_prompt i arg1 harg1 arg2 harg2 arg3 harg3 arg4 harg4 arg5 harg5 arg6 harg6 arg7 harg7 arg8 harg8 arg9 harg9 arg10 harg10 arg11 harg11 arg12 harg12) K } := by
  refine ⟨?_, ?_, [], fun E K => ?run⟩
  case run =>
    simp only [cc0_attn_prompt_eq_skeleton]; unfold cc0_attn_prompt_skel
    simp only [k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%g0, %hg0, HS0⟩, ⟨%g1, %hg1, HS1⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg11.eq_unread hg0
    obtain rfl := harg12.eq_unread hg1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [HS0]; · iexact HS0
    iexact HS1

end Cert.Attn

end
-- ==== Proof.Attn.RunC.lean ====
/- The attention kernel's body at a point from the third on, run once over symbolic memrefs: the pieces its stores leave in the output window and in the two scratch buffers, over the values the scratch buffers held. -/
module

public import proofs.«01_k».proof.Proof.Attn.RunB

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 2000000 in
/-- The body at a point from the third on: from the windows at `x0 … x8`, the output window at anything and the two scratch buffers at the
    values `s0`, `s1`, it runs to the windows as they were, the output window with the pieces `.1` written over what it
    held, and the scratch buffers with the pieces `.2.1` and `.2.2` written over theirs. -/
def runC (c : Dev nD) (i : grid0.Coords) (arg1 : Memref sig .tc .vmem S16x256x128 .bf16) (harg1 : arg1.IsWhole) (arg2 : Memref sig .tc .vmem S16x256x128 .bf16) (harg2 : arg2.IsWhole) (arg3 : Memref sig .tc .vmem S16x256x128 .bf16) (harg3 : arg3.IsWhole) (arg4 : Memref sig .tc .vmem S16x256x128 .bf16) (harg4 : arg4.IsWhole) (arg5 : Memref sig .tc .vmem S16x256x128 .bf16) (harg5 : arg5.IsWhole) (arg6 : Memref sig .tc .vmem S16x256x128 .bf16) (harg6 : arg6.IsWhole) (arg7 : Memref sig .tc .vmem S16x256x128 .bf16) (harg7 : arg7.IsWhole) (arg8 : Memref sig .tc .vmem S16x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S16x256x128 .f32) (harg11 : arg11.IsWhole) (arg12 : Memref sig .tc .vmem S16x256x768 .f32) (harg12 : arg12.IsWhole) (hc0 : ¬(k0_cond1 i = 1#1)) (hc1 : ¬(k0_cond2 i = 1#1)) (hc2 : k0_cond3 i = 1#1)
    (x0 : Vec F S16x256x128 .bf16) (x1 : Vec F S16x256x128 .bf16) (x2 : Vec F S16x256x128 .bf16) (x3 : Vec F S16x256x128 .bf16) (x4 : Vec F S16x256x128 .bf16) (x5 : Vec F S16x256x128 .bf16) (x6 : Vec F S16x256x128 .bf16) (x7 : Vec F S16x1024 .f32) (x8 : Vec F S1x2048 .f32) (s0 : Vec F S16x256x128 .f32) (s1 : Vec F S16x256x768 .f32) :
    Σ' (LO : List (View.Piece (Elt F) S256x2048 .bf16)) (LS0 : List (View.Piece (Elt F) S16x256x128 .f32)), { LS1 : List (View.Piece (Elt F) S16x256x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare s0 ∗ owns (c : Thread nD τ) arg12 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f LO) ∗ (arg11.view.loc (c : Thread nD τ) ↦[arg11.view.set]{fullShare} arg11.view.writes (Elt F) (harg11.unread s0) LS0) ∗ (arg12.view.loc (c : Thread nD τ) ↦[arg12.view.set]{fullShare} arg12.view.writes (Elt F) (harg12.unread s1) LS1)) -∗ K ⟨⟩))
          ⊢ wp frame (wpE (defs₀ (F := F)) Variants.none c none) E (cc0_attn_prompt i arg1 harg1 arg2 harg2 arg3 harg3 arg4 harg4 arg5 harg5 arg6 harg6 arg7 harg7 arg8 harg8 arg9 harg9 arg10 harg10 arg11 harg11 arg12 harg12) K } := by
  refine ⟨?_, ?_, [], fun E K => ?run⟩
  case run =>
    simp only [cc0_attn_prompt_eq_skeleton]; unfold cc0_attn_prompt_skel
    simp only [k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%g0, %hg0, HS0⟩, ⟨%g1, %hg1, HS1⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg11.eq_unread hg0
    obtain rfl := harg12.eq_unread hg1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [HS0]; · iexact HS0
    iexact HS1

end Cert.Attn

end
-- ==== Proof.Attn.Out.lean ====
/- What the attention kernel's body leaves in its output window and its bias buffer, at each kind of point, in closed form over the values its windows hold. -/
module

public import proofs.«01_k».proof.Proof.Attn.Loops
public import proofs.«01_k».proof.Proof.Attn.RunC

@[expose] public section

set_option maxRecDepth 16384

noncomputable section

namespace Cert.Attn

open Idealize.ShloMosaic Idealize.ShloMosaic.TcCoe Idealize.ShloMosaic.Tactic
open Cert.KernelIdeal Cert.KernelIdeal.Gen

variable {F : FTy → Type} [FloatOps F] [Named F]

/-- One head's columns lie inside the scales. -/
theorem inbG : ∀ h : Fin 16, ∀ a, (![0, 128 * h.val] : Fin 2 → ℕ) a + S1x128.size a ≤ S1x2048.size a := by decide
/-- One head's columns lie inside the output block. -/
theorem inbO : ∀ h : Fin 16, ∀ a, (![0, 128 * h.val] : Fin 2 → ℕ) a + S256x128.size a ≤ S256x2048.size a := by decide

/-- The scales of head `h`'s columns. -/
def gcol (x8 : Vec F S1x2048 .f32) (h : Fin 16) : Vec F S1x128 .f32 := VecWindow.window x8 ![0, 128 * h.val] S1x128.size (inbG h)

/-- The reciprocal root mean square of each row, all heads together. -/
def rsOf (v : Fin 16 → Vec F S1x256x128 .f32) : FVec F S256x1 .f32 :=
  k0_pay25 (k0_pay24 (k0_pay23 (v 0) (v 1) (v 2) (v 3) (v 4)) (v 5) (v 6) (v 7) (v 8) (v 9) (v 10) (v 11) (v 12) (v 13)) (v 14) (v 15)

/-- The head whose columns an output column belongs to. -/
def headOf (y : S256x2048.Idx) : Fin 16 := ⟨(y 1).val / 128, by have : (y 1).val < 2048 := (y 1).isLt; omega⟩
/-- An output index within its head's columns. -/
def inO (y : S256x2048.Idx) : S256x128.Idx := fun a => match a with
  | ⟨0, _⟩ => ⟨(y 0).val, (y 0).isLt⟩
  | ⟨1, _⟩ => ⟨(y 1).val % 128, Nat.mod_lt _ (Nat.succ_pos 127)⟩

/-- The output block: every head scaled by its row's reciprocal root mean square and by the scales, rounded. -/
def outV (v : Fin 16 → Vec F S1x256x128 .f32) (g : Fin 16 → Vec F S1x128 .f32) : Vec F S256x2048 .bf16 := fun y =>
  k0_pay28 (rsOf v) (v (headOf y)) (g (headOf y)) (inO y)

/-- The piece of one head. -/
def outPiece (v : Fin 16 → Vec F S1x256x128 .f32) (g : Fin 16 → Vec F S1x128 .f32) (h : Fin 16) : View.Piece (Elt F) S256x2048 .bf16 :=
  ⟨Rect.unit (s := S256x2048) ![0, 128 * h.val] S256x128.size (inbO h), k0_pay28 (rsOf v) (v h) (g h)⟩

/-- The sixteen pieces the body stores into its output window, last first. -/
def outPieces (v : Fin 16 → Vec F S1x256x128 .f32) (g : Fin 16 → Vec F S1x128 .f32) : List (View.Piece (Elt F) S256x2048 .bf16) :=
  [outPiece v g 15, outPiece v g 14, outPiece v g 13, outPiece v g 12, outPiece v g 11, outPiece v g 10, outPiece v g 9, outPiece v g 8, outPiece v g 7, outPiece v g 6, outPiece v g 5, outPiece v g 4, outPiece v g 3, outPiece v g 2, outPiece v g 1, outPiece v g 0]

/-- Every head's piece is among them. -/
theorem outPiece_mem (v : Fin 16 → Vec F S1x256x128 .f32) (g : Fin 16 → Vec F S1x128 .f32) (h : Fin 16) : outPiece v g h ∈ outPieces v g := by
  unfold outPieces
  fin_cases h <;> simp
/-- Each of them is some head's. -/
theorem of_mem_outPieces (v : Fin 16 → Vec F S1x256x128 .f32) (g : Fin 16 → Vec F S1x128 .f32) (p) (hp : p ∈ outPieces v g) : ∃ h, p = outPiece v g h := by
  unfold outPieces at hp
  simp only [List.mem_cons, List.not_mem_nil, or_false] at hp
  rcases hp with hp | hp | hp | hp | hp | hp | hp | hp | hp | hp | hp | hp | hp | hp | hp | hp
  all_goals exact ⟨_, hp⟩

/-- The sixteen pieces written over anything read back as the output block. -/
theorem outV_read (m : Memref sig .tc .vmem S256x2048 .bf16) (v : Fin 16 → Vec F S1x256x128 .f32) (g : Fin 16 → Vec F S1x128 .f32) (f : m.view.ty.Contents (Elt F)) :
    m.view.read (Elt F) (m.view.writes (Elt F) f (outPieces v g)) = outV v g := by
  funext y
  refine View.read_writes_apply_of_pieces _ _ (outV v g) _ (fun p hp x => ?_) y ⟨_, outPiece_mem v g (headOf y), ?_⟩
  · obtain ⟨h, rfl⟩ := of_mem_outPieces v g p hp
    show k0_pay28 (rsOf v) (v h) (g h) x = k0_pay28 (rsOf v) (v (headOf _)) (g (headOf _)) (inO _)
    have h1 : (x 1).val < 128 := (x 1).isLt
    have e0 : headOf ((Rect.unit (s := S256x2048) ![0, 128 * h.val] S256x128.size (inbO h)).emb x) = h := Fin.ext (by
      show (128 * h.val + 1 * (x 1).val) / 128 = h.val; omega)
    have e1 : inO ((Rect.unit (s := S256x2048) ![0, 128 * h.val] S256x128.size (inbO h)).emb x) = x := funext fun a => by
      match a with
      | ⟨0, _⟩ => apply Fin.ext; show 0 + 1 * (x 0).val = (x 0).val; omega
      | ⟨1, _⟩ => apply Fin.ext; show (128 * h.val + 1 * (x 1).val) % 128 = (x 1).val; omega
    exact (by rw [e0, e1] : k0_pay28 (rsOf v) (v h) (g h) x = k0_pay28 (rsOf v) (v (headOf ((Rect.unit (s := S256x2048) ![0, 128 * h.val] S256x128.size (inbO h)).emb x))) (g (headOf ((Rect.unit (s := S256x2048) ![0, 128 * h.val] S256x128.size (inbO h)).emb x))) (inO ((Rect.unit (s := S256x2048) ![0, 128 * h.val] S256x128.size (inbO h)).emb x)))
  · refine Rect.mem_set_unit_of (inb := inbO (headOf y)) fun a => ?_
    have h0 : (y 0).val < 256 := (y 0).isLt
    match a with
    | ⟨0, _⟩ => show 0 ≤ (y 0).val ∧ (y 0).val < 0 + 256; omega
    | ⟨1, _⟩ => show 128 * ((y 1).val / 128) ≤ (y 1).val ∧ (y 1).val < 128 * ((y 1).val / 128) + 128; omega

/-- The output block from the heads' buffer and the scales. -/
def outOf (o : Vec F S16x256x128 .f32) (x8 : Vec F S1x2048 .f32) : Vec F S256x2048 .bf16 := outV (hd o) (gcol x8)

variable (c : Dev nD) (i : grid0.Coords) (arg1 : Memref sig .tc .vmem S16x256x128 .bf16) (harg1 : arg1.IsWhole) (arg2 : Memref sig .tc .vmem S16x256x128 .bf16) (harg2 : arg2.IsWhole) (arg3 : Memref sig .tc .vmem S16x256x128 .bf16) (harg3 : arg3.IsWhole) (arg4 : Memref sig .tc .vmem S16x256x128 .bf16) (harg4 : arg4.IsWhole) (arg5 : Memref sig .tc .vmem S16x256x128 .bf16) (harg5 : arg5.IsWhole) (arg6 : Memref sig .tc .vmem S16x256x128 .bf16) (harg6 : arg6.IsWhole) (arg7 : Memref sig .tc .vmem S16x256x128 .bf16) (harg7 : arg7.IsWhole) (arg8 : Memref sig .tc .vmem S16x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S16x256x128 .f32) (harg11 : arg11.IsWhole) (arg12 : Memref sig .tc .vmem S16x256x768 .f32) (harg12 : arg12.IsWhole)
variable (x0 x1 x2 x3 x4 x5 x6 : Vec F S16x256x128 .bf16) (x7 : Vec F S16x1024 .f32) (x8 : Vec F S1x2048 .f32) (s0 : Vec F S16x256x128 .f32) (s1 : Vec F S16x256x768 .f32)

/-- The reads of the heads' buffer and of the scales, as the body makes them before its stores. -/
def rdHeads (fO : arg11.view.ty.Contents (Elt F)) (h : Fin 16) : Vec F S1x256x128 .f32 :=
  View.readAt (Elt F) arg11.view (Rect.unit (s := S16x256x128) ![h.val, 0, 0] S1x256x128.size (inbH h)).toLoadRect fO
/-- What a trip reads of its head's gains. -/
def rdScales (fG : arg9.view.ty.Contents (Elt F)) (h : Fin 16) : Vec F S1x128 .f32 :=
  View.readAt (Elt F) arg9.view (Rect.unit (s := S1x2048) ![0, 128 * h.val] S1x128.size (inbG h)).toLoadRect fG

include harg11 in
/-- Those reads are the heads' and the scales' values. -/
theorem outV_reads (o : Vec F S16x256x128 .f32) (fO : arg11.view.ty.Contents (Elt F)) (hO : arg11.view.read (Elt F) fO = o) :
    outV (rdHeads arg11 fO) (rdScales arg9 (harg9.unread x8)) = outOf o x8 := by
  have e0 : rdHeads arg11 fO = hd o := funext fun h => readH harg11 o fO hO h _ rfl
  have e1 : rdScales arg9 (harg9.unread x8) = gcol x8 := funext fun h => by
    unfold rdScales gcol
    rw [View.readAt_unit arg9.view _ (inbG h) rfl (inbG h), harg9.read_unread]
  rw [e0, e1]; rfl

/-- What the body's stores into the output window are, at the first point. -/
theorem LO_A (hc0 : k0_cond1 i = 1#1) (hc1 : k0_cond2 i = 1#1) (hc2 : ¬(k0_cond3 i = 1#1)) :
    (runA c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 s0 s1).1
      = outPieces (rdHeads arg11 (arg11.view.writes (Elt F) (harg11.unread s0) (pb_k0_t2 (F := F) Variants.none c none i arg1 harg1 arg2 harg2 arg3 harg3 arg4 harg4 arg5 harg5 arg6 harg6 arg7 harg7 arg8 harg8 arg9 harg9 arg10 harg10 arg11 harg11 arg12 harg12 (BitVec.ofNat 32 (i 0).val) hc1 (harg1.unread x0) (harg2.unread x1) (harg3.unread x2) (harg4.unread x3) (harg5.unread x4) (harg6.unread x5) (harg7.unread x6) (arg12.view.writes (Elt F) (harg12.unread s1) (pb_k0_t1 (F := F) Variants.none c none i arg1 harg1 arg2 harg2 arg3 harg3 arg4 harg4 arg5 harg5 arg6 harg6 arg7 harg7 arg8 harg8 arg9 harg9 arg10 harg10 arg11 harg11 arg12 harg12 hc0 (harg8.unread x7) k0_t1_loop.trips)) k0_t2_loop.trips))) (rdScales arg9 (harg9.unread x8)) := by
  unfold runA; rfl

/-- At the first point, the output window reads the output block of the heads' attention. -/
theorem out_A (hc0 : k0_cond1 i = 1#1) (hc1 : k0_cond2 i = 1#1) (hc2 : ¬(k0_cond3 i = 1#1)) (f : arg10.view.ty.Contents (Elt F)) :
    arg10.view.read (Elt F) (arg10.view.writes (Elt F) f (runA c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 s0 s1).1)
      = outOf (headsM (BitVec.ofNat 32 (i 0).val) x0 x1 x2 x3 x4 x5 x6 (biasOf x7)) x8 := by
  rw [LO_A, outV_read]
  exact outV_reads arg9 harg9 arg11 harg11 x8 _ _ (heads2_read c i arg1 harg1 arg2 harg2 arg3 harg3 arg4 harg4 arg5 harg5 arg6 harg6 arg7 harg7 arg8 harg8 arg9 harg9 arg10 harg10 arg11 harg11 arg12 harg12 (BitVec.ofNat 32 (i 0).val) hc1 x0 x1 x2 x3 x4 x5 x6 (biasOf x7) (arg12.view.writes (Elt F) (harg12.unread s1) (pb_k0_t1 (F := F) Variants.none c none i arg1 harg1 arg2 harg2 arg3 harg3 arg4 harg4 arg5 harg5 arg6 harg6 arg7 harg7 arg8 harg8 arg9 harg9 arg10 harg10 arg11 harg11 arg12 harg12 hc0 (harg8.unread x7) k0_t1_loop.trips)) (bias_read c i arg1 harg1 arg2 harg2 arg3 harg3 arg4 harg4 arg5 harg5 arg6 harg6 arg7 harg7 arg8 harg8 arg9 harg9 arg10 harg10 arg11 harg11 arg12 harg12 hc0 x7 _) _)

/-- What the body's stores into the output window are, at the second point. -/
theorem LO_B (hc0 : ¬(k0_cond1 i = 1#1)) (hc1 : k0_cond2 i = 1#1) (hc2 : ¬(k0_cond3 i = 1#1)) :
    (runB c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 s0 s1).1
      = outPieces (rdHeads arg11 (arg11.view.writes (Elt F) (harg11.unread s0) (pb_k0_t2 (F := F) Variants.none c none i arg1 harg1 arg2 harg2 arg3 harg3 arg4 harg4 arg5 harg5 arg6 harg6 arg7 harg7 arg8 harg8 arg9 harg9 arg10 harg10 arg11 harg11 arg12 harg12 (BitVec.ofNat 32 (i 0).val) hc1 (harg1.unread x0) (harg2.unread x1) (harg3.unread x2) (harg4.unread x3) (harg5.unread x4) (harg6.unread x5) (harg7.unread x6) (harg12.unread s1) k0_t2_loop.trips))) (rdScales arg9 (harg9.unread x8)) := by
  unfold runB; rfl

/-- At the second point, the output window reads the output block of the heads' attention. -/
theorem out_B (hc0 : ¬(k0_cond1 i = 1#1)) (hc1 : k0_cond2 i = 1#1) (hc2 : ¬(k0_cond3 i = 1#1)) (f : arg10.view.ty.Contents (Elt F)) :
    arg10.view.read (Elt F) (arg10.view.writes (Elt F) f (runB c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 s0 s1).1)
      = outOf (headsM (BitVec.ofNat 32 (i 0).val) x0 x1 x2 x3 x4 x5 x6 s1) x8 := by
  rw [LO_B, outV_read]
  exact outV_reads arg9 harg9 arg11 harg11 x8 _ _ (heads2_read c i arg1 harg1 arg2 harg2 arg3 harg3 arg4 harg4 arg5 harg5 arg6 harg6 arg7 harg7 arg8 harg8 arg9 harg9 arg10 harg10 arg11 harg11 arg12 harg12 (BitVec.ofNat 32 (i 0).val) hc1 x0 x1 x2 x3 x4 x5 x6 s1 (harg12.unread s1) (harg12.read_unread s1) _)

/-- What the body's stores into the output window are, at a point from the third on. -/
theorem LO_C (hc0 : ¬(k0_cond1 i = 1#1)) (hc1 : ¬(k0_cond2 i = 1#1)) (hc2 : k0_cond3 i = 1#1) :
    (runC c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 s0 s1).1
      = outPieces (rdHeads arg11 (arg11.view.writes (Elt F) (harg11.unread s0) (pb_k0_t3 (F := F) Variants.none c none i arg1 harg1 arg2 harg2 arg3 harg3 arg4 harg4 arg5 harg5 arg6 harg6 arg7 harg7 arg8 harg8 arg9 harg9 arg10 harg10 arg11 harg11 arg12 harg12 hc2 (harg1.unread x0) (harg2.unread x1) (harg3.unread x2) (harg4.unread x3) (harg5.unread x4) (harg6.unread x5) (harg7.unread x6) (harg12.unread s1) k0_t3_loop.trips))) (rdScales arg9 (harg9.unread x8)) := by
  unfold runC; rfl

/-- At a point from the third on, the output window reads the output block of the heads' attention. -/
theorem out_C (hc0 : ¬(k0_cond1 i = 1#1)) (hc1 : ¬(k0_cond2 i = 1#1)) (hc2 : k0_cond3 i = 1#1) (f : arg10.view.ty.Contents (Elt F)) :
    arg10.view.read (Elt F) (arg10.view.writes (Elt F) f (runC c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 s0 s1).1)
      = outOf (headsU x0 x1 x2 x3 x4 x5 x6 s1) x8 := by
  rw [LO_C, outV_read]
  exact outV_reads arg9 harg9 arg11 harg11 x8 _ _ (heads3_read c i arg1 harg1 arg2 harg2 arg3 harg3 arg4 harg4 arg5 harg5 arg6 harg6 arg7 harg7 arg8 harg8 arg9 harg9 arg10 harg10 arg11 harg11 arg12 harg12 hc2 x0 x1 x2 x3 x4 x5 x6 s1 (harg12.unread s1) (harg12.read_unread s1) _)

/-- At the first point the bias buffer is left reading the bias of every head. -/
theorem bias_A (hc0 : k0_cond1 i = 1#1) (hc1 : k0_cond2 i = 1#1) (hc2 : ¬(k0_cond3 i = 1#1)) :
    arg12.view.read (Elt F) (arg12.view.writes (Elt F) (harg12.unread s1) (runA c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 s0 s1).2.2.val) = biasOf x7 := by
  have e : (runA c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 s0 s1).2.2.val = pb_k0_t1 (F := F) Variants.none c none i arg1 harg1 arg2 harg2 arg3 harg3 arg4 harg4 arg5 harg5 arg6 harg6 arg7 harg7 arg8 harg8 arg9 harg9 arg10 harg10 arg11 harg11 arg12 harg12 hc0 (harg8.unread x7) k0_t1_loop.trips := by unfold runA; rfl
  rw [e]
  exact bias_read c i arg1 harg1 arg2 harg2 arg3 harg3 arg4 harg4 arg5 harg5 arg6 harg6 arg7 harg7 arg8 harg8 arg9 harg9 arg10 harg10 arg11 harg11 arg12 harg12 hc0 x7 _
/-- At the second point it is left as it was. -/
theorem bias_B (hc0 : ¬(k0_cond1 i = 1#1)) (hc1 : k0_cond2 i = 1#1) (hc2 : ¬(k0_cond3 i = 1#1)) :
    arg12.view.read (Elt F) (arg12.view.writes (Elt F) (harg12.unread s1) (runB c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 s0 s1).2.2.val) = s1 := by
  have e : (runB c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 s0 s1).2.2.val = [] := by unfold runB; rfl
  rw [e]
  exact harg12.read_unread s1
/-- Likewise at a point from the third on. -/
theorem bias_C (hc0 : ¬(k0_cond1 i = 1#1)) (hc1 : ¬(k0_cond2 i = 1#1)) (hc2 : k0_cond3 i = 1#1) :
    arg12.view.read (Elt F) (arg12.view.writes (Elt F) (harg12.unread s1) (runC c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 s0 s1).2.2.val) = s1 := by
  have e : (runC c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 s0 s1).2.2.val = [] := by unfold runC; rfl
  rw [e]
  exact harg12.read_unread s1

end Cert.Attn

end
-- ==== Proof.Attn.Frame.lean ====
/- The attention kernel's run: what its pipeline finds and leaves point by point, the body's obligation, and the run to its postcondition. -/
module

public import proofs.«01_k».proof.Proof.Attn.Out
public import Idealize.ShloMosaic.Lib.Claim

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The bias tables are filled at the first point only. -/
theorem cond_first : ∀ t : Fin cfg0.N, k0_cond1 (grid0.coords t) = 1#1 ↔ t.val = 0 :=
  (by decide +kernel : ∀ t : Fin grid0.N, k0_cond1 (grid0.coords t) = 1#1 ↔ t.val = 0)
/-- The masked loop runs at the first two points. -/
theorem cond_masked : ∀ t : Fin cfg0.N, k0_cond2 (grid0.coords t) = 1#1 ↔ t.val < 2 :=
  (by decide +kernel : ∀ t : Fin grid0.N, k0_cond2 (grid0.coords t) = 1#1 ↔ t.val < 2)
/-- The unmasked loop runs from the third point on. -/
theorem cond_rest : ∀ t : Fin cfg0.N, k0_cond3 (grid0.coords t) = 1#1 ↔ 2 ≤ t.val :=
  (by decide +kernel : ∀ t : Fin grid0.N, k0_cond3 (grid0.coords t) = 1#1 ↔ 2 ≤ t.val)

/-- The buffer of the queries at a point, -/
abbrev ms0_0 (t : Fin cfg0.N) : Memref sig .tc .vmem S16x256x128 .bf16 := win0_0.stage (cfg0.slots t 0)
/-- and that it is whole. -/
abbrev hs0_0 (t : Fin cfg0.N) : (ms0_0 t).IsWhole := hstage0_0 ((cfg0.slots t 0).cast nbuf0_0)
/-- The buffer of the keys two blocks before at a point, -/
abbrev ms0_1 (t : Fin cfg0.N) : Memref sig .tc .vmem S16x256x128 .bf16 := win0_1.stage (cfg0.slots t 1)
/-- and that it is whole. -/
abbrev hs0_1 (t : Fin cfg0.N) : (ms0_1 t).IsWhole := hstage0_1 ((cfg0.slots t 1).cast nbuf0_1)
/-- The buffer of the keys one block before at a point, -/
abbrev ms0_2 (t : Fin cfg0.N) : Memref sig .tc .vmem S16x256x128 .bf16 := win0_2.stage (cfg0.slots t 2)
/-- and that it is whole. -/
abbrev hs0_2 (t : Fin cfg0.N) : (ms0_2 t).IsWhole := hstage0_2 ((cfg0.slots t 2).cast nbuf0_2)
/-- The buffer of the keys of the point at a point, -/
abbrev ms0_3 (t : Fin cfg0.N) : Memref sig .tc .vmem S16x256x128 .bf16 := win0_3.stage (cfg0.slots t 3)
/-- and that it is whole. -/
abbrev hs0_3 (t : Fin cfg0.N) : (ms0_3 t).IsWhole := hstage0_3 ((cfg0.slots t 3).cast nbuf0_3)
/-- The buffer of the values two blocks before at a point, -/
abbrev ms0_4 (t : Fin cfg0.N) : Memref sig .tc .vmem S16x256x128 .bf16 := win0_4.stage (cfg0.slots t 4)
/-- and that it is whole. -/
abbrev hs0_4 (t : Fin cfg0.N) : (ms0_4 t).IsWhole := hstage0_4 ((cfg0.slots t 4).cast nbuf0_4)
/-- The buffer of the values one block before at a point, -/
abbrev ms0_5 (t : Fin cfg0.N) : Memref sig .tc .vmem S16x256x128 .bf16 := win0_5.stage (cfg0.slots t 5)
/-- and that it is whole. -/
abbrev hs0_5 (t : Fin cfg0.N) : (ms0_5 t).IsWhole := hstage0_5 ((cfg0.slots t 5).cast nbuf0_5)
/-- The buffer of the values of the point at a point, -/
abbrev ms0_6 (t : Fin cfg0.N) : Memref sig .tc .vmem S16x256x128 .bf16 := win0_6.stage (cfg0.slots t 6)
/-- and that it is whole. -/
abbrev hs0_6 (t : Fin cfg0.N) : (ms0_6 t).IsWhole := hstage0_6 ((cfg0.slots t 6).cast nbuf0_6)
/-- The buffer of the bias table at a point, -/
abbrev ms0_7 (t : Fin cfg0.N) : Memref sig .tc .vmem S16x1024 .f32 := win0_7.stage (cfg0.slots t 7)
/-- and that it is whole. -/
abbrev hs0_7 (t : Fin cfg0.N) : (ms0_7 t).IsWhole := hstage0_7 ((cfg0.slots t 7).cast nbuf0_7)
/-- The buffer of the gains at a point, -/
abbrev ms0_8 (t : Fin cfg0.N) : Memref sig .tc .vmem S1x2048 .f32 := win0_8.stage (cfg0.slots t 8)
/-- and that it is whole. -/
abbrev hs0_8 (t : Fin cfg0.N) : (ms0_8 t).IsWhole := hstage0_8 ((cfg0.slots t 8).cast nbuf0_8)
/-- The buffer of the result at a point, -/
abbrev ms0_9 (t : Fin cfg0.N) : Memref sig .tc .vmem S256x2048 .bf16 := win0_9.stage (cfg0.slots t 9)
/-- and that it is whole. -/
abbrev hs0_9 (t : Fin cfg0.N) : (ms0_9 t).IsWhole := hstage0_9 ((cfg0.slots t 9).cast nbuf0_9)
/-- The heads' scratch buffer and the bias tables' scratch buffer. -/
abbrev scM0_0 : Memref sig .tc .vmem S16x256x128 .f32 := Memref.whole cc0_scratch0
/-- The buffer of the bias tables. -/
abbrev scM0_1 : Memref sig .tc .vmem S16x256x768 .f32 := Memref.whole cc0_scratch1

/-- The invariant the launch hands over, its scratch buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The first point. -/
def t0 : Fin cfg0.N := ⟨0, by rw [show cfg0.N = 32 from N_0]; omega⟩

/-- The bias tables the first point fills the scratch buffer with. -/
def BIAS (c : Dev nD) : Vec F S16x256x768 .f32 := biasOf (iblk m c 7 t0)

/-- The bias rows' window never moves. -/
theorem iblk7_const (c : Dev nD) (t : Fin cfg0.N) : iblk m c 7 t = iblk m c 7 t0 := rfl

/-- The heads' attention at point `t`: the first two points mask the key blocks that are not there. -/
def HEADS (c : Dev nD) (t : Fin cfg0.N) : Vec F S16x256x128 .f32 :=
  if t.val < 2 then headsM (BitVec.ofNat 32 ((grid0.coords t) 0).val) (iblk m c 0 t) (iblk m c 1 t) (iblk m c 2 t) (iblk m c 3 t) (iblk m c 4 t) (iblk m c 5 t) (iblk m c 6 t) (BIAS m c)
  else headsU (iblk m c 0 t) (iblk m c 1 t) (iblk m c 2 t) (iblk m c 3 t) (iblk m c 4 t) (iblk m c 5 t) (iblk m c 6 t) (BIAS m c)

/-- What the body leaves in its output window at point `t`. -/
def OUT (c : Dev nD) (t : Fin cfg0.N) : Vec F S256x2048 .bf16 := outOf (HEADS m c t) (iblk m c 8 t)

/-- What is owned before point `n`: at the first point the launch's invariant, afterwards the bias tables filled. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (BIAS m c)) ∗ (∃ r, prngReg c r))

/-- The invariant before the first point. -/
theorem PhiS_zero (c : Dev nD) (n : ℕ) (h : n ≤ cfg0.N) (hz : n = 0) : PhiS m c n h = Pipeline.ΦA spec0 c := by
  subst hz; rfl

/-- The invariant after a point. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare (BIAS m c)) ∗ (∃ r, prngReg c r)) := rfl

/-- The invariant before any later point. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (BIAS m c)) ∗ (∃ r, prngReg c r)) := by
  cases n with
  | zero => exact absurd rfl hz
  | succ n => rfl

/-- The pipeline's proof data: the arrays as the region finds them, each input left in place, the output named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => OUT m c t
  Φ t := PhiS m c t.val (Nat.le_of_lt_succ t.isLt)
  q w := Pipeline.shareOf spec0 w
  owed _ := 0

/-- The arrays of the proof data are those the region finds. -/
theorem A_eq (c : Dev nD) (w : Fin cfg0.W) : (dats m 0 c).A w = V m c (Pipeline.arrRef spec0 w) := by
  dsimp only [dats]

/-- The proof data's invariant before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = iblk m c 7 t := by dsimp only [dats]
/-- What the body leaves in window 8. -/
theorem after0_8 (c : Dev nD) (t : Fin cfg0.N) : (dats m 0 c).after 8 t = iblk m c 8 t := by dsimp only [dats]
/-- What the body leaves in window 9. -/
theorem after0_9 (c : Dev nD) (t : Fin cfg0.N) : (dats m 0 c).after 9 t = OUT m c t := by dsimp only [dats]

/-- What the body finds in window 0. -/
theorem before0_0 (c : Dev nD) (t : Fin cfg0.N) (d) : (dats m 0 c).before 0 t d = iblk m c 0 t :=
  before0_0_of m (dats m 0 c) (A_eq m c 0) (after0_0 m c) t d
/-- What the body finds in window 1. -/
theorem before0_1 (c : Dev nD) (t : Fin cfg0.N) (d) : (dats m 0 c).before 1 t d = iblk m c 1 t :=
  before0_1_of m (dats m 0 c) (A_eq m c 1) (after0_1 m c) t d
/-- What the body finds in window 2. -/
theorem before0_2 (c : Dev nD) (t : Fin cfg0.N) (d) : (dats m 0 c).before 2 t d = iblk m c 2 t :=
  before0_2_of m (dats m 0 c) (A_eq m c 2) (after0_2 m c) t d
/-- What the body finds in window 3. -/
theorem before0_3 (c : Dev nD) (t : Fin cfg0.N) (d) : (dats m 0 c).before 3 t d = iblk m c 3 t :=
  before0_3_of m (dats m 0 c) (A_eq m c 3) (after0_3 m c) t d
/-- What the body finds in window 4. -/
theorem before0_4 (c : Dev nD) (t : Fin cfg0.N) (d) : (dats m 0 c).before 4 t d = iblk m c 4 t :=
  before0_4_of m (dats m 0 c) (A_eq m c 4) (after0_4 m c) t d
/-- What the body finds in window 5. -/
theorem before0_5 (c : Dev nD) (t : Fin cfg0.N) (d) : (dats m 0 c).before 5 t d = iblk m c 5 t :=
  before0_5_of m (dats m 0 c) (A_eq m c 5) (after0_5 m c) t d
/-- What the body finds in window 6. -/
theorem before0_6 (c : Dev nD) (t : Fin cfg0.N) (d) : (dats m 0 c).before 6 t d = iblk m c 6 t :=
  before0_6_of m (dats m 0 c) (A_eq m c 6) (after0_6 m c) t d
/-- What the body finds in window 7. -/
theorem before0_7 (c : Dev nD) (t : Fin cfg0.N) (d) : (dats m 0 c).before 7 t d = iblk m c 7 t :=
  before0_7_of m (dats m 0 c) (A_eq m c 7) (after0_7 m c) t d
/-- What the body finds in window 8. -/
theorem before0_8 (c : Dev nD) (t : Fin cfg0.N) (d) : (dats m 0 c).before 8 t d = iblk m c 8 t :=
  before0_8_of m (dats m 0 c) (A_eq m c 8) (after0_8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 14400000 in
/-- The body at any point: its windows hold their blocks, so the run of the point's kind applies; the output window is left reading `OUT`, the bias buffer reading the bias tables. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  by_cases hz : t.val = 0
  · have h1 : t.val < 2 := by omega
    have h2 : ¬ 2 ≤ t.val := by omega
    have hO : OUT m c t = outOf (headsM (BitVec.ofNat 32 ((grid0.coords t) 0).val) (iblk m c 0 t) (iblk m c 1 t) (iblk m c 2 t) (iblk m c 3 t) (iblk m c 4 t) (iblk m c 5 t) (iblk m c 6 t) (BIAS m c)) (iblk m c 8 t) := by
      unfold OUT HEADS; rw [if_pos h1]
    rw [hO, show BIAS m c = biasOf (iblk m c 7 t) from rfl]
    rw [PhiS_castSucc m c t, PhiS_zero m c _ _ hz, PhiA0_eq]
    iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) _ _ _ _ _ _ _ _ _ _ _ _ _ _ _ _ _ _ _ _ _ _ _ _  ((cond_first t).mpr hz) ((cond_masked t).mpr h1) (fun h => h2 ((cond_rest t).mp h)) (iblk m c 0 t) (iblk m c 1 t) (iblk m c 2 t) (iblk m c 3 t) (iblk m c 4 t) (iblk m c 5 t) (iblk m c 6 t) (iblk m c 7 t) (iblk m c 8 t) s0 s1).2.2.property Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    iintro ⟨H0, H1, H2, H3, H4, H5, H6, H7, H8, ⟨%e9, H9⟩, HS0, HS1⟩
    isplitl [HS0 HS1 Hg]
    · isplitl [HS0 HS1]
      · isplitl [HS0]
        · iexists _; unfold owns; iexists _; isplitr
          swap; · iexact HS0
          ipureintro; rfl
        unfold owns; iexists _; isplitr
        swap; · iexact HS1
        ipureintro; exact bias_A c _ _ _ _ _ _ _ _ _ _ _ _ _ _ _ _ _ _ _ _ _ _ _ _ _  _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact out_A c _ _ _ _ _ _ _ _ _ _ _ _ _ _ _ _ _ _ _ _ _ _ _ _ _  _ _ _ _ _ _ _ _ _ _ _ _ _ _ _
  · by_cases h1 : t.val < 2
    · have h2 : ¬ 2 ≤ t.val := by omega
      have hO : OUT m c t = outOf (headsM (BitVec.ofNat 32 ((grid0.coords t) 0).val) (iblk m c 0 t) (iblk m c 1 t) (iblk m c 2 t) (iblk m c 3 t) (iblk m c 4 t) (iblk m c 5 t) (iblk m c 6 t) (BIAS m c)) (iblk m c 8 t) := by
        unfold OUT HEADS; rw [if_pos h1]
      rw [hO]
      rw [PhiS_castSucc m c t, PhiS_pos m c _ _ hz]
      iintro ⟨⟨⟨⟨%s0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB c (grid0.coords t) _ _ _ _ _ _ _ _ _ _ _ _ _ _ _ _ _ _ _ _ _ _ _ _  (fun h => hz ((cond_first t).mp h)) ((cond_masked t).mpr h1) (fun h => h2 ((cond_rest t).mp h)) (iblk m c 0 t) (iblk m c 1 t) (iblk m c 2 t) (iblk m c 3 t) (iblk m c 4 t) (iblk m c 5 t) (iblk m c 6 t) (iblk m c 7 t) (iblk m c 8 t) s0 (BIAS m c)).2.2.property Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, ⟨%e9, H9⟩, HS0, HS1⟩
      isplitl [HS0 HS1 Hg]
      · isplitl [HS0 HS1]
        · isplitl [HS0]
          · iexists _; unfold owns; iexists _; isplitr
            swap; · iexact HS0
            ipureintro; rfl
          unfold owns; iexists _; isplitr
          swap; · iexact HS1
          ipureintro; exact bias_B c _ _ _ _ _ _ _ _ _ _ _ _ _ _ _ _ _ _ _ _ _ _ _ _ _  _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact out_B c _ _ _ _ _ _ _ _ _ _ _ _ _ _ _ _ _ _ _ _ _ _ _ _ _  _ _ _ _ _ _ _ _ _ _ _ _ _ _ _
    · have h2 : 2 ≤ t.val := by omega
      have hO : OUT m c t = outOf (headsU (iblk m c 0 t) (iblk m c 1 t) (iblk m c 2 t) (iblk m c 3 t) (iblk m c 4 t) (iblk m c 5 t) (iblk m c 6 t) (BIAS m c)) (iblk m c 8 t) := by
        unfold OUT HEADS; rw [if_neg h1]
      rw [hO]
      rw [PhiS_castSucc m c t, PhiS_pos m c _ _ hz]
      iintro ⟨⟨⟨⟨%s0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runC c (grid0.coords t) _ _ _ _ _ _ _ _ _ _ _ _ _ _ _ _ _ _ _ _ _ _ _ _  (fun h => hz ((cond_first t).mp h)) (fun h => h1 ((cond_masked t).mp h)) ((cond_rest t).mpr h2) (iblk m c 0 t) (iblk m c 1 t) (iblk m c 2 t) (iblk m c 3 t) (iblk m c 4 t) (iblk m c 5 t) (iblk m c 6 t) (iblk m c 7 t) (iblk m c 8 t) s0 (BIAS m c)).2.2.property Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, ⟨%e9, H9⟩, HS0, HS1⟩
      isplitl [HS0 HS1 Hg]
      · isplitl [HS0 HS1]
        · isplitl [HS0]
          · iexists _; unfold owns; iexists _; isplitr
            swap; · iexact HS0
            ipureintro; rfl
          unfold owns; iexists _; isplitr
          swap; · iexact HS1
          ipureintro; exact bias_C c _ _ _ _ _ _ _ _ _ _ _ _ _ _ _ _ _ _ _ _ _ _ _ _ _  _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact out_C c _ _ _ _ _ _ _ _ _ _ _ _ _ _ _ _ _ _ _ _ _ _ _ _ _  _ _ _ _ _ _ _ _ _ _ _ _ _ _ _

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the bias tables are forgotten. -/
theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1⟩, Hg⟩
  isplitl [HS0 HS1]
  · isplitl [HS0]
    · iexact HS0
    iexists _; iexact HS1
  iexact Hg

-- the run theorem's implicit arguments are found by unifying its conclusion with this one, which takes unfolding plain
-- definitions in a metavariable's type
set_option backward.isDefEq.respectTransparency.types false in
/-- The launch: every execution ends, with every array as the proof data says and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

end Cert.Attn

end
-- ==== Proof.Attn.Final.lean ====
/- What the attention kernel's launch leaves in its result array, and what its input blocks hold, at coordinates. -/
module

public import proofs.«01_k».proof.Proof.Attn.Frame
public import Idealize.ShloMosaic.Lib.Pipeline.ValueKit
public import Idealize.ShloMosaic.Lib.Pipeline.Value
public import Idealize.ShloMosaic.Lib.ValueIdx

@[expose] public section

set_option maxRecDepth 16384

noncomputable section

namespace Cert.Attn

open Idealize.ShloMosaic Idealize.ShloMosaic.TcCoe Idealize.ShloMosaic.Tactic
open Idealize.SL.Sem
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ) (ρ : Dev nD → PrngReg)

/-- The point whose block holds row `n` of the result. -/
def ptOf (n : Fin 8192) : Fin cfg0.N := ⟨n.val / 256, by rw [show cfg0.N = 32 from N_0]; omega⟩

/-- Row `n` of the result inside its block. -/
def inBlk (n : Fin 8192) (k : Fin 2048) : S256x2048.Idx := fun a => match a with
  | ⟨0, _⟩ => ⟨n.val % 256, Nat.mod_lt _ (Nat.succ_pos 255)⟩
  | ⟨1, _⟩ => k

/-- The result array: each row is read off what its point left. -/
def G9 (c : Dev nD) : (⟨S8192x2048, .bf16⟩ : BufTy).Contents (Elt F) :=
  fun i => OUT m c (ptOf (i 0)) (inBlk (i 0) (i 1))

/-- The block of the queries at each point. -/
theorem idx0 : ∀ t : Fin cfg0.N, win0_0.index t = ![0, t.val, 0] := (by decide +kernel : ∀ t : Fin grid0.N, _)
/-- The block of the keys two blocks before at each point. -/
theorem idx1 : ∀ t : Fin cfg0.N, win0_1.index t = ![1, t.val - 2, 0] := (by decide +kernel : ∀ t : Fin grid0.N, _)
/-- The block of the keys one block before at each point. -/
theorem idx2 : ∀ t : Fin cfg0.N, win0_2.index t = ![1, t.val - 1, 0] := (by decide +kernel : ∀ t : Fin grid0.N, _)
/-- The block of the keys of the point at each point. -/
theorem idx3 : ∀ t : Fin cfg0.N, win0_3.index t = ![1, t.val, 0] := (by decide +kernel : ∀ t : Fin grid0.N, _)
/-- The block of the values two blocks before at each point. -/
theorem idx4 : ∀ t : Fin cfg0.N, win0_4.index t = ![2, t.val - 2, 0] := (by decide +kernel : ∀ t : Fin grid0.N, _)
/-- The block of the values one block before at each point. -/
theorem idx5 : ∀ t : Fin cfg0.N, win0_5.index t = ![2, t.val - 1, 0] := (by decide +kernel : ∀ t : Fin grid0.N, _)
/-- The block of the values of the point at each point. -/
theorem idx6 : ∀ t : Fin cfg0.N, win0_6.index t = ![2, t.val, 0] := (by decide +kernel : ∀ t : Fin grid0.N, _)
/-- The block of the bias table at each point. -/
theorem idx7 : ∀ t : Fin cfg0.N, win0_7.index t = ![0, 0] := (by decide +kernel : ∀ t : Fin grid0.N, _)
/-- The block of the gains at each point. -/
theorem idx8 : ∀ t : Fin cfg0.N, win0_8.index t = ![0, 0] := (by decide +kernel : ∀ t : Fin grid0.N, _)
/-- The block of the result at each point. -/
theorem idx9 : ∀ t : Fin cfg0.N, win0_9.index t = ![t.val, 0] := (by decide +kernel : ∀ t : Fin grid0.N, _)

/-- The result array after the run. -/
theorem final_o (c : Dev nD) : (dats m 0 c).arrAt 9 cfg0.N = G9 m c := by
  refine (dats m 0 c).arrAt_eq_of_covers 9 _ (by decide +kernel) fun t hf y => ?_
  blk_simp
  rw [after0_9]
  have ht : t.val < 32 := Nat.lt_of_lt_of_eq t.isLt N_0
  have h0 : (((win0_9.blk t).view.emb y) 0).val = t.val * 256 + (y 0).val := by
    blk_simp [idx9]
  have h1 : (((win0_9.blk t).view.emb y) 1).val = (y 1).val := by
    blk_simp [idx9]
  have hy0 : (y 0).val < 256 := (y 0).isLt
  unfold G9
  have e1 : ptOf (((win0_9.blk t).view.emb y) 0) = t := by
    apply Fin.ext; show (((win0_9.blk t).view.emb y) 0).val / 256 = t.val; rw [h0]; omega
  have e2 : inBlk (((win0_9.blk t).view.emb y) 0) (((win0_9.blk t).view.emb y) 1) = y := by
    funext a
    match a with
    | ⟨0, _⟩ => apply Fin.ext; show (((win0_9.blk t).view.emb y) 0).val % 256 = (y 0).val; rw [h0]; omega
    | ⟨1, _⟩ => apply Fin.ext; exact h1
  rw [e1, e2]

/-- An index of the stacked queries, keys and values. -/
def ixQ (p n d : ℕ) (hp : p < 48) (hn : n < 8448) (hd : d < 128) : S48x8448x128.Idx := fun a => match a with
  | ⟨0, _⟩ => ⟨p, hp⟩
  | ⟨1, _⟩ => ⟨n, hn⟩
  | ⟨2, _⟩ => ⟨d, hd⟩

/-- The query block of window 0 at point `t`, at coordinates. -/
theorem blk0 (c : Dev nD) (t : Fin cfg0.N) (y : S16x256x128.Idx) :
    iblk m c 0 t y = m ((c : Thread nD τ).loc main_arg0) (ixQ ((y 0).val) (t.val * 256 + (y 1).val) (y 2).val
      (by have h : (y 0).val < 16 := (y 0).isLt; omega)
      (by have h : (y 1).val < 256 := (y 1).isLt; have ht : t.val < 32 := Nat.lt_of_lt_of_eq t.isLt N_0; omega) (y 2).isLt) := by
  blk_simp [iblk, V_main_arg0]
  refine congrArg _ (funext fun a => ?_)
  match a with
  | ⟨0, _⟩ => apply Fin.ext; blk_simp [idx0]; simp [ixQ]
  | ⟨1, _⟩ => apply Fin.ext; blk_simp [idx0]; simp [ixQ]
  | ⟨2, _⟩ => apply Fin.ext; blk_simp [idx0]; simp [ixQ]

/-- The key block of window 1 at point `t`, at coordinates. -/
theorem blk1 (c : Dev nD) (t : Fin cfg0.N) (y : S16x256x128.Idx) :
    iblk m c 1 t y = m ((c : Thread nD τ).loc main_arg0) (ixQ (16 + (y 0).val) ((t.val - 2) * 256 + (y 1).val) (y 2).val
      (by have h : (y 0).val < 16 := (y 0).isLt; omega)
      (by have h : (y 1).val < 256 := (y 1).isLt; have ht : t.val < 32 := Nat.lt_of_lt_of_eq t.isLt N_0; omega) (y 2).isLt) := by
  blk_simp [iblk, V_main_arg0]
  refine congrArg _ (funext fun a => ?_)
  match a with
  | ⟨0, _⟩ => apply Fin.ext; blk_simp [idx1]; simp [ixQ]
  | ⟨1, _⟩ => apply Fin.ext; blk_simp [idx1]; simp [ixQ]
  | ⟨2, _⟩ => apply Fin.ext; blk_simp [idx1]; simp [ixQ]

/-- The key block of window 2 at point `t`, at coordinates. -/
theorem blk2 (c : Dev nD) (t : Fin cfg0.N) (y : S16x256x128.Idx) :
    iblk m c 2 t y = m ((c : Thread nD τ).loc main_arg0) (ixQ (16 + (y 0).val) ((t.val - 1) * 256 + (y 1).val) (y 2).val
      (by have h : (y 0).val < 16 := (y 0).isLt; omega)
      (by have h : (y 1).val < 256 := (y 1).isLt; have ht : t.val < 32 := Nat.lt_of_lt_of_eq t.isLt N_0; omega) (y 2).isLt) := by
  blk_simp [iblk, V_main_arg0]
  refine congrArg _ (funext fun a => ?_)
  match a with
  | ⟨0, _⟩ => apply Fin.ext; blk_simp [idx2]; simp [ixQ]
  | ⟨1, _⟩ => apply Fin.ext; blk_simp [idx2]; simp [ixQ]
  | ⟨2, _⟩ => apply Fin.ext; blk_simp [idx2]; simp [ixQ]

/-- The key block of window 3 at point `t`, at coordinates. -/
theorem blk3 (c : Dev nD) (t : Fin cfg0.N) (y : S16x256x128.Idx) :
    iblk m c 3 t y = m ((c : Thread nD τ).loc main_arg0) (ixQ (16 + (y 0).val) (t.val * 256 + (y 1).val) (y 2).val
      (by have h : (y 0).val < 16 := (y 0).isLt; omega)
      (by have h : (y 1).val < 256 := (y 1).isLt; have ht : t.val < 32 := Nat.lt_of_lt_of_eq t.isLt N_0; omega) (y 2).isLt) := by
  blk_simp [iblk, V_main_arg0]
  refine congrArg _ (funext fun a => ?_)
  match a with
  | ⟨0, _⟩ => apply Fin.ext; blk_simp [idx3]; simp [ixQ]
  | ⟨1, _⟩ => apply Fin.ext; blk_simp [idx3]; simp [ixQ]
  | ⟨2, _⟩ => apply Fin.ext; blk_simp [idx3]; simp [ixQ]

/-- The value block of window 4 at point `t`, at coordinates. -/
theorem blk4 (c : Dev nD) (t : Fin cfg0.N) (y : S16x256x128.Idx) :
    iblk m c 4 t y = m ((c : Thread nD τ).loc main_arg0) (ixQ (32 + (y 0).val) ((t.val - 2) * 256 + (y 1).val) (y 2).val
      (by have h : (y 0).val < 16 := (y 0).isLt; omega)
      (by have h : (y 1).val < 256 := (y 1).isLt; have ht : t.val < 32 := Nat.lt_of_lt_of_eq t.isLt N_0; omega) (y 2).isLt) := by
  blk_simp [iblk, V_main_arg0]
  refine congrArg _ (funext fun a => ?_)
  match a with
  | ⟨0, _⟩ => apply Fin.ext; blk_simp [idx4]; simp [ixQ]
  | ⟨1, _⟩ => apply Fin.ext; blk_simp [idx4]; simp [ixQ]
  | ⟨2, _⟩ => apply Fin.ext; blk_simp [idx4]; simp [ixQ]

/-- The value block of window 5 at point `t`, at coordinates. -/
theorem blk5 (c : Dev nD) (t : Fin cfg0.N) (y : S16x256x128.Idx) :
    iblk m c 5 t y = m ((c : Thread nD τ).loc main_arg0) (ixQ (32 + (y 0).val) ((t.val - 1) * 256 + (y 1).val) (y 2).val
      (by have h : (y 0).val < 16 := (y 0).isLt; omega)
      (by have h : (y 1).val < 256 := (y 1).isLt; have ht : t.val < 32 := Nat.lt_of_lt_of_eq t.isLt N_0; omega) (y 2).isLt) := by
  blk_simp [iblk, V_main_arg0]
  refine congrArg _ (funext fun a => ?_)
  match a with
  | ⟨0, _⟩ => apply Fin.ext; blk_simp [idx5]; simp [ixQ]
  | ⟨1, _⟩ => apply Fin.ext; blk_simp [idx5]; simp [ixQ]
  | ⟨2, _⟩ => apply Fin.ext; blk_simp [idx5]; simp [ixQ]

/-- The value block of window 6 at point `t`, at coordinates. -/
theorem blk6 (c : Dev nD) (t : Fin cfg0.N) (y : S16x256x128.Idx) :
    iblk m c 6 t y = m ((c : Thread nD τ).loc main_arg0) (ixQ (32 + (y 0).val) (t.val * 256 + (y 1).val) (y 2).val
      (by have h : (y 0).val < 16 := (y 0).isLt; omega)
      (by have h : (y 1).val < 256 := (y 1).isLt; have ht : t.val < 32 := Nat.lt_of_lt_of_eq t.isLt N_0; omega) (y 2).isLt) := by
  blk_simp [iblk, V_main_arg0]
  refine congrArg _ (funext fun a => ?_)
  match a with
  | ⟨0, _⟩ => apply Fin.ext; blk_simp [idx6]; simp [ixQ]
  | ⟨1, _⟩ => apply Fin.ext; blk_simp [idx6]; simp [ixQ]
  | ⟨2, _⟩ => apply Fin.ext; blk_simp [idx6]; simp [ixQ]

/-- The bias rows as the host lays them out. -/
def rowsOf (x1 : (⟨S16x320, .f32⟩ : BufTy).Contents (Elt F)) : (⟨S16x1024, .f32⟩ : BufTy).Contents (Elt F) :=
  concatenate S16x1024 1 [⟨S16x257, broadcastInDim S16x257 ![0, 1] bcast_S16x1_S16x257_0_1 (extractStridedSlice S16x1 ![0, 319] x1 slices_S16x320_S16x1_0_319)⟩,
    ⟨S16x319, Host.reverse [1] (extractStridedSlice S16x319 ![0, 0] x1 slices_S16x320_S16x319_0_0)⟩,
    ⟨S16x192, broadcastInDim S16x192 ![0, 1] bcast_S16x1_S16x192_0_1 (extractStridedSlice S16x1 ![0, 0] x1 slices_S16x320_S16x1_0_0)⟩,
    ⟨S16x256, broadcastInDim S16x256 ![0, 1] bcast_S16x1_S16x256_0_1 (extractStridedSlice S16x1 ![0, 319] x1 slices_S16x320_S16x1_0_319)⟩]
    concatenates_S16x257_S16x319_S16x192_S16x256_S16x1024_d1

/-- The host's rows, where the launch finds them. -/
theorem V_rows (c : Dev nD) : V m c main_v7 = rowsOf (m ((c : Thread nD τ).loc main_arg1)) := by
  unfold rowsOf
  entry_read
  rfl

/-- The gain as one row, where the launch finds it. -/
theorem V_gain (c : Dev nD) : V m c main_v8 = shapeCast S1x2048 (m ((c : Thread nD τ).loc main_arg2)) shapeCasts_S2048_S1x2048 := by
  entry_read
  rfl

/-- The bias rows' block is the host's rows. -/
theorem blk7 (c : Dev nD) (t : Fin cfg0.N) : iblk m c 7 t = rowsOf (m ((c : Thread nD τ).loc main_arg1)) := by
  funext y
  have he : ((win0_7.blk t).view.emb y) = y := by
    funext a
    match a with
    | ⟨0, _⟩ => apply Fin.ext; blk_simp [idx7]
    | ⟨1, _⟩ => apply Fin.ext; blk_simp [idx7]
  blk_simp [iblk]
  rw [he]
  exact congrFun (V_rows m c) y

/-- The gain's block is the gain, as one row. -/
theorem blk8 (c : Dev nD) (t : Fin cfg0.N) : iblk m c 8 t = shapeCast S1x2048 (m ((c : Thread nD τ).loc main_arg2)) shapeCasts_S2048_S1x2048 := by
  funext y
  have he : ((win0_8.blk t).view.emb y) = y := by
    funext a
    match a with
    | ⟨0, _⟩ => apply Fin.ext; blk_simp [idx8]
    | ⟨1, _⟩ => apply Fin.ext; blk_simp [idx8]
  blk_simp [iblk]
  rw [he]
  exact congrFun (V_gain m c) y

end Cert.Attn

end
-- ==== Proof.Attn.Core.lean ====
module

public import Idealize.ShloMosaic.PureOps.Ideal.Laws

@[expose] public section

set_option maxRecDepth 16384

noncomputable section

namespace Cert.Attn

open Idealize Idealize.ShloMosaic

/-- A score under a mask: the real where the key is seen, minus infinity where it is not. -/
def sc (b : Prop) [Decidable b] (r : ℝ) : EReal := if b then (r : EReal) else ⊥

/-- The weight of a score under a mask: the exponential where the key is seen, zero where it is not. -/
def wt (b : Prop) [Decidable b] (r : ℝ) : ℝ := if b then Real.exp r else 0

/-- A score under a mask is never plus infinity. -/
theorem sc_ne_top (b : Prop) [Decidable b] (r : ℝ) : sc b r ≠ ⊤ := by
  unfold sc; split
  · exact EReal.coe_ne_top r
  · exact bot_ne_top

/-- A weight is not negative. -/
theorem wt_nonneg (b : Prop) [Decidable b] (r : ℝ) : 0 ≤ wt b r := by
  unfold wt; split
  · exact (Real.exp_pos r).le
  · exact le_rfl

/-- The weight of a seen key is positive. -/
theorem wt_pos (b : Prop) [Decidable b] (r : ℝ) (h : b) : 0 < wt b r := by
  unfold wt; rw [if_pos h]; exact Real.exp_pos r

/-- A maximum of values none of which is plus infinity is not plus infinity. -/
theorem fold_ne_top {ι : Type} (s : Finset ι) (f : ι → EReal) (h : ∀ k, f k ≠ ⊤) :
    s.fold max ⊥ f ≠ ⊤ := by
  classical
  induction s using Finset.induction_on with
  | empty => simp
  | insert a s ha ih =>
    rw [Finset.fold_insert ha]
    rcases max_choice (f a) (s.fold max ⊥ f) with e | e
    · rw [e]; exact h a
    · rw [e]; exact ih

/-- A maximum is at least each of the values it is taken over. -/
theorem le_fold {ι : Type} (s : Finset ι) (f : ι → EReal) (k : ι) (hk : k ∈ s) :
    f k ≤ s.fold max ⊥ f :=
  (Finset.fold_max_le (b := (⊥ : EReal)) (f := f) (s := s) (c := s.fold max ⊥ f)).1 le_rfl |>.2 k hk

/-- A value between two that are neither infinity is a real. -/
theorem real_of {x : EReal} (h1 : x ≠ ⊤) (h2 : x ≠ ⊥) : ∃ r : ℝ, x = (r : EReal) :=
  ⟨x.toReal, (EReal.coe_toReal h1 h2).symm⟩

/-- The maximum of masked scores with one key seen is a real. -/
theorem fold_real {ι : Type} (s : Finset ι) (f : ι → EReal) (h : ∀ k, f k ≠ ⊤) (k : ι) (hk : k ∈ s)
    (hb : f k ≠ ⊥) : ∃ r : ℝ, s.fold max ⊥ f = (r : EReal) :=
  real_of (fold_ne_top s f h) (fun e => hb (le_bot_iff.1 (e ▸ le_fold s f k hk)))

/-- The exponential of a masked score less a real. -/
theorem exp_sc (b : Prop) [Decidable b] (r μ : ℝ) :
    Ideal.exp (sc b r - (μ : EReal)) = ((wt b r * Real.exp (-μ) : ℝ) : EReal) := by
  unfold sc wt
  split
  · rw [← EReal.coe_sub]
    show ((Real.exp (r - μ) : ℝ) : EReal) = _
    rw [← Real.exp_add]; rfl
  · rw [EReal.bot_sub, zero_mul]; rfl

/-- The power of two of a masked score given in the logarithm to base two, less a real. -/
theorem exp2_sc (b : Prop) [Decidable b] (r μ : ℝ) :
    Ideal.exp2 (sc b (r * (Real.log 2)⁻¹) - (μ : EReal))
      = ((wt b r * Real.exp (-(μ * Real.log 2)) : ℝ) : EReal) := by
  have hl : Real.log 2 ≠ 0 := (Real.log_pos (by norm_num)).ne'
  unfold sc wt
  split
  · rw [← EReal.coe_sub]
    show ((Real.rpow 2 (r * (Real.log 2)⁻¹ - μ) : ℝ) : EReal) = _
    congr 1
    show (2 : ℝ) ^ (r * (Real.log 2)⁻¹ - μ) = _
    rw [Real.rpow_def_of_pos (by norm_num), ← Real.exp_add]
    congr 1
    field_simp
    ring
  · rw [EReal.bot_sub, zero_mul]; rfl

/-- A sum of reals, taken as extended reals. -/
theorem coe_sum {ι : Type} (s : Finset ι) (f : ι → ℝ) :
    (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A sum of products of reals, taken as extended reals. -/
theorem coe_sum_mul {ι : Type} [Fintype ι] (f g : ι → ℝ) :
    (∑ k, (f k : EReal) * (g k : EReal)) = ((∑ k, f k * g k : ℝ) : EReal) := by
  rw [← coe_sum]; simp only [EReal.coe_mul]

/-- A quotient of reals by one that is not zero. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- A sum of extended reals times a real that is not negative, term by term. -/
theorem sum_mul_coe {ι : Type} (s : Finset ι) (f : ι → EReal) (c : ℝ) (hc : 0 ≤ c) : (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- A quotient by a real that is not zero is the product with its inverse. -/
theorem div_real (x : EReal) (y : ℝ) (hy : y ≠ 0) : Ideal.div x (y : EReal) = x * ((y⁻¹ : ℝ) : EReal) := by
  unfold Ideal.div
  rw [if_neg (by exact_mod_cast hy), EReal.coe_inv]

/-- The sum over the 8192 keys of what vanishes outside three blocks of 256 is the sum over those blocks; a block that
    would lie before the first key counts as zero. -/
theorem sum_blocks {A : Type} [AddCommMonoid A] (i : ℕ) (hi : i < 32) (f : Fin 8192 → A)
    (hz : ∀ κ : Fin 8192, ¬(κ.val / 256 ≤ i ∧ i ≤ κ.val / 256 + 2) → f κ = 0) :
    (∑ κ, f κ)
      = ((∑ c : Fin 256, (if 2 ≤ i then f ⟨(i - 2) * 256 + c.val, by have := c.isLt; omega⟩ else 0))
        + ∑ c : Fin 256, (if 1 ≤ i then f ⟨(i - 1) * 256 + c.val, by have := c.isLt; omega⟩ else 0))
        + ∑ c : Fin 256, f ⟨i * 256 + c.val, by have := c.isLt; omega⟩ := by
  let g : Fin 32 → A := fun b => ∑ c : Fin 256, f ⟨b.val * 256 + c.val, by have := b.isLt; have := c.isLt; omega⟩
  have hg : (∑ κ, f κ) = ∑ b, g b := by
    show _ = ∑ b : Fin 32, ∑ c : Fin 256, f ⟨b.val * 256 + c.val, _⟩
    rw [← Fintype.sum_prod_type' (f := fun (b : Fin 32) (c : Fin 256) => f ⟨b.val * 256 + c.val, by have := b.isLt; have := c.isLt; omega⟩)]
    refine (Fintype.sum_equiv (finProdFinEquiv (m := 32) (n := 256)) _ _ fun p => ?_).symm
    refine congrArg f (Fin.ext ?_)
    show p.1.val * 256 + p.2.val = p.2.val + 256 * p.1.val
    omega
  have hz' : ∀ b : Fin 32, ¬(b.val ≤ i ∧ i ≤ b.val + 2) → g b = 0 := by
    intro b hb
    refine Finset.sum_eq_zero fun c _ => hz _ ?_
    have := c.isLt
    have e : (b.val * 256 + c.val) / 256 = b.val := by omega
    show ¬((b.val * 256 + c.val) / 256 ≤ i ∧ i ≤ (b.val * 256 + c.val) / 256 + 2)
    rw [e]; exact hb
  rw [hg]
  rcases Nat.lt_or_ge i 1 with h1 | h1
  · have h0 : i = 0 := by omega
    subst h0
    rw [Finset.sum_eq_single (⟨0, hi⟩ : Fin 32) (fun b _ hb => hz' b (fun h => hb (Fin.ext (by show b.val = 0; omega)))) (by simp)]
    simp [g]
  · rcases Nat.lt_or_ge i 2 with h2 | h2
    · have h0 : i = 1 := by omega
      subst h0
      have : (∑ b, g b) = ∑ b ∈ ({⟨0, by norm_num⟩, ⟨1, hi⟩} : Finset (Fin 32)), g b :=
        (Finset.sum_subset (Finset.subset_univ _) fun b _ hb => hz' b (fun h => hb (by
          simp only [Finset.mem_insert, Finset.mem_singleton, Fin.ext_iff]; omega))).symm
      rw [this, Finset.sum_pair (by simp)]
      simp [g]
    · have : (∑ b, g b) = ∑ b ∈ ({⟨i - 2, by omega⟩, ⟨i - 1, by omega⟩, ⟨i, hi⟩} : Finset (Fin 32)), g b :=
        (Finset.sum_subset (Finset.subset_univ _) fun b _ hb => hz' b (fun h => hb (by
          simp only [Finset.mem_insert, Finset.mem_singleton, Fin.ext_iff]; omega))).symm
      rw [this, Finset.sum_insert (by simp only [Finset.mem_insert, Finset.mem_singleton, Fin.ext_iff]; omega),
        Finset.sum_pair (by simp only [ne_eq, Fin.ext_iff]; omega)]
      simp only [if_pos h2, if_pos h1, g]
      exact (add_assoc _ _ _).symm

/-- One query's softmax average of one value column, with the keys in three blocks: the powers of two of the scores,
    their sum over the blocks, and the sum of their products with the values, divided at the end. -/
theorem avg_blocks (w0 w1 w2 : Fin 256 → ℝ) (v0 v1 v2 : Fin 256 → EReal) (z : ℝ) (hz : 0 < z)
    (hs : (∑ c, w0 c) + (∑ c, w1 c) + (∑ c, w2 c) ≠ 0) :
    Ideal.div (((∑ c, ((w0 c * z : ℝ) : EReal) * v0 c) + ∑ c, ((w1 c * z : ℝ) : EReal) * v1 c)
        + ∑ c, ((w2 c * z : ℝ) : EReal) * v2 c)
      (((∑ c, ((w0 c * z : ℝ) : EReal)) + ∑ c, ((w1 c * z : ℝ) : EReal)) + ∑ c, ((w2 c * z : ℝ) : EReal))
    = (((∑ c, (w0 c : EReal) * v0 c) + ∑ c, (w1 c : EReal) * v1 c) + ∑ c, (w2 c : EReal) * v2 c)
        * (((((∑ c, w0 c) + ∑ c, w1 c) + ∑ c, w2 c)⁻¹ : ℝ) : EReal) := by
  have h1 : ∀ (w : Fin 256 → ℝ) (v : Fin 256 → EReal), (∑ c, ((w c * z : ℝ) : EReal) * v c) = (∑ c, (w c : EReal) * v c) * (z : EReal) := fun w v => by
    rw [sum_mul_coe _ _ _ hz.le]
    exact Finset.sum_congr rfl fun c _ => by rw [EReal.coe_mul, mul_right_comm]
  have h2 : ∀ x y : EReal, x * (z : EReal) + y * (z : EReal) = (x + y) * (z : EReal) := fun x y =>
    (EReal.right_distrib_of_nonneg_of_ne_top (EReal.coe_nonneg.2 hz.le) (EReal.coe_ne_top z) x y).symm
  rw [h1, h1, h1, h2, h2]
  simp only [coe_sum, ← EReal.coe_add, ← Finset.sum_mul, ← add_mul]
  rw [div_real _ _ (mul_ne_zero hs hz.ne'), mul_assoc, ← EReal.coe_mul, mul_inv_rev, mul_inv_cancel_left₀ hz.ne']

/-- The same average written plainly: each weight divided by the sum of all of them, and then the sum of its products
    with the values. -/
theorem avg_plain (w : Fin 8192 → ℝ) (v : Fin 8192 → EReal) (z : ℝ) (hz : z ≠ 0) (hs : 0 < ∑ c, w c) :
    (∑ c, v c * Ideal.div ((w c * z : ℝ) : EReal) (∑ c, ((w c * z : ℝ) : EReal)))
    = (∑ c, (w c : EReal) * v c) * (((∑ c, w c)⁻¹ : ℝ) : EReal) := by
  simp only [coe_sum, ← Finset.sum_mul]
  have h1 : ∀ c, Ideal.div ((w c * z : ℝ) : EReal) (((∑ c, w c) * z : ℝ) : EReal) = ((w c / (∑ c, w c) : ℝ) : EReal) := fun c => by
    rw [div_coe _ _ (mul_ne_zero hs.ne' hz), mul_div_mul_right _ _ hz]
  rw [sum_mul_coe _ _ _ (inv_pos.2 hs).le]
  exact Finset.sum_congr rfl fun c _ => by rw [h1, div_eq_mul_inv, EReal.coe_mul, ← mul_assoc, mul_comm (v c)]

end Cert.Attn
-- ==== Proof.Attn.Spec.lean ====
/- The attention over real arrays: which keys a query sees, the scores, the weights and the average. -/
module

public import proofs.«01_k».proof.Proof.Attn.Final
public import proofs.«01_k».proof.Proof.Attn.Core

@[expose] public section

set_option maxRecDepth 16384

noncomputable section

namespace Cert.Attn

open Idealize Idealize.ShloMosaic
open Cert.KernelIdeal

/-- The keys a query sees: those of its own chunk of 64 and of the eight chunks before it. -/
def seen (n κ : ℕ) : Prop := κ / 64 ≤ n / 64 ∧ n / 64 ≤ κ / 64 + 8

/-- Whether a key is seen can be decided. -/
instance (n κ : ℕ) : Decidable (seen n κ) := by unfold seen; infer_instance

/-- A table index at coordinates. -/
def ixT (h p : ℕ) (hh : h < 16) (hp : p < 320) : S16x320.Idx := fun a => match a with
  | ⟨0, _⟩ => ⟨h, hh⟩
  | ⟨1, _⟩ => ⟨p, hp⟩

/-- The table's column for a query and a key: their distance held between minus 63 and 256, from minus 63 on. -/
def tix (n κ : ℕ) : ℕ := min (n + 63 - κ) 319

/-- The table's column is one of its columns. -/
theorem tix_lt (n κ : ℕ) : tix n κ < 320 := by unfold tix; omega

/-- The scale of the scores: the single-precision value of 128 to the power minus one half. -/
def scl : ℝ := 11863283 / 134217728

variable (X : S48x8448x128.Idx → ℝ) (T : S16x320.Idx → ℝ) (V : S48x8448x128.Idx → EReal)

/-- A query's or key's element: part `p` (0, 1), head `h`, row `n`, column `d`. -/
def el (p : ℕ) (hp : p ≤ 1) (h : Fin 16) (n : Fin 8192) (d : Fin 128) : ℝ :=
  X (ixQ (16 * p + h.val) n.val d.val (by have := h.isLt; omega) (by have := n.isLt; omega) d.isLt)

/-- The queries and keys of an array are reals. -/
def Reals (x : S48x8448x128.Idx → EReal) : Prop :=
  ∀ (p : ℕ) (hp : p ≤ 1) (h : Fin 16) (n : Fin 8192) (d : Fin 128),
    x (ixQ (16 * p + h.val) n.val d.val (by have := h.isLt; omega) (by have := n.isLt; omega) d.isLt) = ((el X p hp h n d : ℝ) : EReal)

/-- A value's element. -/
def ev (h : Fin 16) (n : Fin 8192) (d : Fin 128) : EReal :=
  V (ixQ (32 + h.val) n.val d.val (by have := h.isLt; omega) (by have := n.isLt; omega) d.isLt)

/-- The score of a query against a key. -/
def score (h : Fin 16) (n κ : Fin 8192) : ℝ :=
  scl * (∑ d : Fin 128, el X 0 (by omega) h n d * el X 1 (by omega) h κ d) + T (ixT h.val (tix n.val κ.val) h.isLt (tix_lt _ _))

/-- The weight of a key for a query. -/
def ew (h : Fin 16) (n κ : Fin 8192) : ℝ := wt (seen n.val κ.val) (score X T h n κ)

/-- The weights of a query's keys have a positive sum. -/
theorem ew_pos (h : Fin 16) (n : Fin 8192) : 0 < ∑ κ, ew X T h n κ :=
  Finset.sum_pos' (fun κ _ => wt_nonneg _ _) ⟨n, Finset.mem_univ _, wt_pos _ _ ⟨le_rfl, Nat.le_add_right _ _⟩⟩

/-- The average of the values of the keys a query sees. -/
def avg (h : Fin 16) (n : Fin 8192) (d : Fin 128) : EReal :=
  (∑ κ, (ew X T h n κ : EReal) * ev V h κ d) * (((∑ κ, ew X T h n κ)⁻¹ : ℝ) : EReal)

/-- The mean of a query's squares over all heads and columns. -/
def msq (n : Fin 8192) : EReal := (∑ h : Fin 16, ∑ d : Fin 128, avg X T V h n d * avg X T V h n d) * (((2048 : ℝ)⁻¹ : ℝ) : EReal)

/-- A query's reciprocal root of its mean square plus the small constant. -/
def rms (n : Fin 8192) : EReal := Ideal.rsqrt (msq X T V n + Ideal.ofBits .f32 0x358637BD#32)

end Cert.Attn

end
-- ==== Proof.Attn.Soft.lean ====
/- One head's softmax average in the kernel, at an index, over the extended reals. -/
module

public import proofs.«01_k».proof.Proof.Attn.Loops
public import proofs.«01_k».proof.Proof.Attn.Core
public import Idealize.ShloMosaic.Lib.ValueIdx
public import Idealize.ShloMosaic.Lib.Pipeline.Value
public import Idealize.ShloMosaic.PureOps.IdealRules

@[expose] public section

set_option maxRecDepth 16384

noncomputable section

namespace Cert.Attn

open Idealize Idealize.ShloMosaic Idealize.ShloMosaic.ValueIdx
open Cert.KernelIdeal Cert.KernelIdeal.Gen

/-- The pattern of minus infinity. -/
theorem ofBits_ninf : Ideal.ofBits .f32 0xFF800000#32 = ⊥ := by simp [Ideal.ofBits, Ideal.ieee]

/-- Each row's maximum, as a column. -/
def mx (s : FVec Ideal S256x256 .f32) : FVec Ideal S256x1 .f32 :=
  shapeCast S256x1 (multiReduction .maximumf [1] S256 s 0xFF800000#32 reduces_S256x256_S256 (.inl rfl) rfl) shapeCasts_S256_S256x1

/-- Each row's sum, as a column. -/
def sm (s : FVec Ideal S256x256 .f32) : FVec Ideal S256x1 .f32 :=
  shapeCast S256x1 (multiReduction .add [1] S256 s 0x00000000#32 reduces_S256x256_S256 (.inl rfl) rfl) shapeCasts_S256_S256x1

/-- A row's maximum, at its index. -/
theorem mx_apply (s : FVec Ideal S256x256 .f32) (r : Fin 256) (u : Fin 1) :
    mx s (ix2 r u) = (Finset.univ : Finset (Fin 256)).fold max ⊥ (fun c => s (ix2 r c)) := by
  have hu : u.val = 0 := by omega
  unfold mx
  refine (shapeCast_apply _ shapeCasts_S256_S256x1 (ix2 r u) (ix1 r) (by
    rw [Shape.rowMajor_val_two, Shape.rowMajor_val_one]; show r.val = r.val * 1 + u.val; omega)).trans ?_
  refine (Ideal.multiReduction_maximumf_single s _ reduces_S256x256_S256 _ _ (ix1 r)).trans ?_
  show Finset.fold max (Ideal.ofBits .f32 0xFF800000#32) _ _ = _
  rw [ofBits_ninf]
  refine congrArg (fun f => Finset.fold max ⊥ f Finset.univ) (funext fun c => congrArg s (funext fun a => ?_))
  match a with
  | ⟨0, _⟩ => rfl
  | ⟨1, _⟩ => rfl

/-- A row's sum, at its index. -/
theorem sm_apply (s : FVec Ideal S256x256 .f32) (r : Fin 256) (u : Fin 1) :
    sm s (ix2 r u) = ∑ c : Fin 256, s (ix2 r c) := by
  have hu : u.val = 0 := by omega
  unfold sm
  refine (shapeCast_apply _ shapeCasts_S256_S256x1 (ix2 r u) (ix1 r) (by
    rw [Shape.rowMajor_val_two, Shape.rowMajor_val_one]; show r.val = r.val * 1 + u.val; omega)).trans ?_
  refine (Ideal.multiReduction_add_single s _ reduces_S256x256_S256 _ _ (ix1 r)).trans ?_
  refine Finset.sum_congr rfl fun c _ => congrArg s (funext fun a => ?_)
  match a with
  | ⟨0, _⟩ => rfl
  | ⟨1, _⟩ => rfl

/-- A block without its leading unit axis, at an index. -/
theorem drop_apply {α : Type} (v : S1x256x128.Idx → α) (r : Fin 256) (d : Fin 128) :
    shapeCast S256x128 v shapeCasts_S1x256x128_S256x128 (ix2 r d) = v (ix3 0 r d) := by
  refine shapeCast_apply v _ _ _ ?_
  rw [Shape.rowMajor_val_three, Shape.rowMajor_val_two]
  show (0 * 256 + r.val) * 128 + d.val = r.val * 128 + d.val
  omega

/-- A bias block without its leading unit axis, at an index. -/
theorem dropB_apply {α : Type} (v : S1x256x256.Idx → α) (r c : Fin 256) :
    shapeCast S256x256 v shapeCasts_S1x256x256_S256x256 (ix2 r c) = v (ix3 0 r c) := by
  refine shapeCast_apply v _ _ _ ?_
  rw [Shape.rowMajor_val_three, Shape.rowMajor_val_two]
  show (0 * 256 + r.val) * 256 + c.val = r.val * 256 + c.val
  omega

/-- A block given a leading unit axis, at an index. -/
theorem add_apply {α : Type} (v : S256x128.Idx → α) (u : Fin 1) (r : Fin 256) (d : Fin 128) :
    shapeCast S1x256x128 v shapeCasts_S256x128_S1x256x128 (ix3 u r d) = v (ix2 r d) := by
  refine shapeCast_apply v _ _ _ ?_
  rw [Shape.rowMajor_val_three, Shape.rowMajor_val_two]
  show r.val * 128 + d.val = (u.val * 256 + r.val) * 128 + d.val
  omega

/-- A column spread over the keys, at an index. -/
theorem spread_apply {α : Type} (v : S256x1.Idx → α) (r c : Fin 256) :
    broadcastTo S256x256 v broadcasts_S256x1_S256x256 (ix2 r c) = v (ix2 r 0) := by
  refine broadcastTo_apply v _ _ _ fun a => ?_
  match a with
  | ⟨0, _⟩ => rfl
  | ⟨1, _⟩ => rfl

/-- A column spread over a head's columns, at an index. -/
theorem spreadD_apply {α : Type} (v : S256x1.Idx → α) (r : Fin 256) (d : Fin 128) :
    broadcastTo S256x128 v broadcasts_S256x1_S256x128 (ix2 r d) = v (ix2 r 0) := by
  refine broadcastTo_apply v _ _ _ fun a => ?_
  match a with
  | ⟨0, _⟩ => rfl
  | ⟨1, _⟩ => rfl

/-- The queries against the keys, at an index. -/
theorem qk_apply (q k : FVec Ideal S256x128 .bf16) (r c : Fin 256) :
    matmul dot_S256x128_S256x128_S256x256_1_1_0_0_n_n none q k (constant S256x256 .f32 0x00000000#32) (ix2 r c)
      = ∑ d : Fin 128, q (ix2 r d) * k (ix2 c d) := by
  refine (Ideal.matmul_constant_zero_apply _ none _ _ _).trans ?_
  refine (Equiv.sum_comp (contrEquiv1 dot_S256x128_S256x128_S256x256_1_1_0_0_n_n 128 rfl rfl).symm _).symm.trans ?_
  refine Finset.sum_congr rfl fun d _ => congr (congrArg _ (congrArg q (funext fun a => ?_))) (congrArg k (funext fun a => ?_))
  · match a with
    | ⟨0, _⟩ => rfl
    | ⟨1, _⟩ => rfl
  · match a with
    | ⟨0, _⟩ => rfl
    | ⟨1, _⟩ => rfl

/-- The weights against the values, at an index. -/
theorem pv_apply (p : FVec Ideal S256x256 .bf16) (v : FVec Ideal S256x128 .bf16) (r : Fin 256) (d : Fin 128) :
    matmul dot_S256x256_S256x128_S256x128_1_0_0_1_n_n none p v (constant S256x128 .f32 0x00000000#32) (ix2 r d)
      = ∑ c : Fin 256, p (ix2 r c) * v (ix2 c d) := by
  refine (Ideal.matmul_constant_zero_apply _ none _ _ _).trans ?_
  refine (Equiv.sum_comp (contrEquiv1 dot_S256x256_S256x128_S256x128_1_0_0_1_n_n 256 rfl rfl).symm _).symm.trans ?_
  refine Finset.sum_congr rfl fun c _ => congr (congrArg _ (congrArg p (funext fun a => ?_))) (congrArg v (funext fun a => ?_))
  · match a with
    | ⟨0, _⟩ => rfl
    | ⟨1, _⟩ => rfl
  · match a with
    | ⟨0, _⟩ => rfl
    | ⟨1, _⟩ => rfl

/-- The masked head is the same average of its three blocks of scores as the unmasked one. -/
theorem headM_eq (a0 : BitVec 32) (q k0 k1 k2 v0 v1 v2 : Vec Ideal S1x256x128 .bf16) (b0 b1 b2 : Vec Ideal S1x256x256 .f32) :
    headM a0 q k0 k1 k2 v0 v1 v2 b0 b1 b2
      = k0_pay20 (k0_pay3 a0 q k0 b0) (k0_pay4 a0 q k1 b1) (k0_pay6 (k0_pay5 q k2) b2) (mx (k0_pay3 a0 q k0 b0)) (mx (k0_pay4 a0 q k1 b1)) v0 v1 v2 := rfl

/-- The unmasked head is that average too. -/
theorem headU_eq (q k0 k1 k2 v0 v1 v2 : Vec Ideal S1x256x128 .bf16) (b0 b1 b2 : Vec Ideal S1x256x256 .f32) :
    headU q k0 k1 k2 v0 v1 v2 b0 b1 b2
      = k0_pay20 (k0_pay15 q k0 b0) (k0_pay16 q k1 b1) (k0_pay17 q k2 b2) (mx (k0_pay15 q k0 b0)) (mx (k0_pay16 q k1 b1)) v0 v1 v2 := rfl

/-- The powers of two of scores less the row's maximum, at an index. -/
theorem pow_apply (s : FVec Ideal S256x256 .f32) (M : FVec Ideal S256x1 .f32) (r c : Fin 256) :
    exp2 (subf s (broadcastTo S256x256 M broadcasts_S256x1_S256x256)) (ix2 r c) = Ideal.exp2 (s (ix2 r c) - M (ix2 r 0)) := by
  show Ideal.exp2 (s (ix2 r c) - broadcastTo S256x256 M broadcasts_S256x1_S256x256 (ix2 r c)) = _
  rw [spread_apply]

/-- The average as products and sums. -/
theorem pay20_apply (s0 s1 s2 : FVec Ideal S256x256 .f32) (v0 v1 v2 : Vec Ideal S1x256x128 .bf16) (r : Fin 256) (d : Fin 128) (u : Fin 1)
    (μ : EReal) (hμ : μ = max (max (mx s0 (ix2 r 0)) (mx s1 (ix2 r 0))) (mx s2 (ix2 r 0))) :
    k0_pay20 s0 s1 s2 (mx s0) (mx s1) v0 v1 v2 (ix3 u r d)
      = Ideal.div (((∑ c : Fin 256, Ideal.exp2 (s0 (ix2 r c) - μ) * v0 (ix3 0 c d)) + ∑ c : Fin 256, Ideal.exp2 (s1 (ix2 r c) - μ) * v1 (ix3 0 c d))
          + ∑ c : Fin 256, Ideal.exp2 (s2 (ix2 r c) - μ) * v2 (ix3 0 c d))
        (((∑ c : Fin 256, Ideal.exp2 (s0 (ix2 r c) - μ)) + ∑ c : Fin 256, Ideal.exp2 (s1 (ix2 r c) - μ)) + ∑ c : Fin 256, Ideal.exp2 (s2 (ix2 r c) - μ)) := by
  let M : FVec Ideal S256x1 .f32 := maximumf (maximumf (mx s0) (mx s1)) (mx s2)
  let p : FVec Ideal S256x256 .f32 → FVec Ideal S256x256 .f32 := fun s => exp2 (subf s (broadcastTo S256x256 M broadcasts_S256x1_S256x256))
  let n : FVec Ideal S256x256 .f32 → Vec Ideal S1x256x128 .bf16 → FVec Ideal S256x128 .f32 := fun s v =>
    matmul dot_S256x256_S256x128_S256x128_1_0_0_1_n_n none (truncf .bf16 (p s) bitsLt_bf16_f32) (shapeCast S256x128 v shapeCasts_S1x256x128_S256x128 : FVec Ideal S256x128 .bf16) (constant S256x128 .f32 0x00000000#32)
  have hp : ∀ s c, p s (ix2 r c) = Ideal.exp2 (s (ix2 r c) - μ) := fun s c => (pow_apply s M r c).trans (congrArg (fun z => Ideal.exp2 (s (ix2 r c) - z)) hμ.symm)
  have hn : ∀ s v, n s v (ix2 r d) = ∑ c : Fin 256, p s (ix2 r c) * v (ix3 0 c d) := fun s v => by
    refine (pv_apply _ _ r d).trans (Finset.sum_congr rfl fun c _ => ?_)
    rw [drop_apply]; rfl
  have e : k0_pay20 s0 s1 s2 (mx s0) (mx s1) v0 v1 v2
      = shapeCast S1x256x128 (divf (addf (addf (n s0 v0) (n s1 v1)) (n s2 v2))
          (broadcastTo S256x128 (addf (addf (sm (p s0)) (sm (p s1))) (sm (p s2))) broadcasts_S256x1_S256x128)) shapeCasts_S256x128_S1x256x128 := rfl
  rw [e, add_apply]
  show Ideal.div ((n s0 v0 (ix2 r d) + n s1 v1 (ix2 r d)) + n s2 v2 (ix2 r d)) (broadcastTo S256x128 _ broadcasts_S256x1_S256x128 (ix2 r d)) = _
  rw [spreadD_apply]
  show Ideal.div _ ((sm (p s0) (ix2 r 0) + sm (p s1) (ix2 r 0)) + sm (p s2) (ix2 r 0)) = _
  simp only [sm_apply, hn, hp]

/-- The average of three blocks of masked scores in the logarithm to base two, with one key of the last block seen: the
    sums of the weights' products with the values over the sum of the weights. -/
theorem soft_apply (s0 s1 s2 : FVec Ideal S256x256 .f32) (v0 v1 v2 : Vec Ideal S1x256x128 .bf16) (r : Fin 256) (d : Fin 128) (u : Fin 1)
    (b0 b1 b2 : Fin 256 → Prop) [DecidablePred b0] [DecidablePred b1] [DecidablePred b2] (x0 x1 x2 : Fin 256 → ℝ) (w0 w1 w2 : Fin 256 → EReal)
    (h0 : ∀ c, s0 (ix2 r c) = sc (b0 c) (x0 c * (Real.log 2)⁻¹)) (h1 : ∀ c, s1 (ix2 r c) = sc (b1 c) (x1 c * (Real.log 2)⁻¹))
    (h2 : ∀ c, s2 (ix2 r c) = sc (b2 c) (x2 c * (Real.log 2)⁻¹))
    (g0 : ∀ c, v0 (ix3 0 c d) = w0 c) (g1 : ∀ c, v1 (ix3 0 c d) = w1 c) (g2 : ∀ c, v2 (ix3 0 c d) = w2 c)
    (c0 : Fin 256) (hc : b2 c0) :
    k0_pay20 s0 s1 s2 (mx s0) (mx s1) v0 v1 v2 (ix3 u r d)
      = (((∑ c, (wt (b0 c) (x0 c) : EReal) * w0 c) + ∑ c, (wt (b1 c) (x1 c) : EReal) * w1 c) + ∑ c, (wt (b2 c) (x2 c) : EReal) * w2 c)
        * (((((∑ c, wt (b0 c) (x0 c)) + ∑ c, wt (b1 c) (x1 c)) + ∑ c, wt (b2 c) (x2 c))⁻¹ : ℝ) : EReal) := by
  have t0 : mx s0 (ix2 r 0) ≠ ⊤ := by rw [mx_apply]; exact fold_ne_top _ _ fun c => by rw [h0]; exact sc_ne_top _ _
  have t1 : mx s1 (ix2 r 0) ≠ ⊤ := by rw [mx_apply]; exact fold_ne_top _ _ fun c => by rw [h1]; exact sc_ne_top _ _
  obtain ⟨m2, hm2⟩ : ∃ m : ℝ, mx s2 (ix2 r 0) = (m : EReal) := by
    rw [mx_apply]
    exact fold_real _ _ (fun c => by rw [h2]; exact sc_ne_top _ _) c0 (Finset.mem_univ _) (by
      rw [h2]; unfold sc; rw [if_pos hc]; exact EReal.coe_ne_bot _)
  obtain ⟨μ, hμ⟩ : ∃ μ : ℝ, max (max (mx s0 (ix2 r 0)) (mx s1 (ix2 r 0))) (mx s2 (ix2 r 0)) = (μ : EReal) := by
    refine real_of ?_ ?_
    · rw [hm2]; simp only [ne_eq, max_eq_top, not_or]; exact ⟨⟨t0, t1⟩, EReal.coe_ne_top _⟩
    · intro e
      have : (m2 : EReal) ≤ ⊥ := by rw [← e, ← hm2]; exact le_max_right _ _
      exact EReal.coe_ne_bot _ (le_bot_iff.1 this)
  rw [pay20_apply s0 s1 s2 v0 v1 v2 r d u _ hμ.symm]
  simp only [h0, h1, h2, g0, g1, g2, exp2_sc]
  refine avg_blocks _ _ _ _ _ _ _ (Real.exp_pos _) (ne_of_gt ?_)
  refine add_pos_of_nonneg_of_pos (add_nonneg ?_ ?_) ?_
  · exact Finset.sum_nonneg fun c _ => wt_nonneg _ _
  · exact Finset.sum_nonneg fun c _ => wt_nonneg _ _
  · exact Finset.sum_pos' (fun c _ => wt_nonneg _ _) ⟨c0, Finset.mem_univ _, wt_pos _ _ hc⟩

end Cert.Attn

end
-- ==== Proof.Attn.Bias.lean ====
/- The bias the kernel adds to the scores, at an index, over the extended reals. -/
module

public import proofs.«01_k».proof.Proof.Attn.Spec
public import proofs.«01_k».proof.Proof.Attn.Soft

@[expose] public section

set_option maxRecDepth 16384

noncomputable section

namespace Cert.Attn

open Idealize
open Idealize.ShloMosaic hiding ix1 ix2 ix3
open Idealize.ShloMosaic.ValueIdx
open Cert.KernelIdeal Cert.KernelIdeal.Gen

/-- The value the logarithm's constant is given. -/
theorem named_log2e : (Named.named κ "log2e" 0x3FB8AA3B#32 : Ideal .f32) = (((Real.log 2)⁻¹ : ℝ) : EReal) :=
  IdealRules.named_const.ideal_named_scalar _ _ _ _ rfl

/-- The value the mask's constant is given. -/
theorem named_mask : (Named.named κ "mask" 0xF149F2CA#32 : Ideal .f32) = (⊥ : EReal) :=
  IdealRules.named_const.ideal_named_scalar _ _ _ _ rfl

/-- The value the scale's constant is given. -/
theorem named_scale : (Named.named κ "qk_scale" 0x3E0293EE#32 : Ideal .f32) = ((scl * (Real.log 2)⁻¹ : ℝ) : EReal) :=
  IdealRules.named_const.ideal_named_scalar _ _ _ _ rfl

/-- The table's column each lane of the bias rows is taken from. -/
def colOf (p : ℕ) : ℕ := if p < 257 then 319 else if p < 576 then 575 - p else if p < 768 then 0 else 319

/-- It is one of the table's columns. -/
theorem colOf_lt (p : ℕ) : colOf p < 320 := by unfold colOf; split_ifs <;> omega

/-- The four pieces the bias rows are put together from. -/
def pieces (x1 : (⟨S16x320, .f32⟩ : BufTy).Contents (Elt Ideal)) : List ((s : Shape) × (s.Idx → Elt Ideal .f32)) :=
  [⟨S16x257, broadcastInDim S16x257 ![0, 1] bcast_S16x1_S16x257_0_1 (extractStridedSlice S16x1 ![0, 319] x1 slices_S16x320_S16x1_0_319)⟩,
    ⟨S16x319, Host.reverse [1] (extractStridedSlice S16x319 ![0, 0] x1 slices_S16x320_S16x319_0_0)⟩,
    ⟨S16x192, broadcastInDim S16x192 ![0, 1] bcast_S16x1_S16x192_0_1 (extractStridedSlice S16x1 ![0, 0] x1 slices_S16x320_S16x1_0_0)⟩,
    ⟨S16x256, broadcastInDim S16x256 ![0, 1] bcast_S16x1_S16x256_0_1 (extractStridedSlice S16x1 ![0, 319] x1 slices_S16x320_S16x1_0_319)⟩]

/-- The bias rows, at an index. -/
theorem rowsOf_apply (x1 : (⟨S16x320, .f32⟩ : BufTy).Contents (Elt Ideal)) (h : Fin 16) (p : Fin 1024) :
    rowsOf x1 (ix2 h p) = x1 (ixT h.val (colOf p.val) h.isLt (colOf_lt _)) := by
  have hp := p.isLt
  unfold rowsOf
  rcases Nat.lt_or_ge p.val 257 with h1 | h1
  · refine (concatenate_apply_piece (t := S16x1024) (1 : Fin 2) (pieces x1) concatenates_S16x257_S16x319_S16x192_S16x256_S16x1024_d1 (ix2 h p) 0 (by show 0 < 4; omega) S16x257 _ rfl rfl 0 rfl
      (ix2 h ⟨p.val, h1⟩) (fun b hb => by
        match b with
        | ⟨0, _⟩ => rfl
        | ⟨1, _⟩ => exact absurd rfl hb) (by show 0 + p.val = p.val; omega)).trans ?_
    refine (broadcastInDim_apply _ bcast_S16x1_S16x257_0_1 _ _ (ix2 h 0) (fun a => by
      match a with
      | ⟨0, _⟩ => rfl
      | ⟨1, _⟩ => rfl)).trans ?_
    refine extractStridedSlice_apply _ _ slices_S16x320_S16x1_0_319 _ _ fun a => ?_
    match a with
    | ⟨0, _⟩ => show h.val = 0 + h.val; omega
    | ⟨1, _⟩ => show colOf p.val = 319 + 0; unfold colOf; rw [if_pos h1]
  rcases Nat.lt_or_ge p.val 576 with h2 | h2
  · refine (concatenate_apply_piece (t := S16x1024) (1 : Fin 2) (pieces x1) concatenates_S16x257_S16x319_S16x192_S16x256_S16x1024_d1 (ix2 h p) 1 (by show 1 < 4; omega) S16x319 _ rfl rfl 257 rfl
      (ix2 h ⟨p.val - 257, by omega⟩) (fun b hb => by
        match b with
        | ⟨0, _⟩ => rfl
        | ⟨1, _⟩ => exact absurd rfl hb) (by show 257 + (p.val - 257) = p.val; omega)).trans ?_
    refine extractStridedSlice_apply _ _ slices_S16x320_S16x319_0_0 _ _ fun a => ?_
    match a with
    | ⟨0, _⟩ => show h.val = 0 + h.val; omega
    | ⟨1, _⟩ =>
      show colOf p.val = 0 + (319 - (p.val - 257 + 1))
      unfold colOf; rw [if_neg (by omega), if_pos h2]; omega
  rcases Nat.lt_or_ge p.val 768 with h3 | h3
  · refine (concatenate_apply_piece (t := S16x1024) (1 : Fin 2) (pieces x1) concatenates_S16x257_S16x319_S16x192_S16x256_S16x1024_d1 (ix2 h p) 2 (by show 2 < 4; omega) S16x192 _ rfl rfl 576 rfl
      (ix2 h ⟨p.val - 576, by omega⟩) (fun b hb => by
        match b with
        | ⟨0, _⟩ => rfl
        | ⟨1, _⟩ => exact absurd rfl hb) (by show 576 + (p.val - 576) = p.val; omega)).trans ?_
    refine (broadcastInDim_apply _ bcast_S16x1_S16x192_0_1 _ _ (ix2 h 0) (fun a => by
      match a with
      | ⟨0, _⟩ => rfl
      | ⟨1, _⟩ => rfl)).trans ?_
    refine extractStridedSlice_apply _ _ slices_S16x320_S16x1_0_0 _ _ fun a => ?_
    match a with
    | ⟨0, _⟩ => show h.val = 0 + h.val; omega
    | ⟨1, _⟩ => show colOf p.val = 0 + 0; unfold colOf; rw [if_neg (by omega), if_neg (by omega), if_pos h3]
  · refine (concatenate_apply_piece (t := S16x1024) (1 : Fin 2) (pieces x1) concatenates_S16x257_S16x319_S16x192_S16x256_S16x1024_d1 (ix2 h p) 3 (by show 3 < 4; omega) S16x256 _ rfl rfl 768 rfl
      (ix2 h ⟨p.val - 768, by omega⟩) (fun b hb => by
        match b with
        | ⟨0, _⟩ => rfl
        | ⟨1, _⟩ => exact absurd rfl hb) (by show 768 + (p.val - 768) = p.val; omega)).trans ?_
    refine (broadcastInDim_apply _ bcast_S16x1_S16x256_0_1 _ _ (ix2 h 0) (fun a => by
      match a with
      | ⟨0, _⟩ => rfl
      | ⟨1, _⟩ => rfl)).trans ?_
    refine extractStridedSlice_apply _ _ slices_S16x320_S16x1_0_319 _ _ fun a => ?_
    match a with
    | ⟨0, _⟩ => show h.val = 0 + h.val; omega
    | ⟨1, _⟩ => show colOf p.val = 319 + 0; unfold colOf; rw [if_neg (by omega), if_neg (by omega), if_neg (by omega)]

/-- A row's number shifted right by six is its chunk's number. -/
theorem shr_row : ∀ r : Fin 256, IntOp.shrsi .vector (BitVec.ofNat 32 r.val) 6#32 = BitVec.ofNat 32 (r.val / 64) := by decide +kernel
/-- A column's number shifted right by six is its chunk's number. -/
theorem shr_col : ∀ c : Fin 768, IntOp.shrsi .vector (BitVec.ofNat 32 c.val) 6#32 = BitVec.ofNat 32 (c.val / 64) := by decide +kernel

/-- The two comparisons of chunk numbers as one bit. -/
theorem band_bit : ∀ (a : Fin 4) (b : Fin 12),
    IntOp.andi (IntOp.cmpi .sge (IntOp.addi (IntOp.subi (BitVec.ofNat 32 a.val) (BitVec.ofNat 32 b.val)) 8#32) 0#32)
      (IntOp.cmpi .sle (IntOp.addi (IntOp.subi (BitVec.ofNat 32 a.val) (BitVec.ofNat 32 b.val)) 8#32) 8#32)
      = if b.val ≤ a.val + 8 ∧ a.val ≤ b.val then 1#1 else 0#1 := by decide +kernel

/-- Each row turned by its own number and cut to its first columns, at an index. -/
theorem lane_apply (A : FVec Ideal S256x1024 .f32) (r : Fin 256) (c : Fin 768) :
    extractStridedSlice S256x768 ![0, 0] (dynamicRotate 1 0#32 (some (1, 0)) A rotates_S256x1024_d1s1a0) slices_S256x1024_o0_0_S256x768 (ix2 r c)
      = A (ix2 r ⟨(c.val + 1024 - r.val) % 1024, Nat.mod_lt _ (Nat.succ_pos 1023)⟩) := by
  have hr := r.isLt
  have hc := c.isLt
  refine (extractStridedSlice_apply _ _ slices_S256x1024_o0_0_S256x768 (ix2 r c) (ix2 r ⟨c.val, by omega⟩) (fun a => by
    match a with
    | ⟨0, _⟩ => show r.val = 0 + r.val; omega
    | ⟨1, _⟩ => show c.val = 0 + c.val; omega)).trans ?_
  unfold dynamicRotate
  refine congrArg A (funext fun a => ?_)
  match a with
  | ⟨0, _⟩ => rfl
  | ⟨1, _⟩ =>
    apply Fin.ext
    have h2 : (0 + 1 * r.val) % 1024 = r.val := by omega
    show (c.val + 1024 - (0 + 1 * r.val) % 1024) % 1024 = (c.val + 1024 - r.val) % 1024
    rw [h2]

/-- One head's bias block, at an index. -/
theorem pay21_apply (row : Vec Ideal S1x1024 .f32) (u : Fin 1) (r : Fin 256) (c : Fin 768) :
    k0_pay21 row (ix3 u r c)
      = if c.val / 64 ≤ r.val / 64 + 8 ∧ r.val / 64 ≤ c.val / 64 then
          row (ix2 0 ⟨(c.val + 1024 - r.val) % 1024, Nat.mod_lt _ (Nat.succ_pos 1023)⟩) * (((Real.log 2)⁻¹ : ℝ) : EReal)
        else ⊥ := by
  have hr := r.isLt
  have hc := c.isLt
  unfold k0_pay21
  refine (shapeCast_apply _ shapeCasts_S256x768_S1x256x768 (ix3 u r c) (ix2 r c) (by
    rw [Shape.rowMajor_val_three, Shape.rowMajor_val_two]
    show r.val * 768 + c.val = (u.val * 256 + r.val) * 768 + c.val; omega)).trans ?_
  rw [select_apply]
  have hbit : ∀ z : IVec S256x768 1, z = andi
      (cmpi .sge (addi (subi (shrsi (iota .tc S256x768 32 [0] iota_S256x768_d0_w32) (broadcast S256x768 6#32)) (shrsi (iota .tc S256x768 32 [1] iota_S256x768_d1_w32) (broadcast S256x768 6#32))) (broadcast S256x768 8#32)) (broadcast S256x768 0#32))
      (cmpi .sle (addi (subi (shrsi (iota .tc S256x768 32 [0] iota_S256x768_d0_w32) (broadcast S256x768 6#32)) (shrsi (iota .tc S256x768 32 [1] iota_S256x768_d1_w32) (broadcast S256x768 6#32))) (broadcast S256x768 8#32)) (broadcast S256x768 8#32)) →
      z (ix2 r c) = if c.val / 64 ≤ r.val / 64 + 8 ∧ r.val / 64 ≤ c.val / 64 then 1#1 else 0#1 := by
    intro z hz
    subst hz
    have e0 : (iota .tc S256x768 32 [0] iota_S256x768_d0_w32) (ix2 r c) = BitVec.ofNat 32 r.val := by
      show BitVec.ofNat 32 (0 * 256 + r.val) = _
      rw [Nat.zero_mul, Nat.zero_add]
    have e1 : (iota .tc S256x768 32 [1] iota_S256x768_d1_w32) (ix2 r c) = BitVec.ofNat 32 c.val := by
      show BitVec.ofNat 32 (0 * 768 + c.val) = _
      rw [Nat.zero_mul, Nat.zero_add]
    show IntOp.andi (IntOp.cmpi .sge (IntOp.addi (IntOp.subi (IntOp.shrsi .vector ((iota .tc S256x768 32 [0] iota_S256x768_d0_w32) (ix2 r c)) 6#32) (IntOp.shrsi .vector ((iota .tc S256x768 32 [1] iota_S256x768_d1_w32) (ix2 r c)) 6#32)) 8#32) 0#32)
      (IntOp.cmpi .sle (IntOp.addi (IntOp.subi (IntOp.shrsi .vector ((iota .tc S256x768 32 [0] iota_S256x768_d0_w32) (ix2 r c)) 6#32) (IntOp.shrsi .vector ((iota .tc S256x768 32 [1] iota_S256x768_d1_w32) (ix2 r c)) 6#32)) 8#32) 8#32) = _
    rw [e0, e1, shr_row r, shr_col c]
    exact band_bit ⟨r.val / 64, by omega⟩ ⟨c.val / 64, by omega⟩
  rw [hbit _ rfl]
  by_cases hb : c.val / 64 ≤ r.val / 64 + 8 ∧ r.val / 64 ≤ c.val / 64
  · rw [if_pos hb, if_pos hb, select_one]
    have e3 : ∀ A : FVec Ideal S256x768 .f32, mulf A (broadcast S256x768 (Named.named κ "log2e" 0x3FB8AA3B#32)) (ix2 r c) = A (ix2 r c) * (((Real.log 2)⁻¹ : ℝ) : EReal) :=
      fun A => congrArg (A (ix2 r c) * ·) named_log2e
    refine (e3 _).trans ?_
    congr 1
    refine (lane_apply _ r c).trans ?_
    rw [shapeCast_self, shapeCast_self]
    exact broadcastTo_apply row broadcasts_S1x1024_S256x1024 _ (ix2 0 ⟨(c.val + 1024 - r.val) % 1024, Nat.mod_lt _ (Nat.succ_pos 1023)⟩) (fun a => by
      match a with
      | ⟨0, _⟩ => rfl
      | ⟨1, _⟩ => rfl)
  · rw [if_neg hb, if_neg hb, select_zero]
    exact named_mask

/-- A third of a head's bias block, over the whole grid's constant bias, at an index. -/
theorem bias_apply (x1 : (⟨S16x320, .f32⟩ : BufTy).Contents (Elt Ideal)) (T : S16x320.Idx → ℝ) (hT : ∀ i, x1 i = (T i : EReal))
    (h : Fin 16) (j : Fin 3) (u : Fin 1) (r c : Fin 256) :
    bcol (biasOf (rowsOf x1)) h j (ix3 u r c)
      = sc ((256 * j.val + c.val) / 64 ≤ r.val / 64 + 8 ∧ r.val / 64 ≤ (256 * j.val + c.val) / 64)
          (T (ixT h.val (min (r.val + 575 - (256 * j.val + c.val)) 319) h.isLt (by omega)) * (Real.log 2)⁻¹) := by
  have hr := r.isLt
  have hc := c.isLt
  have hj := j.isLt
  have hu := u.isLt
  have e1 : bcol (biasOf (rowsOf x1)) h j (ix3 u r c) = k0_pay21 (rowOf (rowsOf x1) h) (ix3 0 r ⟨256 * j.val + c.val, by omega⟩) := by
    show biasOf (rowsOf x1) _ = _
    unfold biasOf
    have hy0 : ((Rect.unit (s := S16x256x768) ![h.val, 0, 256 * j.val] S1x256x256.size (inbC h j)).emb (ix3 u r c)) 0 = h := by
      apply Fin.ext; show h.val + 1 * u.val = h.val; omega
    have hy : inB ((Rect.unit (s := S16x256x768) ![h.val, 0, 256 * j.val] S1x256x256.size (inbC h j)).emb (ix3 u r c)) = ix3 0 r ⟨256 * j.val + c.val, by omega⟩ := by
      funext a
      match a with
      | ⟨0, _⟩ => rfl
      | ⟨1, _⟩ => apply Fin.ext; show 0 + 1 * r.val = r.val; omega
      | ⟨2, _⟩ => apply Fin.ext; show 256 * j.val + 1 * c.val = 256 * j.val + c.val; omega
    show k0_pay21 (rowOf (rowsOf x1) (((Rect.unit (s := S16x256x768) ![h.val, 0, 256 * j.val] S1x256x256.size (inbC h j)).emb (ix3 u r c)) 0)) (inB _) = _
    rw [hy0, hy]
  rw [e1, pay21_apply]
  unfold sc
  show (if (256 * j.val + c.val) / 64 ≤ r.val / 64 + 8 ∧ r.val / 64 ≤ (256 * j.val + c.val) / 64 then _ else _) = _
  refine if_congr Iff.rfl ?_ rfl
  rw [EReal.coe_mul]
  congr 1
  have e2 : ∀ p : Fin 1024, rowOf (rowsOf x1) h (ix2 0 p) = rowsOf x1 (ix2 h p) := fun p => by
    show rowsOf x1 _ = _
    refine congrArg _ (funext fun a => ?_)
    match a with
    | ⟨0, _⟩ => apply Fin.ext; show h.val + 1 * 0 = h.val; omega
    | ⟨1, _⟩ => apply Fin.ext; show 0 + 1 * p.val = p.val; omega
  rw [e2, rowsOf_apply, hT]
  refine congrArg (fun i => (T i : EReal)) (funext fun a => ?_)
  match a with
  | ⟨0, _⟩ => rfl
  | ⟨1, _⟩ =>
    apply Fin.ext
    show colOf ((256 * j.val + c.val + 1024 - r.val) % 1024) = min (r.val + 575 - (256 * j.val + c.val)) 319
    unfold colOf
    split_ifs <;> omega

end Cert.Attn

end
-- ==== Proof.Attn.Head.lean ====
/- The kernel's heads at an index: the attention over the real arrays. -/
module

public import proofs.«01_k».proof.Proof.Attn.Bias

@[expose] public section

set_option maxRecDepth 16384

noncomputable section

namespace Cert.Attn

open Idealize
open Idealize.ShloMosaic hiding ix1 ix2 ix3
open Idealize.ShloMosaic.TcCoe
open Idealize.ShloMosaic.ValueIdx
open Cert.KernelIdeal Cert.KernelIdeal.Gen

/-- Masked scores with equivalent masks and equal scores are equal. -/
theorem sc_congr {P Q : Prop} [Decidable P] [Decidable Q] {x y : ℝ} (h : P ↔ Q) (e : x = y) : sc P x = sc Q y := by
  rw [e]; unfold sc; exact if_congr h rfl rfl

/-- A weight whose mask has a part that does not depend on the key. -/
theorem wt_and (A B : Prop) [Decidable A] [Decidable B] (x : ℝ) : wt (A ∧ B) x = if A then wt B x else 0 := by
  unfold wt
  by_cases hA : A
  · simp [hA]
  · simp [hA]

/-- The same of a weight's product with a value. -/
theorem wt_and_mul (A B : Prop) [Decidable A] [Decidable B] (x : ℝ) (v : EReal) :
    ((wt (A ∧ B) x : ℝ) : EReal) * v = if A then ((wt B x : ℝ) : EReal) * v else 0 := by
  rw [wt_and]
  by_cases h : A
  · rw [if_pos h, if_pos h]
  · rw [if_neg h, if_neg h, EReal.coe_zero, zero_mul]

/-- A block of scores, at an index: the scaled product plus the bias. -/
theorem scores_apply (q k : Vec Ideal S1x256x128 .bf16) (b : Vec Ideal S1x256x256 .f32) (r c : Fin 256) (A K : Fin 128 → ℝ)
    (P : Prop) [Decidable P] (τ : ℝ) (hq : ∀ d, q (ix3 0 r d) = ((A d : ℝ) : EReal)) (hk : ∀ d, k (ix3 0 c d) = ((K d : ℝ) : EReal))
    (hb : b (ix3 0 r c) = sc P (τ * (Real.log 2)⁻¹)) :
    k0_pay15 q k b (ix2 r c) = sc P ((scl * (∑ d : Fin 128, A d * K d) + τ) * (Real.log 2)⁻¹) := by
  have e1 : matmul (φ₁ := .bf16) (φ₂ := .bf16) dot_S256x128_S256x128_S256x256_1_1_0_0_n_n none (shapeCast S256x128 q shapeCasts_S1x256x128_S256x128)
      (shapeCast S256x128 k shapeCasts_S1x256x128_S256x128) (constant (F := Ideal) S256x256 .f32 0x00000000#32) (ix2 r c)
      = ((∑ d : Fin 128, A d * K d : ℝ) : EReal) := by
    rw [qk_apply, ← coe_sum_mul]
    refine Finset.sum_congr rfl fun d _ => ?_
    rw [drop_apply, drop_apply, hq, hk]
  show matmul (φ₁ := .bf16) (φ₂ := .bf16) dot_S256x128_S256x128_S256x256_1_1_0_0_n_n none (shapeCast S256x128 q shapeCasts_S1x256x128_S256x128)
      (shapeCast S256x128 k shapeCasts_S1x256x128_S256x128) (constant (F := Ideal) S256x256 .f32 0x00000000#32) (ix2 r c)
      * (Named.named κ "qk_scale" 0x3E0293EE#32 : Ideal .f32) + shapeCast S256x256 b shapeCasts_S1x256x256_S256x256 (ix2 r c) = _
  rw [e1, named_scale, dropB_apply, hb]
  unfold sc
  split
  · rw [← EReal.coe_mul, ← EReal.coe_add]
    congr 1
    ring
  · exact EReal.add_bot _

/-- The first block's masked scores are the scores from the third point on and minus infinity before. -/
theorem pay3_eq (a0 : BitVec 32) (q k : Vec Ideal S1x256x128 .bf16) (b : Vec Ideal S1x256x256 .f32) (i : S256x256.Idx) :
    k0_pay3 a0 q k b i = if Scalar.cmpi .sge a0 2#32 = 1#1 then k0_pay15 q k b i else ⊥ := by
  show (Scalar.select (Scalar.cmpi .sge a0 2#32) (k0_pay15 q k b) (broadcast S256x256 (Named.named κ "mask" 0xF149F2CA#32 : Ideal .f32))) i = _
  rw [named_mask]
  rcases BitVec.eq_zero_or_eq_one (Scalar.cmpi .sge a0 2#32) with e | e
  · rw [e]; rfl
  · rw [e]; rfl

/-- The second block's masked scores are the scores from the second point on and minus infinity before. -/
theorem pay4_eq (a0 : BitVec 32) (q k : Vec Ideal S1x256x128 .bf16) (b : Vec Ideal S1x256x256 .f32) (i : S256x256.Idx) :
    k0_pay4 a0 q k b i = if Scalar.cmpi .sge a0 1#32 = 1#1 then k0_pay15 q k b i else ⊥ := by
  show (Scalar.select (Scalar.cmpi .sge a0 1#32) (k0_pay15 q k b) (broadcast S256x256 (Named.named κ "mask" 0xF149F2CA#32 : Ideal .f32))) i = _
  rw [named_mask]
  rcases BitVec.eq_zero_or_eq_one (Scalar.cmpi .sge a0 1#32) with e | e
  · rw [e]; rfl
  · rw [e]; rfl

variable (X : S48x8448x128.Idx → ℝ) (T : S16x320.Idx → ℝ) (V : S48x8448x128.Idx → EReal)

/-- A block of scores against the `j`-th of the three blocks of keys, at an index. -/
theorem block_apply (x1 : (⟨S16x320, .f32⟩ : BufTy).Contents (Elt Ideal)) (hT : ∀ i, x1 i = ((T i : ℝ) : EReal))
    (q k : Vec Ideal S1x256x128 .bf16) (h : Fin 16) (j : Fin 3) (r c : Fin 256) (n κ : Fin 8192)
    (hq : ∀ d, q (ix3 0 r d) = ((el X 0 (by omega) h n d : ℝ) : EReal)) (hk : ∀ d, k (ix3 0 c d) = ((el X 1 (by omega) h κ d : ℝ) : EReal))
    (t : ℕ) (hn : n.val = t * 256 + r.val) (hκ : κ.val + 512 = (t + j.val) * 256 + c.val) :
    k0_pay15 q k (bcol (biasOf (rowsOf x1)) h j) (ix2 r c) = sc (seen n.val κ.val) (score X T h n κ * (Real.log 2)⁻¹) := by
  refine (scores_apply q k _ r c _ _ _ _ hq hk (bias_apply x1 T hT h j 0 r c)).trans ?_
  have hr := r.isLt
  have hc := c.isLt
  refine sc_congr ?_ ?_
  · unfold seen; omega
  · unfold score
    congr 3
    unfold tix
    refine funext fun a => Fin.ext ?_
    match a with
    | ⟨0, _⟩ => rfl
    | ⟨1, _⟩ =>
      show min (r.val + 575 - (256 * j.val + c.val)) 319 = min (n.val + 63 - κ.val) 319
      congr 1
      omega

/-- The average over three blocks of keys is the average over all keys. -/
theorem head_avg (t : ℕ) (ht : t < 32) (h : Fin 16) (r : Fin 256) (d : Fin 128) (u : Fin 1)
    (s0 s1 s2 : FVec Ideal S256x256 .f32) (v0 v1 v2 : Vec Ideal S1x256x128 .bf16)
    (n : Fin 8192) (hn : n.val = t * 256 + r.val)
    (κ0 κ1 κ2 : Fin 256 → Fin 8192) (e0 : ∀ c, (κ0 c).val = (t - 2) * 256 + c.val) (e1 : ∀ c, (κ1 c).val = (t - 1) * 256 + c.val)
    (e2 : ∀ c, (κ2 c).val = t * 256 + c.val)
    (h0 : ∀ c, s0 (ix2 r c) = sc (2 ≤ t ∧ seen n.val (κ0 c).val) (score X T h n (κ0 c) * (Real.log 2)⁻¹))
    (h1 : ∀ c, s1 (ix2 r c) = sc (1 ≤ t ∧ seen n.val (κ1 c).val) (score X T h n (κ1 c) * (Real.log 2)⁻¹))
    (h2 : ∀ c, s2 (ix2 r c) = sc (seen n.val (κ2 c).val) (score X T h n (κ2 c) * (Real.log 2)⁻¹))
    (g0 : ∀ c, v0 (ix3 0 c d) = ev V h (κ0 c) d)
    (g1 : ∀ c, v1 (ix3 0 c d) = ev V h (κ1 c) d)
    (g2 : ∀ c, v2 (ix3 0 c d) = ev V h (κ2 c) d) :
    k0_pay20 s0 s1 s2 (mx s0) (mx s1) v0 v1 v2 (ix3 u r d) = avg X T V h n d := by
  have hr := r.isLt
  refine (soft_apply s0 s1 s2 v0 v1 v2 r d u _ _ _ _ _ _ _ _ _ h0 h1 h2 g0 g1 g2 r (by
    have := e2 r
    unfold seen; omega)).trans ?_
  have hz : ∀ κ : Fin 8192, ¬(κ.val / 256 ≤ t ∧ t ≤ κ.val / 256 + 2) → ew X T h n κ = 0 := fun κ hk => by
    unfold ew wt
    rw [if_neg]
    unfold seen
    omega
  have f0 : ∀ (c : Fin 256) p, (⟨(t - 2) * 256 + c.val, p⟩ : Fin 8192) = κ0 c := fun c p => Fin.ext (e0 c).symm
  have f1 : ∀ (c : Fin 256) p, (⟨(t - 1) * 256 + c.val, p⟩ : Fin 8192) = κ1 c := fun c p => Fin.ext (e1 c).symm
  have f2 : ∀ (c : Fin 256) p, (⟨t * 256 + c.val, p⟩ : Fin 8192) = κ2 c := fun c p => Fin.ext (e2 c).symm
  unfold avg
  rw [sum_blocks t ht (ew X T h n) hz,
    sum_blocks t ht (fun κ => (ew X T h n κ : EReal) * ev V h κ d) (fun κ hk => by rw [hz κ hk, EReal.coe_zero, zero_mul])]
  simp only [f0, f1, f2, wt_and_mul]
  simp only [ew, wt_and]

/-- The grid's coordinate at a point. -/
theorem coord_val : ∀ t : Fin cfg0.N, ((grid0.coords t) 0).val = t.val := (by decide +kernel : ∀ t : Fin grid0.N, _)

/-- From which points on the first block counts. -/
theorem from2 : ∀ t : Fin 32, (Scalar.cmpi .sge (BitVec.ofNat 32 t.val) 2#32 = 1#1) ↔ 2 ≤ t.val := by decide +kernel

/-- From which points on the second block counts. -/
theorem from1 : ∀ t : Fin 32, (Scalar.cmpi .sge (BitVec.ofNat 32 t.val) 1#32 = 1#1) ↔ 1 ≤ t.val := by decide +kernel

/-- A head's block, at an index. -/
theorem hd_apply {e : EltTy} (A : Vec Ideal S16x256x128 e) (h : Fin 16) (u : Fin 1) (r : Fin 256) (d : Fin 128) :
    hd A h (ix3 u r d) = A (ix3 h r d) := by
  show A _ = _
  have hu := u.isLt
  refine congrArg A (funext fun a => Fin.ext ?_)
  match a with
  | ⟨0, _⟩ => show h.val + 1 * u.val = h.val; omega
  | ⟨1, _⟩ => show 0 + 1 * r.val = r.val; omega
  | ⟨2, _⟩ => show 0 + 1 * d.val = d.val; omega

variable (m : (ℓ : Loc nD τ sig) → Buf (Elt Ideal) ℓ) (c : Dev nD)
variable (hX : Reals X (m ((c : Thread nD τ).loc main_arg0))) (hV : ∀ i, m ((c : Thread nD τ).loc main_arg0) i = V i)
variable (hT : ∀ i, m ((c : Thread nD τ).loc main_arg1) i = ((T i : ℝ) : EReal))

include hX in
/-- The query block's element. -/
theorem el0 (t : Fin cfg0.N) (h : Fin 16) (u : Fin 1) (r : Fin 256) (d : Fin 128) (n : Fin 8192) (hn : n.val = t.val * 256 + r.val) :
    hd (iblk m c 0 t) h (ix3 u r d) = ((el X 0 (by omega) h n d : ℝ) : EReal) := by
  refine (hd_apply _ h u r d).trans ((blk0 m c t _).trans ((congrArg (m ((c : Thread nD τ).loc main_arg0)) (funext fun a => Fin.ext ?_)).trans (hX 0 (by omega) h n d)))
  match a with
  | ⟨0, _⟩ => show h.val = 16 * 0 + h.val; omega
  | ⟨1, _⟩ => exact hn.symm
  | ⟨2, _⟩ => rfl

include hX in
/-- The first key block's element. -/
theorem el1 (t : Fin cfg0.N) (h : Fin 16) (u : Fin 1) (r : Fin 256) (d : Fin 128) (n : Fin 8192) (hn : n.val = (t.val - 2) * 256 + r.val) :
    hd (iblk m c 1 t) h (ix3 u r d) = ((el X 1 (by omega) h n d : ℝ) : EReal) := by
  refine (hd_apply _ h u r d).trans ((blk1 m c t _).trans ((congrArg (m ((c : Thread nD τ).loc main_arg0)) (funext fun a => Fin.ext ?_)).trans (hX 1 (by omega) h n d)))
  match a with
  | ⟨0, _⟩ => show 16 + h.val = 16 * 1 + h.val; omega
  | ⟨1, _⟩ => exact hn.symm
  | ⟨2, _⟩ => rfl

include hX in
/-- The second key block's element. -/
theorem el2 (t : Fin cfg0.N) (h : Fin 16) (u : Fin 1) (r : Fin 256) (d : Fin 128) (n : Fin 8192) (hn : n.val = (t.val - 1) * 256 + r.val) :
    hd (iblk m c 2 t) h (ix3 u r d) = ((el X 1 (by omega) h n d : ℝ) : EReal) := by
  refine (hd_apply _ h u r d).trans ((blk2 m c t _).trans ((congrArg (m ((c : Thread nD τ).loc main_arg0)) (funext fun a => Fin.ext ?_)).trans (hX 1 (by omega) h n d)))
  match a with
  | ⟨0, _⟩ => show 16 + h.val = 16 * 1 + h.val; omega
  | ⟨1, _⟩ => exact hn.symm
  | ⟨2, _⟩ => rfl

include hX in
/-- The third key block's element. -/
theorem el3 (t : Fin cfg0.N) (h : Fin 16) (u : Fin 1) (r : Fin 256) (d : Fin 128) (n : Fin 8192) (hn : n.val = t.val * 256 + r.val) :
    hd (iblk m c 3 t) h (ix3 u r d) = ((el X 1 (by omega) h n d : ℝ) : EReal) := by
  refine (hd_apply _ h u r d).trans ((blk3 m c t _).trans ((congrArg (m ((c : Thread nD τ).loc main_arg0)) (funext fun a => Fin.ext ?_)).trans (hX 1 (by omega) h n d)))
  match a with
  | ⟨0, _⟩ => show 16 + h.val = 16 * 1 + h.val; omega
  | ⟨1, _⟩ => exact hn.symm
  | ⟨2, _⟩ => rfl

include hV in
/-- The first value block's element. -/
theorem el4 (t : Fin cfg0.N) (h : Fin 16) (u : Fin 1) (r : Fin 256) (d : Fin 128) (n : Fin 8192) (hn : n.val = (t.val - 2) * 256 + r.val) :
    hd (iblk m c 4 t) h (ix3 u r d) = ev V h n d := by
  refine (hd_apply _ h u r d).trans ((blk4 m c t _).trans ((hV _).trans (congrArg V (funext fun a => Fin.ext ?_))))
  match a with
  | ⟨0, _⟩ => rfl
  | ⟨1, _⟩ => exact hn.symm
  | ⟨2, _⟩ => rfl

include hV in
/-- The second value block's element. -/
theorem el5 (t : Fin cfg0.N) (h : Fin 16) (u : Fin 1) (r : Fin 256) (d : Fin 128) (n : Fin 8192) (hn : n.val = (t.val - 1) * 256 + r.val) :
    hd (iblk m c 5 t) h (ix3 u r d) = ev V h n d := by
  refine (hd_apply _ h u r d).trans ((blk5 m c t _).trans ((hV _).trans (congrArg V (funext fun a => Fin.ext ?_))))
  match a with
  | ⟨0, _⟩ => rfl
  | ⟨1, _⟩ => exact hn.symm
  | ⟨2, _⟩ => rfl

include hV in
/-- The third value block's element. -/
theorem el6 (t : Fin cfg0.N) (h : Fin 16) (u : Fin 1) (r : Fin 256) (d : Fin 128) (n : Fin 8192) (hn : n.val = t.val * 256 + r.val) :
    hd (iblk m c 6 t) h (ix3 u r d) = ev V h n d := by
  refine (hd_apply _ h u r d).trans ((blk6 m c t _).trans ((hV _).trans (congrArg V (funext fun a => Fin.ext ?_))))
  match a with
  | ⟨0, _⟩ => rfl
  | ⟨1, _⟩ => exact hn.symm
  | ⟨2, _⟩ => rfl

include hX hV hT in
/-- The kernel's heads, at an index. -/
theorem heads_apply (t : Fin cfg0.N) (h : Fin 16) (r : Fin 256) (d : Fin 128) (n : Fin 8192) (hn : n.val = t.val * 256 + r.val) :
    HEADS m c t (ix3 h r d) = avg X T V h n d := by
  have ht : t.val < 32 := Nat.lt_of_lt_of_eq t.isLt N_0
  have hB : BIAS m c = biasOf (rowsOf (m ((c : Thread nD τ).loc main_arg1))) := congrArg biasOf (blk7 m c t0)
  let κ0 : Fin 256 → Fin 8192 := fun k => ⟨(t.val - 2) * 256 + k.val, by have := k.isLt; omega⟩
  let κ1 : Fin 256 → Fin 8192 := fun k => ⟨(t.val - 1) * 256 + k.val, by have := k.isLt; omega⟩
  let κ2 : Fin 256 → Fin 8192 := fun k => ⟨t.val * 256 + k.val, by have := k.isLt; omega⟩
  have q := fun d => el0 X m c hX t h 0 r d n hn
  have b0 : 2 ≤ t.val → ∀ k, k0_pay15 (hd (iblk m c 0 t) h) (hd (iblk m c 1 t) h) (bcol (BIAS m c) h 0) (ix2 r k)
      = sc (seen n.val (κ0 k).val) (score X T h n (κ0 k) * (Real.log 2)⁻¹) := fun h2 k => by
    rw [hB]
    exact block_apply X T _ hT _ _ h 0 r k n (κ0 k) q (fun d => el1 X m c hX t h 0 k d (κ0 k) rfl) t.val hn (by
      show (t.val - 2) * 256 + k.val + 512 = (t.val + 0) * 256 + k.val; omega)
  have b1 : 1 ≤ t.val → ∀ k, k0_pay15 (hd (iblk m c 0 t) h) (hd (iblk m c 2 t) h) (bcol (BIAS m c) h 1) (ix2 r k)
      = sc (seen n.val (κ1 k).val) (score X T h n (κ1 k) * (Real.log 2)⁻¹) := fun h1 k => by
    rw [hB]
    exact block_apply X T _ hT _ _ h 1 r k n (κ1 k) q (fun d => el2 X m c hX t h 0 k d (κ1 k) rfl) t.val hn (by
      show (t.val - 1) * 256 + k.val + 512 = (t.val + 1) * 256 + k.val; omega)
  have b2 : ∀ k, k0_pay15 (hd (iblk m c 0 t) h) (hd (iblk m c 3 t) h) (bcol (BIAS m c) h 2) (ix2 r k)
      = sc (seen n.val (κ2 k).val) (score X T h n (κ2 k) * (Real.log 2)⁻¹) := fun k => by
    rw [hB]
    exact block_apply X T _ hT _ _ h 2 r k n (κ2 k) q (fun d => el3 X m c hX t h 0 k d (κ2 k) rfl) t.val hn (by
      show t.val * 256 + k.val + 512 = (t.val + 2) * 256 + k.val; omega)
  have i : inH (ix3 h r d) = ix3 0 r d := by
    funext a
    match a with
    | ⟨0, _⟩ => rfl
    | ⟨1, _⟩ => rfl
    | ⟨2, _⟩ => rfl
  unfold HEADS
  by_cases h2 : t.val < 2
  · rw [if_pos h2]
    unfold headsM
    rw [headM_eq, i, coord_val]
    refine head_avg X T V t.val ht h r d 0 _ _ _ _ _ _ n hn κ0 κ1 κ2 (fun _ => rfl) (fun _ => rfl) (fun _ => rfl) (fun k => ?_) (fun k => ?_) b2
      (fun k => el4 V m c hV t h 0 k d (κ0 k) rfl) (fun k => el5 V m c hV t h 0 k d (κ1 k) rfl) (fun k => el6 V m c hV t h 0 k d (κ2 k) rfl)
    · rw [pay3_eq, if_neg (fun e => (show ¬ 2 ≤ t.val by omega) ((from2 ⟨t.val, ht⟩).1 e))]
      unfold sc
      rw [if_neg (fun e => absurd e.1 (by omega))]
    · rw [pay4_eq]
      by_cases h1 : 1 ≤ t.val
      · rw [if_pos ((from1 ⟨t.val, ht⟩).2 h1)]
        exact (b1 h1 k).trans (sc_congr ⟨fun e => ⟨h1, e⟩, fun e => e.2⟩ rfl)
      · rw [if_neg (fun e => h1 ((from1 ⟨t.val, ht⟩).1 e))]
        unfold sc
        rw [if_neg (fun e => h1 e.1)]
  · rw [if_neg h2]
    unfold headsU
    rw [headU_eq, i]
    exact head_avg X T V t.val ht h r d 0 _ _ _ _ _ _ n hn κ0 κ1 κ2 (fun _ => rfl) (fun _ => rfl) (fun _ => rfl)
      (fun k => (b0 (by omega) k).trans (sc_congr ⟨fun e => ⟨by omega, e⟩, fun e => e.2⟩ rfl))
      (fun k => (b1 (by omega) k).trans (sc_congr ⟨fun e => ⟨by omega, e⟩, fun e => e.2⟩ rfl)) b2
      (fun k => el4 V m c hV t h 0 k d (κ0 k) rfl) (fun k => el5 V m c hV t h 0 k d (κ1 k) rfl) (fun k => el6 V m c hV t h 0 k d (κ2 k) rfl)

end Cert.Attn

end
-- ==== Proof.Attn.OutIdeal.lean ====
/- The kernel's result at an index: the averages times the reciprocal root mean square times the gain. -/
module

public import proofs.«01_k».proof.Proof.Attn.Head

@[expose] public section

set_option maxRecDepth 16384

noncomputable section

namespace Cert.Attn

open Idealize
open Idealize.ShloMosaic hiding ix1 ix2 ix3
open Idealize.ShloMosaic.TcCoe
open Idealize.ShloMosaic.ValueIdx
open Cert.KernelIdeal Cert.KernelIdeal.Gen

/-- The pattern of one over 2048. -/
theorem ofBits_inv2048 : Ideal.ofBits .f32 0x3A000000#32 = (((2048 : ℝ)⁻¹ : ℝ) : EReal) := by
  simp [Ideal.ofBits, Ideal.ieee]
  norm_num
  rw [← EReal.coe_mul]; congr 1; norm_num

/-- The pattern of plus zero. -/
theorem ofBits_pzero : Ideal.ofBits .f32 0x00000000#32 = ((0 : ℝ) : EReal) := by simp [Ideal.ofBits, Ideal.ieee]

/-- One row's sum of a block's columns, at its index. -/
theorem colsum_apply (s : FVec Ideal S256x128 .f32) (r : Fin 256) (u : Fin 1) :
    shapeCast S256x1 (multiReduction .add [1] S256 s 0x00000000#32 reduces_S256x128_S256 (.inl rfl) rfl) shapeCasts_S256_S256x1 (ix2 r u)
      = ∑ d : Fin 128, s (ix2 r d) := by
  have hu : u.val = 0 := by omega
  refine (shapeCast_apply _ shapeCasts_S256_S256x1 (ix2 r u) (ix1 r) (by
    rw [Shape.rowMajor_val_two, Shape.rowMajor_val_one]; show r.val = r.val * 1 + u.val; omega)).trans ?_
  refine (Ideal.multiReduction_add_single s _ reduces_S256x128_S256 _ _ (ix1 r)).trans ?_
  refine Finset.sum_congr rfl fun c _ => congrArg s (funext fun a => ?_)
  match a with
  | ⟨0, _⟩ => rfl
  | ⟨1, _⟩ => rfl

/-- The square of a head's element. -/
theorem sq_apply (v : Vec Ideal S1x256x128 .f32) (r : Fin 256) (d : Fin 128) (a : EReal) (h : v (ix3 0 r d) = a) :
    shapeCast S256x128 v shapeCasts_S1x256x128_S256x128 (ix2 r d) * shapeCast S256x128 v shapeCasts_S1x256x128_S256x128 (ix2 r d)
      = a * a := by
  rw [drop_apply, h]

/-- The sixteen heads' squares, added in order, at an index. -/
def sqs (v : Fin 16 → Vec Ideal S1x256x128 .f32) : FVec Ideal S256x128 .f32 :=
  addf (addf (k0_pay24 (k0_pay23 (v 0) (v 1) (v 2) (v 3) (v 4)) (v 5) (v 6) (v 7) (v 8) (v 9) (v 10) (v 11) (v 12) (v 13))
    (mulf (shapeCast S256x128 (v 14) shapeCasts_S1x256x128_S256x128) (shapeCast S256x128 (v 14) shapeCasts_S1x256x128_S256x128)))
    (mulf (shapeCast S256x128 (v 15) shapeCasts_S1x256x128_S256x128) (shapeCast S256x128 (v 15) shapeCasts_S1x256x128_S256x128))

/-- Their sum over the heads. -/
theorem sqs_apply (v : Fin 16 → Vec Ideal S1x256x128 .f32) (r : Fin 256) (d : Fin 128) (a : Fin 16 → EReal)
    (h : ∀ k, v k (ix3 0 r d) = a k) : sqs v (ix2 r d) = ∑ k, a k * a k := by
  have q := fun k => sq_apply (v k) r d (a k) (h k)
  have e : sqs v (ix2 r d) = ((((((((((((((((Ideal.ofBits .f32 0x00000000#32 + (a 0 * a 0)) + (a 1 * a 1))
      + (a 2 * a 2)) + (a 3 * a 3)) + (a 4 * a 4)) + (a 5 * a 5))
      + (a 6 * a 6)) + (a 7 * a 7)) + (a 8 * a 8)) + (a 9 * a 9))
      + (a 10 * a 10)) + (a 11 * a 11)) + (a 12 * a 12)) + (a 13 * a 13))
      + (a 14 * a 14)) + (a 15 * a 15)) := by
    simp only [← q]
    rfl
  rw [e, ofBits_pzero, EReal.coe_zero]
  simp only [Fin.sum_univ_castSucc, Fin.sum_univ_zero]
  rfl

/-- The reciprocal root mean square of a row. -/
theorem rsOf_apply (v : Fin 16 → Vec Ideal S1x256x128 .f32) (r : Fin 256) (u : Fin 1) (a : Fin 16 → Fin 128 → EReal)
    (h : ∀ k d, v k (ix3 0 r d) = a k d) :
    rsOf v (ix2 r u) = Ideal.rsqrt ((∑ k, ∑ d, a k d * a k d) * (((2048 : ℝ)⁻¹ : ℝ) : EReal) + Ideal.ofBits .f32 0x358637BD#32) := by
  have e : rsOf v (ix2 r u) = Ideal.rsqrt (shapeCast S256x1 (multiReduction .add [1] S256 (sqs v) 0x00000000#32 reduces_S256x128_S256 (.inl rfl) rfl) shapeCasts_S256_S256x1 (ix2 r u)
      * Ideal.ofBits .f32 0x3A000000#32 + Ideal.ofBits .f32 0x358637BD#32) := rfl
  rw [e, colsum_apply, ofBits_inv2048]
  have e2 : (∑ d : Fin 128, sqs v (ix2 r d)) = ∑ k, ∑ d, a k d * a k d := by
    rw [Finset.sum_comm]
    exact Finset.sum_congr rfl fun d _ => sqs_apply v r d (fun k => a k d) (fun k => h k d)
  rw [e2]

/-- A row of gains spread over the rows, at an index. -/
theorem spreadG_apply (v : FVec Ideal S1x128 .f32) (r : Fin 256) (d : Fin 128) :
    broadcastTo S256x128 v broadcasts_S1x128_S256x128 (ix2 r d) = v (ix2 0 d) := by
  refine broadcastTo_apply v _ _ _ fun a => ?_
  match a with
  | ⟨0, _⟩ => rfl
  | ⟨1, _⟩ => rfl

/-- A head's output, at an index. -/
theorem pay28_apply (rs : FVec Ideal S256x1 .f32) (v : Vec Ideal S1x256x128 .f32) (g : Vec Ideal S1x128 .f32) (r : Fin 256) (d : Fin 128) :
    k0_pay28 rs v g (ix2 r d) = ((v (ix3 0 r d) * rs (ix2 r 0)) * g (ix2 0 d) : EReal) := by
  show (shapeCast S256x128 v shapeCasts_S1x256x128_S256x128 (ix2 r d) * broadcastTo S256x128 rs broadcasts_S256x1_S256x128 (ix2 r d))
    * broadcastTo S256x128 (shapeCast S1x128 g shapeCasts_S1x128_S1x128) broadcasts_S1x128_S256x128 (ix2 r d) = _
  rw [drop_apply, spreadD_apply, spreadG_apply, shapeCast_self]

variable (X : S48x8448x128.Idx → ℝ) (T : S16x320.Idx → ℝ) (V : S48x8448x128.Idx → EReal)
variable (m : (ℓ : Loc nD τ sig) → Buf (Elt Ideal) ℓ) (c : Dev nD)
variable (hX : Reals X (m ((c : Thread nD τ).loc main_arg0))) (hV : ∀ i, m ((c : Thread nD τ).loc main_arg0) i = V i)
variable (hT : ∀ i, m ((c : Thread nD τ).loc main_arg1) i = ((T i : ℝ) : EReal))

/-- A head's gains, at an index. -/
theorem gain_apply (t : Fin cfg0.N) (q : Fin 2048) :
    gcol (iblk m c 8 t) ⟨q.val / 128, by omega⟩ (ix2 0 ⟨q.val % 128, Nat.mod_lt _ (Nat.succ_pos 127)⟩) = m ((c : Thread nD τ).loc main_arg2) (ix1 q) := by
  rw [blk8]
  show shapeCast S1x2048 _ shapeCasts_S2048_S1x2048 _ = _
  refine shapeCast_apply _ shapeCasts_S2048_S1x2048 _ (ix1 q) ?_
  rw [Shape.rowMajor_val_two, Shape.rowMajor_val_one]
  show q.val = (0 + 1 * 0) * 2048 + (128 * (q.val / 128) + 1 * (q.val % 128))
  omega

include hX hV hT in
/-- The kernel's result, at an index. -/
theorem G9_apply (n : Fin 8192) (q : Fin 2048) :
    G9 m c (ix2 n q) = ((avg X T V ⟨q.val / 128, by omega⟩ n ⟨q.val % 128, Nat.mod_lt _ (Nat.succ_pos 127)⟩ * rms X T V n)
      * m ((c : Thread nD τ).loc main_arg2) (ix1 q) : EReal) := by
  have hn : n.val = (ptOf n).val * 256 + n.val % 256 := by show n.val = n.val / 256 * 256 + n.val % 256; omega
  have hh : ∀ k d, hd (HEADS m c (ptOf n)) k (ix3 0 ⟨n.val % 256, Nat.mod_lt _ (Nat.succ_pos 255)⟩ d) = avg X T V k n d := fun k d =>
    (hd_apply _ k 0 _ d).trans (heads_apply X T V m c hX hV hT (ptOf n) k _ d n hn)
  have e : G9 m c (ix2 n q)
      = k0_pay28 (rsOf (hd (HEADS m c (ptOf n)))) (hd (HEADS m c (ptOf n)) ⟨q.val / 128, by omega⟩) (gcol (iblk m c 8 (ptOf n)) ⟨q.val / 128, by omega⟩)
        (ix2 ⟨n.val % 256, Nat.mod_lt _ (Nat.succ_pos 255)⟩ ⟨q.val % 128, Nat.mod_lt _ (Nat.succ_pos 127)⟩) := by
    unfold G9 OUT outOf outV
    refine congrArg _ (funext fun a => ?_)
    match a with
    | ⟨0, _⟩ => rfl
    | ⟨1, _⟩ => rfl
  rw [e]
  rw [pay28_apply, hh, gain_apply, rsOf_apply _ _ _ _ hh]
  rfl

end Cert.Attn

end
-- ==== Proof.Attn.RefA.lean ====
/- The reference's integer and layout operations, at an index. -/
module

public import proofs.«01_k».proof.Proof.Gen.ReferenceIdeal.Read
public import proofs.«01_k».proof.Proof.Attn.Spec
public import proofs.«01_k».proof.Proof.Attn.Soft
public import Idealize.ShloMosaic.Lib.KernelVsHost

@[expose] public section

set_option maxRecDepth 16384

noncomputable section

namespace Cert.Attn

open Idealize
open Idealize.ShloMosaic hiding ix1 ix2 ix3
open Idealize.ShloMosaic.ValueIdx
open Cert.ReferenceIdeal Cert.ReferenceIdeal.Gen Cert.ReferenceIdeal.Read

/-- The signed greater of two words, as an integer. -/
theorem max_toInt (x y : BitVec 32) : (IntOp.maxsi x y).toInt = max x.toInt y.toInt := by
  unfold IntOp.maxsi
  split <;> rename_i h <;> simp only [BitVec.slt, decide_eq_true_eq] at h <;> omega

/-- The signed smaller of two words, as an integer. -/
theorem min_toInt (x y : BitVec 32) : (IntOp.minsi x y).toInt = min x.toInt y.toInt := by
  unfold IntOp.minsi
  split <;> rename_i h <;> simp only [BitVec.slt, decide_eq_true_eq] at h <;> omega

/-- A small natural number's word, as an integer. -/
theorem small_toInt (n : ℕ) (h : n < 8192) : (BitVec.ofNat 32 n).toInt = n := by
  rw [BitVec.toInt_ofNat']
  unfold Int.bmod
  norm_num
  split <;> omega

/-- The difference of two small words, as an integer. -/
theorem sub_toInt (n k : ℕ) (hn : n < 8192) (hk : k < 8192) :
    (IntOp.subi (BitVec.ofNat 32 n) (BitVec.ofNat 32 k)).toInt = (n : ℤ) - k := by
  show (BitVec.ofNat 32 n - BitVec.ofNat 32 k).toInt = _
  rw [BitVec.toInt_sub, small_toInt n hn, small_toInt k hk]
  unfold Int.bmod
  norm_num
  split <;> omega

/-- A small sum of words, as an integer. -/
theorem add63_toInt (x : BitVec 32) (h0 : -63 ≤ x.toInt) (h1 : x.toInt ≤ 256) : (IntOp.addi x 63#32).toInt = x.toInt + 63 := by
  show (x + 63#32).toInt = _
  rw [BitVec.toInt_add]
  have : (63#32).toInt = 63 := by decide
  rw [this]
  unfold Int.bmod
  norm_num
  split <;> omega

/-- The table's column from the clipped distance of query and key. -/
theorem col_word (n k : ℕ) (hn : n < 8192) (hk : k < 8192) :
    (Scalar.select
      (IntOp.cmpi .slt (IntOp.addi (IntOp.minsi 256#32 (IntOp.maxsi 4294967233#32 (IntOp.subi (BitVec.ofNat 32 n) (BitVec.ofNat 32 k)))) 63#32) 0#32)
      (IntOp.addi (IntOp.addi (IntOp.minsi 256#32 (IntOp.maxsi 4294967233#32 (IntOp.subi (BitVec.ofNat 32 n) (BitVec.ofNat 32 k)))) 63#32) 320#32)
      (IntOp.addi (IntOp.minsi 256#32 (IntOp.maxsi 4294967233#32 (IntOp.subi (BitVec.ofNat 32 n) (BitVec.ofNat 32 k)))) 63#32)).toInt.toNat
      = tix n k := by
  have h1 := sub_toInt n k hn hk
  generalize IntOp.subi (BitVec.ofNat 32 n) (BitVec.ofNat 32 k) = d at h1 ⊢
  have hc : (4294967233#32).toInt = -63 := by decide
  have hc' : (256#32).toInt = 256 := by decide
  have h2 : (IntOp.minsi 256#32 (IntOp.maxsi 4294967233#32 d)).toInt = min 256 (max (-63) ((n : ℤ) - k)) := by
    rw [min_toInt, max_toInt, hc, hc', h1]
  generalize IntOp.minsi 256#32 (IntOp.maxsi 4294967233#32 d) = e at h2 ⊢
  have h3 := add63_toInt e (by omega) (by omega)
  generalize IntOp.addi e 63#32 = f at h3 ⊢
  have h4 : IntOp.cmpi .slt f 0#32 = 0#1 := by
    show BitVec.ofBool (f.slt 0#32) = 0#1
    have : f.slt 0#32 = false := by
      simp only [BitVec.slt, decide_eq_false_iff_not]
      have : (0#32).toInt = 0 := by decide
      omega
    rw [this]; rfl
  rw [h4]
  show f.toInt.toNat = _
  unfold tix
  omega

/-- A small word over 64. -/
theorem div_word (n : Fin 8192) : IntOp.divsi .host (BitVec.ofNat 32 n.val) 64#32 = BitVec.ofNat 32 (n.val / 64) := by
  unfold IntOp.divsi
  rw [if_neg (by
    unfold IntOp.SDivCorner
    rintro (h | ⟨_, h⟩)
    · exact absurd h (by decide)
    · exact absurd h (by decide))]
  revert n
  decide +kernel

/-- The band's bit from two blocks' numbers. -/
theorem band_word : ∀ a b : Fin 128,
    IntOp.andi (IntOp.cmpi .sge (IntOp.subi (BitVec.ofNat 32 a.val) (BitVec.ofNat 32 b.val)) 0#32)
      (IntOp.cmpi .sle (IntOp.subi (BitVec.ofNat 32 a.val) (BitVec.ofNat 32 b.val)) 8#32)
      = if b.val ≤ a.val ∧ a.val ≤ b.val + 8 then 1#1 else 0#1 := by
  decide +kernel

/-- The reference's table column, at a query and a key. -/
theorem v18_apply (n k : Fin 8192) (u : Fin 1) :
    (val_main_v18 (F := Ideal) (ix3 n k u)).toInt.toNat = tix n.val k.val := by
  rw [← col_word n.val k.val n.isLt k.isLt]
  simp only [val_main_v18_apply, val_main_v17_apply, val_main_v16_apply, val_main_v15_apply, val_main_v14_apply, val_main_v13_apply,
    val_main_v12_apply, val_main_v11_apply, val_main_v10_apply, val_main_call0_v4_apply, val_main_call0_v3_apply,
    val_main_call0_v2_apply, val_main_call0_v1_apply, val_main_call0_v0_apply, val_main_v9_apply, val_main_v8_apply, val_main_v7_apply,
    val_main_v6_apply, val_main_v5_apply, val_main_v4_apply, val_main_c_apply, val_main_c_0_apply, val_main_c_1_apply, val_main_c_2_apply,
    val_main_c_3_apply]

/-- The reference's band, at a query and a key. -/
theorem v31_apply (n k : Fin 8192) :
    val_main_v31 (F := Ideal) (ix2 n k) = if seen n.val k.val then 1#1 else 0#1 := by
  have h := band_word ⟨n.val / 64, by omega⟩ ⟨k.val / 64, by omega⟩
  simp only [val_main_v31_apply, val_main_v30_apply, val_main_v29_apply, val_main_v28_apply, val_main_v27_apply, val_main_v26_apply,
    val_main_v25_apply, val_main_v24_apply, val_main_v23_apply, val_main_v22_apply, val_main_v21_apply, val_main_v20_apply,
    val_main_v4_apply, val_main_c_4_apply, val_main_c_5_apply, val_main_c_6_apply]
  have ha := div_word n
  have hb := div_word k
  refine (congrArg₂ (fun a b => IntOp.andi (IntOp.cmpi .sge (IntOp.subi a b) 0#32) (IntOp.cmpi .sle (IntOp.subi a b) 8#32)) ha hb).trans ?_
  exact h

/-- The gather of the table's columns, at an index. -/
theorem gather_apply (x : S16x320.Idx → EReal) (idx : IVec S8192x8192x1 32) (h : Fin 16) (n k : Fin 8192) :
    Host.gather gather_S16x320_S8192x8192x1_S16x8192x8192_0_1_n_n_1_2_161 x idx (ix3 h n k)
      = x (ix2 h ⟨min (idx (ix3 n k 0)).toInt.toNat 319, by omega⟩) := by
  unfold Host.gather
  congr 1
  funext a
  refine Fin.ext ?_
  match a with
  | ⟨0, _⟩ =>
    show gather_S16x320_S8192x8192x1_S16x8192x8192_0_1_n_n_1_2_161.start (ix3 h n k) idx 0
      + gather_S16x320_S8192x8192x1_S16x8192x8192_0_1_n_n_1_2_161.batchCoord (ix3 h n k) 0
      + gather_S16x320_S8192x8192x1_S16x8192x8192_0_1_n_n_1_2_161.offCoord (ix3 h n k) 0 = _
    rw [GatherDims.batchCoord_eq_zero _ _ _ List.not_mem_nil]
    unfold GatherDims.start
    rw [dif_neg (show ¬ (0 : Fin 2) ∈ gather_S16x320_S8192x8192x1_S16x8192x8192_0_1_n_n_1_2_161.startIndexMap from (by decide : ¬ (0 : Fin 2) ∈ [(1 : Fin 2)]))]
    simp only [Nat.add_zero, Nat.zero_add]
    rfl
  | ⟨1, _⟩ =>
    show gather_S16x320_S8192x8192x1_S16x8192x8192_0_1_n_n_1_2_161.start (ix3 h n k) idx 1
      + gather_S16x320_S8192x8192x1_S16x8192x8192_0_1_n_n_1_2_161.batchCoord (ix3 h n k) 1
      + gather_S16x320_S8192x8192x1_S16x8192x8192_0_1_n_n_1_2_161.offCoord (ix3 h n k) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16x320_S8192x8192x1_S16x8192x8192_0_1_n_n_1_2_161.startIndexMap from List.mem_singleton.mpr rfl)]
    have hsi : gather_S16x320_S8192x8192x1_S16x8192x8192_0_1_n_n_1_2_161.siIdx (ix3 h n k)
        ⟨List.idxOf (1 : Fin 2) gather_S16x320_S8192x8192x1_S16x8192x8192_0_1_n_n_1_2_161.startIndexMap,
          List.idxOf_lt_length_iff.2 (List.mem_singleton.mpr rfl)⟩ = ix3 n k 0 := by
      funext b; refine Fin.ext ?_
      match b with
      | ⟨0, _⟩ => rfl
      | ⟨1, _⟩ => rfl
      | ⟨2, _⟩ => rfl
    rw [hsi]
    rfl

/-- The indices the sum of squares runs over: a column and a head. -/
def sqEquiv : dot_S8192x16x128_S8192x16x128_S8192_21_21_n_n_0_0.contr.Idx ≃ Fin 128 × Fin 16 where
  toFun k := (⟨(k (0 : Fin 2)).val, (k (0 : Fin 2)).isLt⟩, ⟨(k (1 : Fin 2)).val, (k (1 : Fin 2)).isLt⟩)
  invFun p := fun a => match a with
    | ⟨0, _⟩ => ⟨p.1.val, p.1.isLt⟩
    | ⟨1, _⟩ => ⟨p.2.val, p.2.isLt⟩
  left_inv k := by
    funext a
    match a with
    | ⟨0, _⟩ => rfl
    | ⟨1, _⟩ => rfl
  right_inv p := rfl

/-- The sum of squares over heads and depth, at a position. -/
theorem dot2_apply (x : FVec Ideal S8192x16x128 .f32) (n : Fin 8192) :
    Host.dotGeneral dot_S8192x16x128_S8192x16x128_S8192_21_21_n_n_0_0 none x x (ix1 n)
      = ∑ d : Fin 128, ∑ h : Fin 16, x (ix3 n h d) * x (ix3 n h d) := by
  refine (Ideal.dotGeneral_apply _ _ _ _ _ _).trans ?_
  rw [← Equiv.sum_comp sqEquiv.symm, Fintype.sum_prod_type]
  refine Finset.sum_congr rfl fun d _ => Finset.sum_congr rfl fun h _ => ?_
  refine congrArg₂ (fun a b : EReal => a * b) (congrArg x (funext fun a => ?_)) (congrArg x (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- A row's greatest score, at its index. -/
theorem rmax_apply (x : FVec Ideal S16x8192x8192 .f32) (h : Fin 16) (n : Fin 8192) :
    Host.reduce FloatOps.maximumf x (constant (F := Ideal) S_ .f32 0xFF800000#32) reducesTo_S16x8192x8192_S16x8192_d2 h_S_ (ix2 h n)
      = (Finset.univ : Finset (Fin 8192)).fold max ⊥ (fun k => x (ix3 h n k)) := by
  have hr : S16x8192x8192.Reduces [2] S16x8192 := by decide
  refine (congrFun (hostReduce_maximumf_eq_multiReduction x 0xFF800000#32 reducesTo_S16x8192x8192_S16x8192_d2 h_S_ hr (.inl rfl) rfl) _).trans ?_
  refine (Ideal.multiReduction_maximumf_single x _ hr _ _ (ix2 h n)).trans ?_
  show Finset.fold max (Ideal.ofBits .f32 0xFF800000#32) _ _ = _
  rw [ofBits_ninf]
  refine congrArg (fun f => Finset.fold max ⊥ f Finset.univ) (funext fun c => congrArg x (funext fun a => ?_))
  match a with
  | ⟨0, _⟩ => rfl
  | ⟨1, _⟩ => rfl
  | ⟨2, _⟩ => rfl

end Cert.Attn

end
-- ==== Proof.Attn.RefB.lean ====
/- The reference at an index: the attention over the real arrays, its rows divided by their root mean square. -/
module

public import proofs.«01_k».proof.Proof.Attn.RefA

@[expose] public section

set_option maxRecDepth 16384

noncomputable section

namespace Cert.Attn

open Idealize
open Idealize.ShloMosaic hiding ix1 ix2 ix3
open Idealize.ShloMosaic.ValueIdx
open Cert.ReferenceIdeal Cert.ReferenceIdeal.Gen Cert.ReferenceIdeal.Read

/-- The scale's pattern. -/
theorem ofBits_scl : Ideal.ofBits .f32 0x3DB504F3#32 = ((scl : ℝ) : EReal) := by
  simp [Ideal.ofBits, Ideal.ieee, scl]
  norm_num
  rw [← EReal.coe_mul]; congr 1; norm_num

/-- The pattern of 2048. -/
theorem ofBits_2048 : Ideal.ofBits .f32 0x45000000#32 = ((2048 : ℝ) : EReal) := by
  simp [Ideal.ofBits, Ideal.ieee]
  norm_num
  rw [← EReal.coe_mul]; congr 1; norm_num

/-- The pattern of zero. -/
theorem ofBits_zero : Ideal.ofBits .f32 0x00000000#32 = 0 := by simp [Ideal.ofBits, Ideal.ieee]

variable (x0 : FVec Ideal S48x8448x128 .bf16) (x1 : FVec Ideal S16x320 .f32) (x2 : FVec Ideal S2048 .f32)
variable (X : S48x8448x128.Idx → ℝ) (T : S16x320.Idx → ℝ) (V : S48x8448x128.Idx → EReal)
variable (hX : Reals X x0) (hV : ∀ i, x0 i = V i) (hT : ∀ i, x1 i = ((T i : ℝ) : EReal))

include hX in
/-- A query's element. -/
theorem v1_apply (h : Fin 16) (n : Fin 8192) (d : Fin 128) :
    val_main_v1 (F := Ideal) x0 (ix3 h n d) = ((el X 0 (by omega) h n d : ℝ) : EReal) := by
  rw [val_main_v1_apply, val_main_v0_apply]
  refine (congrArg x0 (funext fun a => Fin.ext ?_)).trans (hX 0 (by omega) h n d)
  match a with
  | ⟨0, _⟩ => show h.val = 16 * 0 + h.val; omega
  | ⟨1, _⟩ => rfl
  | ⟨2, _⟩ => rfl

include hX in
/-- A key's element. -/
theorem v2_apply (h : Fin 16) (n : Fin 8192) (d : Fin 128) :
    val_main_v2 (F := Ideal) x0 (ix3 h n d) = ((el X 1 (by omega) h n d : ℝ) : EReal) := by
  rw [val_main_v2_apply, val_main_v0_apply]
  refine (congrArg x0 (funext fun a => Fin.ext ?_)).trans (hX 1 (by omega) h n d)
  match a with
  | ⟨0, _⟩ => show 16 + h.val = 16 * 1 + h.val; omega
  | ⟨1, _⟩ => rfl
  | ⟨2, _⟩ => rfl

include hV in
/-- A value's element. -/
theorem v3_apply (h : Fin 16) (n : Fin 8192) (d : Fin 128) :
    val_main_v3 (F := Ideal) x0 (ix3 h n d) = ev V h n d := by
  rw [val_main_v3_apply, val_main_v0_apply]
  refine (hV _).trans (congrArg V (funext fun a => Fin.ext ?_))
  match a with
  | ⟨0, _⟩ => rfl
  | ⟨1, _⟩ => rfl
  | ⟨2, _⟩ => rfl

include hT in
/-- The bias of a query and a key. -/
theorem v19_apply (h : Fin 16) (n k : Fin 8192) :
    val_main_v19 (F := Ideal) x1 (ix3 h n k) = ((T (ixT h.val (tix n.val k.val) h.isLt (tix_lt _ _)) : ℝ) : EReal) := by
  unfold val_main_v19
  refine (gather_apply x1 _ h n k).trans ((hT _).trans (congrArg (fun i => ((T i : ℝ) : EReal)) (funext fun a => Fin.ext ?_)))
  match a with
  | ⟨0, _⟩ => rfl
  | ⟨1, _⟩ =>
    show min (val_main_v18 (F := Ideal) (ix3 n k 0)).toInt.toNat 319 = tix n.val k.val
    rw [v18_apply]
    have := tix_lt n.val k.val
    omega

include hX in
/-- The product of a query and a key, scaled. -/
theorem v34_apply (h : Fin 16) (n k : Fin 8192) :
    val_main_v34 (F := Ideal) x0 (ix3 h n k)
      = ((scl * (∑ d : Fin 128, el X 0 (by omega) h n d * el X 1 (by omega) h k d) : ℝ) : EReal) := by
  have e1 : val_main_v32 (F := Ideal) x0 (ix3 h n k)
      = ((∑ d : Fin 128, el X 0 (by omega) h n d * el X 1 (by omega) h k d : ℝ) : EReal) := by
    rw [val_main_v32_apply, ← coe_sum_mul]
    refine Finset.sum_congr rfl fun d _ => ?_
    refine congrArg₂ (fun a b : EReal => a * b) ((congrArg _ (funext fun a => ?_)).trans (v1_apply x0 X hX h n d))
      ((congrArg _ (funext fun a => ?_)).trans (v2_apply x0 X hX h k d))
    · match a with
      | ⟨0, _⟩ => rfl
      | ⟨1, _⟩ => rfl
      | ⟨2, _⟩ => rfl
    · match a with
      | ⟨0, _⟩ => rfl
      | ⟨1, _⟩ => rfl
      | ⟨2, _⟩ => rfl
  have e2 : val_main_v33 (F := Ideal) (ix3 h n k) = ((scl : ℝ) : EReal) := by
    rw [val_main_v33_apply, val_main_cst_apply]; exact ofBits_scl
  rw [val_main_v34_apply]
  refine (congrArg₂ (fun a b : EReal => a * b) e1 e2).trans ?_
  show _ * _ = _
  rw [← EReal.coe_mul, mul_comm]

include hX hT in
/-- The masked score of a query and a key. -/
theorem v36_apply (h : Fin 16) (n k : Fin 8192) :
    val_main_v36 (F := Ideal) x0 x1 (ix3 h n k) = sc (seen n.val k.val) (score X T h n k) := by
  have e1 : val_main_call1_v1 (F := Ideal) (ix3 h n k) = if seen n.val k.val then 1#1 else 0#1 := by
    rw [val_main_call1_v1_apply, ← v31_apply]
    refine congrArg _ (funext fun a => ?_)
    match a with
    | ⟨0, _⟩ => rfl
    | ⟨1, _⟩ => rfl
  have e2 : val_main_call1_v2 (F := Ideal) (ix3 h n k) = (⊥ : EReal) := by
    rw [val_main_call1_v2_apply, val_main_call1_v0_apply, val_main_cst_7_apply]; exact ofBits_ninf
  have e3 : val_main_v35 (F := Ideal) x0 x1 (ix3 h n k) = ((score X T h n k : ℝ) : EReal) := by
    rw [val_main_v35_apply]
    refine (congrArg₂ (fun a b : EReal => a + b) (v34_apply x0 X hX h n k) (v19_apply x1 T hT h n k)).trans ?_
    show _ + _ = _
    rw [← EReal.coe_add]; rfl
  rw [val_main_v36_apply, e1, e2, e3]
  unfold sc
  by_cases hs : seen n.val k.val
  · rw [if_pos hs, if_pos hs]; rfl
  · rw [if_neg hs, if_neg hs]; rfl

include hX hT in
/-- A row's greatest score is a real. -/
theorem v39_real (h : Fin 16) (n : Fin 8192) : ∃ μ : ℝ, val_main_v39 (F := Ideal) x0 x1 (ix2 h n) = ((μ : ℝ) : EReal) := by
  have e1 : val_main_v38 (F := Ideal) (ix2 h n) = (⊥ : EReal) := by
    rw [val_main_v38_apply, val_main_cst_9_apply]; exact ofBits_ninf
  have e2 : val_main_v37 (F := Ideal) x0 x1 (ix2 h n)
      = (Finset.univ : Finset (Fin 8192)).fold max ⊥ (fun k => sc (seen n.val k.val) (score X T h n k)) := by
    unfold val_main_v37
    refine (rmax_apply _ h n).trans ?_
    exact congrArg (fun f => Finset.fold max ⊥ f Finset.univ) (funext fun k => v36_apply x0 x1 X T hX hT h n k)
  obtain ⟨μ, hμ⟩ := fold_real (Finset.univ : Finset (Fin 8192)) (fun k => sc (seen n.val k.val) (score X T h n k))
    (fun k => sc_ne_top _ _) n (Finset.mem_univ _) (by
      unfold sc; rw [if_pos (show seen n.val n.val from ⟨le_rfl, Nat.le_add_right _ _⟩)]; exact EReal.coe_ne_bot _)
  refine ⟨μ, ?_⟩
  rw [val_main_v39_apply, e1, e2, hμ]
  exact max_eq_right bot_le

include hX hV hT in
/-- An average of a query. -/
theorem v48_apply (h : Fin 16) (n : Fin 8192) (d : Fin 128) :
    val_main_v48 (F := Ideal) x0 x1 (ix3 h d n) = avg X T V h n d := by
  obtain ⟨μ, hμ⟩ := v39_real x0 x1 X T hX hT h n
  have e1 : ∀ k : Fin 8192, val_main_v43 (F := Ideal) x0 x1 (ix3 h n k) = ((ew X T h n k * Real.exp (-μ) : ℝ) : EReal) := fun k => by
    have e : val_main_v41 (F := Ideal) x0 x1 (ix3 h n k) = ((μ : ℝ) : EReal) := by
      rw [val_main_v41_apply, val_main_v40_apply, ← hμ]
      refine congrArg _ (funext fun a => ?_)
      match a with
      | ⟨0, _⟩ => rfl
      | ⟨1, _⟩ => rfl
    rw [val_main_v43_apply, val_main_v42_apply, e, v36_apply x0 x1 X T hX hT]
    exact exp_sc _ _ _
  have e2 : val_main_v44 (F := Ideal) x0 x1 (ix2 h n) = ∑ k : Fin 8192, ((ew X T h n k * Real.exp (-μ) : ℝ) : EReal) := by
    rw [val_main_v44_apply, val_main_cst_10_apply]
    refine (congrArg₂ (fun a b : EReal => a + b) ofBits_zero (Finset.sum_congr rfl fun k _ => (congrArg _ (funext fun a => ?_)).trans (e1 k))).trans (zero_add _)
    match a with
    | ⟨0, _⟩ => rfl
    | ⟨1, _⟩ => rfl
    | ⟨2, _⟩ => rfl
  have e3 : ∀ k : Fin 8192, val_main_v47 (F := Ideal) x0 x1 (ix3 h n k)
      = Ideal.div ((ew X T h n k * Real.exp (-μ) : ℝ) : EReal) (∑ k : Fin 8192, ((ew X T h n k * Real.exp (-μ) : ℝ) : EReal)) := fun k => by
    rw [val_main_v47_apply, val_main_v46_apply, val_main_v45_apply]
    refine congrArg₂ Ideal.div (e1 k) ((congrArg _ (funext fun a => ?_)).trans e2)
    match a with
    | ⟨0, _⟩ => rfl
    | ⟨1, _⟩ => rfl
  rw [val_main_v48_apply]
  refine Eq.trans (Finset.sum_congr rfl fun k _ => ?_)
    (avg_plain (ew X T h n) (fun k => ev V h k d) (Real.exp (-μ)) (Real.exp_pos _).ne' (ew_pos X T h n))
  refine congrArg₂ (fun a b : EReal => a * b) ((congrArg _ (funext fun a => ?_)).trans (v3_apply x0 V hV h k d))
    ((congrArg _ (funext fun a => ?_)).trans (e3 k))
  · match a with
    | ⟨0, _⟩ => rfl
    | ⟨1, _⟩ => rfl
    | ⟨2, _⟩ => rfl
  · match a with
    | ⟨0, _⟩ => rfl
    | ⟨1, _⟩ => rfl
    | ⟨2, _⟩ => rfl

include hX hV hT in
/-- The averages with the position first. -/
theorem v49_apply (h : Fin 16) (n : Fin 8192) (d : Fin 128) :
    val_main_v49 (F := Ideal) x0 x1 (ix3 n h d) = avg X T V h n d := by
  rw [val_main_v49_apply, ← v48_apply x0 x1 X T V hX hV hT]
  refine congrArg _ (funext fun a => ?_)
  match a with
  | ⟨0, _⟩ => rfl
  | ⟨1, _⟩ => rfl
  | ⟨2, _⟩ => rfl

include hX hV hT in
/-- The reciprocal root of a position's mean square. -/
theorem v57_apply (n : Fin 8192) (u : Fin 1) : val_main_v57 (F := Ideal) x0 x1 (ix2 n u) = rms X T V n := by
  have e1 : val_main_v50 (F := Ideal) x0 x1 (ix1 n) = ∑ h : Fin 16, ∑ d : Fin 128, avg X T V h n d * avg X T V h n d := by
    unfold val_main_v50
    refine (dot2_apply _ n).trans ?_
    simp only [v49_apply x0 x1 X T V hX hV hT]
    rw [Finset.sum_comm]
  have e2 : val_main_v51 (F := Ideal) x0 x1 (ix2 n u) = ∑ h : Fin 16, ∑ d : Fin 128, avg X T V h n d * avg X T V h n d := by
    rw [val_main_v51_apply, ← e1]
    refine congrArg _ (funext fun a => ?_)
    match a with
    | ⟨0, _⟩ => rfl
  have e3 : val_main_v52 (F := Ideal) (ix2 n u) = ((2048 : ℝ) : EReal) := by
    rw [val_main_v52_apply, val_main_cst_11_apply]; exact ofBits_2048
  have e4 : val_main_v53 (F := Ideal) x0 x1 (ix2 n u) = msq X T V n := by
    rw [val_main_v53_apply]
    exact (congrArg₂ Ideal.div e2 e3).trans (div_real _ _ (by norm_num))
  have e5 : val_main_v55 (F := Ideal) (ix2 n u) = Ideal.ofBits .f32 0x358637BD#32 := by
    rw [val_main_v55_apply, val_main_cst_12_apply]; rfl
  rw [val_main_v57_apply, val_main_v56_apply, e4, e5]
  rfl

include hX hV hT in
/-- The reference's result at an index. -/
theorem v63_apply (n : Fin 8192) (q : Fin 2048) :
    val_main_v63 (F := Ideal) x0 x1 x2 (ix2 n q)
      = ((avg X T V ⟨q.val / 128, by omega⟩ n ⟨q.val % 128, by omega⟩ * rms X T V n) * x2 (ix1 q) : EReal) := by
  have e1 : val_main_v54 (F := Ideal) x0 x1 (ix2 n q) = avg X T V ⟨q.val / 128, by omega⟩ n ⟨q.val % 128, by omega⟩ := by
    rw [val_main_v54_apply, ← v49_apply x0 x1 X T V hX hV hT]
    refine congrArg _ (funext fun a => Fin.ext ?_)
    have hq := q.isLt
    have hn := n.isLt
    match a with
    | ⟨0, _⟩ => show (n.val * 2048 + q.val) / 2048 = n.val; omega
    | ⟨1, _⟩ => show (n.val * 2048 + q.val) / 128 % 16 = q.val / 128; omega
    | ⟨2, _⟩ => show (n.val * 2048 + q.val) % 128 = q.val % 128; omega
  have e2 : val_main_v58 (F := Ideal) x0 x1 (ix2 n q) = rms X T V n := by
    rw [val_main_v58_apply, ← v57_apply x0 x1 X T V hX hV hT n 0]
    refine congrArg _ (funext fun a => ?_)
    match a with
    | ⟨0, _⟩ => rfl
    | ⟨1, _⟩ => rfl
  have e3 : val_main_v61 (F := Ideal) x2 (ix2 n q) = x2 (ix1 q) := by
    rw [val_main_v61_apply, val_main_v60_apply]
    refine congrArg _ (funext fun a => ?_)
    match a with
    | ⟨0, _⟩ => rfl
  rw [val_main_v63_apply, val_main_v62_apply, val_main_v59_apply, e1, e2, e3]
  rfl

end Cert.Attn

end
-- ==== Proof.Attn.Main.lean ====
/- The two programs' values: under the precondition the arrays hold reals, and the kernel's result is the reference's. -/
module

public import proofs.«01_k».proof.Defs
public import proofs.«01_k».proof.Proof.Gen.Pre_finite
public import proofs.«01_k».proof.Proof.Attn.OutIdeal
public import proofs.«01_k».proof.Proof.Attn.RefB
public import Idealize.ShloMosaic.Lib.ReduceAll

@[expose] public section

set_option maxRecDepth 16384

noncomputable section

namespace Cert.Attn

open Idealize
open Idealize.ShloMosaic hiding ix1 ix2 ix3
open Idealize.ShloMosaic.TcCoe
open Idealize.ShloMosaic.ValueIdx
open Cert.KernelIdeal Cert.KernelIdeal.Gen

/-- The pattern of plus infinity. -/
theorem ofBits_top : Ideal.ofBits .f32 0x7F800000#32 = ⊤ := by simp [Ideal.ofBits, Ideal.ieee]

/-- A value whose magnitude compares below plus infinity is a real. -/
theorem real_of_olt (x : EReal) (h : Ideal.cmp .olt (max x (-x)) (Ideal.ofBits .f32 0x7F800000#32) = 1#1) :
    x = ((x.toReal : ℝ) : EReal) := by
  rw [ofBits_top] at h
  unfold Ideal.cmp at h
  have hlt : max x (-x) < ⊤ := by
    by_contra hn
    simp [hn] at h
  obtain ⟨h1, h2⟩ := max_lt_iff.1 hlt
  refine (EReal.coe_toReal h1.ne ?_).symm
  rintro rfl
  simp at h2

/-- Under the precondition the queries and keys are reals, -/
theorem pre_x (x0 : FVec Ideal Cert.Pre_finite.S48x8448x128 .bf16) (x1 : FVec Ideal Cert.Pre_finite.S16x320 .f32)
    (x2 : FVec Ideal Cert.Pre_finite.S2048 .f32) (h : Cert.Pre_finite.fn (F := Ideal) x0 x1 x2 = fun _ => 1#1) :
    Reals (fun i => (x0 i : EReal).toReal) x0 := fun p hp g n d => by
  have h1 := (IntOp.andi_eq_one.1 (congrFun h (fun a => a.elim0))).1
  have h2 := real_of_olt _ (Host.reduce_andi_all _ _ _ _ _ h1 (ix3 ⟨16 * p + g.val, by omega⟩ n d))
  have e : x0 (ixQ (16 * p + g.val) n.val d.val (by omega) (by omega) d.isLt)
      = extractStridedSlice Cert.Pre_finite.S32x8192x128 ![0, 0, 0] x0 Cert.Pre_finite.Facts.slices_S48x8448x128_S32x8192x128_0_0_0 (ix3 ⟨16 * p + g.val, by omega⟩ n d) :=
    (extractStridedSlice_apply _ x0 _ (ix3 ⟨16 * p + g.val, by omega⟩ n d) (ixQ (16 * p + g.val) n.val d.val (by omega) (by omega) d.isLt) (fun a => by
      match a with
      | ⟨0, _⟩ => show 16 * p + g.val = 0 + (16 * p + g.val); omega
      | ⟨1, _⟩ => show n.val = 0 + n.val; omega
      | ⟨2, _⟩ => show d.val = 0 + d.val; omega)).symm
  exact (e.trans h2).trans (congrArg (fun z : EReal => ((z.toReal : ℝ) : EReal)) e.symm)

/-- and so is the bias table. -/
theorem pre_t (x0 : FVec Ideal Cert.Pre_finite.S48x8448x128 .bf16) (x1 : FVec Ideal Cert.Pre_finite.S16x320 .f32)
    (x2 : FVec Ideal Cert.Pre_finite.S2048 .f32) (h : Cert.Pre_finite.fn (F := Ideal) x0 x1 x2 = fun _ => 1#1) (i) :
    x1 i = (((x1 i : EReal).toReal : ℝ) : EReal) := by
  have h1 := (IntOp.andi_eq_one.1 (congrFun h (fun a => a.elim0))).2
  exact real_of_olt (x1 i) (Host.reduce_andi_all _ _ _ _ _ h1 i)

/-- An index of the result by its two coordinates. -/
theorem ix2_eta (i : S8192x2048.Idx) : i = ix2 (i 0) (i 1) := by
  funext a
  match a with
  | ⟨0, _⟩ => rfl
  | ⟨1, _⟩ => rfl

/-- The kernel's result is the reference's. -/
theorem G9_eq_ref (m : (ℓ : Loc nD τ sig) → Buf (Elt Ideal) ℓ) (c : Dev nD)
    (h : Cert.Pre_finite.fn (F := Ideal) (m ((c : Thread nD τ).loc main_arg0)) (m ((c : Thread nD τ).loc main_arg1))
      (m ((c : Thread nD τ).loc main_arg2)) = fun _ => 1#1) :
    G9 m c = Cert.ReferenceIdeal.Read.val_main_v63 (F := Ideal) (m ((c : Thread nD τ).loc main_arg0))
      (m ((c : Thread nD τ).loc main_arg1)) (m ((c : Thread nD τ).loc main_arg2)) := by
  funext i
  rw [ix2_eta i]
  exact (G9_apply _ _ _ m c (pre_x _ _ _ h) (fun _ => rfl) (pre_t _ _ _ h) (i 0) (i 1)).trans
    (v63_apply _ _ _ _ _ _ (pre_x _ _ _ h) (fun _ => rfl) (pre_t _ _ _ h) (i 0) (i 1)).symm

end Cert.Attn

end
-- ==== Proof.Inproj.Body.lean ====
/- The input projection's body: what a grid point stores, by the column block that it works on. -/
module

public import proofs.«01_k».proof.Proof.Gen.InprojIdeal.Launch
public import proofs.«01_k».proof.Proof.Gen.InprojIdeal.Frame
public import Idealize.ShloMosaic.Lib.Tactic
public import Idealize.ShloMosaic.Lib.VecWindow
public import Idealize.ShloMosaic.Lib.WholeRead

@[expose] public section

set_option maxRecDepth 16384

noncomputable section

namespace Cert.Inp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.InprojIdeal Cert.InprojIdeal.Gen

variable {F : FTy → Type} [FloatOps F]

local notation "𝕄" => MT nD τ sig Unit (Elt F) ℕ (UR sig nD τ) ℕ

/-- The product of a block of rows with a block of columns. -/
def acc (x : Vec F S1408x4096 .bf16) (w : Vec F S4096x512 .f32) : FVec F S1408x512 .f32 :=
  matmul (φ₁ := .bf16) (φ₂ := .bf16) dot_S1408x4096_S4096x512_S1408x512_1_0_0_1_n_n none x (truncf .bf16 w bitsLt_bf16_f32) (constant S1408x512 .f32 0x00000000#32)

/-- The gelu of a block, by the hyperbolic tangent. -/
def gelu (a : FVec F S1408x512 .f32) : FVec F S1408x512 .f32 :=
  mulf a (mulf (broadcast S1408x512 (Scalar.ofBits .f32 0x3F000000#32)) (addf (broadcast S1408x512 (Scalar.ofBits .f32 0x3F800000#32))
    (tanh (mulf (broadcast S1408x512 (Scalar.ofBits .f32 0x3F4C422A#32)) (addf a (mulf (broadcast S1408x512 (Scalar.ofBits .f32 0x3D372713#32)) (mulf a (mulf a a))))))))

/-- The reciprocal root mean square of each row of a block. -/
def rs (v : FVec F S1408x512 .f32) : FVec F S1408x1 .f32 :=
  rsqrt (addf (divf (shapeCast S1408x1 (multiReduction .add [1] S1408 (mulf v v) 0x00000000#32 reduces_S1408x512_S1408 (.inl rfl) rfl) shapeCasts_S1408_S1408x1)
    (broadcast S1408x1 (Scalar.ofBits .f32 0x44000000#32))) (broadcast S1408x1 (Scalar.ofBits .f32 0x358637BD#32)))

/-- A block of gated values: the gelu of the products, its rows divided by their root mean square, times the gains. -/
def vals (a : FVec F S1408x512 .f32) (g : Vec F S1x512 .f32) : FVec F S1408x512 .f32 :=
  mulf (mulf (gelu a) (broadcastTo S1408x512 (rs (gelu a)) broadcasts_S1408x1_S1408x512))
    (broadcastTo S1408x512 (shapeCast S1x512 g shapeCasts_S1x512_S1x512) broadcasts_S1x512_S1408x512)

/-- Four heads of a block, each a slice of 128 columns. -/
def headsOf (a : FVec F S1408x512 .f32) : Vec F S4x1408x128 .bf16 := fun j =>
  truncf .bf16 a bitsLt_bf16_f32 (fun b => match b with
    | ⟨0, _⟩ => j 1
    | ⟨1, _⟩ => ⟨128 * (j 0).val + (j 2).val, by have h0 := (j 0).isLt; have h2 := (j 2).isLt; change (j 0).val < 4 at h0; change (j 2).val < 128 at h2; show _ < 512; omega⟩)

/-- A load of a whole buffer reads what it holds. -/
theorem load_whole {sp : Space} {S : Shape} {e : EltTy} {arg : Memref sig .tc sp S e} (h : arg.IsWhole) (x : Vec F S e) {off : Fin S.rank → ℕ}
    (inb : ∀ a, off a + S.size a ≤ S.size a) : arg.view.readAt (Elt F) (Rect.unit off S.size inb).toLoadRect (h.unread x) = x :=
  (View.readAt_full arg.view _ inb).trans (h.read_unread x)

/-- One slice of 128 columns, put into the buffer of heads, is that head there and what was held elsewhere. -/
theorem put_head (a : FVec F S1408x512 .f32) (z : Vec F S4x1408x128 .bf16) (k n : ℕ) (hn : n = 128 * k) (hs : S1408x512.Slices ![0, n] S1408x128) (j : S4x1408x128.Idx) :
    VecWindow.put z ![k, 0, 0] S1x1408x128.size
        (shapeCast S1x1408x128 (truncf .bf16 (extractStridedSlice S1408x128 ![0, n] a hs) bitsLt_bf16_f32) shapeCasts_S1408x128_S1x1408x128) j
      = if (j 0).val = k then headsOf a j else z j := by
  have h1 : (j 1).val < 1408 := (j 1).isLt
  have h2 : (j 2).val < 128 := (j 2).isLt
  unfold VecWindow.put
  by_cases hk : (j 0).val = k
  · have h : ∀ b, (![k, 0, 0] : Fin 3 → ℕ) b ≤ (j b).val ∧ (j b).val < (![k, 0, 0] : Fin 3 → ℕ) b + S1x1408x128.size b := by
      intro b
      fin_cases b
      · show k ≤ (j 0).val ∧ (j 0).val < k + 1; omega
      · show 0 ≤ (j 1).val ∧ (j 1).val < 0 + 1408; omega
      · show 0 ≤ (j 2).val ∧ (j 2).val < 0 + 128; omega
    rw [dif_pos h, if_pos hk]
    refine (shapeCast_apply _ shapeCasts_S1408x128_S1x1408x128 _ (fun b => match b with | ⟨0, _⟩ => j 1 | ⟨1, _⟩ => j 2) (by
      rw [Shape.rowMajor_val_three, Shape.rowMajor_val_two]
      show (j 1).val * 128 + (j 2).val = (((j 0).val - k) * 1408 + ((j 1).val - 0)) * 128 + ((j 2).val - 0)
      rw [hk]; omega)).trans ?_
    refine congrArg (FloatOps.truncf .bf16 bitsLt_bf16_f32) (extractStridedSlice_apply _ a hs _ _ (fun b => ?_))
    fin_cases b
    · show (j 1).val = 0 + (j 1).val; omega
    · show 128 * (j 0).val + (j 2).val = n + (j 2).val; rw [hk, hn]
  · rw [if_neg hk, dif_neg]
    intro h
    have := h 0
    change k ≤ (j 0).val ∧ (j 0).val < k + 1 at this
    omega

/-- The slices of 128 columns, put one by one into the buffer of heads, are the four heads. -/
theorem puts_heads (a : FVec F S1408x512 .f32) (q : Vec F S4x1408x128 .bf16) :
    VecWindow.put (VecWindow.put (VecWindow.put (VecWindow.put q ![0, 0, 0] S1x1408x128.size
        (shapeCast S1x1408x128 (truncf .bf16 (extractStridedSlice S1408x128 ![0, 0] a slices_S1408x512_o0_0_S1408x128) bitsLt_bf16_f32) shapeCasts_S1408x128_S1x1408x128))
        ![1, 0, 0] S1x1408x128.size
        (shapeCast S1x1408x128 (truncf .bf16 (extractStridedSlice S1408x128 ![0, 128] a slices_S1408x512_o0_128_S1408x128) bitsLt_bf16_f32) shapeCasts_S1408x128_S1x1408x128))
        ![2, 0, 0] S1x1408x128.size
        (shapeCast S1x1408x128 (truncf .bf16 (extractStridedSlice S1408x128 ![0, 256] a slices_S1408x512_o0_256_S1408x128) bitsLt_bf16_f32) shapeCasts_S1408x128_S1x1408x128))
        ![3, 0, 0] S1x1408x128.size
        (shapeCast S1x1408x128 (truncf .bf16 (extractStridedSlice S1408x128 ![0, 384] a slices_S1408x512_o0_384_S1408x128) bitsLt_bf16_f32) shapeCasts_S1408x128_S1x1408x128)
      = headsOf a := by
  funext j
  have h0 : (j 0).val < 4 := (j 0).isLt
  rw [put_head a _ 3 384 rfl, put_head a _ 2 256 rfl, put_head a _ 1 128 rfl, put_head a _ 0 0 rfl]
  split_ifs <;> first | rfl | omega

/-- What the buffer of the mixer's inputs holds after a point. -/
def outP (i : grid0.Coords) (x : Vec F S1408x4096 .bf16) (w : Vec F S4096x512 .f32) (g : Vec F S1x512 .f32) (p : Vec F S1408x512 .bf16) : Vec F S1408x512 .bf16 :=
  if k0_cond1 i = 1#1 then truncf .bf16 (gelu (acc x w)) bitsLt_bf16_f32
  else if k0_cond2 i = 1#1 then truncf .bf16 (vals (acc x w) g) bitsLt_bf16_f32 else p

/-- What the buffer of the heads holds after a point. -/
def outQ (i : grid0.Coords) (x : Vec F S1408x4096 .bf16) (w : Vec F S4096x512 .f32) (q : Vec F S4x1408x128 .bf16) : Vec F S4x1408x128 .bf16 :=
  if k0_cond4 i = 1#1 then headsOf (acc x w) else q

/-- What the buffer of the kept rows holds after a point. -/
def outS (i : grid0.Coords) (x : Vec F S1408x4096 .bf16) (w : Vec F S4096x512 .f32) (g : Vec F S1x512 .f32) (s : Vec F S1408x512 .f32) : Vec F S1408x512 .f32 :=
  if k0_cond2 i = 1#1 ∧ k0_cond3 i = 1#1 then vals (acc x w) g
  else if k0_cond4 i = 1#1 ∧ k0_cond5 i = 1#1 then acc x w else s

section
variable (c : Dev nD) (i : grid0.Coords) (arg2 : Memref sig .tc .vmem S1408x4096 .bf16) (harg2 : arg2.IsWhole) (arg3 : Memref sig .tc .vmem S4096x512 .f32) (harg3 : arg3.IsWhole)
  (arg4 : Memref sig .tc .vmem S1x512 .f32) (harg4 : arg4.IsWhole) (arg5 : Memref sig .tc .vmem S1408x512 .bf16) (harg5 : arg5.IsWhole)
  (arg6 : Memref sig .tc .vmem S4x1408x128 .bf16) (harg6 : arg6.IsWhole) (arg7 : Memref sig .tc .vmem S1408x512 .f32) (harg7 : arg7.IsWhole)
  (x : Vec F S1408x4096 .bf16) (w : Vec F S4096x512 .f32) (g : Vec F S1x512 .f32) (p : Vec F S1408x512 .bf16) (q : Vec F S4x1408x128 .bf16) (s : Vec F S1408x512 .f32)

set_option maxHeartbeats 4000000 in
/-- The body at a point of any of its three kinds. -/
theorem body_run (hcase : (k0_cond1 i = 1#1 ∧ ¬ k0_cond2 i = 1#1 ∧ ¬ k0_cond4 i = 1#1) ∨ (¬ k0_cond1 i = 1#1 ∧ k0_cond2 i = 1#1 ∧ ¬ k0_cond4 i = 1#1)
      ∨ (¬ k0_cond1 i = 1#1 ∧ ¬ k0_cond2 i = 1#1 ∧ k0_cond4 i = 1#1)) (E : Set ℕ) (K : PUnit → sProp 𝕄) :
    iprop(owns (c : Thread nD τ) arg2 fullShare x ∗ owns (c : Thread nD τ) arg3 fullShare w ∗ owns (c : Thread nD τ) arg4 fullShare g
        ∗ owns (c : Thread nD τ) arg5 fullShare p ∗ owns (c : Thread nD τ) arg6 fullShare q ∗ owns (c : Thread nD τ) arg7 fullShare s
        ∗ (iprop(owns (c : Thread nD τ) arg2 fullShare x ∗ owns (c : Thread nD τ) arg3 fullShare w ∗ owns (c : Thread nD τ) arg4 fullShare g
            ∗ owns (c : Thread nD τ) arg5 fullShare (outP i x w g p) ∗ owns (c : Thread nD τ) arg6 fullShare (outQ i x w q) ∗ owns (c : Thread nD τ) arg7 fullShare (outS i x w g s)) -∗ K ⟨⟩))
      ⊢ wp frame (wpE (defs₀ (F := F)) Variants.none c none) E (cc0_inproj i arg2 harg2 arg3 harg3 arg4 harg4 arg5 harg5 arg6 harg6 arg7 harg7) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  have e2 : ∀ inb, View.readAt (Elt F) arg2.view (Rect.unit ![0, 0] ![1408, 4096] inb).toLoadRect (harg2.unread x) = x := fun inb => load_whole harg2 x inb
  have e3 : ∀ inb, View.readAt (Elt F) arg3.view (Rect.unit ![0, 0] ![4096, 512] inb).toLoadRect (harg3.unread w) = w := fun inb => load_whole harg3 w inb
  have e4 : ∀ inb, View.readAt (Elt F) arg4.view (Rect.unit ![0, 0] ![1, 512] inb).toLoadRect (harg4.unread g) = g := fun inb => load_whole harg4 g inb
  unfold cc0_inproj
  rcases hcase with ⟨h1, h2, h4⟩ | ⟨h1, h2, h4⟩ | ⟨h1, h2, h4⟩
  · sl_exec (disch := first | sl_exact h1 | sl_exact h2 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; unfold outP; rw [if_pos h1]; refine (View.read_writes_full ..).trans ?_; sl_unfold_words; (try simp only [e2, e3, e4]); rfl
    isplitl [H4]
    · iexists _; isplitr; swap; · iexact H4
      ipureintro; unfold outQ; rw [if_neg h4]; exact harg6.read_unread _
    iexists _; isplitr; swap; · iexact H5
    ipureintro; unfold outS; rw [if_neg (fun h => h2 h.1), if_neg (fun h => h4 h.1)]; exact harg7.read_unread _
  · by_cases h3 : k0_cond3 i = 1#1
    · sl_exec (disch := first | sl_exact h1 | sl_exact h2 | sl_exact h4 | sl_exact h3)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; swap; · iexact H3
        ipureintro; unfold outP; rw [if_neg h1, if_pos h2]; refine (View.read_writes_full ..).trans ?_; sl_unfold_words; (try simp only [e2, e3, e4]); rfl
      isplitl [H4]
      · iexists _; isplitr; swap; · iexact H4
        ipureintro; unfold outQ; rw [if_neg h4]; exact harg6.read_unread _
      iexists _; isplitr; swap; · iexact H5
      ipureintro; unfold outS; rw [if_pos ⟨h2, h3⟩]; refine (View.read_writes_full ..).trans ?_; sl_unfold_words; (try simp only [e2, e3, e4]); rfl
    · sl_exec (disch := first | sl_exact h1 | sl_exact h2 | sl_exact h4 | sl_exact h3)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; swap; · iexact H3
        ipureintro; unfold outP; rw [if_neg h1, if_pos h2]; refine (View.read_writes_full ..).trans ?_; sl_unfold_words; (try simp only [e2, e3, e4]); rfl
      isplitl [H4]
      · iexists _; isplitr; swap; · iexact H4
        ipureintro; unfold outQ; rw [if_neg h4]; exact harg6.read_unread _
      iexists _; isplitr; swap; · iexact H5
      ipureintro; unfold outS; rw [if_neg (fun h => h3 h.2), if_neg (fun h => h4 h.1)]; exact harg7.read_unread _
  · by_cases h5 : k0_cond5 i = 1#1
    · sl_exec (disch := first | sl_exact h1 | sl_exact h2 | sl_exact h4 | sl_exact h5)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; swap; · iexact H3
        ipureintro; unfold outP; rw [if_neg h1, if_neg h2]; exact harg5.read_unread _
      isplitl [H4]
      · iexists _; isplitr; swap; · iexact H4
        ipureintro; unfold outQ; rw [if_pos h4]; refine Eq.trans ?_ (puts_heads _ q); iterate 4 rw [View.read_writes_cons_put _ _ _ _ _ rfl]
        rw [View.writes_nil, harg6.read_unread]; sl_unfold_words; (try simp only [e2, e3, e4]); rfl
      iexists _; isplitr; swap; · iexact H5
      ipureintro; unfold outS; rw [if_neg (fun h => h2 h.1), if_pos ⟨h4, h5⟩]; refine (View.read_writes_full ..).trans ?_; sl_unfold_words; (try simp only [e2, e3, e4]); rfl
    · sl_exec (disch := first | sl_exact h1 | sl_exact h2 | sl_exact h4 | sl_exact h5)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; swap; · iexact H3
        ipureintro; unfold outP; rw [if_neg h1, if_neg h2]; exact harg5.read_unread _
      isplitl [H4]
      · iexists _; isplitr; swap; · iexact H4
        ipureintro; unfold outQ; rw [if_pos h4]; refine Eq.trans ?_ (puts_heads _ q); iterate 4 rw [View.read_writes_cons_put _ _ _ _ _ rfl]
        rw [View.writes_nil, harg6.read_unread]; sl_unfold_words; (try simp only [e2, e3, e4]); rfl
      iexists _; isplitr; swap; · iexact H5
      ipureintro; unfold outS; rw [if_neg (fun h => h2 h.1), if_neg (fun h => h5 h.2)]; exact harg7.read_unread _

end

end Cert.Inp

end
-- ==== Proof.Inproj.Sched.lean ====
/- The input projection's grid: which points store into which of its outputs, and which points write them back. -/
module

public import proofs.«01_k».proof.Proof.Inproj.Body
public import Idealize.ShloMosaic.Lib.Pipeline.TableIdle

@[expose] public section

set_option maxRecDepth 16384

noncomputable section

namespace Cert.Inp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InprojIdeal Cert.InprojIdeal.Gen

variable {F : FTy → Type} [FloatOps F]

local notation "𝕄" => MT nD τ sig Unit (Elt F) ℕ (UR sig nD τ) ℕ

/-- The first four column blocks are gated. -/
theorem cond_u : ∀ t : Fin cfg0.N, k0_cond1 (grid0.coords t) = 1#1 ↔ t.val % 20 < 4 :=
  (by decide +kernel : ∀ t : Fin grid0.N, k0_cond1 (grid0.coords t) = 1#1 ↔ t.val % 20 < 4)
/-- The next four are the mixer's values. -/
theorem cond_v : ∀ t : Fin cfg0.N, k0_cond2 (grid0.coords t) = 1#1 ↔ (4 ≤ t.val % 20 ∧ t.val % 20 < 8) :=
  (by decide +kernel : ∀ t : Fin grid0.N, k0_cond2 (grid0.coords t) = 1#1 ↔ (4 ≤ t.val % 20 ∧ t.val % 20 < 8))
/-- The last block of rows. -/
theorem cond_last : ∀ t : Fin cfg0.N, k0_cond3 (grid0.coords t) = 1#1 ↔ 100 ≤ t.val :=
  (by decide +kernel : ∀ t : Fin grid0.N, k0_cond3 (grid0.coords t) = 1#1 ↔ 100 ≤ t.val)
/-- The last twelve column blocks are heads. -/
theorem cond_h : ∀ t : Fin cfg0.N, k0_cond4 (grid0.coords t) = 1#1 ↔ 8 ≤ t.val % 20 :=
  (by decide +kernel : ∀ t : Fin grid0.N, k0_cond4 (grid0.coords t) = 1#1 ↔ 8 ≤ t.val % 20)
/-- The keys and values of the last block of rows. -/
theorem cond_kv : ∀ t : Fin cfg0.N, k0_cond5 (grid0.coords t) = 1#1 ↔ 112 ≤ t.val :=
  (by decide +kernel : ∀ t : Fin grid0.N, k0_cond5 (grid0.coords t) = 1#1 ↔ 112 ≤ t.val)

/-- The mixer's buffer is not stored into at the heads' blocks. -/
theorem idle_p : ∀ t : Fin cfg0.N, cfg0.idle 3 (cfg0.grid.coords t) = decide (8 ≤ t.val % 20) :=
  (by decide +kernel : ∀ t : Fin grid0.N, idle0 3 (grid0.coords t) = decide (8 ≤ t.val % 20))
/-- The heads' buffer is stored into at the heads' blocks only. -/
theorem idle_q : ∀ t : Fin cfg0.N, cfg0.idle 4 (cfg0.grid.coords t) = decide (t.val % 20 < 8) :=
  (by decide +kernel : ∀ t : Fin grid0.N, idle0 4 (grid0.coords t) = decide (t.val % 20 < 8))
/-- The kept rows' buffer is stored into at the last block of rows, at the mixer's values, the keys and the values. -/
theorem idle_s : ∀ t : Fin cfg0.N, cfg0.idle 5 (cfg0.grid.coords t) = decide (¬ ((104 ≤ t.val ∧ t.val < 108) ∨ 112 ≤ t.val)) :=
  (by decide +kernel : ∀ t : Fin grid0.N, idle0 5 (grid0.coords t) = decide (¬ ((104 ≤ t.val ∧ t.val < 108) ∨ 112 ≤ t.val)))

/-- When the mixer's buffer is written back. -/
theorem flush_p : ∀ t : Fin cfg0.N, (cfg0.win 3).flush t = decide (t.val % 20 < 7 ∨ t.val % 20 = 19) := fun t =>
  (Window.flush_eq_flushF _ t).trans ((by decide +kernel : ∀ t : Fin grid0.N, (win0 3).flushF t = decide (t.val % 20 < 7 ∨ t.val % 20 = 19)) t)
/-- When the heads' buffer is written back. -/
theorem flush_q : ∀ t : Fin cfg0.N, (cfg0.win 4).flush t = decide (8 ≤ t.val % 20) := fun t =>
  (Window.flush_eq_flushF _ t).trans ((by decide +kernel : ∀ t : Fin grid0.N, (win0 4).flushF t = decide (8 ≤ t.val % 20)) t)
/-- When the kept rows' buffer is written back. -/
theorem flush_s : ∀ t : Fin cfg0.N, (cfg0.win 5).flush t = decide ((104 ≤ t.val ∧ t.val < 107) ∨ 111 ≤ t.val) := fun t =>
  (Window.flush_eq_flushF _ t).trans ((by decide +kernel : ∀ t : Fin grid0.N, (win0 5).flushF t = decide ((104 ≤ t.val ∧ t.val < 107) ∨ 111 ≤ t.val)) t)

/-- The mixer's buffer holds a block of the row of blocks from the eighth column block on. -/
theorem fresh_p (t : Fin cfg0.N) : cfg0.fresh 3 t.val = decide (t.val % 20 < 8) :=
  Cfg.fresh_tab cfg0 3 (fun n => decide (n % 20 < 8)) (by decide) (fun t => by
    rw [flush_p t, idle_p t, ← Bool.decide_and, ← Bool.decide_or]
    refine decide_eq_decide.mpr ?_; omega) t.val (Nat.le_of_lt t.isLt)
/-- The kept rows' buffer holds the values' last block until the keys come. -/
theorem fresh_s (t : Fin cfg0.N) : cfg0.fresh 5 t.val = decide (¬ (108 ≤ t.val ∧ t.val < 112)) :=
  Cfg.fresh_tab cfg0 5 (fun n => decide (¬ (108 ≤ n ∧ n < 112))) (by decide) (fun t => by
    rw [flush_s t, idle_s t, ← Bool.decide_and, ← Bool.decide_or]
    refine decide_eq_decide.mpr ?_; omega) t.val (Nat.le_of_lt t.isLt)

end Cert.Inp

end
-- ==== Proof.Inproj.Frame.lean ====
/- The input projection's run: what its pipeline finds and leaves point by point, the body's obligation, and the run to its postcondition. -/
module

public import proofs.«01_k».proof.Proof.Inproj.Sched
public import Idealize.ShloMosaic.Lib.Claim

@[expose] public section

set_option maxRecDepth 16384

noncomputable section

namespace Cert.Inp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InprojIdeal Cert.InprojIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer of the rows at a point, -/
abbrev ms0_0 (t : Fin cfg0.N) : Memref sig .tc .vmem S1408x4096 .bf16 := win0_0.stage (cfg0.slots t 0)
/-- the buffer of the columns, -/
abbrev ms0_1 (t : Fin cfg0.N) : Memref sig .tc .vmem S4096x512 .f32 := win0_1.stage (cfg0.slots t 1)
/-- the buffer of the gains, -/
abbrev ms0_2 (t : Fin cfg0.N) : Memref sig .tc .vmem S1x512 .f32 := win0_2.stage (cfg0.slots t 2)
/-- the buffer of the mixer's inputs, -/
abbrev ms0_3 (t : Fin cfg0.N) : Memref sig .tc .vmem S1408x512 .bf16 := win0_3.stage (cfg0.slots t 3)
/-- the buffer of the heads, -/
abbrev ms0_4 (t : Fin cfg0.N) : Memref sig .tc .vmem S4x1408x128 .bf16 := win0_4.stage (cfg0.slots t 4)
/-- and the buffer of the kept rows. -/
abbrev ms0_5 (t : Fin cfg0.N) : Memref sig .tc .vmem S1408x512 .f32 := win0_5.stage (cfg0.slots t 5)

/-- The products of a point's blocks. -/
def accAt (c : Dev nD) (t : Fin cfg0.N) : FVec F S1408x512 .f32 := acc (iblk m c 0 t) (iblk m c 1 t)

/-- What a point stores for the mixer: the gated block, or the values. -/
def PA (c : Dev nD) (t : Fin cfg0.N) : Vec F S1408x512 .bf16 :=
  if t.val % 20 < 4 then truncf .bf16 (gelu (accAt m c t)) bitsLt_bf16_f32 else truncf .bf16 (vals (accAt m c t) (iblk m c 2 t)) bitsLt_bf16_f32

/-- What a point stores of the rows that are kept: the values, or the products themselves. -/
def SA (c : Dev nD) (t : Fin cfg0.N) : Vec F S1408x512 .f32 :=
  if t.val % 20 < 8 then vals (accAt m c t) (iblk m c 2 t) else accAt m c t

/-- The point whose block the mixer's buffer holds. -/
def srcP (t : Fin cfg0.N) : Fin cfg0.N := if t.val % 20 < 8 then t else ⟨t.val / 20 * 20 + 7, by have := t.isLt; have h : cfg0.N = 120 := N_0; omega⟩

/-- The point whose block the kept rows' buffer holds. -/
def srcS (t : Fin cfg0.N) : Fin cfg0.N := if 108 ≤ t.val ∧ t.val < 112 then ⟨107, by have h : cfg0.N = 120 := N_0; omega⟩ else t

/-- The pipeline's proof data: the arrays as the region finds them, each input left in place, the outputs named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => PA m c (srcP t)
    | ⟨4, _⟩ => headsOf (accAt m c t)
    | ⟨5, _⟩ => SA m c (srcS t)
  Φ _ := Pipeline.ΦA spec0 c
  q _ := fullShare
  owed _ := 0

/-- The arrays of the proof data are those the region finds. -/
theorem A_eq (c : Dev nD) (w : Fin cfg0.W) : (dats m 0 c).A w = V m c (Pipeline.arrRef spec0 w) := by
  dsimp only [dats]

/-- What the body leaves in the rows' buffer. -/
theorem after0_0 (c : Dev nD) (t : Fin cfg0.N) : (dats m 0 c).after 0 t = iblk m c 0 t := by dsimp only [dats]
/-- What the body leaves in the columns' buffer. -/
theorem after0_1 (c : Dev nD) (t : Fin cfg0.N) : (dats m 0 c).after 1 t = iblk m c 1 t := by dsimp only [dats]
/-- What the body leaves in the gains' buffer. -/
theorem after0_2 (c : Dev nD) (t : Fin cfg0.N) : (dats m 0 c).after 2 t = iblk m c 2 t := by dsimp only [dats]
/-- What the mixer's buffer holds after a point. -/
theorem after0_3 (c : Dev nD) (t : Fin cfg0.N) : (dats m 0 c).after 3 t = PA m c (srcP t) := by dsimp only [dats]
/-- What the heads' buffer holds after a point. -/
theorem after0_4 (c : Dev nD) (t : Fin cfg0.N) : (dats m 0 c).after 4 t = headsOf (accAt m c t) := by dsimp only [dats]
/-- What the kept rows' buffer holds after a point. -/
theorem after0_5 (c : Dev nD) (t : Fin cfg0.N) : (dats m 0 c).after 5 t = SA m c (srcS t) := by dsimp only [dats]

/-- What the body finds in the rows' buffer. -/
theorem before0_0 (c : Dev nD) (t : Fin cfg0.N) (d) : (dats m 0 c).before 0 t d = iblk m c 0 t :=
  before0_0_of m (dats m 0 c) (A_eq m c 0) (after0_0 m c) t d
/-- What the body finds in the columns' buffer. -/
theorem before0_1 (c : Dev nD) (t : Fin cfg0.N) (d) : (dats m 0 c).before 1 t d = iblk m c 1 t :=
  before0_1_of m (dats m 0 c) (A_eq m c 1) (after0_1 m c) t d
/-- What the body finds in the gains' buffer. -/
theorem before0_2 (c : Dev nD) (t : Fin cfg0.N) (d) : (dats m 0 c).before 2 t d = iblk m c 2 t :=
  before0_2_of m (dats m 0 c) (A_eq m c 2) (after0_2 m c) t d

/-- At the heads' blocks the mixer's buffer holds what the row of blocks left last. -/
theorem before0_3 (c : Dev nD) (t : Fin cfg0.N) (d) (h : 8 ≤ t.val % 20) : (dats m 0 c).before 3 t d = PA m c (srcP t) := by
  have hs : ∀ (t : Fin cfg0.N) (ht : t.val ≠ 0), 8 ≤ t.val % 20 → srcP t = srcP ⟨t.val - 1, by omega⟩ := by
    intro t ht h
    unfold srcP
    apply Fin.ext
    rw [if_neg (by omega)]
    split
    · rename_i h'; change (t.val - 1) % 20 < 8 at h'; show t.val / 20 * 20 + 7 = t.val - 1; omega
    · rename_i h'; change ¬ (t.val - 1) % 20 < 8 at h'; show t.val / 20 * 20 + 7 = (t.val - 1) / 20 * 20 + 7; omega
  refine (Dat.before_out_traj (dats m 0 c) 3 rfl (fun _ _ => rfl) (fun t ht hi hf => ?_) t.val t rfl d).trans ?_
  · rw [idle_p t, decide_eq_true_eq] at hi
    rw [after0_3, after0_3, hs t ht hi]
  · rw [fresh_p t, if_neg (by rw [decide_eq_true_eq]; omega), after0_3, ← hs t (by omega) h]

/-- Between the values and the keys the kept rows' buffer holds the values' last block. -/
theorem before0_5 (c : Dev nD) (t : Fin cfg0.N) (d) (h : 108 ≤ t.val ∧ t.val < 112) : (dats m 0 c).before 5 t d = SA m c (srcS t) := by
  have hs : ∀ (t : Fin cfg0.N) (ht : t.val ≠ 0), (108 ≤ t.val ∧ t.val < 112) → srcS t = srcS ⟨t.val - 1, by omega⟩ := by
    intro t ht h
    unfold srcS
    apply Fin.ext
    rw [if_pos h]
    split
    · rfl
    · rename_i h'; change ¬ (108 ≤ t.val - 1 ∧ t.val - 1 < 112) at h'; show 107 = t.val - 1; omega
  refine (Dat.before_out_traj (dats m 0 c) 5 rfl (fun _ _ => rfl) (fun t ht hi hf => ?_) t.val t rfl d).trans ?_
  · have hf' : (decide (¬ (108 ≤ t.val ∧ t.val < 112))) = false := (fresh_s t).symm.trans hf
    rw [decide_eq_false_iff_not, not_not] at hf'
    rw [after0_5, after0_5, hs t ht hf']
  · rw [fresh_s t, if_neg (by rw [decide_eq_true_eq]; omega), after0_5, ← hs t (by omega) h]

/-- The mixer's buffer is left as the pipeline asks. -/
theorem leaves_p (c : Dev nD) (t : Fin cfg0.N) (d) :
    owns (c : Thread nD τ) (ms0_3 t) fullShare (outP (grid0.coords t) (iblk m c 0 t) (iblk m c 1 t) (iblk m c 2 t) ((dats m 0 c).before 3 t d))
      ⊢ ((dats m 0 c).leavesExact 3 t : sProp 𝕄) := by
  unfold Dat.leavesExact
  rw [idle_p t, flush_p t, after0_3]
  by_cases h8 : t.val % 20 < 8
  · rw [decide_eq_false (by omega : ¬ 8 ≤ t.val % 20)]
    have e : outP (grid0.coords t) (iblk m c 0 t) (iblk m c 1 t) (iblk m c 2 t) ((dats m 0 c).before 3 t d) = PA m c (srcP t) := by
      unfold srcP; rw [if_pos h8]; unfold outP PA accAt
      by_cases h4 : t.val % 20 < 4
      · rw [if_pos ((cond_u t).mpr h4), if_pos h4]
      · rw [if_neg (fun h => h4 ((cond_u t).mp h)), if_pos ((cond_v t).mpr ⟨by omega, h8⟩), if_neg h4]
    rw [e]
  · rw [decide_eq_true (by omega : 8 ≤ t.val % 20)]
    have e : outP (grid0.coords t) (iblk m c 0 t) (iblk m c 1 t) (iblk m c 2 t) ((dats m 0 c).before 3 t d) = (dats m 0 c).before 3 t d := by
      unfold outP
      rw [if_neg (fun h => by have := (cond_u t).mp h; omega), if_neg (fun h => by have := (cond_v t).mp h; omega)]
    rw [e]
    by_cases hf : t.val % 20 = 19
    · rw [decide_eq_true (Or.inr hf), before0_3 m c t d (by omega)]
    · rw [decide_eq_false (by omega)]
      iintro H; iexists d; iexact H

/-- The heads' buffer is left as the pipeline asks. -/
theorem leaves_q (c : Dev nD) (t : Fin cfg0.N) (d) :
    owns (c : Thread nD τ) (ms0_4 t) fullShare (outQ (grid0.coords t) (iblk m c 0 t) (iblk m c 1 t) ((dats m 0 c).before 4 t d))
      ⊢ ((dats m 0 c).leavesExact 4 t : sProp 𝕄) := by
  unfold Dat.leavesExact outQ
  rw [idle_q t, flush_q t, after0_4]
  by_cases h8 : t.val % 20 < 8
  · rw [decide_eq_true h8, decide_eq_false (by omega : ¬ 8 ≤ t.val % 20), if_neg (fun h => by have := (cond_h t).mp h; omega)]
    iintro H; iexists d; iexact H
  · rw [decide_eq_false h8, if_pos ((cond_h t).mpr (by omega))]
    unfold accAt
    exact .rfl

/-- The kept rows' buffer is left as the pipeline asks. -/
theorem leaves_s (c : Dev nD) (t : Fin cfg0.N) (d) :
    owns (c : Thread nD τ) (ms0_5 t) fullShare (outS (grid0.coords t) (iblk m c 0 t) (iblk m c 1 t) (iblk m c 2 t) ((dats m 0 c).before 5 t d))
      ⊢ ((dats m 0 c).leavesExact 5 t : sProp 𝕄) := by
  have hN : t.val < 120 := lt_of_lt_of_eq t.isLt (show cfg0.N = 120 from N_0)
  unfold Dat.leavesExact
  rw [idle_s t, flush_s t, after0_5]
  by_cases hl : (104 ≤ t.val ∧ t.val < 108) ∨ 112 ≤ t.val
  · rw [decide_eq_false (not_not.mpr hl)]
    have e : outS (grid0.coords t) (iblk m c 0 t) (iblk m c 1 t) (iblk m c 2 t) ((dats m 0 c).before 5 t d) = SA m c (srcS t) := by
      unfold srcS; rw [if_neg (by omega)]; unfold outS SA accAt
      by_cases h8 : t.val % 20 < 8
      · rw [if_pos ⟨(cond_v t).mpr (by omega), (cond_last t).mpr (by omega)⟩, if_pos h8]
      · rw [if_neg (fun h => by have := (cond_v t).mp h.1; omega), if_pos ⟨(cond_h t).mpr (by omega), (cond_kv t).mpr (by omega)⟩, if_neg h8]
    rw [e]
  · rw [decide_eq_true hl]
    have e : outS (grid0.coords t) (iblk m c 0 t) (iblk m c 1 t) (iblk m c 2 t) ((dats m 0 c).before 5 t d) = (dats m 0 c).before 5 t d := by
      unfold outS
      rw [if_neg (fun h => by have := (cond_v t).mp h.1; have := (cond_last t).mp h.2; omega), if_neg (fun h => by have := (cond_h t).mp h.1; have := (cond_kv t).mp h.2; omega)]
    rw [e]
    by_cases hf : t.val = 111
    · rw [decide_eq_true (by omega), before0_5 m c t d (by omega)]
    · rw [decide_eq_false (by omega)]
      iintro H; iexists d; iexact H

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (dats m 0 c).leavesExact 3 t ∗ (dats m 0 c).leavesExact 4 t ∗ (dats m 0 c).leavesExact 5 t)

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2]
  have hcase : (k0_cond1 (grid0.coords t) = 1#1 ∧ ¬ k0_cond2 (grid0.coords t) = 1#1 ∧ ¬ k0_cond4 (grid0.coords t) = 1#1)
      ∨ (¬ k0_cond1 (grid0.coords t) = 1#1 ∧ k0_cond2 (grid0.coords t) = 1#1 ∧ ¬ k0_cond4 (grid0.coords t) = 1#1)
      ∨ (¬ k0_cond1 (grid0.coords t) = 1#1 ∧ ¬ k0_cond2 (grid0.coords t) = 1#1 ∧ k0_cond4 (grid0.coords t) = 1#1) := by
    rw [cond_u t, cond_v t, cond_h t]; omega
  iintro ⟨HΦ, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (iblk m c 0 t) (iblk m c 1 t) (iblk m c 2 t) ((dats m 0 c).before 3 t d3) ((dats m 0 c).before 4 t d4) ((dats m 0 c).before 5 t d5) hcase Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iapply (leaves_p m c t d3) $$ H3
  isplitl [H4]; · iapply (leaves_q m c t d4) $$ H4
  iapply (leaves_s m c t d5) $$ H5

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the run theorem's implicit arguments are found by unifying its conclusion with this one, which takes unfolding plain
-- definitions in a metavariable's type
set_option backward.isDefEq.respectTransparency.types false in
/-- The launch: every execution ends, with every array as the proof data says and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

end Cert.Inp

end
-- ==== Proof.Inproj.Value.lean ====
/- The input projection's blocks at an index, over the extended reals. -/
module

public import proofs.«01_k».proof.Proof.Inproj.Body
public import Idealize.ShloMosaic.Lib.ValueIdx
public import Idealize.ShloMosaic.Lib.Pipeline.Value
public import Idealize.ShloMosaic.PureOps.IdealRules
public import Idealize.ShloMosaic.PureOps.Ideal.Laws

@[expose] public section

set_option maxRecDepth 16384

noncomputable section

namespace Cert.Inp

open Idealize
open Idealize.ShloMosaic
open Idealize.ShloMosaic.TcCoe
open Idealize.ShloMosaic.ValueIdx
open Cert.InprojIdeal Cert.InprojIdeal.Gen

/-- The gelu of an extended real, by the hyperbolic tangent. -/
def geluE (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- A gated value: the gelu of its product over the root mean square of its group's, times its gain. -/
def valE (z : EReal) (grp : Fin 512 → EReal) (gain : EReal) : EReal :=
  (geluE z * Ideal.rsqrt (Ideal.div (∑ j, geluE (grp j) * geluE (grp j)) (Ideal.ofBits .f32 0x44000000#32) + Ideal.ofBits .f32 0x358637BD#32)) * gain

/-- A block of products, at an index. -/
theorem acc_apply (x : Vec Ideal S1408x4096 .bf16) (w : Vec Ideal S4096x512 .f32) (r : Fin 1408) (k : Fin 512) :
    acc x w (ix2 r k) = (∑ q : Fin 4096, (x (ix2 r q) : EReal) * w (ix2 q k) : EReal) := by
  unfold acc
  refine (Ideal.matmul_constant_zero_apply _ none _ _ _).trans ?_
  refine (Equiv.sum_comp (contrEquiv1 dot_S1408x4096_S4096x512_S1408x512_1_0_0_1_n_n 4096 rfl rfl).symm _).symm.trans ?_
  refine Finset.sum_congr rfl fun d _ => congr (congrArg _ (congrArg x (funext fun a => ?_))) (congrArg w (funext fun a => ?_))
  · match a with
    | ⟨0, _⟩ => rfl
    | ⟨1, _⟩ => rfl
  · match a with
    | ⟨0, _⟩ => rfl
    | ⟨1, _⟩ => rfl

/-- A block's gelu, at an index. -/
theorem gelu_apply (a : FVec Ideal S1408x512 .f32) (i : S1408x512.Idx) : gelu a i = geluE (a i) := rfl

/-- A row's sum, as a column, at its index. -/
theorem rowsum_apply (s : FVec Ideal S1408x512 .f32) (r : Fin 1408) (u : Fin 1) :
    shapeCast S1408x1 (multiReduction .add [1] S1408 s 0x00000000#32 reduces_S1408x512_S1408 (.inl rfl) rfl) shapeCasts_S1408_S1408x1 (ix2 r u)
      = ∑ d : Fin 512, s (ix2 r d) := by
  have hu : u.val = 0 := by omega
  refine (shapeCast_apply _ shapeCasts_S1408_S1408x1 (ix2 r u) (ix1 r) (by
    rw [Shape.rowMajor_val_two, Shape.rowMajor_val_one]; show r.val = r.val * 1 + u.val; omega)).trans ?_
  refine (Ideal.multiReduction_add_single s _ reduces_S1408x512_S1408 _ _ (ix1 r)).trans ?_
  refine Finset.sum_congr rfl fun c _ => congrArg s (funext fun a => ?_)
  match a with
  | ⟨0, _⟩ => rfl
  | ⟨1, _⟩ => rfl

/-- The reciprocal root mean square of a row, at its index. -/
theorem rs_apply (v : FVec Ideal S1408x512 .f32) (r : Fin 1408) (u : Fin 1) :
    rs v (ix2 r u) = Ideal.rsqrt (Ideal.div (∑ d : Fin 512, (v (ix2 r d) : EReal) * v (ix2 r d)) (Ideal.ofBits .f32 0x44000000#32) + Ideal.ofBits .f32 0x358637BD#32) := by
  have e : rs v (ix2 r u) = Ideal.rsqrt (Ideal.div (shapeCast S1408x1 (multiReduction .add [1] S1408 (mulf v v) 0x00000000#32 reduces_S1408x512_S1408 (.inl rfl) rfl) shapeCasts_S1408_S1408x1 (ix2 r u))
      (Ideal.ofBits .f32 0x44000000#32) + Ideal.ofBits .f32 0x358637BD#32) := rfl
  rw [e, rowsum_apply]
  rfl

/-- A column spread over the columns, at an index. -/
theorem spreadC_apply (v : FVec Ideal S1408x1 .f32) (r : Fin 1408) (d : Fin 512) :
    broadcastTo S1408x512 v broadcasts_S1408x1_S1408x512 (ix2 r d) = v (ix2 r 0) := by
  refine broadcastTo_apply v _ _ _ fun a => ?_
  match a with
  | ⟨0, _⟩ => rfl
  | ⟨1, _⟩ => rfl

/-- A row spread over the rows, at an index. -/
theorem spreadR_apply (v : FVec Ideal S1x512 .f32) (r : Fin 1408) (d : Fin 512) :
    broadcastTo S1408x512 v broadcasts_S1x512_S1408x512 (ix2 r d) = v (ix2 0 d) := by
  refine broadcastTo_apply v _ _ _ fun a => ?_
  match a with
  | ⟨0, _⟩ => rfl
  | ⟨1, _⟩ => rfl

/-- A block of gated values, at an index. -/
theorem vals_apply (a : FVec Ideal S1408x512 .f32) (g : Vec Ideal S1x512 .f32) (r : Fin 1408) (k : Fin 512) :
    vals a g (ix2 r k) = valE (a (ix2 r k)) (fun j => a (ix2 r j)) (g (ix2 0 k)) := by
  have e : vals a g (ix2 r k) = ((geluE (a (ix2 r k)) * broadcastTo S1408x512 (rs (gelu a)) broadcasts_S1408x1_S1408x512 (ix2 r k))
      * broadcastTo S1408x512 (shapeCast S1x512 g shapeCasts_S1x512_S1x512) broadcasts_S1x512_S1408x512 (ix2 r k) : EReal) := rfl
  rw [e, spreadC_apply, spreadR_apply, rs_apply, shapeCast_self]
  rfl

/-- The four heads, at an index. -/
theorem headsOf_apply (a : FVec Ideal S1408x512 .f32) (h : Fin 4) (r : Fin 1408) (d : Fin 128) :
    headsOf a (ix3 h r d) = a (ix2 r ⟨128 * h.val + d.val, by omega⟩) := by
  show a _ = _
  refine congrArg a (funext fun b => ?_)
  match b with
  | ⟨0, _⟩ => rfl
  | ⟨1, _⟩ => rfl

end Cert.Inp

end
-- ==== Proof.Inproj.Final.lean ====
/- What the input projection's launch leaves in its three arrays, over the extended reals. -/
module

public import proofs.«01_k».proof.Proof.Inproj.Frame
public import proofs.«01_k».proof.Proof.Inproj.Value
public import Idealize.ShloMosaic.Lib.Pipeline.ValueKit

@[expose] public section

set_option maxRecDepth 16384

noncomputable section

namespace Cert.Inp

open Idealize
open Idealize.ShloMosaic hiding ix1 ix2 ix3
open Idealize.ShloMosaic.TcCoe
open Idealize.ShloMosaic.ValueIdx
open Idealize.ShloMosaic.Tactic
open Idealize.SL.Sem
open Idealize.ShloMosaic.Pipeline (Dat Cfg Window BodyObligation cellOf)
open Cert.InprojIdeal Cert.InprojIdeal.Gen

/-- The product of row `n` and column `k`. -/
def prodN (x0 : S8448x4096.Idx → EReal) (x1 : S4096x10240.Idx → EReal) (n k : ℕ) : EReal :=
  if h : n < 8448 ∧ k < 10240 then ∑ q : Fin 4096, x0 (ix2 ⟨n, h.1⟩ q) * x1 (ix2 q ⟨k, h.2⟩) else 0

/-- The gain of value `k`. -/
def gainN (x2 : S2048.Idx → EReal) (k : ℕ) : EReal := if h : k < 2048 then x2 (ix1 ⟨k, h⟩) else 0

/-- Value `k` of row `n`: normalised over its group of 512 and scaled. -/
def valN (x0 : S8448x4096.Idx → EReal) (x1 : S4096x10240.Idx → EReal) (x2 : S2048.Idx → EReal) (n k : ℕ) : EReal :=
  valE (prodN x0 x1 n (2048 + k)) (fun j => prodN x0 x1 n (2048 + k / 512 * 512 + j.val)) (gainN x2 k)

/-- The mixer's inputs: the gates, then the values. -/
def G3 (x0 : S8448x4096.Idx → EReal) (x1 : S4096x10240.Idx → EReal) (x2 : S2048.Idx → EReal) : S8448x4096.Idx → EReal :=
  fun i => if (i 1).val < 2048 then geluE (prodN x0 x1 (i 0).val (i 1).val) else valN x0 x1 x2 (i 0).val ((i 1).val - 2048)

/-- The heads of the queries, keys and values. -/
def G4 (x0 : S8448x4096.Idx → EReal) (x1 : S4096x10240.Idx → EReal) : S48x8448x128.Idx → EReal :=
  fun i => prodN x0 x1 (i 1).val (4096 + 128 * (i 0).val + (i 2).val)

/-- The kept rows: the values, then the keys and values of the heads. -/
def G5 (x0 : S8448x4096.Idx → EReal) (x1 : S4096x10240.Idx → EReal) (x2 : S2048.Idx → EReal) : S1408x6144.Idx → EReal :=
  fun i => if (i 1).val < 2048 then valN x0 x1 x2 (7040 + (i 0).val) (i 1).val else prodN x0 x1 (7040 + (i 0).val) (4096 + (i 1).val)

variable (m : (ℓ : Loc nD τ sig) → Buf (Elt Ideal) ℓ)

/-- The rows of a core. -/
abbrev X0 (c : Dev nD) : S8448x4096.Idx → EReal := m ((c.tc : Thread nD τ).loc main_arg0)
/-- The weights of a core. -/
abbrev X1 (c : Dev nD) : S4096x10240.Idx → EReal := m ((c.tc : Thread nD τ).loc main_arg1)
/-- The gains of a core. -/
abbrev X2 (c : Dev nD) : S2048.Idx → EReal := m ((c.tc : Thread nD τ).loc main_arg2)

/-- The block of the rows at each point. -/
theorem idx0 : ∀ t : Fin cfg0.N, win0_0.index t = ![t.val / 20, 0] := (by decide +kernel : ∀ t : Fin grid0.N, _)
/-- The block of the columns at each point. -/
theorem idx1 : ∀ t : Fin cfg0.N, win0_1.index t = ![0, t.val % 20] := (by decide +kernel : ∀ t : Fin grid0.N, _)
/-- The block of the gains at each point. -/
theorem idx2 : ∀ t : Fin cfg0.N, win0_2.index t = ![0, min (t.val % 20 - 4) 3] := (by decide +kernel : ∀ t : Fin grid0.N, _)
/-- The block of the mixer's inputs at each point. -/
theorem idx3 : ∀ t : Fin cfg0.N, win0_3.index t = ![t.val / 20, min (t.val % 20) 7] := (by decide +kernel : ∀ t : Fin grid0.N, _)
/-- The block of the heads at each point. -/
theorem idx4 : ∀ t : Fin cfg0.N, win0_4.index t = ![t.val % 20 - 8, t.val / 20, 0] := (by decide +kernel : ∀ t : Fin grid0.N, _)
/-- The block of the kept rows at each point. -/
theorem idx5 : ∀ t : Fin cfg0.N, win0_5.index t = ![0, if t.val < 104 then 0 else if t.val < 108 then t.val - 104 else if t.val < 112 then 3 else t.val - 108] :=
  (by decide +kernel : ∀ t : Fin grid0.N, _)

/-- The block of the rows at a point, at coordinates. -/
theorem blk0 (c : Dev nD) (t : Fin cfg0.N) (r : Fin 1408) (q : Fin 4096) :
    iblk m c 0 t (ix2 r q) = X0 m c (ix2 ⟨t.val / 20 * 1408 + r.val, by have := t.isLt; have h : cfg0.N = 120 := N_0; omega⟩ q) := by
  blk_simp [iblk, V_main_arg0]
  refine congrArg _ (funext fun a => ?_)
  match a with
  | ⟨0, _⟩ => apply Fin.ext; blk_simp [idx0]
  | ⟨1, _⟩ => apply Fin.ext; blk_simp [idx0]

/-- The block of the columns at a point, at coordinates. -/
theorem blk1 (c : Dev nD) (t : Fin cfg0.N) (q : Fin 4096) (k : Fin 512) :
    iblk m c 1 t (ix2 q k) = X1 m c (ix2 q ⟨t.val % 20 * 512 + k.val, by omega⟩) := by
  blk_simp [iblk, V_main_arg1]
  refine congrArg _ (funext fun a => ?_)
  match a with
  | ⟨0, _⟩ => apply Fin.ext; blk_simp [idx1]
  | ⟨1, _⟩ => apply Fin.ext; blk_simp [idx1]

/-- The products of a point, at coordinates. -/
theorem accAt_apply (c : Dev nD) (t : Fin cfg0.N) (r : Fin 1408) (k : Fin 512) :
    accAt m c t (ix2 r k) = prodN (X0 m c) (X1 m c) (t.val / 20 * 1408 + r.val) (t.val % 20 * 512 + k.val) := by
  have ht := t.isLt
  have h : cfg0.N = 120 := N_0
  unfold accAt prodN
  rw [dif_pos ⟨by omega, by omega⟩]
  refine (acc_apply _ _ r k).trans ?_
  exact Finset.sum_congr rfl fun q _ => congr (congrArg _ (blk0 m c t r q)) (blk1 m c t q k)

/-- The gains as the launch finds them. -/
theorem V_gain (c : Dev nD) : V m c main_v0 = shapeCast S1x2048 (X2 m c) shapeCasts_S2048_S1x2048 := by
  entry_read; rfl

/-- The block of the gains at a point, at coordinates. -/
theorem blk2 (c : Dev nD) (t : Fin cfg0.N) (k : Fin 512) :
    iblk m c 2 t (ix2 0 k) = gainN (X2 m c) (min (t.val % 20 - 4) 3 * 512 + k.val) := by
  blk_simp [iblk]
  rw [V_gain]
  unfold gainN
  rw [dif_pos (by omega)]
  refine shapeCast_apply _ shapeCasts_S2048_S1x2048 _ _ ?_
  rw [Shape.rowMajor_val_two, Shape.rowMajor_val_one]
  blk_simp [idx2]

/-- The values of a point of the value columns, at coordinates. -/
theorem vals_at (c : Dev nD) (t : Fin cfg0.N) (h4 : 4 ≤ t.val % 20) (h8 : t.val % 20 < 8) (r : Fin 1408) (k : Fin 512) :
    vals (accAt m c t) (iblk m c 2 t) (ix2 r k)
      = valN (X0 m c) (X1 m c) (X2 m c) (t.val / 20 * 1408 + r.val) ((t.val % 20 - 4) * 512 + k.val) := by
  refine (vals_apply _ _ r k).trans ?_
  unfold valN
  have hk := k.isLt
  have e1 : accAt m c t (ix2 r k) = prodN (X0 m c) (X1 m c) (t.val / 20 * 1408 + r.val) (2048 + ((t.val % 20 - 4) * 512 + k.val)) :=
    (accAt_apply m c t r k).trans (congrArg _ (by omega))
  have e2 : (fun j => accAt m c t (ix2 r j)) = fun j : Fin 512 => prodN (X0 m c) (X1 m c) (t.val / 20 * 1408 + r.val) (2048 + ((t.val % 20 - 4) * 512 + k.val) / 512 * 512 + j.val) :=
    funext fun j => (accAt_apply m c t r j).trans (congrArg _ (by omega))
  have e3 : iblk m c 2 t (ix2 0 k) = gainN (X2 m c) ((t.val % 20 - 4) * 512 + k.val) :=
    (blk2 m c t k).trans (congrArg _ (by omega))
  exact congr (congr (congrArg _ e1) e2) e3

/-- What a point stores for the mixer, at coordinates. -/
theorem PA_apply (c : Dev nD) (t : Fin cfg0.N) (h8 : t.val % 20 < 8) (r : Fin 1408) (k : Fin 512) (n l : ℕ)
    (hn : n = t.val / 20 * 1408 + r.val) (hl : l = t.val % 20 * 512 + k.val) :
    PA m c t (ix2 r k) = if l < 2048 then geluE (prodN (X0 m c) (X1 m c) n l) else valN (X0 m c) (X1 m c) (X2 m c) n (l - 2048) := by
  have hk := k.isLt
  subst hn hl
  unfold PA
  by_cases h : t.val % 20 < 4
  · rw [if_pos h, if_pos (by omega)]
    show gelu (accAt m c t) (ix2 r k) = _
    rw [gelu_apply, accAt_apply]
  · rw [if_neg h, if_neg (by omega)]
    show vals (accAt m c t) (iblk m c 2 t) (ix2 r k) = _
    exact (vals_at m c t (by omega) h8 r k).trans (congrArg _ (by omega))

/-- What a point of the last rows stores of them, at coordinates. -/
theorem SA_apply (c : Dev nD) (t : Fin cfg0.N) (h : 104 ≤ t.val) (h8 : t.val < 108 ∨ 112 ≤ t.val) (r : Fin 1408) (k : Fin 512) (n l : ℕ)
    (hn : n = r.val) (hl : l = (if t.val < 108 then t.val - 104 else t.val - 108) * 512 + k.val) :
    SA m c t (ix2 r k) = if l < 2048 then valN (X0 m c) (X1 m c) (X2 m c) (7040 + n) l else prodN (X0 m c) (X1 m c) (7040 + n) (4096 + l) := by
  have hk := k.isLt
  have ht := t.isLt
  have hN : cfg0.N = 120 := N_0
  subst hn
  unfold SA
  have e : t.val / 20 * 1408 = 7040 := by omega
  rcases h8 with h8 | h8
  · rw [if_pos h8] at hl
    rw [if_pos (by omega), if_pos (by omega)]
    refine (vals_at m c t (by omega) (by omega) r k).trans ?_
    rw [e]
    exact congrArg _ (by omega)
  · rw [if_neg (by omega)] at hl
    rw [if_neg (by omega), if_neg (by omega)]
    refine (accAt_apply m c t r k).trans ?_
    rw [e]
    exact congrArg _ (by omega)

/-- The mixer's inputs after the run. -/
theorem final_p (c : Dev nD) : (dats m 0 c).arrAt 3 cfg0.N = G3 (X0 m c) (X1 m c) (X2 m c) := by
  refine (dats m 0 c).arrAt_eq_of_covers 3 _ (by decide +kernel) fun t hf y => ?_
  blk_simp
  rw [after0_3]
  have ht : t.val < 120 := Nat.lt_of_lt_of_eq t.isLt N_0
  have h0 : (((win0_3.blk t).view.emb y) 0).val = t.val / 20 * 1408 + (y 0).val := by
    blk_simp [idx3]
  have h1 : (((win0_3.blk t).view.emb y) 1).val = min (t.val % 20) 7 * 512 + (y 1).val := by
    blk_simp [idx3]
  have hy : y = ix2 (y 0) (y 1) := by
    funext a
    match a with
    | ⟨0, _⟩ => rfl
    | ⟨1, _⟩ => rfl
  have hs : (srcP t).val / 20 = t.val / 20 ∧ (srcP t).val % 20 = min (t.val % 20) 7 := by
    unfold srcP
    split_ifs with h
    · omega
    · show (t.val / 20 * 20 + 7) / 20 = _ ∧ (t.val / 20 * 20 + 7) % 20 = _
      omega
  rw [hy]
  rw [hy] at h0 h1
  exact (PA_apply m c (srcP t) (by omega) (y 0) (y 1) _ _ (h0.trans (by rw [hs.1]; rfl)) (h1.trans (by rw [hs.2]; rfl)))

/-- The heads after the run. -/
theorem final_q (c : Dev nD) : (dats m 0 c).arrAt 4 cfg0.N = G4 (X0 m c) (X1 m c) := by
  refine (dats m 0 c).arrAt_eq_of_covers 4 _ (by decide +kernel) fun t hf y => ?_
  blk_simp
  rw [after0_4]
  have ht : t.val < 120 := Nat.lt_of_lt_of_eq t.isLt N_0
  have h0 : (((win0_4.blk t).view.emb y) 0).val = (t.val % 20 - 8) * 4 + (y 0).val := by
    blk_simp [idx4]
  have h1 : (((win0_4.blk t).view.emb y) 1).val = t.val / 20 * 1408 + (y 1).val := by
    blk_simp [idx4]
  have h2 : (((win0_4.blk t).view.emb y) 2).val = (y 2).val := by
    blk_simp [idx4]
  have h8 : 8 ≤ t.val % 20 := by
    exact of_decide_eq_true ((flush_q t).symm.trans hf)
  have hy : y = ix3 (y 0) (y 1) (y 2) := by
    funext a
    match a with
    | ⟨0, _⟩ => rfl
    | ⟨1, _⟩ => rfl
    | ⟨2, _⟩ => rfl
  have hy0 : (y 0).val < 4 := (y 0).isLt
  refine (congrArg (headsOf (accAt m c t)) hy).trans ?_
  refine (headsOf_apply _ (y 0) (y 1) (y 2)).trans ?_
  refine (accAt_apply m c t (y 1) _).trans ?_
  unfold G4
  rw [h0, h1, h2]
  refine congrArg _ ?_
  show t.val % 20 * 512 + (128 * (y 0).val + (y 2).val) = _
  omega

/-- The kept rows after the run. -/
theorem final_s (c : Dev nD) : (dats m 0 c).arrAt 5 cfg0.N = G5 (X0 m c) (X1 m c) (X2 m c) := by
  refine (dats m 0 c).arrAt_eq_of_covers 5 _ (by decide +kernel) fun t hf y => ?_
  blk_simp
  rw [after0_5]
  have ht : t.val < 120 := Nat.lt_of_lt_of_eq t.isLt N_0
  have hfl : (104 ≤ t.val ∧ t.val < 107) ∨ 111 ≤ t.val := by
    exact of_decide_eq_true ((flush_s t).symm.trans hf)
  have h0 : (((win0_5.blk t).view.emb y) 0).val = (y 0).val := by
    blk_simp [idx5]
  have h1 : (((win0_5.blk t).view.emb y) 1).val = (if t.val < 104 then 0 else if t.val < 108 then t.val - 104 else if t.val < 112 then 3 else t.val - 108) * 512 + (y 1).val := by
    blk_simp [idx5]
  have hy : y = ix2 (y 0) (y 1) := by
    funext a
    match a with
    | ⟨0, _⟩ => rfl
    | ⟨1, _⟩ => rfl
  have hs : 104 ≤ (srcS t).val ∧ ((srcS t).val < 108 ∨ 112 ≤ (srcS t).val)
      ∧ (if t.val < 104 then 0 else if t.val < 108 then t.val - 104 else if t.val < 112 then 3 else t.val - 108) = (if (srcS t).val < 108 then (srcS t).val - 104 else (srcS t).val - 108) := by
    by_cases h : 108 ≤ t.val ∧ t.val < 112
    · have e : (srcS t).val = 107 := by unfold srcS; rw [if_pos h]
      rw [e]
      refine ⟨by omega, by omega, ?_⟩
      rw [if_neg (by omega), if_neg (by omega), if_pos h.2, if_pos (by omega)]
    · have e : (srcS t).val = t.val := by unfold srcS; rw [if_neg h]
      rw [e]
      refine ⟨by omega, by omega, ?_⟩
      rw [if_neg (by omega)]
      by_cases h' : t.val < 108
      · rw [if_pos h', if_pos h']
      · rw [if_neg h', if_neg h', if_neg (by omega)]
  refine (congrArg (SA m c (srcS t)) hy).trans ?_
  exact (SA_apply m c (srcS t) hs.1 hs.2.1 (y 0) (y 1) _ _ h0 (h1.trans (by rw [hs.2.2])))

end Cert.Inp

end
-- ==== Proof.Inproj.Ref.lean ====
/- The plain projection's three results at an index, over the extended reals. -/
module

public import proofs.«01_k».proof.Proof.Inproj.Final
public import proofs.«01_k».proof.Proof.Gen.PlainIdeal.Read

@[expose] public section

set_option maxRecDepth 16384

noncomputable section

namespace Cert.Inp

open Idealize
open Idealize.ShloMosaic hiding ix1 ix2 ix3
open Idealize.ShloMosaic.TcCoe
open Idealize.ShloMosaic.ValueIdx
open Cert.PlainIdeal Cert.PlainIdeal.Gen Cert.PlainIdeal.Read

variable (x0 : (⟨S8448x4096, .bf16⟩ : BufTy).Contents (Elt Ideal)) (x1 : (⟨S4096x10240, .f32⟩ : BufTy).Contents (Elt Ideal))
  (x2 : (⟨S2048, .f32⟩ : BufTy).Contents (Elt Ideal))

/-- The product at an index. -/
theorem ref3 (i : S8448x10240.Idx) (n k : ℕ) (hn : n = (i 0).val) (hk : k = (i 1).val) :
    val_main_v1 (F := Ideal) x0 x1 i = prodN x0 x1 n k := by
  subst hn hk
  rw [val_main_v1_apply]
  unfold prodN
  rw [dif_pos ⟨(i 0).isLt, (i 1).isLt⟩]
  refine Finset.sum_congr rfl fun q _ => congr (congrArg _ (congrArg x0 (funext fun a => ?_))) (congrArg x1 (funext fun a => ?_))
  · match a with
    | ⟨0, _⟩ => rfl
    | ⟨1, _⟩ => rfl
  · match a with
    | ⟨0, _⟩ => rfl
    | ⟨1, _⟩ => rfl

/-- The gates at an index. -/
theorem ref17 (i : S8448x2048.Idx) : val_main_v15 (F := Ideal) x0 x1 i = geluE (prodN x0 x1 (i 0).val (i 1).val) := by
  rw [val_main_v15_apply, val_main_v14_apply, val_main_v13_apply, val_main_v12_apply, val_main_v11_apply, val_main_v10_apply, val_main_v9_apply,
    val_main_v8_apply, val_main_v7_apply, val_main_v6_apply, val_main_v5_apply, val_main_v4_apply, val_main_v3_apply, val_main_v2_apply,
    ref3 x0 x1 (idx_main_v2 i) (i 0).val (i 1).val rfl rfl]
  generalize prodN x0 x1 (i 0).val (i 1).val = z
  unfold geluE
  rw [← mul_assoc z z z]
  rfl

/-- The values' gelu at an index. -/
theorem ref31 (i : S8448x2048.Idx) : val_main_v29 (F := Ideal) x0 x1 i = geluE (prodN x0 x1 (i 0).val (2048 + (i 1).val)) := by
  rw [val_main_v29_apply, val_main_v28_apply, val_main_v27_apply, val_main_v26_apply, val_main_v25_apply, val_main_v24_apply, val_main_v23_apply,
    val_main_v22_apply, val_main_v21_apply, val_main_v20_apply, val_main_v19_apply, val_main_v18_apply, val_main_v17_apply, val_main_v16_apply,
    ref3 x0 x1 (idx_main_v16 i) (i 0).val (2048 + (i 1).val) rfl rfl]
  generalize prodN x0 x1 (i 0).val (2048 + (i 1).val) = z
  unfold geluE
  rw [← mul_assoc z z z]
  rfl

/-- The values' gelu by group. -/
theorem ref32 (i : S8448x4x512.Idx) : val_main_v30 (F := Ideal) x0 x1 i = geluE (prodN x0 x1 (i 0).val (2048 + ((i 1).val * 512 + (i 2).val))) := by
  have h1 : (i 1).val < 4 := (i 1).isLt
  have h2 : (i 2).val < 512 := (i 2).isLt
  rw [val_main_v30_apply, ref31]
  refine congrArg geluE (congr (congrArg _ ?_) ?_)
  · show (((i 0).val * 4 + (i 1).val) * 512 + (i 2).val) / 2048 = (i 0).val
    omega
  · show 2048 + (((i 0).val * 4 + (i 1).val) * 512 + (i 2).val) % 2048 = 2048 + ((i 1).val * 512 + (i 2).val)
    omega

/-- The reciprocal root mean square of a group. -/
theorem ref40 (i : S8448x4x1.Idx) : val_main_v38 (F := Ideal) x0 x1 i
    = Ideal.rsqrt (Ideal.div (∑ j : Fin 512, geluE (prodN x0 x1 (i 0).val (2048 + ((i 1).val * 512 + j.val))) * geluE (prodN x0 x1 (i 0).val (2048 + ((i 1).val * 512 + j.val))))
      (Ideal.ofBits .f32 0x44000000#32) + Ideal.ofBits .f32 0x358637BD#32) := by
  rw [val_main_v38_apply, val_main_v37_apply, val_main_v36_apply, val_main_v35_apply, val_main_v34_apply, val_main_v33_apply, val_main_v32_apply]
  have e0 : (val_main_cst_7 (F := Ideal)) (Shape.Idx.first h_S_) = (0 : EReal) := by
    show Ideal.ofBits .f32 0x00000000#32 = _
    simp [Ideal.ofBits, Ideal.ieee]
  have e1 : (∑ k : Fin 512, (val_main_v31 (F := Ideal) x0 x1) (idx_main_v32 (idx_main_v33 i) k) : EReal)
      = ∑ j : Fin 512, geluE (prodN x0 x1 (i 0).val (2048 + ((i 1).val * 512 + j.val))) * geluE (prodN x0 x1 (i 0).val (2048 + ((i 1).val * 512 + j.val))) :=
    Finset.sum_congr rfl fun k _ => by rw [val_main_v31_apply, ref32]; rfl
  rw [e0, e1, zero_add]
  rfl

/-- The values at an index. -/
theorem ref47 (i : S8448x2048.Idx) : val_main_v45 (F := Ideal) x0 x1 x2 i = valN x0 x1 x2 (i 0).val (i 1).val := by
  have h1 : (i 1).val < 2048 := (i 1).isLt
  rw [val_main_v45_apply, val_main_v44_apply, val_main_v43_apply, val_main_v42_apply, val_main_v41_apply, val_main_v40_apply, val_main_v39_apply, ref32, ref40]
  have a0 : (idx_main_v45 i 0).val = (i 0).val := by show ((i 0).val * 2048 + (i 1).val) / 2048 = _; omega
  have a1 : (idx_main_v45 i 1).val = (i 1).val / 512 := by show ((i 0).val * 2048 + (i 1).val) / 512 % 4 = _; omega
  have a2 : (idx_main_v45 i 2).val = (i 1).val % 512 := by show ((i 0).val * 2048 + (i 1).val) % 512 = _; omega
  have g : x2 (idx_main_v41 (idx_main_v42 (idx_main_v43 (idx_main_v45 i)))) = gainN x2 (i 1).val := by
    unfold gainN
    rw [dif_pos h1]
    refine congrArg x2 (funext fun a => ?_)
    match a with
    | ⟨0, _⟩ =>
      apply Fin.ext
      show (idx_main_v45 i 1).val * 512 + (idx_main_v45 i 2).val = (i 1).val
      rw [a1, a2]; omega
  rw [a0, a1, a2, g]
  unfold valN valE
  have e : (i 1).val / 512 * 512 + (i 1).val % 512 = (i 1).val := by omega
  rw [e]
  simp only [Nat.add_assoc]
  rfl

/-- The mixer's inputs. -/
theorem ref52 : val_main_v50 (F := Ideal) x0 x1 x2 = G3 x0 x1 x2 := by
  funext i
  have h1 : (i 1).val < 4096 := (i 1).isLt
  rw [val_main_v50_apply]
  show val_main_v49 (F := Ideal) x0 x1 x2 i = _
  unfold val_main_v49 G3
  by_cases h : (i 1).val < 2048
  · rw [if_pos h]
    refine (concatenate_pair_apply_left (t := S8448x4096) (1 : Fin 2) (val_main_v15 (F := Ideal) x0 x1) (val_main_v45 (F := Ideal) x0 x1 x2) _ i rfl
      (ix2 (i 0) ⟨(i 1).val, h⟩) (fun b => by match b with | ⟨0, _⟩ => rfl | ⟨1, _⟩ => rfl)).trans ?_
    exact ref17 x0 x1 _
  · rw [if_neg h]
    refine (concatenate_pair_apply_right (t := S8448x4096) (1 : Fin 2) (val_main_v15 (F := Ideal) x0 x1) (val_main_v45 (F := Ideal) x0 x1 x2) _ i rfl rfl
      (ix2 (i 0) ⟨(i 1).val - 2048, by omega⟩) (fun b hb => by match b with | ⟨0, _⟩ => rfl | ⟨1, _⟩ => exact absurd rfl hb) (by show (i 1).val - 2048 + 2048 = (i 1).val; omega)).trans ?_
    exact ref47 x0 x1 x2 _

/-- The heads. -/
theorem ref56 : val_main_v54 (F := Ideal) x0 x1 = G4 x0 x1 := by
  funext i
  have h0 : (i 0).val < 48 := (i 0).isLt
  have h2 : (i 2).val < 128 := (i 2).isLt
  rw [val_main_v54_apply]
  show val_main_v48 (F := Ideal) x0 x1 i = _
  rw [val_main_v48_apply, val_main_v47_apply, val_main_v46_apply]
  unfold G4
  refine ref3 x0 x1 _ _ _ ?_ ?_
  · show (i 1).val = (((i 1).val * 48 + (i 0).val) * 128 + (i 2).val) / 6144
    omega
  · show 4096 + 128 * (i 0).val + (i 2).val = 4096 + (((i 1).val * 48 + (i 0).val) * 128 + (i 2).val) % 6144
    omega

/-- The kept rows. -/
theorem ref55 : val_main_v53 (F := Ideal) x0 x1 x2 = G5 x0 x1 x2 := by
  funext i
  have h0 : (i 0).val < 1408 := (i 0).isLt
  have h1 : (i 1).val < 6144 := (i 1).isLt
  rw [val_main_v53_apply]
  unfold val_main_v52 G5
  by_cases h : (i 1).val < 2048
  · rw [if_pos h]
    refine (concatenate_pair_apply_left (t := S8448x6144) (1 : Fin 2) (val_main_v45 (F := Ideal) x0 x1 x2) (val_main_v51 (F := Ideal) x0 x1) _ (idx_main_v53 i) rfl
      (ix2 ⟨7040 + (i 0).val, by omega⟩ ⟨(i 1).val, h⟩) (fun b => by match b with | ⟨0, _⟩ => rfl | ⟨1, _⟩ => rfl)).trans ?_
    exact ref47 x0 x1 x2 _
  · rw [if_neg h]
    refine (concatenate_pair_apply_right (t := S8448x6144) (1 : Fin 2) (val_main_v45 (F := Ideal) x0 x1 x2) (val_main_v51 (F := Ideal) x0 x1) _ (idx_main_v53 i) rfl rfl
      (ix2 ⟨7040 + (i 0).val, by omega⟩ ⟨(i 1).val - 2048, by omega⟩) (fun b hb => by match b with | ⟨0, _⟩ => rfl | ⟨1, _⟩ => exact absurd rfl hb) (by show (i 1).val - 2048 + 2048 = (i 1).val; omega)).trans ?_
    rw [val_main_v51_apply]
    exact ref3 x0 x1 _ _ _ rfl (by show 4096 + (i 1).val = 6144 + ((i 1).val - 2048); omega)

end Cert.Inp

end
-- ==== Proof.Outproj.Pieces.lean ====
/- What a point of the output projection leaves: its block of the result, and the two halves of the weights' columns it rounds and keeps. -/
module

public import proofs.«01_k».proof.Proof.Gen.OutprojIdeal.Frame
public import Idealize.ShloMosaic.Lib.Pipeline.Value

@[expose] public section

set_option maxRecDepth 16384

noncomputable section

namespace Cert.Outp

open Idealize
open Idealize.ShloMosaic
open Idealize.ShloMosaic.TcCoe
open Idealize.ShloMosaic.Tactic
open Cert.OutprojIdeal Cert.OutprojIdeal.Gen

variable {F : FTy → Type} [FloatOps F]

/-- The offsets of a whole block. -/
theorem hz : (![0, 0] : Fin 2 → Nat) = fun _ => 0 := funext fun a => by fin_cases a <;> rfl

variable (c : Dev nD) (i : grid0.Coords)
  (a2 : Memref sig .tc .vmem S1024x2048 .bf16) (h2 : a2.IsWhole) (a3 : Memref sig .tc .vmem S1024x2048 .bf16) (h3 : a3.IsWhole)
  (a4 : Memref sig .tc .vmem S2048x512 .f32) (h4 : a4.IsWhole) (a5 : Memref sig .tc .vmem S2048x512 .f32) (h5 : a5.IsWhole)
  (a6 : Memref sig .tc .vmem S1024x512 .f32) (h6 : a6.IsWhole) (a7 : Memref sig .tc .vmem S1024x512 .f32) (h7 : a7.IsWhole)
  (a8 : Memref sig .tc .vmem S2048x512 .bf16) (h8 : a8.IsWhole) (a9 : Memref sig .tc .vmem S2048x512 .bf16) (h9 : a9.IsWhole)
  (x0 x1 : Vec F S1024x2048 .bf16) (x2 x3 : Vec F S2048x512 .f32) (x4 : Vec F S1024x512 .f32) (s0 s1 : Vec F S2048x512 .bf16)

/-- The kept upper half after a first point: the point's own weights, rounded. -/
theorem keep0_A (hc : cond0_0 i) : sout0_A_0 c i a2 h2 a3 h3 a4 h4 a5 h5 a6 h6 a7 h7 a8 h8 a9 h9 hc x0 x1 x2 x3 x4 = k0_pay1 x2 := by
  unfold sout0_A_0
  rw [View.read_writes_eq_canon _ _ _ (scover0_A_0 c i a2 h2 a3 h3 a4 h4 a5 h5 a6 h6 a7 h7 a8 h8 a9 h9 hc x0 x1 x2 x3 x4)]
  unfold kernelRun0_A
  dsimp only
  sl_unfold_words
  rw [View.canon_unit_zero (S := S2048x512) hz]
  simp only [View.readAt_eq_ld, h4.read_unread, View.ld_unit_zero (S := S2048x512) hz]

/-- The kept lower half after a first point. -/
theorem keep1_A (hc : cond0_0 i) : sout0_A_1 c i a2 h2 a3 h3 a4 h4 a5 h5 a6 h6 a7 h7 a8 h8 a9 h9 hc x0 x1 x2 x3 x4 = k0_pay2 x3 := by
  unfold sout0_A_1
  rw [View.read_writes_eq_canon _ _ _ (scover0_A_1 c i a2 h2 a3 h3 a4 h4 a5 h5 a6 h6 a7 h7 a8 h8 a9 h9 hc x0 x1 x2 x3 x4)]
  unfold kernelRun0_A
  dsimp only
  sl_unfold_words
  rw [View.canon_unit_zero (S := S2048x512) hz]
  simp only [View.readAt_eq_ld, h5.read_unread, View.ld_unit_zero (S := S2048x512) hz]

/-- The block of the result after a first point. -/
theorem out_A (hc : cond0_0 i) : out0_A_5 c i a2 h2 a3 h3 a4 h4 a5 h5 a6 h6 a7 h7 a8 h8 a9 h9 hc x0 x1 x2 x3 x4
    = k0_pay3 x0 (k0_pay1 x2) x1 (k0_pay2 x3) x4 := by
  unfold out0_A_5
  rw [View.read_writes_eq_canon _ _ _ (cover0_A_5 c i a2 h2 a3 h3 a4 h4 a5 h5 a6 h6 a7 h7 a8 h8 a9 h9 hc x0 x1 x2 x3 x4)]
  unfold kernelRun0_A
  dsimp only
  sl_unfold_words
  rw [View.canon_unit_zero (S := S1024x512) hz]
  simp only [View.readCov_unit_zero (S := S2048x512) _ hz, View.readAt_eq_ld, h2.read_unread, h3.read_unread, h4.read_unread, h5.read_unread, h6.read_unread,
    View.ld_unit_zero (S := S2048x512) hz, View.ld_unit_zero (S := S1024x2048) hz, View.ld_unit_zero (S := S1024x512) hz]

/-- The block of the result after another point. -/
theorem out_B (hc : ¬cond0_0 i) : out0_B_5 c i a2 h2 a3 h3 a4 h4 a5 h5 a6 h6 a7 h7 a8 h8 a9 h9 hc x0 x1 x2 x3 x4 s0 s1
    = k0_pay3 x0 s0 x1 s1 x4 := by
  unfold out0_B_5
  rw [View.read_writes_eq_canon _ _ _ (cover0_B_5 c i a2 h2 a3 h3 a4 h4 a5 h5 a6 h6 a7 h7 a8 h8 a9 h9 hc x0 x1 x2 x3 x4 s0 s1)]
  unfold kernelRun0_B
  dsimp only
  rw [View.canon_unit_zero (S := S1024x512) hz]
  simp only [View.readAt_eq_ld, h2.read_unread, h3.read_unread, h6.read_unread, h8.read_unread, h9.read_unread,
    View.ld_unit_zero (S := S2048x512) hz, View.ld_unit_zero (S := S1024x2048) hz, View.ld_unit_zero (S := S1024x512) hz]

end Cert.Outp

end
-- ==== Proof.Outproj.Value.lean ====
/- What the output projection's launch leaves in its array, over the extended reals. -/
module

public import proofs.«01_k».proof.Proof.Outproj.Pieces
public import proofs.«01_k».proof.Proof.Gen.OutprojIdeal.Value
public import Idealize.ShloMosaic.Lib.ValueIdx
public import Idealize.ShloMosaic.Lib.Pipeline.Value
public import Idealize.ShloMosaic.Lib.Pipeline.ValueKit
public import Idealize.ShloMosaic.PureOps.IdealRules
public import Idealize.ShloMosaic.PureOps.Ideal.Laws

@[expose] public section

set_option maxRecDepth 16384

noncomputable section

namespace Cert.Outp

open Idealize
open Idealize.ShloMosaic hiding ix1 ix2 ix3
open Idealize.ShloMosaic.TcCoe
open Idealize.ShloMosaic.ValueIdx
open Idealize.ShloMosaic.Tactic
open Idealize.SL.Sem
open Idealize.ShloMosaic.Pipeline (Dat Cfg Window)
open Cert.OutprojIdeal Cert.OutprojIdeal.Gen

/-- A block's product with half of the weights' columns, at an index. -/
theorem half_apply (x : FVec Ideal S1024x2048 .bf16) (w : FVec Ideal S2048x512 .bf16) (r : Fin 1024) (k : Fin 512) :
    (matmul (F := Ideal) dot_S1024x2048_S2048x512_S1024x512_1_0_0_1_n_n none x w (constant S1024x512 .f32 0x00000000#32) : FVec Ideal S1024x512 .f32) (ix2 r k)
      = (∑ q : Fin 2048, (x (ix2 r q) : EReal) * w (ix2 q k) : EReal) := by
  refine (Ideal.matmul_constant_zero_apply _ none _ _ _).trans ?_
  refine (Equiv.sum_comp (contrEquiv1 dot_S1024x2048_S2048x512_S1024x512_1_0_0_1_n_n 2048 rfl rfl).symm _).symm.trans ?_
  refine Finset.sum_congr rfl fun d _ => congr (congrArg _ (congrArg x (funext fun a => ?_))) (congrArg w (funext fun a => ?_))
  · match a with
    | ⟨0, _⟩ => rfl
    | ⟨1, _⟩ => rfl
  · match a with
    | ⟨0, _⟩ => rfl
    | ⟨1, _⟩ => rfl

/-- The rounded upper half of the weights' columns is the half itself. -/
theorem pay1_eq (w : Vec Ideal S2048x512 .f32) : k0_pay1 (F := Ideal) w = (w : S2048x512.Idx → EReal) := by
  unfold k0_pay1
  exact shapeCast_self _ _

/-- The rounded lower half is the half itself. -/
theorem pay2_eq (w : Vec Ideal S2048x512 .f32) : k0_pay2 (F := Ideal) w = (w : S2048x512.Idx → EReal) := by
  unfold k0_pay2
  exact shapeCast_self _ _

/-- What a point stores, at an index: the stream plus the two half products. -/
theorem pay3_apply (x0 x1 : Vec Ideal S1024x2048 .bf16) (w0 w1 : Vec Ideal S2048x512 .bf16) (x4 : Vec Ideal S1024x512 .f32) (r : Fin 1024) (k : Fin 512) :
    k0_pay3 (F := Ideal) x0 w0 x1 w1 x4 (ix2 r k)
      = ((x4 (ix2 r k) : EReal) + ((∑ q : Fin 2048, (x0 (ix2 r q) : EReal) * w0 (ix2 q k)) + ∑ q : Fin 2048, (x1 (ix2 r q) : EReal) * w1 (ix2 q k)) : EReal) := by
  unfold k0_pay3
  exact congrArg _ (congr (congrArg _ (half_apply x0 w0 r k)) (half_apply x1 w1 r k))

variable (m : (ℓ : Loc nD τ sig) → Buf (Elt Ideal) ℓ)

/-- The first mixer's rows of a core. -/
abbrev X0 (c : Dev nD) : S8448x2048.Idx → EReal := m ((c.tc : Thread nD τ).loc main_arg0)
/-- The second mixer's rows of a core. -/
abbrev X1 (c : Dev nD) : S8192x2048.Idx → EReal := m ((c.tc : Thread nD τ).loc main_arg1)
/-- The weights of a core. -/
abbrev X2 (c : Dev nD) : S4096x4096.Idx → EReal := m ((c.tc : Thread nD τ).loc main_arg2)
/-- The stream of a core. -/
abbrev X3 (c : Dev nD) : S8192x4096.Idx → EReal := m ((c.tc : Thread nD τ).loc main_arg3)

/-- The block of the first mixer's rows at each point. -/
theorem idx0 : ∀ t : Fin cfg0.N, win0_0.index t = ![t.val % 8, 0] := (by decide +kernel : ∀ t : Fin grid0.N, _)
/-- The block of the second mixer's rows at each point. -/
theorem idx1 : ∀ t : Fin cfg0.N, win0_1.index t = ![t.val % 8, 0] := (by decide +kernel : ∀ t : Fin grid0.N, _)
/-- The block of the upper weights at each point. -/
theorem idx2 : ∀ t : Fin cfg0.N, win0_2.index t = ![0, t.val / 8] := (by decide +kernel : ∀ t : Fin grid0.N, _)
/-- The block of the lower weights at each point. -/
theorem idx3 : ∀ t : Fin cfg0.N, win0_3.index t = ![1, t.val / 8] := (by decide +kernel : ∀ t : Fin grid0.N, _)
/-- The block of the stream at each point. -/
theorem idx4 : ∀ t : Fin cfg0.N, win0_4.index t = ![t.val % 8, t.val / 8] := (by decide +kernel : ∀ t : Fin grid0.N, _)
/-- The block of the result at each point. -/
theorem idx5 : ∀ t : Fin cfg0.N, win0_5.index t = ![t.val % 8, t.val / 8] := (by decide +kernel : ∀ t : Fin grid0.N, _)

/-- A point is one of 64. -/
theorem lt64 (t : Fin cfg0.N) : t.val < 64 := Nat.lt_of_lt_of_eq t.isLt N_0

/-- The block of the first mixer's rows, at coordinates. -/
theorem blk0 (c : Dev nD) (t : Fin cfg0.N) (r : Fin 1024) (q : Fin 2048) :
    X0_0 m c t (ix2 r q) = X0 m c (ix2 ⟨t.val % 8 * 1024 + r.val, by omega⟩ q) := by
  unfold X0_0 Pipeline.Window.fill
  rw [dif_pos (moved0_0 t _)]
  blk_simp [iblk, V_main_arg0]
  refine congrArg _ (funext fun a => ?_)
  match a with
  | ⟨0, _⟩ => apply Fin.ext; blk_simp [idx0]
  | ⟨1, _⟩ => apply Fin.ext; blk_simp [idx0]

/-- The block of the second mixer's rows, at coordinates. -/
theorem blk1 (c : Dev nD) (t : Fin cfg0.N) (r : Fin 1024) (q : Fin 2048) :
    iblk m c 1 t (ix2 r q) = X1 m c (ix2 ⟨t.val % 8 * 1024 + r.val, by omega⟩ q) := by
  blk_simp [iblk, V_main_arg1]
  refine congrArg _ (funext fun a => ?_)
  match a with
  | ⟨0, _⟩ => apply Fin.ext; blk_simp [idx1]
  | ⟨1, _⟩ => apply Fin.ext; blk_simp [idx1]

/-- The block of the upper weights, at coordinates. -/
theorem blk2 (c : Dev nD) (t : Fin cfg0.N) (q : Fin 2048) (k : Fin 512) :
    iblk m c 2 t (ix2 q k) = X2 m c (ix2 ⟨q.val, by omega⟩ ⟨t.val / 8 * 512 + k.val, by have := lt64 t; omega⟩) := by
  blk_simp [iblk, V_main_arg2]
  refine congrArg _ (funext fun a => ?_)
  match a with
  | ⟨0, _⟩ => apply Fin.ext; blk_simp [idx2]
  | ⟨1, _⟩ => apply Fin.ext; blk_simp [idx2]

/-- The block of the lower weights, at coordinates. -/
theorem blk3 (c : Dev nD) (t : Fin cfg0.N) (q : Fin 2048) (k : Fin 512) :
    iblk m c 3 t (ix2 q k) = X2 m c (ix2 ⟨2048 + q.val, by omega⟩ ⟨t.val / 8 * 512 + k.val, by have := lt64 t; omega⟩) := by
  blk_simp [iblk, V_main_arg2]
  refine congrArg _ (funext fun a => ?_)
  match a with
  | ⟨0, _⟩ => apply Fin.ext; blk_simp [idx3]
  | ⟨1, _⟩ => apply Fin.ext; blk_simp [idx3]

/-- The block of the stream, at coordinates. -/
theorem blk4 (c : Dev nD) (t : Fin cfg0.N) (r : Fin 1024) (k : Fin 512) :
    iblk m c 4 t (ix2 r k) = X3 m c (ix2 ⟨t.val % 8 * 1024 + r.val, by omega⟩ ⟨t.val / 8 * 512 + k.val, by have := lt64 t; omega⟩) := by
  blk_simp [iblk, V_main_arg3]
  refine congrArg _ (funext fun a => ?_)
  match a with
  | ⟨0, _⟩ => apply Fin.ext; blk_simp [idx4]
  | ⟨1, _⟩ => apply Fin.ext; blk_simp [idx4]

/-- Two points of one column of blocks see the same upper weights. -/
theorem same2 (c : Dev nD) (t u : Fin cfg0.N) (h : t.val / 8 = u.val / 8) : iblk m c 2 t = iblk m c 2 u := by
  funext y
  have hy : y = ix2 (y 0) (y 1) := by
    funext a
    match a with
    | ⟨0, _⟩ => rfl
    | ⟨1, _⟩ => rfl
  rw [hy]
  refine (blk2 m c t (y 0) (y 1)).trans (Eq.trans ?_ (blk2 m c u (y 0) (y 1)).symm)
  simp only [h]

/-- Two points of one column of blocks see the same lower weights. -/
theorem same3 (c : Dev nD) (t u : Fin cfg0.N) (h : t.val / 8 = u.val / 8) : iblk m c 3 t = iblk m c 3 u := by
  funext y
  have hy : y = ix2 (y 0) (y 1) := by
    funext a
    match a with
    | ⟨0, _⟩ => rfl
    | ⟨1, _⟩ => rfl
  rw [hy]
  refine (blk3 m c t (y 0) (y 1)).trans (Eq.trans ?_ (blk3 m c u (y 0) (y 1)).symm)
  simp only [h]

/-- What is kept after every point: the rounded weights of the point's own column of blocks. -/
theorem kept (c : Dev nD) : ∀ (n : ℕ) (h : n < cfg0.N),
    (outsAt0 m c n h).2.1 = k0_pay1 (iblk m c 2 ⟨n, h⟩) ∧ (outsAt0 m c n h).2.2 = k0_pay2 (iblk m c 3 ⟨n, h⟩)
  | 0, h => by
    rw [outsAt0_A m c ⟨0, h⟩ rfl]
    dsimp only
    exact ⟨keep0_A (F := Ideal) .., keep1_A (F := Ideal) ..⟩
  | n + 1, h => by
    by_cases h0 : (n + 1) % 8 = 0
    · rw [outsAt0_A m c ⟨n + 1, h⟩ h0]
      dsimp only
      exact ⟨keep0_A (F := Ideal) .., keep1_A (F := Ideal) ..⟩
    · have ih := kept c n (Nat.lt_of_succ_lt h)
      have hq : n / 8 = (n + 1) / 8 := by omega
      rw [outsAt0_B m c ⟨n + 1, h⟩ h0]
      dsimp only
      exact ⟨ih.1.trans (congrArg _ (same2 m c ⟨n, Nat.lt_of_succ_lt h⟩ ⟨n + 1, h⟩ hq)), ih.2.trans (congrArg _ (same3 m c ⟨n, Nat.lt_of_succ_lt h⟩ ⟨n + 1, h⟩ hq))⟩

/-- What every point leaves in its block of the result. -/
theorem left (c : Dev nD) (t : Fin cfg0.N) :
    (outsAt0 m c t.val t.isLt).1 = k0_pay3 (X0_0 m c t) (k0_pay1 (iblk m c 2 t)) (iblk m c 1 t) (k0_pay2 (iblk m c 3 t)) (iblk m c 4 t) := by
  by_cases h0 : t.val % 8 = 0
  · rw [outsAt0_A m c t h0]
    dsimp only
    exact out_A (F := Ideal) ..
  · have hl : t.val - 1 < cfg0.N := Nat.lt_of_le_of_lt (Nat.sub_le _ _) t.isLt
    have ih := kept m c (t.val - 1) hl
    have hq : (t.val - 1) / 8 = t.val / 8 := by omega
    rw [outsAt0_B m c t h0]
    dsimp only
    refine (out_B (F := Ideal) ..).trans ?_
    rw [ih.1, ih.2, same2 m c ⟨t.val - 1, hl⟩ t hq, same3 m c ⟨t.val - 1, hl⟩ t hq]

/-- The stream's row `n` after the mixers: the stream plus the product of the two mixers' rows with the two halves of the weights. -/
def outN (x0 : S8448x2048.Idx → EReal) (x1 : S8192x2048.Idx → EReal) (x2 : S4096x4096.Idx → EReal) (x3 : S8192x4096.Idx → EReal) (n k : ℕ) : EReal :=
  if h : n < 8192 ∧ k < 4096 then
    x3 (ix2 ⟨n, h.1⟩ ⟨k, h.2⟩) + ((∑ q : Fin 2048, x0 (ix2 ⟨n, by omega⟩ q) * x2 (ix2 ⟨q.val, by omega⟩ ⟨k, h.2⟩))
      + ∑ q : Fin 2048, x1 (ix2 ⟨n, h.1⟩ q) * x2 (ix2 ⟨2048 + q.val, by omega⟩ ⟨k, h.2⟩))
  else 0

/-- The whole stream after the mixers. -/
def G5 (x0 : S8448x2048.Idx → EReal) (x1 : S8192x2048.Idx → EReal) (x2 : S4096x4096.Idx → EReal) (x3 : S8192x4096.Idx → EReal) : S8192x4096.Idx → EReal :=
  fun i => outN x0 x1 x2 x3 (i 0).val (i 1).val

/-- What a point leaves, at coordinates. -/
theorem left_apply (c : Dev nD) (t : Fin cfg0.N) (r : Fin 1024) (k : Fin 512) :
    (outsAt0 m c t.val t.isLt).1 (ix2 r k) = outN (X0 m c) (X1 m c) (X2 m c) (X3 m c) (t.val % 8 * 1024 + r.val) (t.val / 8 * 512 + k.val) := by
  have ht := lt64 t
  rw [left, pay1_eq, pay2_eq]
  refine (pay3_apply _ _ _ _ _ r k).trans ?_
  unfold outN
  rw [dif_pos ⟨by omega, by omega⟩]
  refine congr (congrArg _ (blk4 m c t r k)) (congr (congrArg _ ?_) ?_)
  · exact Finset.sum_congr rfl fun q _ => congr (congrArg _ (blk0 m c t r q)) (blk2 m c t q k)
  · exact Finset.sum_congr rfl fun q _ => congr (congrArg _ (blk1 m c t r q)) (blk3 m c t q k)

/-- The result after the run. -/
theorem final (c : Dev nD) : (dats m 0 c).arrAt 5 cfg0.N = G5 (X0 m c) (X1 m c) (X2 m c) (X3 m c) := by
  refine (dats m 0 c).arrAt_eq_of_covers 5 _ (by decide +kernel) fun t hf y => ?_
  blk_simp
  rw [after0_5]
  have h0 : (((win0_5.blk t).view.emb y) 0).val = t.val % 8 * 1024 + (y 0).val := by
    blk_simp [idx5]
  have h1 : (((win0_5.blk t).view.emb y) 1).val = t.val / 8 * 512 + (y 1).val := by
    blk_simp [idx5]
  have hy : y = ix2 (y 0) (y 1) := by
    funext a
    match a with
    | ⟨0, _⟩ => rfl
    | ⟨1, _⟩ => rfl
  rw [hy]
  rw [hy] at h0 h1
  refine (left_apply m c t (y 0) (y 1)).trans ?_
  unfold G5
  rw [h0, h1]
  rfl

end Cert.Outp

end
-- ==== Proof.Outproj.Ref.lean ====
/- The plain output projection's result at an index, over the extended reals. -/
module

public import proofs.«01_k».proof.Proof.Outproj.Value
public import proofs.«01_k».proof.Proof.Gen.PlainOutIdeal.Read

@[expose] public section

set_option maxRecDepth 16384

noncomputable section

namespace Cert.Outp

open Idealize
open Idealize.ShloMosaic hiding ix1 ix2 ix3
open Idealize.ShloMosaic.TcCoe
open Idealize.ShloMosaic.ValueIdx
open Cert.PlainOutIdeal Cert.PlainOutIdeal.Gen Cert.PlainOutIdeal.Read

variable (x0 : (⟨S8448x2048, .bf16⟩ : BufTy).Contents (Elt Ideal)) (x1 : (⟨S8192x2048, .bf16⟩ : BufTy).Contents (Elt Ideal))
  (x2 : (⟨S4096x4096, .f32⟩ : BufTy).Contents (Elt Ideal)) (x3 : (⟨S8192x4096, .f32⟩ : BufTy).Contents (Elt Ideal))

/-- The mixers' rows side by side: the first 2048 entries. -/
theorem cat_left (i : S8192x4096.Idx) (r : Fin 8192) (q : Fin 2048) (h0 : (i 0).val = r.val) (h1 : (i 1).val = q.val) :
    val_main_v3 (F := Ideal) x0 x1 i = x0 (ix2 ⟨r.val, by omega⟩ q) := by
  unfold val_main_v3
  refine (concatenate_pair_apply_left (t := S8192x4096) (1 : Fin 2) (val_main_v1 (F := Ideal) x0) (val_main_v2 (F := Ideal) x1) _ i rfl
      (ix2 r q) (fun b => by match b with | ⟨0, _⟩ => exact h0.symm | ⟨1, _⟩ => exact h1.symm)).trans ?_
  rw [val_main_v1_apply, val_main_v0_apply]
  refine congrArg x0 (funext fun a => ?_)
  match a with
  | ⟨0, _⟩ => rfl
  | ⟨1, _⟩ => rfl

/-- The mixers' rows side by side: the last 2048 entries. -/
theorem cat_right (i : S8192x4096.Idx) (r : Fin 8192) (q : Fin 2048) (h0 : (i 0).val = r.val) (h1 : (i 1).val = 2048 + q.val) :
    val_main_v3 (F := Ideal) x0 x1 i = x1 (ix2 r q) := by
  unfold val_main_v3
  exact (concatenate_pair_apply_right (t := S8192x4096) (1 : Fin 2) (val_main_v1 (F := Ideal) x0) (val_main_v2 (F := Ideal) x1) _ i rfl rfl
      (ix2 r q) (fun b hb => by match b with | ⟨0, _⟩ => exact h0.symm | ⟨1, _⟩ => exact absurd rfl hb) (by show q.val + 2048 = (i 1).val; omega)).trans rfl

/-- The plain projection is the stream plus the two half products. -/
theorem ref5 : val_main_v5 (F := Ideal) x0 x1 x2 x3 = G5 x0 x1 x2 x3 := by
  funext i
  rw [val_main_v5_apply, val_main_v4_apply]
  unfold G5 outN
  rw [dif_pos ⟨(i 0).isLt, (i 1).isLt⟩]
  have hi : x3 i = x3 (ix2 ⟨(i 0).val, (i 0).isLt⟩ ⟨(i 1).val, (i 1).isLt⟩) := by
    refine congrArg x3 (funext fun a => ?_)
    match a with
    | ⟨0, _⟩ => rfl
    | ⟨1, _⟩ => rfl
  refine congr (congrArg _ hi) ((Fin.sum_univ_add (a := 2048) (b := 2048) _).trans (congr (congrArg _ ?_) ?_))
  · refine Finset.sum_congr rfl fun q _ => congr (congrArg _ ?_) (congrArg x2 (funext fun a => ?_))
    · exact cat_left x0 x1 (lidx_main_v4 i (Fin.castAdd 2048 q)) (i 0) q rfl rfl
    · match a with
      | ⟨0, _⟩ => rfl
      | ⟨1, _⟩ => rfl
  · refine Finset.sum_congr rfl fun q _ => congr (congrArg _ ?_) (congrArg x2 (funext fun a => ?_))
    · exact cat_right x0 x1 (lidx_main_v4 i (Fin.natAdd 2048 q)) (i 0) q rfl rfl
    · match a with
      | ⟨0, _⟩ => rfl
      | ⟨1, _⟩ => rfl

end Cert.Outp

end
-- ==== Proof.Prenorm.Value.lean ====
/- What the launch of the norm before the mixers leaves in its array, over the extended reals. -/
module

public import proofs.«01_k».proof.Proof.Gen.PrenormIdeal.Value
public import Idealize.ShloMosaic.Lib.ValueIdx
public import Idealize.ShloMosaic.Lib.Pipeline.Value
public import Idealize.ShloMosaic.Lib.Pipeline.ValueKit
public import Idealize.ShloMosaic.PureOps.IdealRules
public import Idealize.ShloMosaic.PureOps.Ideal.Laws

@[expose] public section

set_option maxRecDepth 16384

noncomputable section

namespace Cert.Pre

open Idealize
open Idealize.ShloMosaic hiding ix1 ix2 ix3
open Idealize.ShloMosaic.TcCoe
open Idealize.ShloMosaic.ValueIdx
open Idealize.ShloMosaic.Tactic
open Idealize.SL.Sem
open Idealize.ShloMosaic.Pipeline (Dat Cfg Window)
open Cert.PrenormIdeal Cert.PrenormIdeal.Gen

/-- An entry of a row over the row's root mean square, times its gain. -/
def normE (z : EReal) (row : Fin 4096 → EReal) (gain : EReal) : EReal :=
  (z * Ideal.rsqrt (Ideal.div (∑ j, row j * row j) (Ideal.ofBits .f32 0x45800000#32) + Ideal.ofBits .f32 0x358637BD#32)) * gain

/-- A row's sum, as a column, at its index. -/
theorem rowsum_apply (s : FVec Ideal S256x4096 .f32) (r : Fin 256) (u : Fin 1) :
    shapeCast S256x1 (multiReduction .add [1] S256 s 0x00000000#32 reduces_S256x4096_S256 (.inl rfl) rfl) shapeCasts_S256_S256x1 (ix2 r u)
      = ∑ d : Fin 4096, s (ix2 r d) := by
  have hu : u.val = 0 := by omega
  refine (shapeCast_apply _ shapeCasts_S256_S256x1 (ix2 r u) (ix1 r) (by
    rw [Shape.rowMajor_val_two, Shape.rowMajor_val_one]; show r.val = r.val * 1 + u.val; omega)).trans ?_
  refine (Ideal.multiReduction_add_single s _ reduces_S256x4096_S256 _ _ (ix1 r)).trans ?_
  refine Finset.sum_congr rfl fun c _ => congrArg s (funext fun a => ?_)
  match a with
  | ⟨0, _⟩ => rfl
  | ⟨1, _⟩ => rfl

/-- A column spread over the columns, at an index. -/
theorem spreadC_apply (v : FVec Ideal S256x1 .f32) (r : Fin 256) (d : Fin 4096) :
    broadcastTo S256x4096 v broadcasts_S256x1_S256x4096 (ix2 r d) = v (ix2 r 0) := by
  refine broadcastTo_apply v _ _ _ fun a => ?_
  match a with
  | ⟨0, _⟩ => rfl
  | ⟨1, _⟩ => rfl

/-- A row spread over the rows, at an index. -/
theorem spreadR_apply (v : FVec Ideal S1x4096 .f32) (r : Fin 256) (d : Fin 4096) :
    broadcastTo S256x4096 v broadcasts_S1x4096_S256x4096 (ix2 r d) = v (ix2 0 d) := by
  refine broadcastTo_apply v _ _ _ fun a => ?_
  match a with
  | ⟨0, _⟩ => rfl
  | ⟨1, _⟩ => rfl

/-- The reciprocal root mean square of the rows of a block, as a column. -/
def rs (v : FVec Ideal S256x4096 .f32) : FVec Ideal S256x1 .f32 :=
  rsqrt (addf (divf (shapeCast S256x1 (multiReduction .add [1] S256 (mulf v v) 0x00000000#32 reduces_S256x4096_S256 (.inl rfl) rfl) shapeCasts_S256_S256x1)
    (broadcast S256x1 (Scalar.ofBits .f32 0x45800000#32))) (broadcast S256x1 (Scalar.ofBits .f32 0x358637BD#32)))

/-- The reciprocal root mean square of a row, at its index. -/
theorem rs_apply (v : FVec Ideal S256x4096 .f32) (r : Fin 256) (u : Fin 1) :
    rs v (ix2 r u) = Ideal.rsqrt (Ideal.div (∑ d : Fin 4096, (v (ix2 r d) : EReal) * v (ix2 r d)) (Ideal.ofBits .f32 0x45800000#32) + Ideal.ofBits .f32 0x358637BD#32) := by
  have e : rs v (ix2 r u) = Ideal.rsqrt (Ideal.div (shapeCast S256x1 (multiReduction .add [1] S256 (mulf v v) 0x00000000#32 reduces_S256x4096_S256 (.inl rfl) rfl) shapeCasts_S256_S256x1 (ix2 r u))
      (Ideal.ofBits .f32 0x45800000#32) + Ideal.ofBits .f32 0x358637BD#32) := rfl
  rw [e, rowsum_apply]
  rfl

/-- What a point stores, at an index. -/
theorem pay_apply (v : FVec Ideal S256x4096 .f32) (g : FVec Ideal S1x4096 .f32) (r : Fin 256) (k : Fin 4096) :
    k0_pay1 (F := Ideal) v g (ix2 r k) = normE (v (ix2 r k)) (fun j => v (ix2 r j)) (g (ix2 0 k)) := by
  have e : k0_pay1 (F := Ideal) v g (ix2 r k) = ((v (ix2 r k) * broadcastTo S256x4096 (rs v) broadcasts_S256x1_S256x4096 (ix2 r k))
      * broadcastTo S256x4096 (shapeCast S1x4096 g shapeCasts_S1x4096_S1x4096) broadcasts_S1x4096_S256x4096 (ix2 r k) : EReal) := rfl
  rw [e, spreadC_apply, spreadR_apply, rs_apply, shapeCast_self]
  rfl

/-- The offsets of a whole block. -/
theorem hz : (![0, 0] : Fin 2 → Nat) = fun _ => 0 := funext fun a => by fin_cases a <;> rfl

section
variable (c : Dev nD) (i : grid0.Coords)
  (a1 : Memref sig .tc .vmem S256x4096 .f32) (h1 : a1.IsWhole) (a2 : Memref sig .tc .vmem S256x4096 .f32) (h2 : a2.IsWhole)
  (a3 : Memref sig .tc .vmem S1x4096 .f32) (h3 : a3.IsWhole) (a4 : Memref sig .tc .vmem S256x4096 .bf16) (h4 : a4.IsWhole)
  (x0 x1 : Vec Ideal S256x4096 .f32) (x2 : Vec Ideal S1x4096 .f32)

/-- The block after a point of the first stream. -/
theorem out_A (hc : cond0_0 i) (hd : ¬cond0_1 i) : out0_A_3 c i a1 h1 a2 h2 a3 h3 a4 h4 hc hd x0 x1 x2 = k0_pay1 x0 x2 := by
  unfold out0_A_3
  rw [View.read_writes_eq_canon _ _ _ (cover0_A_3 c i a1 h1 a2 h2 a3 h3 a4 h4 hc hd x0 x1 x2)]
  unfold kernelRun0_A
  dsimp only
  rw [View.canon_unit_zero (S := S256x4096) hz]
  simp only [View.readAt_eq_ld, h1.read_unread, h2.read_unread, h3.read_unread, View.ld_unit_zero (S := S256x4096) hz, View.ld_unit_zero (S := S1x4096) hz]

/-- The block after the point of the second stream. -/
theorem out_B (hc : ¬cond0_0 i) (hd : cond0_1 i) : out0_B_3 c i a1 h1 a2 h2 a3 h3 a4 h4 hc hd x0 x1 x2 = k0_pay1 x1 x2 := by
  unfold out0_B_3
  rw [View.read_writes_eq_canon _ _ _ (cover0_B_3 c i a1 h1 a2 h2 a3 h3 a4 h4 hc hd x0 x1 x2)]
  unfold kernelRun0_B
  dsimp only
  rw [View.canon_unit_zero (S := S256x4096) hz]
  simp only [View.readAt_eq_ld, h1.read_unread, h2.read_unread, h3.read_unread, View.ld_unit_zero (S := S256x4096) hz, View.ld_unit_zero (S := S1x4096) hz]
  rfl

end

variable (m : (ℓ : Loc nD τ sig) → Buf (Elt Ideal) ℓ)

/-- The first stream of a core. -/
abbrev X0 (c : Dev nD) : S8192x4096.Idx → EReal := m ((c.tc : Thread nD τ).loc main_arg0)
/-- The second stream of a core. -/
abbrev X1 (c : Dev nD) : S256x4096.Idx → EReal := m ((c.tc : Thread nD τ).loc main_arg1)
/-- The gains of a core. -/
abbrev X2 (c : Dev nD) : S4096.Idx → EReal := m ((c.tc : Thread nD τ).loc main_arg2)

/-- Entry `k` of row `n` of the two streams, one after the other. -/
def rowN (x0 : S8192x4096.Idx → EReal) (x1 : S256x4096.Idx → EReal) (n : ℕ) (k : Fin 4096) : EReal :=
  if h : n < 8192 then x0 (ix2 ⟨n, h⟩ k) else if h : n - 8192 < 256 then x1 (ix2 ⟨n - 8192, h⟩ k) else 0

/-- The normalised rows. -/
def G3 (x0 : S8192x4096.Idx → EReal) (x1 : S256x4096.Idx → EReal) (x2 : S4096.Idx → EReal) : S8448x4096.Idx → EReal :=
  fun i => normE (rowN x0 x1 (i 0).val (i 1)) (rowN x0 x1 (i 0).val) (x2 (ix1 (i 1)))

/-- The block of the first stream at each point. -/
theorem idx0 : ∀ t : Fin cfg0.N, win0_0.index t = ![min t.val 31, 0] := (by decide +kernel : ∀ t : Fin grid0.N, _)
/-- The block of the second stream at each point. -/
theorem idx1 : ∀ t : Fin cfg0.N, win0_1.index t = ![0, 0] := (by decide +kernel : ∀ t : Fin grid0.N, _)
/-- The block of the gains at each point. -/
theorem idx2 : ∀ t : Fin cfg0.N, win0_2.index t = ![0, 0] := (by decide +kernel : ∀ t : Fin grid0.N, _)
/-- The block of the result at each point. -/
theorem idx3 : ∀ t : Fin cfg0.N, win0_3.index t = ![t.val, 0] := (by decide +kernel : ∀ t : Fin grid0.N, _)

/-- A point is one of 33. -/
theorem lt33 (t : Fin cfg0.N) : t.val < 33 := Nat.lt_of_lt_of_eq t.isLt N_0

/-- The block of the first stream, at coordinates. -/
theorem blk0 (c : Dev nD) (t : Fin cfg0.N) (h : t.val < 32) (r : Fin 256) (q : Fin 4096) :
    iblk m c 0 t (ix2 r q) = X0 m c (ix2 ⟨t.val * 256 + r.val, by omega⟩ q) := by
  have hm : min t.val 31 = t.val := by omega
  blk_simp [iblk, V_main_arg0]
  refine congrArg _ (funext fun a => ?_)
  match a with
  | ⟨0, _⟩ => apply Fin.ext; blk_simp [idx0, hm]
  | ⟨1, _⟩ => apply Fin.ext; blk_simp [idx0]

/-- The block of the second stream, at coordinates. -/
theorem blk1 (c : Dev nD) (t : Fin cfg0.N) (r : Fin 256) (q : Fin 4096) :
    iblk m c 1 t (ix2 r q) = X1 m c (ix2 r q) := by
  blk_simp [iblk, V_main_arg1]
  refine congrArg _ (funext fun a => ?_)
  match a with
  | ⟨0, _⟩ => apply Fin.ext; blk_simp [idx1]
  | ⟨1, _⟩ => apply Fin.ext; blk_simp [idx1]

/-- The gains as the launch finds them. -/
theorem V_gain (c : Dev nD) : V m c main_v0 = shapeCast S1x4096 (X2 m c) shapeCasts_S4096_S1x4096 := by
  entry_read; rfl

/-- The block of the gains, at coordinates. -/
theorem blk2 (c : Dev nD) (t : Fin cfg0.N) (k : Fin 4096) : iblk m c 2 t (ix2 0 k) = X2 m c (ix1 k) := by
  blk_simp [iblk]
  rw [V_gain]
  refine shapeCast_apply _ shapeCasts_S4096_S1x4096 _ _ ?_
  rw [Shape.rowMajor_val_two, Shape.rowMajor_val_one]
  blk_simp [idx2]

/-- What a point leaves, at coordinates. -/
theorem left_apply (c : Dev nD) (t : Fin cfg0.N) (r : Fin 256) (k : Fin 4096) :
    outsAt0 m c t.val t.isLt (ix2 r k)
      = normE (rowN (X0 m c) (X1 m c) (t.val * 256 + r.val) k) (rowN (X0 m c) (X1 m c) (t.val * 256 + r.val)) (X2 m c (ix1 k)) := by
  have ht := lt33 t
  by_cases h0 : t.val < 32
  · have e : ∀ q, iblk m c 0 t (ix2 r q) = rowN (X0 m c) (X1 m c) (t.val * 256 + r.val) q := fun q => by
      unfold rowN
      rw [dif_pos (by omega)]
      exact blk0 m c t h0 r q
    rw [outsAt0_A m c t h0 (by omega), out_A]
    refine (pay_apply _ _ r k).trans ?_
    exact congr (congr (congrArg normE (e k)) (funext e)) (blk2 m c t k)
  · have e : ∀ q, iblk m c 1 t (ix2 r q) = rowN (X0 m c) (X1 m c) (t.val * 256 + r.val) q := fun q => by
      unfold rowN
      rw [dif_neg (by omega), dif_pos (by omega)]
      refine (blk1 m c t r q).trans (congrArg _ (funext fun a => ?_))
      match a with
      | ⟨0, _⟩ => apply Fin.ext; show r.val = t.val * 256 + r.val - 8192; omega
      | ⟨1, _⟩ => rfl
    rw [outsAt0_B m c t h0 (by omega), out_B]
    refine (pay_apply _ _ r k).trans ?_
    exact congr (congr (congrArg normE (e k)) (funext e)) (blk2 m c t k)

/-- The normalised rows after the run. -/
theorem final (c : Dev nD) : (dats m 0 c).arrAt 3 cfg0.N = G3 (X0 m c) (X1 m c) (X2 m c) := by
  refine (dats m 0 c).arrAt_eq_of_covers 3 _ (by decide +kernel) fun t hf y => ?_
  blk_simp
  rw [after0_3]
  have h0 : (((win0_3.blk t).view.emb y) 0).val = t.val * 256 + (y 0).val := by
    blk_simp [idx3]
  have h1 : ((win0_3.blk t).view.emb y) 1 = y 1 := by
    apply Fin.ext
    blk_simp [idx3]
  have hy : y = ix2 (y 0) (y 1) := by
    funext a
    match a with
    | ⟨0, _⟩ => rfl
    | ⟨1, _⟩ => rfl
  rw [hy]
  rw [hy] at h0 h1
  refine (left_apply m c t (y 0) (y 1)).trans ?_
  unfold G3
  rw [h0, h1]
  rfl

end Cert.Pre

end
-- ==== Proof.Prenorm.Ref.lean ====
/- The plain norm's result at an index, over the extended reals. -/
module

public import proofs.«01_k».proof.Proof.Prenorm.Value
public import proofs.«01_k».proof.Proof.Gen.PlainNormIdeal.Read

@[expose] public section

set_option maxRecDepth 16384

noncomputable section

namespace Cert.Pre

open Idealize
open Idealize.ShloMosaic hiding ix1 ix2 ix3
open Idealize.ShloMosaic.TcCoe
open Idealize.ShloMosaic.ValueIdx
open Cert.PlainNormIdeal Cert.PlainNormIdeal.Gen Cert.PlainNormIdeal.Read

variable (x0 : (⟨S8192x4096, .f32⟩ : BufTy).Contents (Elt Ideal)) (x1 : (⟨S256x4096, .f32⟩ : BufTy).Contents (Elt Ideal))
  (x2 : (⟨S4096, .f32⟩ : BufTy).Contents (Elt Ideal))

/-- The streams one after the other, at an index. -/
theorem ref0 (i : S8448x4096.Idx) (n : ℕ) (k : Fin 4096) (hn : n = (i 0).val) (hk : k.val = (i 1).val) :
    val_main_v0 (F := Ideal) x0 x1 i = rowN x0 x1 n k := by
  subst hn
  have hi : (i 0).val < 8448 := (i 0).isLt
  unfold val_main_v0 rowN
  by_cases h : (i 0).val < 8192
  · rw [dif_pos h]
    exact concatenate_pair_apply_left (t := S8448x4096) (0 : Fin 2) x0 x1 _ i rfl
      (ix2 ⟨(i 0).val, h⟩ k) (fun b => by match b with | ⟨0, _⟩ => rfl | ⟨1, _⟩ => exact hk)
  · rw [dif_neg h, dif_pos (by omega)]
    exact concatenate_pair_apply_right (t := S8448x4096) (0 : Fin 2) x0 x1 _ i rfl rfl
      (ix2 ⟨(i 0).val - 8192, by omega⟩ k) (fun b hb => by match b with | ⟨0, _⟩ => exact absurd rfl hb | ⟨1, _⟩ => exact hk)
      (by show (i 0).val - 8192 + 8192 = (i 0).val; omega)

/-- The reciprocal root mean square of a row. -/
theorem ref8 (i : S8448x1.Idx) : val_main_v8 (F := Ideal) x0 x1 i
    = Ideal.rsqrt (Ideal.div (∑ j : Fin 4096, rowN x0 x1 (i 0).val j * rowN x0 x1 (i 0).val j) (Ideal.ofBits .f32 0x45800000#32) + Ideal.ofBits .f32 0x358637BD#32) := by
  rw [val_main_v8_apply, val_main_v7_apply, val_main_v6_apply, val_main_v5_apply, val_main_v4_apply, val_main_v3_apply, val_main_v2_apply]
  have e0 : (val_main_cst (F := Ideal)) (Shape.Idx.first h_S_) = (0 : EReal) := by
    show Ideal.ofBits .f32 0x00000000#32 = _
    simp [Ideal.ofBits, Ideal.ieee]
  have e1 : (∑ k : Fin 4096, (val_main_v1 (F := Ideal) x0 x1) (idx_main_v2 (idx_main_v3 i) k) : EReal)
      = ∑ j : Fin 4096, rowN x0 x1 (i 0).val j * rowN x0 x1 (i 0).val j :=
    Finset.sum_congr rfl fun k _ => by
      rw [val_main_v1_apply, ref0 x0 x1 (idx_main_v2 (idx_main_v3 i) k) (i 0).val k rfl rfl]; rfl
  rw [e0, e1, zero_add]
  rfl

/-- The plain norm is the normalised rows. -/
theorem ref14 : val_main_v14 (F := Ideal) x0 x1 x2 = G3 x0 x1 x2 := by
  funext i
  rw [val_main_v14_apply, val_main_v13_apply, val_main_v12_apply, val_main_v11_apply, val_main_v10_apply, val_main_v9_apply, ref8,
    ref0 x0 x1 i (i 0).val (i 1) rfl rfl]
  have g : x2 (idx_main_v11 (idx_main_v12 i)) = x2 (ix1 (i 1)) := by
    refine congrArg x2 (funext fun a => ?_)
    match a with
    | ⟨0, _⟩ => rfl
  rw [g]
  rfl

end Cert.Pre

end
-- ==== Proof.Final.Value.lean ====
/- What the launch of the last norm of the first stream leaves in its array, over the extended reals. -/
module

public import proofs.«01_k».proof.Proof.Prenorm.Value
public import proofs.«01_k».proof.Proof.Gen.FinalIdeal.Value
public import Idealize.ShloMosaic.Lib.ValueIdx
public import Idealize.ShloMosaic.Lib.Pipeline.Value
public import Idealize.ShloMosaic.Lib.Pipeline.ValueKit
public import Idealize.ShloMosaic.PureOps.IdealRules
public import Idealize.ShloMosaic.PureOps.Ideal.Laws

@[expose] public section

set_option maxRecDepth 16384

noncomputable section

namespace Cert.Fnl

open Idealize
open Idealize.ShloMosaic hiding ix1 ix2 ix3
open Idealize.ShloMosaic.TcCoe
open Idealize.ShloMosaic.ValueIdx
open Idealize.ShloMosaic.Tactic
open Idealize.SL.Sem
open Idealize.ShloMosaic.Pipeline (Dat Cfg Window)
open Cert.FinalIdeal Cert.FinalIdeal.Gen

/-- Entry `k` of row `n` of the experts' rows. -/
def yN (y : S17216x4096.Idx → EReal) (n : ℕ) (k : Fin 4096) : EReal :=
  if h : n < 17216 then y (ix2 ⟨n, h⟩ k) else 0

/-- Entry `j` of row `n` of the gates. -/
def gN (g : S8448x128.Idx → EReal) (n : ℕ) (j : Fin 128) : EReal :=
  if h : n < 8448 then g (ix2 ⟨n, h⟩ j) else 0

/-- The experts' rows at a row within them. -/
theorem yN_of (y : S17216x4096.Idx → EReal) (n : ℕ) (k : Fin 4096) (i : S17216x4096.Idx) (h0 : (i 0).val = n) (h1 : i 1 = k) : y i = yN y n k := by
  have h : n < 17216 := h0 ▸ (i 0).isLt
  unfold yN
  rw [dif_pos h]
  refine congrArg y (funext fun a => ?_)
  match a with
  | ⟨0, _⟩ => exact Fin.ext h0
  | ⟨1, _⟩ => exact h1

/-- The gates at a row within them. -/
theorem gN_of (g : S8448x128.Idx → EReal) (n : ℕ) (j : Fin 128) (i : S8448x128.Idx) (h0 : (i 0).val = n) (h1 : i 1 = j) : g i = gN g n j := by
  have h : n < 8448 := h0 ▸ (i 0).isLt
  unfold gN
  rw [dif_pos h]
  refine congrArg g (funext fun a => ?_)
  match a with
  | ⟨0, _⟩ => exact Fin.ext h0
  | ⟨1, _⟩ => exact h1

/-- A row's entry and the two gated entries of the experts' rows. -/
def mixE (y : S17216x4096.Idx → EReal) (g : S8448x128.Idx → EReal) (n : ℕ) (k : Fin 4096) (z : EReal) : EReal :=
  z + (yN y n k * gN g n 0 + yN y (8448 + n) k * gN g n 1)

/-- A row of a block and its two gated rows. -/
def mix (gt : FVec Ideal S256x128 .f32) (h y0 y1 : FVec Ideal S256x4096 .f32) : FVec Ideal S256x4096 .f32 :=
  addf h (addf (mulf y0 (broadcastTo S256x4096 (extractStridedSlice S256x1 ![0, 0] gt slices_S256x128_o0_0_S256x1) broadcasts_S256x1_S256x4096))
    (mulf y1 (broadcastTo S256x4096 (extractStridedSlice S256x1 ![0, 1] gt slices_S256x128_o0_1_S256x1) broadcasts_S256x1_S256x4096)))

/-- A row of a block and its two gated rows, at an index. -/
theorem mix_apply (gt : FVec Ideal S256x128 .f32) (h y0 y1 : FVec Ideal S256x4096 .f32) (r : Fin 256) (k : Fin 4096) :
    mix gt h y0 y1 (ix2 r k) = (h (ix2 r k) + (y0 (ix2 r k) * gt (ix2 r 0) + y1 (ix2 r k) * gt (ix2 r 1)) : EReal) := by
  have e : mix gt h y0 y1 (ix2 r k) = (h (ix2 r k)
      + (y0 (ix2 r k) * broadcastTo S256x4096 (extractStridedSlice S256x1 ![0, 0] gt slices_S256x128_o0_0_S256x1) broadcasts_S256x1_S256x4096 (ix2 r k)
        + y1 (ix2 r k) * broadcastTo S256x4096 (extractStridedSlice S256x1 ![0, 1] gt slices_S256x128_o0_1_S256x1) broadcasts_S256x1_S256x4096 (ix2 r k)) : EReal) := rfl
  have e0 : extractStridedSlice S256x1 ![0, 0] gt slices_S256x128_o0_0_S256x1 (ix2 r 0) = gt (ix2 r 0) :=
    extractStridedSlice_apply ![0, 0] gt slices_S256x128_o0_0_S256x1 _ _ (fun a => match a with
      | ⟨0, _⟩ => (Nat.zero_add _).symm
      | ⟨1, _⟩ => rfl)
  have e1 : extractStridedSlice S256x1 ![0, 1] gt slices_S256x128_o0_1_S256x1 (ix2 r 0) = gt (ix2 r 1) :=
    extractStridedSlice_apply ![0, 1] gt slices_S256x128_o0_1_S256x1 _ _ (fun a => match a with
      | ⟨0, _⟩ => (Nat.zero_add _).symm
      | ⟨1, _⟩ => rfl)
  rw [e, Pre.spreadC_apply, Pre.spreadC_apply, e0, e1]

/-- What a point stores, at an index. -/
theorem pay_apply (gt : FVec Ideal S256x128 .f32) (h y0 y1 : FVec Ideal S256x4096 .f32) (g : FVec Ideal S1x4096 .f32) (r : Fin 256) (k : Fin 4096) :
    k0_pay1 (F := Ideal) gt h y0 y1 g (ix2 r k) = Pre.normE (mix gt h y0 y1 (ix2 r k)) (fun j => mix gt h y0 y1 (ix2 r j)) (g (ix2 0 k)) :=
  Pre.pay_apply (mix gt h y0 y1) g r k

/-- The offsets of a whole block. -/
theorem hz : (![0, 0] : Fin 2 → Nat) = fun _ => 0 := funext fun a => by fin_cases a <;> rfl

section
variable (c : Dev nD) (i : grid0.Coords)
  (a1 : Memref sig .tc .vmem S256x4096 .f32) (h1 : a1.IsWhole) (a2 : Memref sig .tc .vmem S256x4096 .f32) (h2 : a2.IsWhole)
  (a3 : Memref sig .tc .vmem S256x4096 .f32) (h3 : a3.IsWhole) (a4 : Memref sig .tc .vmem S256x128 .f32) (h4 : a4.IsWhole)
  (a5 : Memref sig .tc .vmem S1x4096 .f32) (h5 : a5.IsWhole) (a6 : Memref sig .tc .vmem S256x4096 .f32) (h6 : a6.IsWhole)
  (x0 x1 x2 : Vec Ideal S256x4096 .f32) (x3 : Vec Ideal S256x128 .f32) (x4 : Vec Ideal S1x4096 .f32)

/-- The block after a point. -/
theorem out_A : out0_A_5 c i a1 h1 a2 h2 a3 h3 a4 h4 a5 h5 a6 h6 x0 x1 x2 x3 x4 = k0_pay1 x3 x0 x1 x2 x4 := by
  unfold out0_A_5
  rw [View.read_writes_eq_canon _ _ _ (cover0_A_5 c i a1 h1 a2 h2 a3 h3 a4 h4 a5 h5 a6 h6 x0 x1 x2 x3 x4)]
  unfold kernelRun0_A
  dsimp only
  rw [View.canon_unit_zero (S := S256x4096) hz]
  simp only [View.readAt_eq_ld, h1.read_unread, h2.read_unread, h3.read_unread, h4.read_unread, h5.read_unread,
    View.ld_unit_zero (S := S256x4096) hz, View.ld_unit_zero (S := S256x128) hz, View.ld_unit_zero (S := S1x4096) hz]

end

variable (m : (ℓ : Loc nD τ sig) → Buf (Elt Ideal) ℓ)

/-- The stream of a core. -/
abbrev X0 (c : Dev nD) : S8192x4096.Idx → EReal := m ((c.tc : Thread nD τ).loc main_arg0)
/-- The experts' rows of a core. -/
abbrev X1 (c : Dev nD) : S17216x4096.Idx → EReal := m ((c.tc : Thread nD τ).loc main_arg1)
/-- The gates of a core. -/
abbrev X2 (c : Dev nD) : S8448x128.Idx → EReal := m ((c.tc : Thread nD τ).loc main_arg2)
/-- The gains of a core. -/
abbrev X3 (c : Dev nD) : S4096.Idx → EReal := m ((c.tc : Thread nD τ).loc main_arg3)

/-- The normalised rows of the stream. -/
def G5 (x0 : S8192x4096.Idx → EReal) (x1 : S17216x4096.Idx → EReal) (x2 : S8448x128.Idx → EReal) (x3 : S4096.Idx → EReal) : S8192x4096.Idx → EReal :=
  fun i => Pre.normE (mixE x1 x2 ((i 0).val) (i 1) (x0 (ix2 (i 0) (i 1)))) (fun j => mixE x1 x2 ((i 0).val) j (x0 (ix2 (i 0) j))) (x3 (ix1 (i 1)))

/-- The block of window 0 at each point. -/
theorem idx0 : ∀ t : Fin cfg0.N, win0_0.index t = ![t.val, 0] := (by decide +kernel : ∀ t : Fin grid0.N, _)
/-- The block of window 1 at each point. -/
theorem idx1 : ∀ t : Fin cfg0.N, win0_1.index t = ![t.val, 0] := (by decide +kernel : ∀ t : Fin grid0.N, _)
/-- The block of window 2 at each point. -/
theorem idx2 : ∀ t : Fin cfg0.N, win0_2.index t = ![33 + t.val, 0] := (by decide +kernel : ∀ t : Fin grid0.N, _)
/-- The block of window 3 at each point. -/
theorem idx3 : ∀ t : Fin cfg0.N, win0_3.index t = ![t.val, 0] := (by decide +kernel : ∀ t : Fin grid0.N, _)
/-- The block of window 4 at each point. -/
theorem idx4 : ∀ t : Fin cfg0.N, win0_4.index t = ![0, 0] := (by decide +kernel : ∀ t : Fin grid0.N, _)
/-- The block of window 5 at each point. -/
theorem idx5 : ∀ t : Fin cfg0.N, win0_5.index t = ![t.val, 0] := (by decide +kernel : ∀ t : Fin grid0.N, _)

/-- A point is one of 32. -/
theorem ltN (t : Fin cfg0.N) : t.val < 32 := Nat.lt_of_lt_of_eq t.isLt N_0

/-- The block of the stream, at coordinates. -/
theorem blk0 (c : Dev nD) (t : Fin cfg0.N) (n : Fin 8192) (r : Fin 256) (hn : n.val = t.val * 256 + r.val) (q : Fin 4096) :
    iblk m c 0 t (ix2 r q) = X0 m c (ix2 n q) := by
  blk_simp [iblk, V_main_arg0]
  refine congrArg _ (funext fun a => ?_)
  match a with
  | ⟨0, _⟩ => apply Fin.ext; blk_simp [idx0, hn]
  | ⟨1, _⟩ => apply Fin.ext; blk_simp [idx0]

/-- The block of the first experts' rows, at coordinates. -/
theorem blk1 (c : Dev nD) (t : Fin cfg0.N) (r : Fin 256) (q : Fin 4096) :
    X0_1 m c t (ix2 r q) = yN (X1 m c) ((t.val * 256 + r.val)) q := by
  have ht := ltN t
  unfold yN
  rw [dif_pos (by omega)]
  unfold X0_1 Pipeline.Window.fill
  rw [dif_pos (moved0_1 t _)]
  blk_simp [iblk, V_main_arg1]
  refine congrArg _ (funext fun a => ?_)
  match a with
  | ⟨0, _⟩ => apply Fin.ext; blk_simp [idx1]
  | ⟨1, _⟩ => apply Fin.ext; blk_simp [idx1]

/-- The block of the second experts' rows, at coordinates. -/
theorem blk2 (c : Dev nD) (t : Fin cfg0.N) (r : Fin 256) (q : Fin 4096) :
    X0_2 m c t (ix2 r q) = yN (X1 m c) (8448 + ((t.val * 256 + r.val))) q := by
  have ht := ltN t
  unfold yN
  rw [dif_pos (by omega)]
  unfold X0_2 Pipeline.Window.fill
  rw [dif_pos (moved0_2 t _)]
  blk_simp [iblk, V_main_arg1]
  refine congrArg _ (funext fun a => ?_)
  match a with
  | ⟨0, _⟩ => apply Fin.ext; blk_simp [idx2]; show (33 + t.val) * 256 + r.val = 8448 + (t.val * 256 + r.val); omega
  | ⟨1, _⟩ => apply Fin.ext; blk_simp [idx2]

/-- The block of the gates, at coordinates. -/
theorem blk3 (c : Dev nD) (t : Fin cfg0.N) (r : Fin 256) (j : Fin 128) :
    iblk m c 3 t (ix2 r j) = gN (X2 m c) ((t.val * 256 + r.val)) j := by
  have ht := ltN t
  unfold gN
  rw [dif_pos (by omega)]
  blk_simp [iblk, V_main_arg2]
  refine congrArg _ (funext fun a => ?_)
  match a with
  | ⟨0, _⟩ => apply Fin.ext; blk_simp [idx3]
  | ⟨1, _⟩ => apply Fin.ext; blk_simp [idx3]

/-- The gains as the launch finds them. -/
theorem V_gain (c : Dev nD) : V m c main_v0 = shapeCast S1x4096 (X3 m c) shapeCasts_S4096_S1x4096 := by
  entry_read; rfl

/-- The block of the gains, at coordinates. -/
theorem blk4 (c : Dev nD) (t : Fin cfg0.N) (k : Fin 4096) : iblk m c 4 t (ix2 0 k) = X3 m c (ix1 k) := by
  blk_simp [iblk]
  rw [V_gain]
  refine shapeCast_apply _ shapeCasts_S4096_S1x4096 _ _ ?_
  rw [Shape.rowMajor_val_two, Shape.rowMajor_val_one]
  blk_simp [idx4]

/-- What a point leaves, at coordinates. -/
theorem left_apply (c : Dev nD) (t : Fin cfg0.N) (n : Fin 8192) (r : Fin 256) (hn : n.val = t.val * 256 + r.val) (k : Fin 4096) :
    outsAt0 m c t (ix2 r k) = G5 (X0 m c) (X1 m c) (X2 m c) (X3 m c) (ix2 n k) := by
  unfold outsAt0
  rw [out_A]
  have e : ∀ q, mix (iblk m c 3 t) (iblk m c 0 t) (X0_1 m c t) (X0_2 m c t) (ix2 r q)
      = mixE (X1 m c) (X2 m c) (n.val) q (X0 m c (ix2 n q)) := fun q => by
    refine (mix_apply (iblk m c 3 t) (iblk m c 0 t) (X0_1 m c t) (X0_2 m c t) r q).trans ?_
    rw [blk0 m c t n r hn q, blk1 m c t r q, blk2 m c t r q, blk3 m c t r 0, blk3 m c t r 1, hn]
    rfl
  refine (pay_apply (iblk m c 3 t) (iblk m c 0 t) (X0_1 m c t) (X0_2 m c t) (iblk m c 4 t) r k).trans ?_
  exact congr (congr (congrArg Pre.normE (e k)) (funext e)) (blk4 m c t k)

/-- The normalised rows after the run. -/
theorem final (c : Dev nD) : (dats m 0 c).arrAt 5 cfg0.N = G5 (X0 m c) (X1 m c) (X2 m c) (X3 m c) := by
  refine (dats m 0 c).arrAt_eq_of_covers 5 _ (by decide +kernel) fun t hf y => ?_
  blk_simp
  rw [after0_5]
  have h0 : (((win0_5.blk t).view.emb y) 0).val = t.val * 256 + (y 0).val := by
    blk_simp [idx5]
  have h1 : ((win0_5.blk t).view.emb y) 1 = y 1 := by
    apply Fin.ext
    blk_simp [idx5]
  have hy : y = ix2 (y 0) (y 1) := by
    funext a
    match a with
    | ⟨0, _⟩ => rfl
    | ⟨1, _⟩ => rfl
  have hw : (win0_5.blk t).view.emb y = ix2 ((win0_5.blk t).view.emb y 0) (y 1) := by
    funext a
    match a with
    | ⟨0, _⟩ => rfl
    | ⟨1, _⟩ => exact h1
  rw [hw]
  conv_lhs => rw [hy]
  exact left_apply m c t _ (y 0) h0 (y 1)

end Cert.Fnl

end
-- ==== Proof.Final.Ref.lean ====
/- The plain last norm's result at an index, over the extended reals. -/
module

public import proofs.«01_k».proof.Proof.Final.Value
public import proofs.«01_k».proof.Proof.Gen.PlainFinalIdeal.Read

@[expose] public section

set_option maxRecDepth 16384

noncomputable section

namespace Cert.Fnl

open Idealize
open Idealize.ShloMosaic hiding ix1 ix2 ix3
open Idealize.ShloMosaic.TcCoe
open Idealize.ShloMosaic.ValueIdx
open Cert.PlainFinalIdeal Cert.PlainFinalIdeal.Gen Cert.PlainFinalIdeal.Read

variable (x0 : (⟨S8192x4096, .f32⟩ : BufTy).Contents (Elt Ideal)) (x1 : (⟨S17216x4096, .f32⟩ : BufTy).Contents (Elt Ideal))
  (x2 : (⟨S8448x128, .f32⟩ : BufTy).Contents (Elt Ideal)) (x3 : (⟨S4096, .f32⟩ : BufTy).Contents (Elt Ideal))

/-- The stream and the two gated rows, at an index. -/
theorem ref9 (i : S8192x4096.Idx) (n : Fin 8192) (k : Fin 4096) (hn : i 0 = n) (hk : i 1 = k) :
    val_main_v9 (F := Ideal) x0 x1 x2 i = mixE x1 x2 (n.val) k (x0 (ix2 n k)) := by
  subst hn hk
  rw [val_main_v9_apply, val_main_v8_apply, val_main_v7_apply, val_main_v6_apply, val_main_v5_apply, val_main_v4_apply,
    val_main_v3_apply, val_main_v2_apply, val_main_v1_apply, val_main_v0_apply,
    yN_of x1 ((i 0).val) (i 1) (idx_main_v0 i) rfl rfl, yN_of x1 (8448 + ((i 0).val)) (i 1) (idx_main_v4 i) rfl rfl,
    gN_of x2 ((i 0).val) 0 (idx_main_v1 (idx_main_v2 i)) rfl rfl, gN_of x2 ((i 0).val) 1 (idx_main_v5 (idx_main_v6 i)) rfl rfl]
  have hx : i = ix2 (i 0) (i 1) := by
    funext a
    match a with
    | ⟨0, _⟩ => rfl
    | ⟨1, _⟩ => rfl
  exact congrArg (mixE x1 x2 ((i 0).val) (i 1)) (congrArg x0 hx)

/-- The reciprocal root mean square of a row. -/
theorem ref17 (i : S8192x1.Idx) : val_main_v17 (F := Ideal) x0 x1 x2 i
    = Ideal.rsqrt (Ideal.div (∑ j : Fin 4096, mixE x1 x2 ((i 0).val) j (x0 (ix2 (i 0) j)) * mixE x1 x2 ((i 0).val) j (x0 (ix2 (i 0) j)))
        (Ideal.ofBits .f32 0x45800000#32) + Ideal.ofBits .f32 0x358637BD#32) := by
  rw [val_main_v17_apply, val_main_v16_apply, val_main_v15_apply, val_main_v14_apply, val_main_v13_apply, val_main_v12_apply, val_main_v11_apply]
  have e0 : (val_main_cst (F := Ideal)) (Shape.Idx.first h_S_) = (0 : EReal) := by
    show Ideal.ofBits .f32 0x00000000#32 = _
    simp [Ideal.ofBits, Ideal.ieee]
  have e1 : (∑ k : Fin 4096, (val_main_v10 (F := Ideal) x0 x1 x2) (idx_main_v11 (idx_main_v12 i) k) : EReal)
      = ∑ j : Fin 4096, mixE x1 x2 ((i 0).val) j (x0 (ix2 (i 0) j)) * mixE x1 x2 ((i 0).val) j (x0 (ix2 (i 0) j)) :=
    Finset.sum_congr rfl fun k _ => by
      rw [val_main_v10_apply, ref9 x0 x1 x2 (idx_main_v11 (idx_main_v12 i) k) (i 0) k rfl rfl]; rfl
  rw [e0, e1, zero_add]
  rfl

/-- The plain last norm is the normalised rows. -/
theorem ref22 : val_main_v22 (F := Ideal) x0 x1 x2 x3 = G5 x0 x1 x2 x3 := by
  funext i
  rw [val_main_v22_apply, val_main_v21_apply, val_main_v20_apply, val_main_v19_apply, val_main_v18_apply, ref17,
    ref9 x0 x1 x2 i (i 0) (i 1) rfl rfl]
  have g : x3 (idx_main_v20 (idx_main_v21 i)) = x3 (ix1 (i 1)) := by
    refine congrArg x3 (funext fun a => ?_)
    match a with
    | ⟨0, _⟩ => rfl
  rw [g]
  rfl

end Cert.Fnl

end
-- ==== Proof.Last.Value.lean ====
/- What the launch of the last norm of the second stream leaves in its array, over the extended reals. -/
module

public import proofs.«01_k».proof.Proof.Prenorm.Value
public import proofs.«01_k».proof.Proof.Final.Value
public import proofs.«01_k».proof.Proof.Gen.LastIdeal.Value
public import Idealize.ShloMosaic.Lib.ValueIdx
public import Idealize.ShloMosaic.Lib.Pipeline.Value
public import Idealize.ShloMosaic.Lib.Pipeline.ValueKit
public import Idealize.ShloMosaic.PureOps.IdealRules
public import Idealize.ShloMosaic.PureOps.Ideal.Laws

@[expose] public section

set_option maxRecDepth 16384

noncomputable section

namespace Cert.Lst

open Idealize
open Idealize.ShloMosaic hiding ix1 ix2 ix3
open Idealize.ShloMosaic.TcCoe
open Idealize.ShloMosaic.ValueIdx
open Idealize.ShloMosaic.Tactic
open Idealize.SL.Sem
open Idealize.ShloMosaic.Pipeline (Dat Cfg Window)
open Cert.LastIdeal Cert.LastIdeal.Gen

/-- The offsets of a whole block. -/
theorem hz : (![0, 0] : Fin 2 → Nat) = fun _ => 0 := funext fun a => by fin_cases a <;> rfl

section
variable (c : Dev nD) (i : grid0.Coords)
  (a1 : Memref sig .tc .vmem S256x4096 .f32) (h1 : a1.IsWhole) (a2 : Memref sig .tc .vmem S256x4096 .f32) (h2 : a2.IsWhole)
  (a3 : Memref sig .tc .vmem S256x4096 .f32) (h3 : a3.IsWhole) (a4 : Memref sig .tc .vmem S256x128 .f32) (h4 : a4.IsWhole)
  (a5 : Memref sig .tc .vmem S1x4096 .f32) (h5 : a5.IsWhole) (a6 : Memref sig .tc .vmem S256x4096 .f32) (h6 : a6.IsWhole)
  (x0 x1 x2 : Vec Ideal S256x4096 .f32) (x3 : Vec Ideal S256x128 .f32) (x4 : Vec Ideal S1x4096 .f32)

/-- The block after a point. -/
theorem out_A : out0_A_5 c i a1 h1 a2 h2 a3 h3 a4 h4 a5 h5 a6 h6 x0 x1 x2 x3 x4 = k0_pay1 x3 x0 x1 x2 x4 := by
  unfold out0_A_5
  rw [View.read_writes_eq_canon _ _ _ (cover0_A_5 c i a1 h1 a2 h2 a3 h3 a4 h4 a5 h5 a6 h6 x0 x1 x2 x3 x4)]
  unfold kernelRun0_A
  dsimp only
  rw [View.canon_unit_zero (S := S256x4096) hz]
  simp only [View.readAt_eq_ld, h1.read_unread, h2.read_unread, h3.read_unread, h4.read_unread, h5.read_unread,
    View.ld_unit_zero (S := S256x4096) hz, View.ld_unit_zero (S := S256x128) hz, View.ld_unit_zero (S := S1x4096) hz]

end

variable (m : (ℓ : Loc nD τ sig) → Buf (Elt Ideal) ℓ)

/-- The stream of a core. -/
abbrev X0 (c : Dev nD) : S256x4096.Idx → EReal := m ((c.tc : Thread nD τ).loc main_arg0)
/-- The experts' rows of a core. -/
abbrev X1 (c : Dev nD) : S17216x4096.Idx → EReal := m ((c.tc : Thread nD τ).loc main_arg1)
/-- The gates of a core. -/
abbrev X2 (c : Dev nD) : S8448x128.Idx → EReal := m ((c.tc : Thread nD τ).loc main_arg2)
/-- The gains of a core. -/
abbrev X3 (c : Dev nD) : S4096.Idx → EReal := m ((c.tc : Thread nD τ).loc main_arg3)

/-- The normalised rows of the stream. -/
def G5 (x0 : S256x4096.Idx → EReal) (x1 : S17216x4096.Idx → EReal) (x2 : S8448x128.Idx → EReal) (x3 : S4096.Idx → EReal) : S256x4096.Idx → EReal :=
  fun i => Pre.normE (Fnl.mixE x1 x2 (8192 + (i 0).val) (i 1) (x0 (ix2 (i 0) (i 1)))) (fun j => Fnl.mixE x1 x2 (8192 + (i 0).val) j (x0 (ix2 (i 0) j))) (x3 (ix1 (i 1)))

/-- The block of window 0 at each point. -/
theorem idx0 : ∀ t : Fin cfg0.N, win0_0.index t = ![t.val, 0] := (by decide +kernel : ∀ t : Fin grid0.N, _)
/-- The block of window 1 at each point. -/
theorem idx1 : ∀ t : Fin cfg0.N, win0_1.index t = ![32 + t.val, 0] := (by decide +kernel : ∀ t : Fin grid0.N, _)
/-- The block of window 2 at each point. -/
theorem idx2 : ∀ t : Fin cfg0.N, win0_2.index t = ![65 + t.val, 0] := (by decide +kernel : ∀ t : Fin grid0.N, _)
/-- The block of window 3 at each point. -/
theorem idx3 : ∀ t : Fin cfg0.N, win0_3.index t = ![32 + t.val, 0] := (by decide +kernel : ∀ t : Fin grid0.N, _)
/-- The block of window 4 at each point. -/
theorem idx4 : ∀ t : Fin cfg0.N, win0_4.index t = ![0, 0] := (by decide +kernel : ∀ t : Fin grid0.N, _)
/-- The block of window 5 at each point. -/
theorem idx5 : ∀ t : Fin cfg0.N, win0_5.index t = ![t.val, 0] := (by decide +kernel : ∀ t : Fin grid0.N, _)

/-- A point is one of 1. -/
theorem ltN (t : Fin cfg0.N) : t.val < 1 := Nat.lt_of_lt_of_eq t.isLt N_0

/-- The block of the stream, at coordinates. -/
theorem blk0 (c : Dev nD) (t : Fin cfg0.N) (n : Fin 256) (r : Fin 256) (hn : n.val = t.val * 256 + r.val) (q : Fin 4096) :
    iblk m c 0 t (ix2 r q) = X0 m c (ix2 n q) := by
  blk_simp [iblk, V_main_arg0]
  refine congrArg _ (funext fun a => ?_)
  match a with
  | ⟨0, _⟩ => apply Fin.ext; blk_simp [idx0, hn]
  | ⟨1, _⟩ => apply Fin.ext; blk_simp [idx0]

/-- The block of the first experts' rows, at coordinates. -/
theorem blk1 (c : Dev nD) (t : Fin cfg0.N) (r : Fin 256) (q : Fin 4096) :
    X0_1 m c t (ix2 r q) = Fnl.yN (X1 m c) (8192 + (t.val * 256 + r.val)) q := by
  have ht := ltN t
  unfold Fnl.yN
  rw [dif_pos (by omega)]
  unfold X0_1 Pipeline.Window.fill
  rw [dif_pos (moved0_1 t _)]
  blk_simp [iblk, V_main_arg1]
  refine congrArg _ (funext fun a => ?_)
  match a with
  | ⟨0, _⟩ => apply Fin.ext; blk_simp [idx1]
  | ⟨1, _⟩ => apply Fin.ext; blk_simp [idx1]

/-- The block of the second experts' rows, at coordinates. -/
theorem blk2 (c : Dev nD) (t : Fin cfg0.N) (r : Fin 256) (q : Fin 4096) :
    X0_2 m c t (ix2 r q) = Fnl.yN (X1 m c) (8448 + (8192 + (t.val * 256 + r.val))) q := by
  have ht := ltN t
  unfold Fnl.yN
  rw [dif_pos (by omega)]
  unfold X0_2 Pipeline.Window.fill
  rw [dif_pos (moved0_2 t _)]
  blk_simp [iblk, V_main_arg1]
  refine congrArg _ (funext fun a => ?_)
  match a with
  | ⟨0, _⟩ => apply Fin.ext; blk_simp [idx2]; show 65 * 256 + r.val = 8448 + (8192 + r.val); omega
  | ⟨1, _⟩ => apply Fin.ext; blk_simp [idx2]

/-- The block of the gates, at coordinates. -/
theorem blk3 (c : Dev nD) (t : Fin cfg0.N) (r : Fin 256) (j : Fin 128) :
    iblk m c 3 t (ix2 r j) = Fnl.gN (X2 m c) (8192 + (t.val * 256 + r.val)) j := by
  have ht := ltN t
  unfold Fnl.gN
  rw [dif_pos (by omega)]
  blk_simp [iblk, V_main_arg2]
  refine congrArg _ (funext fun a => ?_)
  match a with
  | ⟨0, _⟩ => apply Fin.ext; blk_simp [idx3]
  | ⟨1, _⟩ => apply Fin.ext; blk_simp [idx3]

/-- The gains as the launch finds them. -/
theorem V_gain (c : Dev nD) : V m c main_v0 = shapeCast S1x4096 (X3 m c) shapeCasts_S4096_S1x4096 := by
  entry_read; rfl

/-- The block of the gains, at coordinates. -/
theorem blk4 (c : Dev nD) (t : Fin cfg0.N) (k : Fin 4096) : iblk m c 4 t (ix2 0 k) = X3 m c (ix1 k) := by
  blk_simp [iblk]
  rw [V_gain]
  refine shapeCast_apply _ shapeCasts_S4096_S1x4096 _ _ ?_
  rw [Shape.rowMajor_val_two, Shape.rowMajor_val_one]
  blk_simp [idx4]

/-- What a point leaves, at coordinates. -/
theorem left_apply (c : Dev nD) (t : Fin cfg0.N) (n : Fin 256) (r : Fin 256) (hn : n.val = t.val * 256 + r.val) (k : Fin 4096) :
    outsAt0 m c t (ix2 r k) = G5 (X0 m c) (X1 m c) (X2 m c) (X3 m c) (ix2 n k) := by
  unfold outsAt0
  rw [out_A]
  have e : ∀ q, Fnl.mix (iblk m c 3 t) (iblk m c 0 t) (X0_1 m c t) (X0_2 m c t) (ix2 r q)
      = Fnl.mixE (X1 m c) (X2 m c) (8192 + n.val) q (X0 m c (ix2 n q)) := fun q => by
    refine (Fnl.mix_apply (iblk m c 3 t) (iblk m c 0 t) (X0_1 m c t) (X0_2 m c t) r q).trans ?_
    rw [blk0 m c t n r hn q, blk1 m c t r q, blk2 m c t r q, blk3 m c t r 0, blk3 m c t r 1, hn]
    rfl
  refine (Fnl.pay_apply (iblk m c 3 t) (iblk m c 0 t) (X0_1 m c t) (X0_2 m c t) (iblk m c 4 t) r k).trans ?_
  exact congr (congr (congrArg Pre.normE (e k)) (funext e)) (blk4 m c t k)

/-- The normalised rows after the run. -/
theorem final (c : Dev nD) : (dats m 0 c).arrAt 5 cfg0.N = G5 (X0 m c) (X1 m c) (X2 m c) (X3 m c) := by
  refine (dats m 0 c).arrAt_eq_of_covers 5 _ (by decide +kernel) fun t hf y => ?_
  blk_simp
  rw [after0_5]
  have h0 : (((win0_5.blk t).view.emb y) 0).val = t.val * 256 + (y 0).val := by
    blk_simp [idx5]
  have h1 : ((win0_5.blk t).view.emb y) 1 = y 1 := by
    apply Fin.ext
    blk_simp [idx5]
  have hy : y = ix2 (y 0) (y 1) := by
    funext a
    match a with
    | ⟨0, _⟩ => rfl
    | ⟨1, _⟩ => rfl
  have hw : (win0_5.blk t).view.emb y = ix2 ((win0_5.blk t).view.emb y 0) (y 1) := by
    funext a
    match a with
    | ⟨0, _⟩ => rfl
    | ⟨1, _⟩ => exact h1
  rw [hw]
  conv_lhs => rw [hy]
  exact left_apply m c t _ (y 0) h0 (y 1)

end Cert.Lst

end
-- ==== Proof.Last.Ref.lean ====
/- The plain last norm's result at an index, over the extended reals. -/
module

public import proofs.«01_k».proof.Proof.Last.Value
public import proofs.«01_k».proof.Proof.Gen.PlainLastIdeal.Read

@[expose] public section

set_option maxRecDepth 16384

noncomputable section

namespace Cert.Lst

open Idealize
open Idealize.ShloMosaic hiding ix1 ix2 ix3
open Idealize.ShloMosaic.TcCoe
open Idealize.ShloMosaic.ValueIdx
open Cert.PlainLastIdeal Cert.PlainLastIdeal.Gen Cert.PlainLastIdeal.Read

variable (x0 : (⟨S256x4096, .f32⟩ : BufTy).Contents (Elt Ideal)) (x1 : (⟨S17216x4096, .f32⟩ : BufTy).Contents (Elt Ideal))
  (x2 : (⟨S8448x128, .f32⟩ : BufTy).Contents (Elt Ideal)) (x3 : (⟨S4096, .f32⟩ : BufTy).Contents (Elt Ideal))

/-- The stream and the two gated rows, at an index. -/
theorem ref9 (i : S256x4096.Idx) (n : Fin 256) (k : Fin 4096) (hn : i 0 = n) (hk : i 1 = k) :
    val_main_v9 (F := Ideal) x0 x1 x2 i = Fnl.mixE x1 x2 (8192 + n.val) k (x0 (ix2 n k)) := by
  subst hn hk
  rw [val_main_v9_apply, val_main_v8_apply, val_main_v7_apply, val_main_v6_apply, val_main_v5_apply, val_main_v4_apply,
    val_main_v3_apply, val_main_v2_apply, val_main_v1_apply, val_main_v0_apply,
    Fnl.yN_of x1 (8192 + (i 0).val) (i 1) (idx_main_v0 i) rfl rfl, Fnl.yN_of x1 (8448 + (8192 + (i 0).val)) (i 1) (idx_main_v4 i) (by show 16640 + (i 0).val = 8448 + (8192 + (i 0).val); omega) rfl,
    Fnl.gN_of x2 (8192 + (i 0).val) 0 (idx_main_v1 (idx_main_v2 i)) rfl rfl, Fnl.gN_of x2 (8192 + (i 0).val) 1 (idx_main_v5 (idx_main_v6 i)) rfl rfl]
  have hx : i = ix2 (i 0) (i 1) := by
    funext a
    match a with
    | ⟨0, _⟩ => rfl
    | ⟨1, _⟩ => rfl
  exact congrArg (Fnl.mixE x1 x2 (8192 + (i 0).val) (i 1)) (congrArg x0 hx)

/-- The reciprocal root mean square of a row. -/
theorem ref17 (i : S256x1.Idx) : val_main_v17 (F := Ideal) x0 x1 x2 i
    = Ideal.rsqrt (Ideal.div (∑ j : Fin 4096, Fnl.mixE x1 x2 (8192 + (i 0).val) j (x0 (ix2 (i 0) j)) * Fnl.mixE x1 x2 (8192 + (i 0).val) j (x0 (ix2 (i 0) j)))
        (Ideal.ofBits .f32 0x45800000#32) + Ideal.ofBits .f32 0x358637BD#32) := by
  rw [val_main_v17_apply, val_main_v16_apply, val_main_v15_apply, val_main_v14_apply, val_main_v13_apply, val_main_v12_apply, val_main_v11_apply]
  have e0 : (val_main_cst (F := Ideal)) (Shape.Idx.first h_S_) = (0 : EReal) := by
    show Ideal.ofBits .f32 0x00000000#32 = _
    simp [Ideal.ofBits, Ideal.ieee]
  have e1 : (∑ k : Fin 4096, (val_main_v10 (F := Ideal) x0 x1 x2) (idx_main_v11 (idx_main_v12 i) k) : EReal)
      = ∑ j : Fin 4096, Fnl.mixE x1 x2 (8192 + (i 0).val) j (x0 (ix2 (i 0) j)) * Fnl.mixE x1 x2 (8192 + (i 0).val) j (x0 (ix2 (i 0) j)) :=
    Finset.sum_congr rfl fun k _ => by
      rw [val_main_v10_apply, ref9 x0 x1 x2 (idx_main_v11 (idx_main_v12 i) k) (i 0) k rfl rfl]; rfl
  rw [e0, e1, zero_add]
  rfl

/-- The plain last norm is the normalised rows. -/
theorem ref22 : val_main_v22 (F := Ideal) x0 x1 x2 x3 = G5 x0 x1 x2 x3 := by
  funext i
  rw [val_main_v22_apply, val_main_v21_apply, val_main_v20_apply, val_main_v19_apply, val_main_v18_apply, ref17,
    ref9 x0 x1 x2 i (i 0) (i 1) rfl rfl]
  have g : x3 (idx_main_v20 (idx_main_v21 i)) = x3 (ix1 (i 1)) := by
    refine congrArg x3 (funext fun a => ?_)
    match a with
    | ⟨0, _⟩ => rfl
  rw [g]
  rfl

end Cert.Lst

end
-- ==== Proof.Sgu.Mask.lean ====
/- The mask of the gated mixing, on the words of two frames' numbers. -/
module

public import proofs.«01_k».proof.Proof.Gen.SguIdeal.Value
public import Idealize.ShloMosaic.Lib.ValueIdx
public import Idealize.ShloMosaic.Lib.Pipeline.Value
public import Idealize.ShloMosaic.Lib.Pipeline.ValueKit
public import Idealize.ShloMosaic.PureOps.IdealRules
public import Idealize.ShloMosaic.PureOps.Ideal.Laws

@[expose] public section

set_option maxRecDepth 16384

noncomputable section

namespace Cert.Sg

open Idealize
open Idealize.ShloMosaic hiding ix1 ix2 ix3 ix4 ix5
open Idealize.ShloMosaic.TcCoe
open Idealize.ShloMosaic.ValueIdx
open Idealize.ShloMosaic.Tactic
open Idealize.SL.Sem
open Idealize.ShloMosaic.Pipeline (Dat Cfg Window)
open Cert.SguIdeal Cert.SguIdeal.Gen

/-- The length of the chunks of a block: 128 frames, and 32 in the last block. -/
def len (n : ℕ) : ℕ := if n < 32 then 128 else 32

/-- The length of the chunks is one of two. -/
theorem len_cases (n : ℕ) : len n = 128 ∨ len n = 32 := by
  unfold len
  split
  · exact Or.inl rfl
  · exact Or.inr rfl

/-- A frame is mixed from those of its own chunk up to itself. -/
abbrev keep (L r q : ℕ) : Prop := r / L = q / L ∧ q ≤ r

/-- The mask of the words of two frames' numbers, at the shift of a chunk of 128. -/
theorem mask7 : ∀ r q : Fin 256, IntOp.andi (IntOp.cmpi .eq (IntOp.shrui .vector (BitVec.ofNat 32 r.val) 7#32) (IntOp.shrui .vector (BitVec.ofNat 32 q.val) 7#32))
    (IntOp.cmpi .sle (BitVec.ofNat 32 q.val) (BitVec.ofNat 32 r.val)) = if keep 128 r.val q.val then 1#1 else 0#1 := by
  decide +kernel

/-- The mask of the words of two frames' numbers, at the shift of a chunk of 32. -/
theorem mask5 : ∀ r q : Fin 256, IntOp.andi (IntOp.cmpi .eq (IntOp.shrui .vector (BitVec.ofNat 32 r.val) 5#32) (IntOp.shrui .vector (BitVec.ofNat 32 q.val) 5#32))
    (IntOp.cmpi .sle (BitVec.ofNat 32 q.val) (BitVec.ofNat 32 r.val)) = if keep 32 r.val q.val then 1#1 else 0#1 := by
  decide +kernel

end Cert.Sg

end
-- ==== Proof.Sgu.Block.lean ====
/- What a point of the gated mixing stores, at an index of its block, over the extended reals. -/
module

public import proofs.«01_k».proof.Proof.Gen.SguIdeal.Value
public import proofs.«01_k».proof.Proof.Sgu.Mask
public import Idealize.ShloMosaic.Lib.ValueIdx
public import Idealize.ShloMosaic.Lib.Pipeline.Value
public import Idealize.ShloMosaic.Lib.Pipeline.ValueKit
public import Idealize.ShloMosaic.PureOps.IdealRules
public import Idealize.ShloMosaic.PureOps.Ideal.Laws

@[expose] public section

set_option maxRecDepth 16384

noncomputable section

namespace Cert.Sg

open Idealize
open Idealize.ShloMosaic hiding ix1 ix2 ix3 ix4 ix5
open Idealize.ShloMosaic.TcCoe
open Idealize.ShloMosaic.ValueIdx
open Idealize.ShloMosaic.Tactic
open Idealize.SL.Sem
open Idealize.ShloMosaic.Pipeline (Dat Cfg Window)
open Cert.SguIdeal Cert.SguIdeal.Gen

/-- The shift of a point: 7 before the last one, 5 at the last. -/
theorem shift_eq : ∀ n : Fin 33, Scalar.select (Scalar.cmpi .slt (BitVec.ofNat 32 n.val) 32#32) (7#32 : BitVec 32) 5#32 = if n.val < 32 then 7#32 else 5#32 := by
  decide +kernel

/-- The mask of a point, at an index. -/
theorem mask_apply (i : grid0.Coords) (r q : Fin 256) : k0_pay3 i (ix2 r q) = if keep (len (i 0).val) r.val q.val then 1#1 else 0#1 := by
  have e0 : iota .tc S256x256 32 [0] iota_S256x256_d0_w32 (ix2 r q) = BitVec.ofNat 32 r.val := iota_single_apply _ _ _ _ _ _
  have e1 : iota .tc S256x256 32 [1] iota_S256x256_d1_w32 (ix2 r q) = BitVec.ofNat 32 q.val := iota_single_apply _ _ _ _ _ _
  have e : k0_pay3 i (ix2 r q) = IntOp.andi (IntOp.cmpi .eq
      (IntOp.shrui .vector (iota .tc S256x256 32 [0] iota_S256x256_d0_w32 (ix2 r q)) (Scalar.select (Scalar.cmpi .slt (BitVec.ofNat 32 (i 0).val) 32#32) (7#32 : BitVec 32) 5#32))
      (IntOp.shrui .vector (iota .tc S256x256 32 [1] iota_S256x256_d1_w32 (ix2 r q)) (Scalar.select (Scalar.cmpi .slt (BitVec.ofNat 32 (i 0).val) 32#32) (7#32 : BitVec 32) 5#32)))
      (IntOp.cmpi .sle (iota .tc S256x256 32 [1] iota_S256x256_d1_w32 (ix2 r q)) (iota .tc S256x256 32 [0] iota_S256x256_d0_w32 (ix2 r q))) := by
    unfold k0_pay3; rfl
  rw [e0, e1] at e
  rw [e, shift_eq ⟨(i 0).val, (i 0).isLt⟩]
  unfold len
  by_cases h : (i 0).val < 32
  · rw [if_pos h, if_pos h]; exact mask7 r q
  · rw [if_neg h, if_neg h]; exact mask5 r q

/-- A product of masked weights and 512 columns, at an index. -/
theorem prod_apply (x : FVec Ideal S256x256 .bf16) (w : FVec Ideal S256x512 .bf16) (r : Fin 256) (k : Fin 512) :
    (matmul (F := Ideal) dot_S256x256_S256x512_S256x512_1_0_0_1_n_n none x w (constant S256x512 .f32 0x00000000#32) : FVec Ideal S256x512 .f32) (ix2 r k)
      = (∑ q : Fin 256, (x (ix2 r q) : EReal) * w (ix2 q k) : EReal) := by
  refine (Ideal.matmul_constant_zero_apply _ none _ _ _).trans ?_
  refine (Equiv.sum_comp (contrEquiv1 dot_S256x256_S256x512_S256x512_1_0_0_1_n_n 256 rfl rfl).symm _).symm.trans ?_
  refine Finset.sum_congr rfl fun d _ => congr (congrArg _ (congrArg x (funext fun a => ?_))) (congrArg w (funext fun a => ?_))
  · match a with
    | ⟨0, _⟩ => rfl
    | ⟨1, _⟩ => rfl
  · match a with
    | ⟨0, _⟩ => rfl
    | ⟨1, _⟩ => rfl

/-- A column spread over 512 columns, at an index. -/
theorem spreadC_apply (v : FVec Ideal S256x1 .f32) (r : Fin 256) (d : Fin 512) :
    broadcastTo S256x512 v broadcasts_S256x1_S256x512 (ix2 r d) = v (ix2 r 0) := by
  refine broadcastTo_apply v _ _ _ fun a => ?_
  match a with
  | ⟨0, _⟩ => rfl
  | ⟨1, _⟩ => rfl

/-- A row spread over the rows, at an index. -/
theorem spreadR_apply (v : FVec Ideal S1x512 .f32) (r : Fin 256) (d : Fin 512) :
    broadcastTo S256x512 v broadcasts_S1x512_S256x512 (ix2 r d) = v (ix2 0 d) := by
  refine broadcastTo_apply v _ _ _ fun a => ?_
  match a with
  | ⟨0, _⟩ => rfl
  | ⟨1, _⟩ => rfl

/-- The sum of 512 columns of a row, as a column, at its index. -/
theorem rowsum_apply (s : FVec Ideal S256x512 .f32) (r : Fin 256) (u : Fin 1) :
    shapeCast S256x1 (multiReduction .add [1] S256 s 0x00000000#32 reduces_S256x512_S256 (.inl rfl) rfl) shapeCasts_S256_S256x1 (ix2 r u)
      = ∑ d : Fin 512, s (ix2 r d) := by
  have hu : u.val = 0 := by omega
  refine (shapeCast_apply _ shapeCasts_S256_S256x1 (ix2 r u) (ix1 r) (by
    rw [Shape.rowMajor_val_two, Shape.rowMajor_val_one]; show r.val = r.val * 1 + u.val; omega)).trans ?_
  refine (Ideal.multiReduction_add_single s _ reduces_S256x512_S256 _ _ (ix1 r)).trans ?_
  refine Finset.sum_congr rfl fun c _ => congrArg s (funext fun a => ?_)
  match a with
  | ⟨0, _⟩ => rfl
  | ⟨1, _⟩ => rfl

/-- The gated mixing of one group, at an index. -/
theorem grp_apply (i : grid0.Coords) (w : Vec Ideal S1x1x256x256 .f32) (v : Vec Ideal S256x512 .bf16) (b : Vec Ideal S1x1x256x1 .f32)
    (u : Vec Ideal S256x512 .bf16) (r : Fin 256) (e : Fin 512) :
    k0_pay4 (F := Ideal) i w v b u (ix2 r e)
      = (u (ix2 r e) * ((∑ q : Fin 256, (if keep (len (i 0).val) r.val q.val then (w (ix4 0 0 r q) : EReal) else 0) * v (ix2 q e)) + b (ix4 0 0 r 0)) : EReal) := by
  have h : k0_pay4 (F := Ideal) i w v b u (ix2 r e)
      = (u (ix2 r e) * ((matmul (F := Ideal) dot_S256x256_S256x512_S256x512_1_0_0_1_n_n none
          (truncf .bf16 (select (k0_pay3 i) (shapeCast S256x256 w shapeCasts_S1x1x256x256_S256x256 : FVec Ideal S256x256 .f32) (broadcast S256x256 (Scalar.ofBits .f32 0x00000000#32)))
            bitsLt_bf16_f32) v (constant S256x512 .f32 0x00000000#32) : FVec Ideal S256x512 .f32) (ix2 r e)
        + broadcastTo S256x512 (shapeCast S256x1 b shapeCasts_S1x1x256x1_S256x1 : FVec Ideal S256x1 .f32) broadcasts_S256x1_S256x512 (ix2 r e)) : EReal) := rfl
  have hb : (shapeCast S256x1 b shapeCasts_S1x1x256x1_S256x1 : FVec Ideal S256x1 .f32) (ix2 r 0) = b (ix4 0 0 r 0) :=
    shapeCast_apply _ _ _ _ (by
      rw [Shape.rowMajor_val_two, Shape.rowMajor_val_four]
      show ((0 * 1 + 0) * 256 + r.val) * 1 + 0 = r.val * 1 + 0
      omega)
  have hw : ∀ q : Fin 256, (shapeCast S256x256 w shapeCasts_S1x1x256x256_S256x256 : FVec Ideal S256x256 .f32) (ix2 r q) = w (ix4 0 0 r q) := fun q =>
    shapeCast_apply _ _ _ _ (by
      rw [Shape.rowMajor_val_two, Shape.rowMajor_val_four]
      show ((0 * 1 + 0) * 256 + r.val) * 256 + q.val = r.val * 256 + q.val
      omega)
  rw [h, prod_apply, spreadC_apply, hb]
  refine congrArg (fun z : EReal => (u (ix2 r e) : EReal) * (z + b (ix4 0 0 r 0))) (Finset.sum_congr rfl fun q _ => congrArg (· * (v (ix2 q e) : EReal)) ?_)
  show Scalar.select (k0_pay3 i (ix2 r q)) ((shapeCast S256x256 w shapeCasts_S1x1x256x256_S256x256 : FVec Ideal S256x256 .f32) (ix2 r q)) (Ideal.ofBits .f32 0x00000000#32) = _
  have z : Ideal.ofBits .f32 0x00000000#32 = 0 := by simp [Ideal.ofBits, Ideal.ieee]
  rw [mask_apply, hw q, z]
  by_cases hk : keep (len (i 0).val) r.val q.val
  · rw [if_pos hk, if_pos hk]; rfl
  · rw [if_neg hk, if_neg hk]; rfl

/-- The reciprocal root mean square of the rows of four groups, at its index. -/
theorem rs_apply (a0 a1 a2 v58 v61 : FVec Ideal S256x512 .f32) (v63 : Vec Ideal S256x512 .bf16) (r : Fin 256) (u : Fin 1) :
    k0_pay11 (F := Ideal) a0 a1 a2 v58 v61 v63 (ix2 r u)
      = Ideal.rsqrt (((((∑ e : Fin 512, (a0 (ix2 r e) : EReal) * a0 (ix2 r e)) + ∑ e : Fin 512, (a1 (ix2 r e) : EReal) * a1 (ix2 r e))
          + ∑ e : Fin 512, (a2 (ix2 r e) : EReal) * a2 (ix2 r e))
          + ∑ e : Fin 512, (k0_pay10 (F := Ideal) v58 v61 v63 (ix2 r e) : EReal) * k0_pay10 (F := Ideal) v58 v61 v63 (ix2 r e))
        * Ideal.ofBits .f32 0x3A000000#32 + Ideal.ofBits .f32 0x358637BD#32) := by
  have e : k0_pay11 (F := Ideal) a0 a1 a2 v58 v61 v63 (ix2 r u)
      = Ideal.rsqrt (((((Ideal.ofBits .f32 0x00000000#32
          + shapeCast S256x1 (multiReduction .add [1] S256 (mulf a0 a0) 0x00000000#32 reduces_S256x512_S256 (.inl rfl) rfl) shapeCasts_S256_S256x1 (ix2 r u))
          + shapeCast S256x1 (multiReduction .add [1] S256 (mulf a1 a1) 0x00000000#32 reduces_S256x512_S256 (.inl rfl) rfl) shapeCasts_S256_S256x1 (ix2 r u))
          + shapeCast S256x1 (multiReduction .add [1] S256 (mulf a2 a2) 0x00000000#32 reduces_S256x512_S256 (.inl rfl) rfl) shapeCasts_S256_S256x1 (ix2 r u))
          + shapeCast S256x1 (multiReduction .add [1] S256 (mulf (k0_pay10 (F := Ideal) v58 v61 v63) (k0_pay10 (F := Ideal) v58 v61 v63)) 0x00000000#32 reduces_S256x512_S256 (.inl rfl) rfl) shapeCasts_S256_S256x1 (ix2 r u))
        * Ideal.ofBits .f32 0x3A000000#32 + Ideal.ofBits .f32 0x358637BD#32) := rfl
  have z : Ideal.ofBits .f32 0x00000000#32 = 0 := by simp [Ideal.ofBits, Ideal.ieee]
  rw [e, rowsum_apply, rowsum_apply, rowsum_apply, rowsum_apply, z, zero_add]
  rfl

/-- What a point stores of one group, at an index. -/
theorem store_apply (a : FVec Ideal S256x512 .f32) (s : FVec Ideal S256x1 .f32) (g : Vec Ideal S1x512 .f32) (r : Fin 256) (e : Fin 512) :
    k0_pay1 (F := Ideal) a s g (ix2 r e) = ((a (ix2 r e) * s (ix2 r 0)) * g (ix2 0 e) : EReal) := by
  have h : k0_pay1 (F := Ideal) a s g (ix2 r e) = ((a (ix2 r e) * broadcastTo S256x512 s broadcasts_S256x1_S256x512 (ix2 r e))
      * broadcastTo S256x512 (shapeCast S1x512 g shapeCasts_S1x512_S1x512 : FVec Ideal S1x512 .f32) broadcasts_S1x512_S256x512 (ix2 r e) : EReal) := rfl
  rw [h, spreadC_apply, spreadR_apply, shapeCast_self]

/-- The sum of 2048 columns is the sum of four groups of 512. -/
theorem sum_groups (f : Fin 2048 → EReal) :
    ∑ c, f c = (((∑ e : Fin 512, f ⟨512 * 0 + e.val, by omega⟩) + ∑ e : Fin 512, f ⟨512 * 1 + e.val, by omega⟩)
      + ∑ e : Fin 512, f ⟨512 * 2 + e.val, by omega⟩) + ∑ e : Fin 512, f ⟨512 * 3 + e.val, by omega⟩ := by
  refine (Fin.sum_univ_add (a := 1536) (b := 512) f).trans (congr (congrArg _ ?_) rfl)
  refine (Fin.sum_univ_add (a := 1024) (b := 512) _).trans (congr (congrArg _ ?_) rfl)
  refine (Fin.sum_univ_add (a := 512) (b := 512) _).trans (congr (congrArg _ ?_) rfl)
  refine Finset.sum_congr rfl fun e _ => congrArg f (Fin.ext ?_)
  show e.val = 512 * 0 + e.val
  omega

section
variable (i : grid0.Coords) (x0 x1 : Vec Ideal S256x2048 .bf16) (x2 : Vec Ideal S1x4x256x256 .f32) (x3 : Vec Ideal S1x4x256x1 .f32) (x4 : Vec Ideal S1x2048 .f32)

/-- The group of a column. -/
def grp (c : Fin 2048) : Fin 4 := ⟨c.val / 512, by omega⟩

/-- The gated mixing of a block, at an index. -/
def aB (r : Fin 256) (c : Fin 2048) : EReal :=
  (x0 (ix2 r c) : EReal) * ((∑ q : Fin 256, (if keep (len (i 0).val) r.val q.val then (x2 (ix4 0 (grp c) r q) : EReal) else 0) * x1 (ix2 q c)) + x3 (ix4 0 (grp c) r 0))

/-- A block's result. -/
def GB : S256x2048.Idx → EReal := fun y =>
  (aB i x0 x1 x2 x3 (y 0) (y 1) * Ideal.rsqrt ((∑ c : Fin 2048, aB i x0 x1 x2 x3 (y 0) c * aB i x0 x1 x2 x3 (y 0) c) * Ideal.ofBits .f32 0x3A000000#32 + Ideal.ofBits .f32 0x358637BD#32))
    * x4 (ix2 0 (y 1))

/-- One group of a block, from the block's loads. -/
theorem grp_ld (g o : ℕ) (ho : o = 512 * g) (hg : g < 4) (b2 b1 b3 b0) (r : Fin 256) (e : Fin 512) :
    k0_pay4 (F := Ideal) i (View.ld x2 (Rect.unit (s := S1x4x256x256) ![0, g, 0, 0] S1x1x256x256.size b2)) (View.ld x1 (Rect.unit (s := S256x2048) ![0, o] S256x512.size b1))
      (View.ld x3 (Rect.unit (s := S1x4x256x1) ![0, g, 0, 0] S1x1x256x1.size b3)) (View.ld x0 (Rect.unit (s := S256x2048) ![0, o] S256x512.size b0)) (ix2 r e)
      = aB i x0 x1 x2 x3 r ⟨512 * g + e.val, by omega⟩ := by
  subst ho
  have hq : grp ⟨512 * g + e.val, by omega⟩ = ⟨g, hg⟩ := Fin.ext (by show (512 * g + e.val) / 512 = g; omega)
  have h0 : ∀ (x : Vec Ideal S256x2048 .bf16) (b) (q : Fin 256), View.ld x (Rect.unit (s := S256x2048) ![0, 512 * g] S256x512.size b) (ix2 q e) = x (ix2 q ⟨512 * g + e.val, by omega⟩) :=
    fun x b q => View.ld_unit_apply_of x _ _ _ _ _ fun a => match a with
      | ⟨0, _⟩ => (Nat.zero_add _).symm
      | ⟨1, _⟩ => rfl
  have h2 : ∀ q : Fin 256, View.ld x2 (Rect.unit (s := S1x4x256x256) ![0, g, 0, 0] S1x1x256x256.size b2) (ix4 0 0 r q) = x2 (ix4 0 ⟨g, hg⟩ r q) :=
    fun q => View.ld_unit_apply_of x2 _ _ _ _ _ fun a => match a with
      | ⟨0, _⟩ => rfl
      | ⟨1, _⟩ => rfl
      | ⟨2, _⟩ => (Nat.zero_add _).symm
      | ⟨3, _⟩ => (Nat.zero_add _).symm
  have h3 : View.ld x3 (Rect.unit (s := S1x4x256x1) ![0, g, 0, 0] S1x1x256x1.size b3) (ix4 0 0 r 0) = x3 (ix4 0 ⟨g, hg⟩ r 0) :=
    View.ld_unit_apply_of x3 _ _ _ _ _ fun a => match a with
      | ⟨0, _⟩ => rfl
      | ⟨1, _⟩ => rfl
      | ⟨2, _⟩ => (Nat.zero_add _).symm
      | ⟨3, _⟩ => rfl
  refine (grp_apply i _ _ _ _ r e).trans ?_
  unfold aB
  rw [hq]
  refine congr (congrArg _ (h0 x0 b0 r)) (congr (congrArg _ (Finset.sum_congr rfl fun q _ => ?_)) h3)
  exact congr (congrArg _ (congrArg (fun z : EReal => if keep (len (i 0).val) r.val q.val then z else 0) (h2 q))) (h0 x1 b1 q)

/-- The first group of a block. -/
theorem grp0 (r : Fin 256) (e : Fin 512) : k0_pay15 (F := Ideal) i x0 x1 x2 x3 x4 (ix2 r e) = aB i x0 x1 x2 x3 r ⟨512 * 0 + e.val, by omega⟩ :=
  grp_ld i x0 x1 x2 x3 0 0 rfl (by omega) _ _ _ _ r e

/-- The second group of a block. -/
theorem grp1 (r : Fin 256) (e : Fin 512) : k0_pay16 (F := Ideal) i x0 x1 x2 x3 x4 (ix2 r e) = aB i x0 x1 x2 x3 r ⟨512 * 1 + e.val, by omega⟩ :=
  grp_ld i x0 x1 x2 x3 1 512 rfl (by omega) _ _ _ _ r e

/-- The third group of a block. -/
theorem grp2 (r : Fin 256) (e : Fin 512) : k0_pay17 (F := Ideal) i x0 x1 x2 x3 x4 (ix2 r e) = aB i x0 x1 x2 x3 r ⟨512 * 2 + e.val, by omega⟩ :=
  grp_ld i x0 x1 x2 x3 2 1024 rfl (by omega) _ _ _ _ r e

/-- The fourth group of a block. -/
theorem grp3 (r : Fin 256) (e : Fin 512) :
    k0_pay10 (F := Ideal) (k0_pay18 i x0 x1 x2 x3 x4) (k0_pay19 i x0 x1 x2 x3 x4) (View.ld x0 r0_10) (ix2 r e) = aB i x0 x1 x2 x3 r ⟨512 * 3 + e.val, by omega⟩ :=
  grp_ld i x0 x1 x2 x3 3 1536 rfl (by omega) _ _ _ _ r e

/-- The reciprocal root mean square of a block's rows. -/
theorem root_apply (r : Fin 256) (u : Fin 1) : k0_pay20 (F := Ideal) i x0 x1 x2 x3 x4 (ix2 r u)
    = Ideal.rsqrt ((∑ c : Fin 2048, aB i x0 x1 x2 x3 r c * aB i x0 x1 x2 x3 r c) * Ideal.ofBits .f32 0x3A000000#32 + Ideal.ofBits .f32 0x358637BD#32) := by
  unfold k0_pay20
  rw [rs_apply, sum_groups]
  simp only [grp0, grp1, grp2, grp3]

/-- What a point stores of one group, as the block's result. -/
theorem piece (g o : ℕ) (ho : o = 512 * g) (hg : g < 4) (b4 b5) (a : FVec Ideal S256x512 .f32)
    (ha : ∀ (r : Fin 256) (e : Fin 512), a (ix2 r e) = aB i x0 x1 x2 x3 r ⟨512 * g + e.val, by omega⟩) (x : S256x512.Idx) :
    k0_pay1 (F := Ideal) a (k0_pay20 i x0 x1 x2 x3 x4) (View.ld x4 (Rect.unit (s := S1x2048) ![0, o] S1x512.size b4)) x
      = GB i x0 x1 x2 x3 x4 ((Rect.unit (s := S256x2048) ![0, o] S256x512.size b5).emb x) := by
  subst ho
  have hx : x = ix2 (x 0) (x 1) := by
    funext a
    match a with
    | ⟨0, _⟩ => rfl
    | ⟨1, _⟩ => rfl
  have h1 : (x 1).val < 512 := (x 1).isLt
  have hy : (Rect.unit (s := S256x2048) ![0, 512 * g] S256x512.size b5).emb x = ix2 (x 0) ⟨512 * g + (x 1).val, by omega⟩ := by
    funext a
    apply Fin.ext
    refine (Rect.idx_unit_val _ _ _ x a).trans ?_
    match a with
    | ⟨0, _⟩ => exact Nat.zero_add _
    | ⟨1, _⟩ => rfl
  have h4 : View.ld x4 (Rect.unit (s := S1x2048) ![0, 512 * g] S1x512.size b4) (ix2 0 (x 1)) = x4 (ix2 0 ⟨512 * g + (x 1).val, by omega⟩) :=
    View.ld_unit_apply_of x4 _ _ _ _ _ fun a => match a with
      | ⟨0, _⟩ => rfl
      | ⟨1, _⟩ => rfl
  rw [hy]
  conv_lhs => rw [hx]
  refine (store_apply _ _ _ (x 0) (x 1)).trans ?_
  refine congr (congrArg _ (congr (congrArg _ (ha (x 0) (x 1))) (root_apply i x0 x1 x2 x3 x4 (x 0) 0))) h4

/-- A block after its point. -/
theorem block_eq : out0_5 (F := Ideal) i x0 x1 x2 x3 x4 = GB i x0 x1 x2 x3 x4 := by
  funext y
  unfold out0_5
  refine View.canon_apply_of_pieces (Val := Elt Ideal) (e := .bf16) (GB i x0 x1 x2 x3 x4) _ ?_ y (cover0_5 _ _ _ _ y)
  intro p hp
  simp only [List.mem_cons, List.not_mem_nil, or_false] at hp
  rcases hp with rfl | rfl | rfl | rfl
  · exact piece i x0 x1 x2 x3 x4 3 1536 rfl (by omega) _ (by decide) _ (grp3 i x0 x1 x2 x3 x4)
  · exact piece i x0 x1 x2 x3 x4 2 1024 rfl (by omega) _ (by decide) _ (grp2 i x0 x1 x2 x3 x4)
  · exact piece i x0 x1 x2 x3 x4 1 512 rfl (by omega) _ (by decide) _ (grp1 i x0 x1 x2 x3 x4)
  · exact piece i x0 x1 x2 x3 x4 0 0 rfl (by omega) _ (by decide) _ (grp0 i x0 x1 x2 x3 x4)

end

end Cert.Sg

end
-- ==== Proof.Sgu.Tile.lean ====
/- The weights and the biases of the gated mixing as its launch finds them: the chunks' weights repeated over a block of 256 frames. -/
module

public import proofs.«01_k».proof.Proof.Gen.SguIdeal.Value
public import Idealize.ShloMosaic.Lib.ValueIdx
public import Idealize.ShloMosaic.Lib.Pipeline.Value
public import Idealize.ShloMosaic.Lib.Pipeline.ValueKit
public import Idealize.ShloMosaic.PureOps.IdealRules
public import Idealize.ShloMosaic.PureOps.Ideal.Laws

@[expose] public section

set_option maxRecDepth 16384

noncomputable section

namespace Cert.Sg

open Idealize
open Idealize.ShloMosaic hiding ix1 ix2 ix3 ix4 ix5 ix6
open Idealize.ShloMosaic.TcCoe
open Idealize.ShloMosaic.ValueIdx
open Idealize.ShloMosaic.Tactic
open Idealize.SL.Sem
open Cert.SguIdeal Cert.SguIdeal.Gen

/-- A weight, at its numbers. -/
def wN (w : S4x128x128.Idx → EReal) (g i j : ℕ) : EReal := if h : g < 4 ∧ i < 128 ∧ j < 128 then w (ix3 ⟨g, h.1⟩ ⟨i, h.2.1⟩ ⟨j, h.2.2⟩) else 0
/-- A bias, at its numbers. -/
def bN (b : S4x128.Idx → EReal) (g i : ℕ) : EReal := if h : g < 4 ∧ i < 128 then b (ix2 ⟨g, h.1⟩ ⟨i, h.2⟩) else 0

/-- An index's place in an array of six axes. -/
theorem rm6 {d : Fin 6 → ℕ} (i : (⟨6, d⟩ : Shape).Idx) : ((⟨6, d⟩ : Shape).rowMajor i).val
    = (((((i 0).val * d 1 + (i 1).val) * d 2 + (i 2).val) * d 3 + (i 3).val) * d 4 + (i 4).val) * d 5 + (i 5).val := by
  rw [Shape.rowMajor_val_succ, Shape.rowMajor_val_five]
  simp [Shape.numel, Fin.prod_univ_succ, Nat.add_mul, Nat.mul_assoc, Nat.add_assoc]

section
variable (w : S4x128x128.Idx → EReal) (b : S4x128.Idx → EReal)

/-- The weights of two chunks of 128. -/
def tw1 : S1x4x256x256.Idx → EReal := broadcastInDim S1x4x256x256 ![1, 2, 3] bcast_S4x256x256_S1x4x256x256_1_2_3
  (shapeCast S4x256x256 (broadcastInDim S1x4x2x128x2x128 ![0, 1, 2, 3, 4, 5] bcast_S1x4x1x128x1x128_S1x4x2x128x2x128_0_1_2_3_4_5
    (shapeCast S1x4x1x128x1x128 w shapeCasts_S4x128x128_S1x4x1x128x1x128)) shapeCasts_S1x4x2x128x2x128_S4x256x256)
/-- The weights of eight chunks of 32. -/
def tw2 : S1x4x256x256.Idx → EReal := broadcastInDim S1x4x256x256 ![1, 2, 3] bcast_S4x256x256_S1x4x256x256_1_2_3
  (shapeCast S4x256x256 (broadcastInDim S1x4x8x32x8x32 ![0, 1, 2, 3, 4, 5] bcast_S1x4x1x32x1x32_S1x4x8x32x8x32_0_1_2_3_4_5
    (shapeCast S1x4x1x32x1x32 (extractStridedSlice S4x32x32 ![0, 0, 0] w slices_S4x128x128_S4x32x32_0_0_0) shapeCasts_S4x32x32_S1x4x1x32x1x32)) shapeCasts_S1x4x8x32x8x32_S4x256x256)
/-- The biases of two chunks of 128. -/
def tb1 : S1x4x256.Idx → EReal := broadcastInDim S1x4x256 ![1, 2] bcast_S4x256_S1x4x256_1_2
  (shapeCast S4x256 (broadcastInDim S1x4x2x128 ![0, 1, 2, 3] bcast_S1x4x1x128_S1x4x2x128_0_1_2_3
    (shapeCast S1x4x1x128 b shapeCasts_S4x128_S1x4x1x128)) shapeCasts_S1x4x2x128_S4x256)
/-- The biases of eight chunks of 32. -/
def tb2 : S1x4x256.Idx → EReal := broadcastInDim S1x4x256 ![1, 2] bcast_S4x256_S1x4x256_1_2
  (shapeCast S4x256 (broadcastInDim S1x4x8x32 ![0, 1, 2, 3] bcast_S1x4x1x32_S1x4x8x32_0_1_2_3
    (shapeCast S1x4x1x32 (extractStridedSlice S4x32 ![0, 0] b slices_S4x128_S4x32_0_0) shapeCasts_S4x32_S1x4x1x32)) shapeCasts_S1x4x8x32_S4x256)

/-- The weights of two chunks of 128, at an index. -/
theorem tw1_apply (g : Fin 4) (r q : Fin 256) : tw1 w (ix4 0 g r q) = wN w g.val (r.val % 128) (q.val % 128) := by
  unfold tw1 wN
  rw [dif_pos ⟨g.isLt, by omega, by omega⟩]
  refine (broadcastInDim_apply _ _ _ _ (ix3 g r q) fun a => ?_).trans ?_
  · match a with
    | ⟨0, _⟩ => rfl
    | ⟨1, _⟩ => rfl
    | ⟨2, _⟩ => rfl
  refine (shapeCast_apply _ _ _ (ix6 0 g ⟨r.val / 128, by omega⟩ ⟨r.val % 128, by omega⟩ ⟨q.val / 128, by omega⟩ ⟨q.val % 128, by omega⟩) ?_).trans ?_
  · rw [rm6, Shape.rowMajor_val_three]
    show ((((0 * 4 + g.val) * 2 + r.val / 128) * 128 + r.val % 128) * 2 + q.val / 128) * 128 + q.val % 128 = (g.val * 256 + r.val) * 256 + q.val
    omega
  refine (broadcastInDim_apply _ _ _ _ (ix6 0 g 0 ⟨r.val % 128, by omega⟩ 0 ⟨q.val % 128, by omega⟩) fun a => ?_).trans ?_
  · match a with
    | ⟨0, _⟩ => rfl
    | ⟨1, _⟩ => rfl
    | ⟨2, _⟩ => rfl
    | ⟨3, _⟩ => rfl
    | ⟨4, _⟩ => rfl
    | ⟨5, _⟩ => rfl
  refine shapeCast_apply _ _ _ _ ?_
  rw [rm6, Shape.rowMajor_val_three]
  show (g.val * 128 + r.val % 128) * 128 + q.val % 128 = ((((0 * 4 + g.val) * 1 + 0) * 128 + r.val % 128) * 1 + 0) * 128 + q.val % 128
  omega

/-- The weights of eight chunks of 32, at an index. -/
theorem tw2_apply (g : Fin 4) (r q : Fin 256) : tw2 w (ix4 0 g r q) = wN w g.val (r.val % 32) (q.val % 32) := by
  unfold tw2 wN
  rw [dif_pos ⟨g.isLt, by omega, by omega⟩]
  refine (broadcastInDim_apply _ _ _ _ (ix3 g r q) fun a => ?_).trans ?_
  · match a with
    | ⟨0, _⟩ => rfl
    | ⟨1, _⟩ => rfl
    | ⟨2, _⟩ => rfl
  refine (shapeCast_apply _ _ _ (ix6 0 g ⟨r.val / 32, by omega⟩ ⟨r.val % 32, by omega⟩ ⟨q.val / 32, by omega⟩ ⟨q.val % 32, by omega⟩) ?_).trans ?_
  · rw [rm6, Shape.rowMajor_val_three]
    show ((((0 * 4 + g.val) * 8 + r.val / 32) * 32 + r.val % 32) * 8 + q.val / 32) * 32 + q.val % 32 = (g.val * 256 + r.val) * 256 + q.val
    omega
  refine (broadcastInDim_apply _ _ _ _ (ix6 0 g 0 ⟨r.val % 32, by omega⟩ 0 ⟨q.val % 32, by omega⟩) fun a => ?_).trans ?_
  · match a with
    | ⟨0, _⟩ => rfl
    | ⟨1, _⟩ => rfl
    | ⟨2, _⟩ => rfl
    | ⟨3, _⟩ => rfl
    | ⟨4, _⟩ => rfl
    | ⟨5, _⟩ => rfl
  refine (shapeCast_apply _ _ _ (ix3 g ⟨r.val % 32, by omega⟩ ⟨q.val % 32, by omega⟩) ?_).trans ?_
  · rw [rm6, Shape.rowMajor_val_three]
    show (g.val * 32 + r.val % 32) * 32 + q.val % 32 = ((((0 * 4 + g.val) * 1 + 0) * 32 + r.val % 32) * 1 + 0) * 32 + q.val % 32
    omega
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm

/-- The biases of two chunks of 128, at an index. -/
theorem tb1_apply (g : Fin 4) (r : Fin 256) : tb1 b (ix3 0 g r) = bN b g.val (r.val % 128) := by
  unfold tb1 bN
  rw [dif_pos ⟨g.isLt, by omega⟩]
  refine (broadcastInDim_apply _ _ _ _ (ix2 g r) fun a => ?_).trans ?_
  · match a with
    | ⟨0, _⟩ => rfl
    | ⟨1, _⟩ => rfl
  refine (shapeCast_apply _ _ _ (ix4 0 g ⟨r.val / 128, by omega⟩ ⟨r.val % 128, by omega⟩) ?_).trans ?_
  · rw [Shape.rowMajor_val_four, Shape.rowMajor_val_two]
    show ((0 * 4 + g.val) * 2 + r.val / 128) * 128 + r.val % 128 = g.val * 256 + r.val
    omega
  refine (broadcastInDim_apply _ _ _ _ (ix4 0 g 0 ⟨r.val % 128, by omega⟩) fun a => ?_).trans ?_
  · match a with
    | ⟨0, _⟩ => rfl
    | ⟨1, _⟩ => rfl
    | ⟨2, _⟩ => rfl
    | ⟨3, _⟩ => rfl
  refine shapeCast_apply _ _ _ _ ?_
  rw [Shape.rowMajor_val_four, Shape.rowMajor_val_two]
  show g.val * 128 + r.val % 128 = ((0 * 4 + g.val) * 1 + 0) * 128 + r.val % 128
  omega

/-- The biases of eight chunks of 32, at an index. -/
theorem tb2_apply (g : Fin 4) (r : Fin 256) : tb2 b (ix3 0 g r) = bN b g.val (r.val % 32) := by
  unfold tb2 bN
  rw [dif_pos ⟨g.isLt, by omega⟩]
  refine (broadcastInDim_apply _ _ _ _ (ix2 g r) fun a => ?_).trans ?_
  · match a with
    | ⟨0, _⟩ => rfl
    | ⟨1, _⟩ => rfl
  refine (shapeCast_apply _ _ _ (ix4 0 g ⟨r.val / 32, by omega⟩ ⟨r.val % 32, by omega⟩) ?_).trans ?_
  · rw [Shape.rowMajor_val_four, Shape.rowMajor_val_two]
    show ((0 * 4 + g.val) * 8 + r.val / 32) * 32 + r.val % 32 = g.val * 256 + r.val
    omega
  refine (broadcastInDim_apply _ _ _ _ (ix4 0 g 0 ⟨r.val % 32, by omega⟩) fun a => ?_).trans ?_
  · match a with
    | ⟨0, _⟩ => rfl
    | ⟨1, _⟩ => rfl
    | ⟨2, _⟩ => rfl
    | ⟨3, _⟩ => rfl
  refine (shapeCast_apply _ _ _ (ix2 g ⟨r.val % 32, by omega⟩) ?_).trans ?_
  · rw [Shape.rowMajor_val_four, Shape.rowMajor_val_two]
    show g.val * 32 + r.val % 32 = ((0 * 4 + g.val) * 1 + 0) * 32 + r.val % 32
    omega
  refine extractStridedSlice_apply _ _ _ _ _ fun a => ?_
  match a with
  | ⟨0, _⟩ => exact (Nat.zero_add _).symm
  | ⟨1, _⟩ => exact (Nat.zero_add _).symm

end

variable (m : (ℓ : Loc nD τ sig) → Buf (Elt Ideal) ℓ)

/-- The two halves of a core's columns. -/
abbrev X0 (c : Dev nD) : S8448x4096.Idx → EReal := m ((c.tc : Thread nD τ).loc main_arg0)
/-- The weights of a core. -/
abbrev X1 (c : Dev nD) : S4x128x128.Idx → EReal := m ((c.tc : Thread nD τ).loc main_arg1)
/-- The biases of a core. -/
abbrev X2 (c : Dev nD) : S4x128.Idx → EReal := m ((c.tc : Thread nD τ).loc main_arg2)
/-- The gains of a core. -/
abbrev X3 (c : Dev nD) : S2048.Idx → EReal := m ((c.tc : Thread nD τ).loc main_arg3)

/-- The weights as the launch finds them. -/
theorem V_w (c : Dev nD) : V m c main_v16 = concatenate S2x4x256x256 0 [⟨S1x4x256x256, tw1 (X1 m c)⟩, ⟨S1x4x256x256, tw2 (X1 m c)⟩]
    concatenates_S1x4x256x256_S1x4x256x256_S2x4x256x256_d0 := by
  entry_read; rfl

/-- The biases as the launch finds them. -/
theorem V_b (c : Dev nD) : V m c main_v20 = broadcastInDim S2x4x256x1 ![0, 1, 2] bcast_S2x4x256_S2x4x256x1_0_1_2
    (concatenate S2x4x256 0 [⟨S1x4x256, tb1 (X2 m c)⟩, ⟨S1x4x256, tb2 (X2 m c)⟩] concatenates_S1x4x256_S1x4x256_S2x4x256_d0) := by
  entry_read; rfl

/-- The gains as the launch finds them. -/
theorem V_gain (c : Dev nD) : V m c main_v21 = shapeCast S1x2048 (X3 m c) shapeCasts_S2048_S1x2048 := by
  entry_read; rfl

/-- The weights' first block, at an index. -/
theorem V_w0 (c : Dev nD) (g : Fin 4) (r q : Fin 256) : V m c main_v16 (ix4 0 g r q) = wN (X1 m c) g.val (r.val % 128) (q.val % 128) := by
  rw [V_w]
  refine (concatenate_pair_apply_left (t := S2x4x256x256) (0 : Fin 4) (tw1 (X1 m c)) (tw2 (X1 m c)) _ (ix4 0 g r q) rfl (ix4 0 g r q) fun b => ?_).trans (tw1_apply _ g r q)
  match b with
  | ⟨0, _⟩ => rfl
  | ⟨1, _⟩ => rfl
  | ⟨2, _⟩ => rfl
  | ⟨3, _⟩ => rfl

/-- The weights' second block, at an index. -/
theorem V_w1 (c : Dev nD) (g : Fin 4) (r q : Fin 256) : V m c main_v16 (ix4 1 g r q) = wN (X1 m c) g.val (r.val % 32) (q.val % 32) := by
  rw [V_w]
  refine (concatenate_pair_apply_right (t := S2x4x256x256) (0 : Fin 4) (tw1 (X1 m c)) (tw2 (X1 m c)) _ (ix4 1 g r q) rfl rfl (ix4 0 g r q) (fun b hb => ?_) rfl).trans (tw2_apply _ g r q)
  match b with
  | ⟨0, _⟩ => exact absurd rfl hb
  | ⟨1, _⟩ => rfl
  | ⟨2, _⟩ => rfl
  | ⟨3, _⟩ => rfl

/-- The biases' first block, at an index. -/
theorem V_b0 (c : Dev nD) (g : Fin 4) (r : Fin 256) : V m c main_v20 (ix4 0 g r 0) = bN (X2 m c) g.val (r.val % 128) := by
  rw [V_b]
  refine (broadcastInDim_apply _ _ _ _ (ix3 0 g r) fun a => ?_).trans ?_
  · match a with
    | ⟨0, _⟩ => rfl
    | ⟨1, _⟩ => rfl
    | ⟨2, _⟩ => rfl
  refine (concatenate_pair_apply_left (t := S2x4x256) (0 : Fin 3) (tb1 (X2 m c)) (tb2 (X2 m c)) _ (ix3 0 g r) rfl (ix3 0 g r) fun b => ?_).trans (tb1_apply _ g r)
  match b with
  | ⟨0, _⟩ => rfl
  | ⟨1, _⟩ => rfl
  | ⟨2, _⟩ => rfl

/-- The biases' second block, at an index. -/
theorem V_b1 (c : Dev nD) (g : Fin 4) (r : Fin 256) : V m c main_v20 (ix4 1 g r 0) = bN (X2 m c) g.val (r.val % 32) := by
  rw [V_b]
  refine (broadcastInDim_apply _ _ _ _ (ix3 1 g r) fun a => ?_).trans ?_
  · match a with
    | ⟨0, _⟩ => rfl
    | ⟨1, _⟩ => rfl
    | ⟨2, _⟩ => rfl
  refine (concatenate_pair_apply_right (t := S2x4x256) (0 : Fin 3) (tb1 (X2 m c)) (tb2 (X2 m c)) _ (ix3 1 g r) rfl rfl (ix3 0 g r) (fun b hb => ?_) rfl).trans (tb2_apply _ g r)
  match b with
  | ⟨0, _⟩ => exact absurd rfl hb
  | ⟨1, _⟩ => rfl
  | ⟨2, _⟩ => rfl

end Cert.Sg

end
-- ==== Proof.Sgu.Value.lean ====
/- What the launch of the gated mixing leaves in its array, over the extended reals. -/
module

public import proofs.«01_k».proof.Proof.Gen.SguIdeal.Value
public import proofs.«01_k».proof.Proof.Sgu.Block
public import proofs.«01_k».proof.Proof.Sgu.Tile
public import Idealize.ShloMosaic.Lib.ValueIdx
public import Idealize.ShloMosaic.Lib.Pipeline.Value
public import Idealize.ShloMosaic.Lib.Pipeline.ValueKit
public import Idealize.ShloMosaic.PureOps.IdealRules
public import Idealize.ShloMosaic.PureOps.Ideal.Laws

@[expose] public section

set_option maxRecDepth 16384

noncomputable section

namespace Cert.Sg

open Idealize
open Idealize.ShloMosaic hiding ix1 ix2 ix3 ix4 ix5
open Idealize.ShloMosaic.TcCoe
open Idealize.ShloMosaic.ValueIdx
open Idealize.ShloMosaic.Tactic
open Idealize.SL.Sem
open Idealize.ShloMosaic.Pipeline (Dat Cfg Window)
open Cert.SguIdeal Cert.SguIdeal.Gen

/-- An entry of the two halves of the columns, at its numbers. -/
def paN (x : S8448x4096.Idx → EReal) (n c : ℕ) : EReal := if h : n < 8448 ∧ c < 4096 then x (ix2 ⟨n, h.1⟩ ⟨c, h.2⟩) else 0

/-- The length of the chunk of a frame: 128 frames in the prompt, 32 in a sample. -/
def lenN (n : ℕ) : ℕ := if n < 8192 then 128 else 32

/-- A frame's mixture of the gated halves of its chunk. -/
def mixN (x : S8448x4096.Idx → EReal) (w : S4x128x128.Idx → EReal) (b : S4x128.Idx → EReal) (n c : ℕ) : EReal :=
  (∑ k ∈ Finset.range (lenN n), (if k ≤ n % lenN n then wN w (c / 512) (n % lenN n) k else 0) * paN x (n / lenN n * lenN n + k) (2048 + c))
    + bN b (c / 512) (n % lenN n)

/-- The mixture times the other half of the frame. -/
def aN (x : S8448x4096.Idx → EReal) (w : S4x128x128.Idx → EReal) (b : S4x128.Idx → EReal) (n c : ℕ) : EReal :=
  paN x n c * mixN x w b n c

/-- The gated mixing, normalised. -/
def G7 (x : S8448x4096.Idx → EReal) (w : S4x128x128.Idx → EReal) (b : S4x128.Idx → EReal) (g : S2048.Idx → EReal) : S8448x2048.Idx → EReal :=
  fun i => (aN x w b (i 0).val (i 1).val * Ideal.rsqrt ((∑ j : Fin 2048, aN x w b (i 0).val j.val * aN x w b (i 0).val j.val)
    * Ideal.ofBits .f32 0x3A000000#32 + Ideal.ofBits .f32 0x358637BD#32)) * g (ix1 (i 1))

/-- A frame's masked sum over its block is the sum over its chunk. -/
theorem chunk_sum (L : ℕ) (hL : L = 128 ∨ L = 32) (r : Fin 256) (W V : ℕ → EReal) :
    ∑ q : Fin 256, (if keep L r.val q.val then W (q.val % L) else 0) * V q.val
      = ∑ k ∈ Finset.range L, (if k ≤ r.val % L then W k else 0) * V (r.val / L * L + k) := by
  have hr := r.isLt
  refine (Fin.sum_univ_eq_sum_range (fun q => (if keep L r.val q then W (q % L) else 0) * V q) 256).trans ?_
  simp only [ite_mul, zero_mul]
  rw [← Finset.sum_filter, ← Finset.sum_filter]
  refine Finset.sum_nbij' (fun q => q % L) (fun k => r.val / L * L + k) ?_ ?_ ?_ ?_ ?_
  all_goals
    intro q hq
    simp only [Finset.mem_filter, Finset.mem_range, keep] at hq ⊢
    rcases hL with rfl | rfl
  all_goals try omega
  all_goals exact congrArg (fun z => W (q % _) * V z) (by omega)

variable (m : (ℓ : Loc nD τ sig) → Buf (Elt Ideal) ℓ)

/-- The block of window 0 at each point. -/
theorem idx0 : ∀ t : Fin cfg0.N, win0_0.index t = ![t.val, 0] := (by decide +kernel : ∀ t : Fin grid0.N, _)
/-- The block of window 1 at each point. -/
theorem idx1 : ∀ t : Fin cfg0.N, win0_1.index t = ![t.val, 1] := (by decide +kernel : ∀ t : Fin grid0.N, _)
/-- The block of window 2 at each point. -/
theorem idx2 : ∀ t : Fin cfg0.N, win0_2.index t = ![if t.val < 32 then 0 else 1, 0, 0, 0] := (by decide +kernel : ∀ t : Fin grid0.N, _)
/-- The block of window 3 at each point. -/
theorem idx3 : ∀ t : Fin cfg0.N, win0_3.index t = ![if t.val < 32 then 0 else 1, 0, 0, 0] := (by decide +kernel : ∀ t : Fin grid0.N, _)
/-- The block of window 4 at each point. -/
theorem idx4 : ∀ t : Fin cfg0.N, win0_4.index t = ![0, 0] := (by decide +kernel : ∀ t : Fin grid0.N, _)
/-- The block of window 5 at each point. -/
theorem idx5 : ∀ t : Fin cfg0.N, win0_5.index t = ![t.val, 0] := (by decide +kernel : ∀ t : Fin grid0.N, _)
/-- The coordinate of each point. -/
theorem coord : ∀ t : Fin cfg0.N, (grid0.coords t 0).val = t.val := (by decide +kernel : ∀ t : Fin grid0.N, _)

/-- A point is one of 33. -/
theorem ltN (t : Fin cfg0.N) : t.val < 33 := Nat.lt_of_lt_of_eq t.isLt N_0

/-- The block of the first half of the columns, at coordinates. -/
theorem blk0 (c : Dev nD) (t : Fin cfg0.N) (r : Fin 256) (q : Fin 2048) :
    iblk m c 0 t (ix2 r q) = paN (X0 m c) (t.val * 256 + r.val) q.val := by
  have ht := ltN t
  unfold paN
  rw [dif_pos (by omega)]
  blk_simp [iblk, V_main_arg0]
  refine congrArg _ (funext fun a => ?_)
  match a with
  | ⟨0, _⟩ => apply Fin.ext; blk_simp [idx0]
  | ⟨1, _⟩ => apply Fin.ext; blk_simp [idx0]

/-- The block of the second half of the columns, at coordinates. -/
theorem blk1 (c : Dev nD) (t : Fin cfg0.N) (r : Fin 256) (q : Fin 2048) :
    iblk m c 1 t (ix2 r q) = paN (X0 m c) (t.val * 256 + r.val) (2048 + q.val) := by
  have ht := ltN t
  unfold paN
  rw [dif_pos (by omega)]
  blk_simp [iblk, V_main_arg0]
  refine congrArg _ (funext fun a => ?_)
  match a with
  | ⟨0, _⟩ => apply Fin.ext; blk_simp [idx1]
  | ⟨1, _⟩ => apply Fin.ext; blk_simp [idx1]

/-- The block of the weights, at coordinates. -/
theorem blk2 (c : Dev nD) (t : Fin cfg0.N) (g : Fin 4) (r q : Fin 256) :
    iblk m c 2 t (ix4 0 g r q) = wN (X1 m c) g.val (r.val % len t.val) (q.val % len t.val) := by
  unfold len
  by_cases h : t.val < 32
  · rw [if_pos h]
    refine Eq.trans ?_ (V_w0 m c g r q)
    blk_simp [iblk]
    refine congrArg _ (funext fun a => ?_)
    match a with
    | ⟨0, _⟩ => apply Fin.ext; blk_simp [idx2, h]; rfl
    | ⟨1, _⟩ => apply Fin.ext; blk_simp [idx2, h]
    | ⟨2, _⟩ => apply Fin.ext; blk_simp [idx2, h]
    | ⟨3, _⟩ => apply Fin.ext; blk_simp [idx2, h]
  · rw [if_neg h]
    refine Eq.trans ?_ (V_w1 m c g r q)
    blk_simp [iblk]
    refine congrArg _ (funext fun a => ?_)
    match a with
    | ⟨0, _⟩ => apply Fin.ext; blk_simp [idx2, h]; rfl
    | ⟨1, _⟩ => apply Fin.ext; blk_simp [idx2, h]
    | ⟨2, _⟩ => apply Fin.ext; blk_simp [idx2, h]
    | ⟨3, _⟩ => apply Fin.ext; blk_simp [idx2, h]

/-- The block of the biases, at coordinates. -/
theorem blk3 (c : Dev nD) (t : Fin cfg0.N) (g : Fin 4) (r : Fin 256) :
    iblk m c 3 t (ix4 0 g r 0) = bN (X2 m c) g.val (r.val % len t.val) := by
  unfold len
  by_cases h : t.val < 32
  · rw [if_pos h]
    refine Eq.trans ?_ (V_b0 m c g r)
    blk_simp [iblk]
    refine congrArg _ (funext fun a => ?_)
    match a with
    | ⟨0, _⟩ => apply Fin.ext; blk_simp [idx3, h]; rfl
    | ⟨1, _⟩ => apply Fin.ext; blk_simp [idx3, h]
    | ⟨2, _⟩ => apply Fin.ext; blk_simp [idx3, h]
    | ⟨3, _⟩ => apply Fin.ext; blk_simp [idx3, h]
  · rw [if_neg h]
    refine Eq.trans ?_ (V_b1 m c g r)
    blk_simp [iblk]
    refine congrArg _ (funext fun a => ?_)
    match a with
    | ⟨0, _⟩ => apply Fin.ext; blk_simp [idx3, h]; rfl
    | ⟨1, _⟩ => apply Fin.ext; blk_simp [idx3, h]
    | ⟨2, _⟩ => apply Fin.ext; blk_simp [idx3, h]
    | ⟨3, _⟩ => apply Fin.ext; blk_simp [idx3, h]

/-- The block of the gains, at coordinates. -/
theorem blk4 (c : Dev nD) (t : Fin cfg0.N) (k : Fin 2048) : iblk m c 4 t (ix2 0 k) = X3 m c (ix1 k) := by
  blk_simp [iblk]
  rw [V_gain]
  refine shapeCast_apply _ shapeCasts_S2048_S1x2048 _ _ ?_
  rw [Shape.rowMajor_val_two, Shape.rowMajor_val_one]
  blk_simp [idx4]

/-- The gated mixing of a block is the gated mixing of its frames. -/
theorem aB_eq (c : Dev nD) (t : Fin cfg0.N) (r : Fin 256) (k : Fin 2048) :
    aB (grid0.coords t) (iblk m c 0 t) (iblk m c 1 t) (iblk m c 2 t) (iblk m c 3 t) r k = aN (X0 m c) (X1 m c) (X2 m c) (t.val * 256 + r.val) k.val := by
  have ht := ltN t
  have hr := r.isLt
  have hl : lenN (t.val * 256 + r.val) = len t.val := by
    unfold lenN len
    by_cases h : t.val < 32
    · rw [if_pos h, if_pos (by omega)]
    · rw [if_neg h, if_neg (by omega)]
  have hm : (t.val * 256 + r.val) % len t.val = r.val % len t.val := by
    rcases len_cases t.val with h | h <;> rw [h] <;> omega
  have hd : ∀ k, (t.val * 256 + r.val) / len t.val * len t.val + k = t.val * 256 + (r.val / len t.val * len t.val + k) := fun k => by
    rcases len_cases t.val with h | h <;> rw [h] <;> omega
  unfold aB aN mixN
  rw [hl, hm, coord]
  refine congr (congrArg _ (blk0 m c t r k)) (congr (congrArg _ ?_) (blk3 m c t (grp k) r))
  refine Eq.trans ?_ ((chunk_sum (len t.val) (len_cases t.val) r (fun j => wN (X1 m c) (k.val / 512) (r.val % len t.val) j)
    (fun q => paN (X0 m c) (t.val * 256 + q) (2048 + k.val))).trans ?_)
  · refine Finset.sum_congr rfl fun q _ => ?_
    exact congr (congrArg _ (congrArg (fun z : EReal => if keep (len t.val) r.val q.val then z else 0) (blk2 m c t (grp k) r q))) (blk1 m c t q k)
  · refine Finset.sum_congr rfl fun j _ => ?_
    rw [hd]

/-- The gated mixing after the run. -/
theorem final (c : Dev nD) : (dats m 0 c).arrAt 5 cfg0.N = G7 (X0 m c) (X1 m c) (X2 m c) (X3 m c) := by
  refine (dats m 0 c).arrAt_eq_of_covers 5 _ (by decide +kernel) fun t hf y => ?_
  blk_simp
  rw [after0_5, block_eq]
  have h0 : (((win0_5.blk t).view.emb y) 0).val = t.val * 256 + (y 0).val := by
    blk_simp [idx5]
  have h1 : ((win0_5.blk t).view.emb y) 1 = y 1 := by
    apply Fin.ext
    blk_simp [idx5]
  unfold GB G7
  rw [h0, h1]
  refine congr (congrArg _ (congr (congrArg _ (aB_eq m c t (y 0) (y 1))) (congrArg (fun z : EReal => Ideal.rsqrt (z * Ideal.ofBits .f32 0x3A000000#32 + Ideal.ofBits .f32 0x358637BD#32)) ?_))) (blk4 m c t (y 1))
  exact Finset.sum_congr rfl fun k _ => congr (congrArg _ (aB_eq m c t (y 0) k)) (aB_eq m c t (y 0) k)

end Cert.Sg

end
-- ==== Proof.Sgu.Ref.lean ====
/- The plain gated mixing, read at an index, is the gated mixing the launch leaves. -/
module

public import proofs.«01_k».proof.Proof.Sgu.Value
public import proofs.«01_k».proof.Proof.Attn.OutIdeal
public import proofs.«01_k».proof.Proof.Attn.RefB
public import proofs.«01_k».proof.Proof.Gen.PlainSguIdeal.Read

@[expose] public section

set_option maxRecDepth 16384

noncomputable section

namespace Cert.Sg

open Idealize
open Idealize.ShloMosaic hiding ix1 ix2 ix3 ix4 ix5 ix6
open Idealize.ShloMosaic.TcCoe
open Idealize.ShloMosaic.ValueIdx
open Cert.PlainSguIdeal Cert.PlainSguIdeal.Gen Cert.PlainSguIdeal.Read

variable (x0 : (⟨S8448x4096, .bf16⟩ : BufTy).Contents (Elt Ideal)) (x1 : (⟨S4x128x128, .f32⟩ : BufTy).Contents (Elt Ideal))
  (x2 : (⟨S4x128, .f32⟩ : BufTy).Contents (Elt Ideal)) (x3 : (⟨S2048, .f32⟩ : BufTy).Contents (Elt Ideal))

/-- An entry of the columns, at the numbers of an index. -/
theorem pa_at (i : S8448x4096.Idx) (n c : ℕ) (hn : (i 0).val = n) (hc : (i 1).val = c) : (x0 i : EReal) = paN x0 n c := by
  subst hn hc
  have h0 : (i 0).val < 8448 := (i 0).isLt
  have h1 : (i 1).val < 4096 := (i 1).isLt
  unfold paN
  rw [dif_pos ⟨h0, h1⟩]
  refine congrArg x0 (funext fun a => ?_)
  match a with
  | ⟨0, _⟩ => rfl
  | ⟨1, _⟩ => rfl

/-- A weight, at the numbers of an index. -/
theorem w_at (i : S4x128x128.Idx) : (x1 i : EReal) = wN x1 (i 0).val (i 1).val (i 2).val := by
  have h0 : (i 0).val < 4 := (i 0).isLt
  have h1 : (i 1).val < 128 := (i 1).isLt
  have h2 : (i 2).val < 128 := (i 2).isLt
  unfold wN
  rw [dif_pos ⟨h0, h1, h2⟩]
  refine congrArg x1 (funext fun a => ?_)
  match a with
  | ⟨0, _⟩ => rfl
  | ⟨1, _⟩ => rfl
  | ⟨2, _⟩ => rfl

/-- A bias, at the numbers of an index. -/
theorem b_at (i : S4x128.Idx) (g r : ℕ) (hg : (i 0).val = g) (hr : (i 1).val = r) : (x2 i : EReal) = bN x2 g r := by
  subst hg hr
  have h0 : (i 0).val < 4 := (i 0).isLt
  have h1 : (i 1).val < 128 := (i 1).isLt
  unfold bN
  rw [dif_pos ⟨h0, h1⟩]
  refine congrArg x2 (funext fun a => ?_)
  match a with
  | ⟨0, _⟩ => rfl
  | ⟨1, _⟩ => rfl

/-- The comparison of the triangle, on the words of two numbers. -/
theorem tri : ∀ a b : Fin 128, IntOp.cmpi .sge (IntOp.addi (BitVec.ofNat 32 a.val) 0#32) (BitVec.ofNat 32 b.val) = if b.val ≤ a.val then 1#1 else 0#1 := by
  decide +kernel

/-- The triangle, at an index. -/
theorem ref2 (i : S128x128.Idx) : (val_main_v2 (F := Ideal) i : EReal) = if (i 1).val ≤ (i 0).val then 1 else 0 := by
  have o : Ideal.ofBits .f32 0x3F800000#32 = 1 := by
    simp [Ideal.ofBits, Ideal.ieee]
    norm_num
    rw [← EReal.coe_mul, ← EReal.coe_one]; congr 1; norm_num
  rw [val_main_v2_apply, val_main_call0_v4_apply, val_main_call0_v2_apply, val_main_call0_v0_apply, val_main_call0_v1_apply, val_main_call0_c_apply,
    val_main_call0_v3_apply, val_main_v1_apply, val_main_cst_apply, val_main_call0_v5_apply, val_main_call0_cst_apply]
  refine (congrArg (fun z : BitVec 1 => Scalar.select z (Ideal.ofBits .f32 0x3F800000#32) (Ideal.ofBits .f32 0x00000000#32)) (tri (i 0) (i 1))).trans ?_
  rw [o, Ideal.ofBits_zero_f32]
  by_cases h : (i 1).val ≤ (i 0).val
  · rw [if_pos h]; exact if_pos h ▸ rfl
  · rw [if_neg h]; exact if_neg h ▸ rfl

/-- A weight below the triangle's edge, at an index. -/
theorem ref5 (i : S4x128x128.Idx) : (val_main_v5 (F := Ideal) x1 i : EReal) = if (i 2).val ≤ (i 1).val then wN x1 (i 0).val (i 1).val (i 2).val else 0 := by
  rw [val_main_v5_apply, val_main_v4_apply, val_main_v3_apply]
  refine (congr (congrArg (fun a b : EReal => a * b) (w_at x1 i)) (ref2 (idx_main_v3 (idx_main_v4 i)))).trans ?_
  show wN x1 (i 0).val (i 1).val (i 2).val * (if (i 2).val ≤ (i 1).val then (1 : EReal) else 0) = _
  by_cases h : (i 2).val ≤ (i 1).val
  · rw [if_pos h, if_pos h, mul_one]
  · rw [if_neg h, if_neg h, mul_zero]

/-- The gated half of the prompt, in chunks, at an index. -/
theorem ref7 (i : S64x128x4x512.Idx) : (val_main_v7 (F := Ideal) x0 i : EReal)
    = paN x0 (0 + ((i 0).val * 128 + (i 1).val)) (2048 + ((i 2).val * 512 + (i 3).val)) := by
  have h0 : (i 0).val < 64 := (i 0).isLt
  have h1 : (i 1).val < 128 := (i 1).isLt
  have h2 : (i 2).val < 4 := (i 2).isLt
  have h3 : (i 3).val < 512 := (i 3).isLt
  rw [val_main_v7_apply, val_main_v6_apply, val_main_v0_apply]
  refine pa_at x0 (idx_main_v6 (idx_main_v7 i)) _ _ ?_ ?_
  · show ((((i 0).val * 128 + (i 1).val) * 4 + (i 2).val) * 512 + (i 3).val) / 2048 = 0 + ((i 0).val * 128 + (i 1).val)
    omega
  · show 2048 + ((((i 0).val * 128 + (i 1).val) * 4 + (i 2).val) * 512 + (i 3).val) % 2048 = 2048 + ((i 2).val * 512 + (i 3).val)
    omega

/-- The mixture of the prompt, in chunks, at an index. -/
theorem ref16 (i : S64x128x4x512.Idx) : (val_main_v16 (F := Ideal) x0 x1 x2 i : EReal)
    = (∑ k ∈ Finset.range 128, (if k ≤ (i 1).val then wN x1 (i 2).val (i 1).val k else 0) * paN x0 (0 + ((i 0).val * 128 + k)) (2048 + ((i 2).val * 512 + (i 3).val)))
      + bN x2 (i 2).val (i 1).val := by
  rw [val_main_v16_apply, val_main_v11_apply, val_main_v15_apply, val_main_v14_apply, val_main_v13_apply, val_main_v12_apply]
  refine congr (congrArg (fun a b : EReal => a + b) ?_) (b_at x2 _ _ _ rfl rfl)
  rw [val_main_v10_apply]
  refine Eq.trans ?_ (Fin.sum_univ_eq_sum_range (fun k => (if k ≤ (i 1).val then wN x1 (i 2).val (i 1).val k else 0)
    * paN x0 (0 + ((i 0).val * 128 + k)) (2048 + ((i 2).val * 512 + (i 3).val))) 128)
  refine Finset.sum_congr rfl fun k _ => (mul_comm _ _).trans (congr (congrArg (fun a b : EReal => a * b) ?_) ?_)
  · exact ref5 x1 (ridx_main_v10 (idx_main_v11 i) k)
  · exact ref7 x0 (lidx_main_v10 (idx_main_v11 i) k)

/-- The mixture of the prompt, at an index. -/
theorem ref27 (i : S8192x2048.Idx) : (val_main_v27 (F := Ideal) x0 x1 x2 i : EReal) = mixN x0 x1 x2 (0 + (i 0).val) (i 1).val := by
  have h0 : (i 0).val < 8192 := (i 0).isLt
  have h1 : (i 1).val < 2048 := (i 1).isLt
  have hl : lenN (0 + (i 0).val) = 128 := if_pos (by omega)
  rw [val_main_v27_apply, ref16]
  unfold mixN
  rw [hl]
  have a0 : ((i 0).val * 2048 + (i 1).val) / 262144 = (i 0).val / 128 := by omega
  have a1 : ((i 0).val * 2048 + (i 1).val) / 2048 % 128 = (i 0).val % 128 := by omega
  have a2 : ((i 0).val * 2048 + (i 1).val) / 512 % 4 = (i 1).val / 512 := by omega
  have a3 : ((i 0).val * 2048 + (i 1).val) % 512 = (i 1).val % 512 := by omega
  show (∑ k ∈ Finset.range 128, (if k ≤ ((i 0).val * 2048 + (i 1).val) / 2048 % 128 then
        wN x1 (((i 0).val * 2048 + (i 1).val) / 512 % 4) (((i 0).val * 2048 + (i 1).val) / 2048 % 128) k else 0)
      * paN x0 (0 + (((i 0).val * 2048 + (i 1).val) / 262144 * 128 + k)) (2048 + (((i 0).val * 2048 + (i 1).val) / 512 % 4 * 512 + ((i 0).val * 2048 + (i 1).val) % 512)))
      + bN x2 (((i 0).val * 2048 + (i 1).val) / 512 % 4) (((i 0).val * 2048 + (i 1).val) / 2048 % 128) = _
  rw [a0, a1, a2, a3, show (0 + (i 0).val) % 128 = (i 0).val % 128 by omega, show (i 1).val / 512 * 512 + (i 1).val % 512 = (i 1).val by omega]
  refine congrArg (· + _) (Finset.sum_congr rfl fun k _ => ?_)
  rw [show 0 + ((i 0).val / 128 * 128 + k) = (0 + (i 0).val) / 128 * 128 + k by omega]

/-- The gated half of the samples, in chunks, at an index. -/
theorem ref9 (i : S8x32x4x512.Idx) : (val_main_v9 (F := Ideal) x0 i : EReal)
    = paN x0 (8192 + ((i 0).val * 32 + (i 1).val)) (2048 + ((i 2).val * 512 + (i 3).val)) := by
  have h0 : (i 0).val < 8 := (i 0).isLt
  have h1 : (i 1).val < 32 := (i 1).isLt
  have h2 : (i 2).val < 4 := (i 2).isLt
  have h3 : (i 3).val < 512 := (i 3).isLt
  rw [val_main_v9_apply, val_main_v8_apply, val_main_v0_apply]
  refine pa_at x0 (idx_main_v8 (idx_main_v9 i)) _ _ ?_ ?_
  · show 8192 + ((((i 0).val * 32 + (i 1).val) * 4 + (i 2).val) * 512 + (i 3).val) / 2048 = 8192 + ((i 0).val * 32 + (i 1).val)
    omega
  · show 2048 + ((((i 0).val * 32 + (i 1).val) * 4 + (i 2).val) * 512 + (i 3).val) % 2048 = 2048 + ((i 2).val * 512 + (i 3).val)
    omega

/-- The mixture of the samples, in chunks, at an index. -/
theorem ref25 (i : S8x32x4x512.Idx) : (val_main_v25 (F := Ideal) x0 x1 x2 i : EReal)
    = (∑ k ∈ Finset.range 32, (if k ≤ (i 1).val then wN x1 (i 2).val (i 1).val k else 0) * paN x0 (8192 + ((i 0).val * 32 + k)) (2048 + ((i 2).val * 512 + (i 3).val)))
      + bN x2 (i 2).val (i 1).val := by
  rw [val_main_v25_apply, val_main_v19_apply, val_main_v24_apply, val_main_v23_apply, val_main_v22_apply, val_main_v21_apply, val_main_v20_apply]
  refine congr (congrArg (fun a b : EReal => a + b) ?_) (b_at x2 _ _ _ rfl rfl)
  rw [val_main_v18_apply]
  refine Eq.trans ?_ (Fin.sum_univ_eq_sum_range (fun k => (if k ≤ (i 1).val then wN x1 (i 2).val (i 1).val k else 0)
    * paN x0 (8192 + ((i 0).val * 32 + k)) (2048 + ((i 2).val * 512 + (i 3).val))) 32)
  refine Finset.sum_congr rfl fun k _ => (mul_comm _ _).trans (congr (congrArg (fun a b : EReal => a * b) ?_) ?_)
  · rw [val_main_v17_apply]
    exact ref5 x1 (idx_main_v17 (ridx_main_v18 (idx_main_v19 i) k))
  · exact ref9 x0 (lidx_main_v18 (idx_main_v19 i) k)

/-- The mixture of the samples, at an index. -/
theorem ref28 (i : S256x2048.Idx) : (val_main_v28 (F := Ideal) x0 x1 x2 i : EReal) = mixN x0 x1 x2 (8192 + (i 0).val) (i 1).val := by
  have h0 : (i 0).val < 256 := (i 0).isLt
  have h1 : (i 1).val < 2048 := (i 1).isLt
  have hl : lenN (8192 + (i 0).val) = 32 := if_neg (by omega)
  rw [val_main_v28_apply, ref25]
  unfold mixN
  rw [hl]
  have a0 : ((i 0).val * 2048 + (i 1).val) / 65536 = (i 0).val / 32 := by omega
  have a1 : ((i 0).val * 2048 + (i 1).val) / 2048 % 32 = (i 0).val % 32 := by omega
  have a2 : ((i 0).val * 2048 + (i 1).val) / 512 % 4 = (i 1).val / 512 := by omega
  have a3 : ((i 0).val * 2048 + (i 1).val) % 512 = (i 1).val % 512 := by omega
  show (∑ k ∈ Finset.range 32, (if k ≤ ((i 0).val * 2048 + (i 1).val) / 2048 % 32 then
        wN x1 (((i 0).val * 2048 + (i 1).val) / 512 % 4) (((i 0).val * 2048 + (i 1).val) / 2048 % 32) k else 0)
      * paN x0 (8192 + (((i 0).val * 2048 + (i 1).val) / 65536 * 32 + k)) (2048 + (((i 0).val * 2048 + (i 1).val) / 512 % 4 * 512 + ((i 0).val * 2048 + (i 1).val) % 512)))
      + bN x2 (((i 0).val * 2048 + (i 1).val) / 512 % 4) (((i 0).val * 2048 + (i 1).val) / 2048 % 32) = _
  rw [a0, a1, a2, a3, show (8192 + (i 0).val) % 32 = (i 0).val % 32 by omega, show (i 1).val / 512 * 512 + (i 1).val % 512 = (i 1).val by omega]
  refine congrArg (· + _) (Finset.sum_congr rfl fun k _ => ?_)
  rw [show 8192 + ((i 0).val / 32 * 32 + k) = (8192 + (i 0).val) / 32 * 32 + k by omega]

/-- The mixture of all frames, at an index. -/
theorem ref29 (i : S8448x2048.Idx) : (val_main_v29 (F := Ideal) x0 x1 x2 i : EReal) = mixN x0 x1 x2 (i 0).val (i 1).val := by
  have hi : (i 0).val < 8448 := (i 0).isLt
  unfold val_main_v29
  by_cases h : (i 0).val < 8192
  · refine (concatenate_pair_apply_left (t := S8448x2048) (0 : Fin 2) (val_main_v27 (F := Ideal) x0 x1 x2) (val_main_v28 (F := Ideal) x0 x1 x2) _ i rfl
      (ix2 ⟨(i 0).val, h⟩ (i 1)) (fun b => by match b with | ⟨0, _⟩ => rfl | ⟨1, _⟩ => rfl)).trans ((ref27 x0 x1 x2 _).trans ?_)
    exact congrArg (fun n => mixN x0 x1 x2 n (i 1).val) (Nat.zero_add _)
  · refine (concatenate_pair_apply_right (t := S8448x2048) (0 : Fin 2) (val_main_v27 (F := Ideal) x0 x1 x2) (val_main_v28 (F := Ideal) x0 x1 x2) _ i rfl rfl
      (ix2 ⟨(i 0).val - 8192, by omega⟩ (i 1)) (fun b hb => by match b with | ⟨0, _⟩ => exact absurd rfl hb | ⟨1, _⟩ => rfl)
      (by show (i 0).val - 8192 + 8192 = (i 0).val; omega)).trans ((ref28 x0 x1 x2 _).trans ?_)
    exact congrArg (fun n => mixN x0 x1 x2 n (i 1).val) (by show 8192 + ((i 0).val - 8192) = (i 0).val; omega)

/-- The gated mixing before the norm, at an index. -/
theorem ref30 (i : S8448x2048.Idx) : (val_main_v30 (F := Ideal) x0 x1 x2 i : EReal) = aN x0 x1 x2 (i 0).val (i 1).val := by
  rw [val_main_v30_apply, val_main_v26_apply, val_main_v0_apply]
  exact congr (congrArg (fun a b : EReal => a * b) (pa_at x0 (idx_main_v26 i) _ _ rfl rfl)) (ref29 x0 x1 x2 i)

/-- A quotient by 2048 is a product with its reciprocal. -/
theorem div2048 (z : EReal) : Ideal.div z (Ideal.ofBits .f32 0x45000000#32) = z * Ideal.ofBits .f32 0x3A000000#32 := by
  rw [Attn.ofBits_2048, Attn.ofBits_inv2048]
  unfold Ideal.div
  rw [if_neg (by exact_mod_cast (by norm_num : (2048 : ℝ) ≠ 0)), EReal.coe_inv]

/-- The reciprocal root mean square of a frame. -/
theorem ref38 (i : S8448x1.Idx) : (val_main_v38 (F := Ideal) x0 x1 x2 i : EReal)
    = Ideal.rsqrt ((∑ j : Fin 2048, aN x0 x1 x2 (i 0).val j.val * aN x0 x1 x2 (i 0).val j.val) * Ideal.ofBits .f32 0x3A000000#32 + Ideal.ofBits .f32 0x358637BD#32) := by
  rw [val_main_v38_apply, val_main_v37_apply, val_main_v36_apply, val_main_v35_apply, val_main_v34_apply, val_main_v33_apply, val_main_v32_apply]
  have e0 : (val_main_cst_0 (F := Ideal)) (Shape.Idx.first h_S_) = (0 : EReal) := Ideal.ofBits_zero_f32
  have e1 : (∑ k : Fin 2048, (val_main_v31 (F := Ideal) x0 x1 x2) (idx_main_v32 (idx_main_v33 i) k) : EReal)
      = ∑ j : Fin 2048, aN x0 x1 x2 (i 0).val j.val * aN x0 x1 x2 (i 0).val j.val :=
    Finset.sum_congr rfl fun k _ => by
      rw [val_main_v31_apply]
      exact congr (congrArg (fun a b : EReal => a * b) (ref30 x0 x1 x2 _)) (ref30 x0 x1 x2 _)
  rw [e0, e1, zero_add]
  exact congrArg (fun z : EReal => Ideal.rsqrt (z + Ideal.ofBits .f32 0x358637BD#32)) (div2048 _)

/-- The plain gated mixing is the gated mixing the launch leaves. -/
theorem ref44 : val_main_v44 (F := Ideal) x0 x1 x2 x3 = G7 x0 x1 x2 x3 := by
  funext i
  rw [val_main_v44_apply, val_main_v43_apply, val_main_v42_apply, val_main_v41_apply, val_main_v40_apply, val_main_v39_apply]
  have g : x3 (idx_main_v41 (idx_main_v42 i)) = x3 (ix1 (i 1)) := by
    refine congrArg x3 (funext fun a => ?_)
    match a with
    | ⟨0, _⟩ => rfl
  have e := congr (congrArg (fun a b : EReal => a * b) (congr (congrArg (fun a b : EReal => a * b) (ref30 x0 x1 x2 i)) (ref38 x0 x1 x2 (idx_main_v39 i)))) g
  exact e

end Cert.Sg

end
-- ==== Proof.Outs.Value.lean ====
/- What the launch of the output projection of the sample stream leaves in its array, over the extended reals. -/
module

public import proofs.«01_k».proof.Proof.Gen.OutsIdeal.Value
public import Idealize.ShloMosaic.Lib.ValueIdx
public import Idealize.ShloMosaic.Lib.Pipeline.Value
public import Idealize.ShloMosaic.Lib.Pipeline.ValueKit
public import Idealize.ShloMosaic.PureOps.IdealRules
public import Idealize.ShloMosaic.PureOps.Ideal.Laws

@[expose] public section

set_option maxRecDepth 16384

noncomputable section

namespace Cert.Ots

open Idealize
open Idealize.ShloMosaic hiding ix1 ix2 ix3
open Idealize.ShloMosaic.TcCoe
open Idealize.ShloMosaic.ValueIdx
open Idealize.ShloMosaic.Tactic
open Idealize.SL.Sem
open Idealize.ShloMosaic.Pipeline (Dat Cfg Window)
open Cert.OutsIdeal Cert.OutsIdeal.Gen

/-- The offsets of a whole block. -/
theorem hz : (![0, 0] : Fin 2 → Nat) = fun _ => 0 := funext fun a => by fin_cases a <;> rfl

section
variable (c : Dev nD) (i : grid0.Coords)
  (a2 : Memref sig .tc .vmem S256x2048 .bf16) (h2 : a2.IsWhole) (a3 : Memref sig .tc .vmem S256x2048 .bf16) (h3 : a3.IsWhole)
  (a4 : Memref sig .tc .vmem S2048x512 .f32) (h4 : a4.IsWhole) (a5 : Memref sig .tc .vmem S2048x512 .f32) (h5 : a5.IsWhole)
  (a6 : Memref sig .tc .vmem S256x512 .f32) (h6 : a6.IsWhole) (a7 : Memref sig .tc .vmem S256x512 .f32) (h7 : a7.IsWhole)
  (a8 : Memref sig .tc .vmem S2048x512 .bf16) (h8 : a8.IsWhole) (a9 : Memref sig .tc .vmem S2048x512 .bf16) (h9 : a9.IsWhole)
  (x0 x1 : Vec Ideal S256x2048 .bf16) (x2 x3 : Vec Ideal S2048x512 .f32) (x4 : Vec Ideal S256x512 .f32)

/-- The block of the result after a point, which rounds its weights and reads them back. -/
theorem out_A (hc : cond0_0 i) : out0_A_5 c i a2 h2 a3 h3 a4 h4 a5 h5 a6 h6 a7 h7 a8 h8 a9 h9 hc x0 x1 x2 x3 x4
    = k0_pay3 x0 (k0_pay1 x2) x1 (k0_pay2 x3) x4 := by
  unfold out0_A_5
  rw [View.read_writes_eq_canon _ _ _ (cover0_A_5 c i a2 h2 a3 h3 a4 h4 a5 h5 a6 h6 a7 h7 a8 h8 a9 h9 hc x0 x1 x2 x3 x4)]
  unfold kernelRun0_A
  dsimp only
  sl_unfold_words
  rw [View.canon_unit_zero (S := S256x512) hz]
  simp only [View.readCov_unit_zero (S := S2048x512) _ hz, View.readAt_eq_ld, h2.read_unread, h3.read_unread, h4.read_unread, h5.read_unread, h6.read_unread,
    View.ld_unit_zero (S := S2048x512) hz, View.ld_unit_zero (S := S256x2048) hz, View.ld_unit_zero (S := S256x512) hz]

end

/-- A block's product with half of the weights' columns, at an index. -/
theorem half_apply (x : FVec Ideal S256x2048 .bf16) (w : FVec Ideal S2048x512 .bf16) (r : Fin 256) (k : Fin 512) :
    (matmul (F := Ideal) dot_S256x2048_S2048x512_S256x512_1_0_0_1_n_n none x w (constant S256x512 .f32 0x00000000#32) : FVec Ideal S256x512 .f32) (ix2 r k)
      = (∑ q : Fin 2048, (x (ix2 r q) : EReal) * w (ix2 q k) : EReal) := by
  refine (Ideal.matmul_constant_zero_apply _ none _ _ _).trans ?_
  refine (Equiv.sum_comp (contrEquiv1 dot_S256x2048_S2048x512_S256x512_1_0_0_1_n_n 2048 rfl rfl).symm _).symm.trans ?_
  refine Finset.sum_congr rfl fun d _ => congr (congrArg _ (congrArg x (funext fun a => ?_))) (congrArg w (funext fun a => ?_))
  · match a with
    | ⟨0, _⟩ => rfl
    | ⟨1, _⟩ => rfl
  · match a with
    | ⟨0, _⟩ => rfl
    | ⟨1, _⟩ => rfl

/-- What a point stores, at an index: the stream plus the products with the two halves of the weights. -/
theorem pay_apply (x0 x1 : Vec Ideal S256x2048 .bf16) (w0 w1 : Vec Ideal S2048x512 .f32) (x4 : Vec Ideal S256x512 .f32) (r : Fin 256) (k : Fin 512) :
    k0_pay3 (F := Ideal) x0 (k0_pay1 w0) x1 (k0_pay2 w1) x4 (ix2 r k)
      = ((x4 (ix2 r k) : EReal) + ((∑ q : Fin 2048, (x0 (ix2 r q) : EReal) * w0 (ix2 q k)) + ∑ q : Fin 2048, (x1 (ix2 r q) : EReal) * w1 (ix2 q k)) : EReal) := by
  have e1 : k0_pay1 (F := Ideal) w0 = (w0 : S2048x512.Idx → EReal) := by
    unfold k0_pay1
    exact shapeCast_self _ _
  have e2 : k0_pay2 (F := Ideal) w1 = (w1 : S2048x512.Idx → EReal) := by
    unfold k0_pay2
    exact shapeCast_self _ _
  rw [e1, e2]
  unfold k0_pay3
  exact congrArg _ (congr (congrArg _ (half_apply x0 w0 r k)) (half_apply x1 w1 r k))

variable (m : (ℓ : Loc nD τ sig) → Buf (Elt Ideal) ℓ)

/-- The first mixer's rows of a core. -/
abbrev X0 (c : Dev nD) : S8448x2048.Idx → EReal := m ((c.tc : Thread nD τ).loc main_arg0)
/-- The second mixer's rows of a core. -/
abbrev X1 (c : Dev nD) : S256x2048.Idx → EReal := m ((c.tc : Thread nD τ).loc main_arg1)
/-- The weights of a core. -/
abbrev X2 (c : Dev nD) : S4096x4096.Idx → EReal := m ((c.tc : Thread nD τ).loc main_arg2)
/-- The stream of a core. -/
abbrev X3 (c : Dev nD) : S256x4096.Idx → EReal := m ((c.tc : Thread nD τ).loc main_arg3)

/-- The sample stream after the mixers: the stream plus the products of the two mixers' rows with the two halves of the weights. -/
def G8 (x0 : S8448x2048.Idx → EReal) (x1 : S256x2048.Idx → EReal) (x2 : S4096x4096.Idx → EReal) (x3 : S256x4096.Idx → EReal) : S256x4096.Idx → EReal :=
  fun i => x3 i + ((∑ q : Fin 2048, x0 (ix2 ⟨8192 + (i 0).val, by have := (i 0).isLt; change (i 0).val < 256 at this; omega⟩ q) * x2 (ix2 ⟨q.val, by omega⟩ (i 1)))
    + ∑ q : Fin 2048, x1 (ix2 (i 0) q) * x2 (ix2 ⟨2048 + q.val, by omega⟩ (i 1)))

/-- The block of window 0 at each point. -/
theorem idx0 : ∀ t : Fin cfg0.N, win0_0.index t = ![32, 0] := (by decide +kernel : ∀ t : Fin grid0.N, _)
/-- The block of window 1 at each point. -/
theorem idx1 : ∀ t : Fin cfg0.N, win0_1.index t = ![0, 0] := (by decide +kernel : ∀ t : Fin grid0.N, _)
/-- The block of window 2 at each point. -/
theorem idx2 : ∀ t : Fin cfg0.N, win0_2.index t = ![0, t.val] := (by decide +kernel : ∀ t : Fin grid0.N, _)
/-- The block of window 3 at each point. -/
theorem idx3 : ∀ t : Fin cfg0.N, win0_3.index t = ![1, t.val] := (by decide +kernel : ∀ t : Fin grid0.N, _)
/-- The block of window 4 at each point. -/
theorem idx4 : ∀ t : Fin cfg0.N, win0_4.index t = ![0, t.val] := (by decide +kernel : ∀ t : Fin grid0.N, _)
/-- The block of window 5 at each point. -/
theorem idx5 : ∀ t : Fin cfg0.N, win0_5.index t = ![0, t.val] := (by decide +kernel : ∀ t : Fin grid0.N, _)

/-- The block of the first mixer's rows, at coordinates. -/
theorem blk0 (c : Dev nD) (t : Fin cfg0.N) (r : Fin 256) (q : Fin 2048) :
    iblk m c 0 t (ix2 r q) = X0 m c (ix2 ⟨8192 + r.val, by omega⟩ q) := by
  blk_simp [iblk, V_main_arg0]
  refine congrArg _ (funext fun a => ?_)
  match a with
  | ⟨0, _⟩ => apply Fin.ext; blk_simp [idx0]
  | ⟨1, _⟩ => apply Fin.ext; blk_simp [idx0]

/-- The block of the second mixer's rows, at coordinates. -/
theorem blk1 (c : Dev nD) (t : Fin cfg0.N) (r : Fin 256) (q : Fin 2048) : iblk m c 1 t (ix2 r q) = X1 m c (ix2 r q) := by
  blk_simp [iblk, V_main_arg1]
  refine congrArg _ (funext fun a => ?_)
  match a with
  | ⟨0, _⟩ => apply Fin.ext; blk_simp [idx1]
  | ⟨1, _⟩ => apply Fin.ext; blk_simp [idx1]

/-- The block of the upper weights, at coordinates. -/
theorem blk2 (c : Dev nD) (t : Fin cfg0.N) (q : Fin 2048) (k : Fin 512) (n : Fin 4096) (hn : n.val = t.val * 512 + k.val) :
    iblk m c 2 t (ix2 q k) = X2 m c (ix2 ⟨q.val, by omega⟩ n) := by
  blk_simp [iblk, V_main_arg2]
  refine congrArg _ (funext fun a => ?_)
  match a with
  | ⟨0, _⟩ => apply Fin.ext; blk_simp [idx2]
  | ⟨1, _⟩ => apply Fin.ext; blk_simp [idx2, hn]

/-- The block of the lower weights, at coordinates. -/
theorem blk3 (c : Dev nD) (t : Fin cfg0.N) (q : Fin 2048) (k : Fin 512) (n : Fin 4096) (hn : n.val = t.val * 512 + k.val) :
    iblk m c 3 t (ix2 q k) = X2 m c (ix2 ⟨2048 + q.val, by omega⟩ n) := by
  blk_simp [iblk, V_main_arg2]
  refine congrArg _ (funext fun a => ?_)
  match a with
  | ⟨0, _⟩ => apply Fin.ext; blk_simp [idx3]
  | ⟨1, _⟩ => apply Fin.ext; blk_simp [idx3, hn]

/-- The block of the stream, at coordinates. -/
theorem blk4 (c : Dev nD) (t : Fin cfg0.N) (r : Fin 256) (k : Fin 512) (n : Fin 4096) (hn : n.val = t.val * 512 + k.val) :
    iblk m c 4 t (ix2 r k) = X3 m c (ix2 r n) := by
  blk_simp [iblk, V_main_arg3]
  refine congrArg _ (funext fun a => ?_)
  match a with
  | ⟨0, _⟩ => apply Fin.ext; blk_simp [idx4]
  | ⟨1, _⟩ => apply Fin.ext; blk_simp [idx4, hn]

/-- What a point leaves, at coordinates. -/
theorem left_apply (c : Dev nD) (t : Fin cfg0.N) (r : Fin 256) (k : Fin 512) (n : Fin 4096) (hn : n.val = t.val * 512 + k.val) :
    outsAt0 m c t (ix2 r k) = G8 (X0 m c) (X1 m c) (X2 m c) (X3 m c) (ix2 r n) := by
  unfold outsAt0
  rw [out_A]
  refine (pay_apply _ _ _ _ _ r k).trans ?_
  refine congr (congrArg _ (blk4 m c t r k n hn)) (congr (congrArg _ ?_) ?_)
  · exact Finset.sum_congr rfl fun q _ => congr (congrArg _ (blk0 m c t r q)) (blk2 m c t q k n hn)
  · exact Finset.sum_congr rfl fun q _ => congr (congrArg _ (blk1 m c t r q)) (blk3 m c t q k n hn)

/-- The result after the run. -/
theorem final (c : Dev nD) : (dats m 0 c).arrAt 5 cfg0.N = G8 (X0 m c) (X1 m c) (X2 m c) (X3 m c) := by
  refine (dats m 0 c).arrAt_eq_of_covers 5 _ (by decide +kernel) fun t hf y => ?_
  blk_simp
  rw [after0_5]
  have h0 : ((win0_5.blk t).view.emb y) 0 = y 0 := by
    apply Fin.ext
    blk_simp [idx5]
  have h1 : (((win0_5.blk t).view.emb y) 1).val = t.val * 512 + (y 1).val := by
    blk_simp [idx5]
  have hy : y = ix2 (y 0) (y 1) := by
    funext a
    match a with
    | ⟨0, _⟩ => rfl
    | ⟨1, _⟩ => rfl
  have hw : (win0_5.blk t).view.emb y = ix2 (y 0) ((win0_5.blk t).view.emb y 1) := by
    funext a
    match a with
    | ⟨0, _⟩ => exact h0
    | ⟨1, _⟩ => rfl
  rw [hw]
  conv_lhs => rw [hy]
  exact left_apply m c t (y 0) (y 1) _ h1

end Cert.Ots

end
-- ==== Proof.Outs.Ref.lean ====
/- The plain output projection of the sample stream, read at an index, is what the launch leaves. -/
module

public import proofs.«01_k».proof.Proof.Outs.Value
public import proofs.«01_k».proof.Proof.Gen.PlainOutsIdeal.Read

@[expose] public section

set_option maxRecDepth 16384

noncomputable section

namespace Cert.Ots

open Idealize
open Idealize.ShloMosaic hiding ix1 ix2 ix3
open Idealize.ShloMosaic.TcCoe
open Idealize.ShloMosaic.ValueIdx
open Cert.PlainOutsIdeal Cert.PlainOutsIdeal.Gen Cert.PlainOutsIdeal.Read

variable (x0 : (⟨S8448x2048, .bf16⟩ : BufTy).Contents (Elt Ideal)) (x1 : (⟨S256x2048, .bf16⟩ : BufTy).Contents (Elt Ideal))
  (x2 : (⟨S4096x4096, .f32⟩ : BufTy).Contents (Elt Ideal)) (x3 : (⟨S256x4096, .f32⟩ : BufTy).Contents (Elt Ideal))

/-- The mixers' rows side by side: the first 2048 entries. -/
theorem cat_left (i : S256x4096.Idx) (r : Fin 256) (q : Fin 2048) (h0 : (i 0).val = r.val) (h1 : (i 1).val = q.val) :
    val_main_v3 (F := Ideal) x0 x1 i = x0 (ix2 ⟨8192 + r.val, by omega⟩ q) := by
  unfold val_main_v3
  refine (concatenate_pair_apply_left (t := S256x4096) (1 : Fin 2) (val_main_v1 (F := Ideal) x0) (val_main_v2 (F := Ideal) x1) _ i rfl
      (ix2 r q) (fun b => by match b with | ⟨0, _⟩ => exact h0.symm | ⟨1, _⟩ => exact h1.symm)).trans ?_
  rw [val_main_v1_apply, val_main_v0_apply]
  refine congrArg x0 (funext fun a => ?_)
  match a with
  | ⟨0, _⟩ => rfl
  | ⟨1, _⟩ => rfl

/-- The mixers' rows side by side: the last 2048 entries. -/
theorem cat_right (i : S256x4096.Idx) (r : Fin 256) (q : Fin 2048) (h0 : (i 0).val = r.val) (h1 : (i 1).val = 2048 + q.val) :
    val_main_v3 (F := Ideal) x0 x1 i = x1 (ix2 r q) := by
  unfold val_main_v3
  exact (concatenate_pair_apply_right (t := S256x4096) (1 : Fin 2) (val_main_v1 (F := Ideal) x0) (val_main_v2 (F := Ideal) x1) _ i rfl rfl
      (ix2 r q) (fun b hb => by match b with | ⟨0, _⟩ => exact h0.symm | ⟨1, _⟩ => exact absurd rfl hb) (by show q.val + 2048 = (i 1).val; omega)).trans rfl

/-- The plain projection is the stream plus the two half products. -/
theorem ref5 : val_main_v5 (F := Ideal) x0 x1 x2 x3 = G8 x0 x1 x2 x3 := by
  funext i
  rw [val_main_v5_apply, val_main_v4_apply]
  unfold G8
  refine congrArg (fun z : EReal => (x3 i : EReal) + z) ((Fin.sum_univ_add (a := 2048) (b := 2048) _).trans (congr (congrArg _ ?_) ?_))
  · refine Finset.sum_congr rfl fun q _ => congr (congrArg _ ?_) (congrArg x2 (funext fun a => ?_))
    · exact cat_left x0 x1 (lidx_main_v4 i (Fin.castAdd 2048 q)) (i 0) q rfl rfl
    · match a with
      | ⟨0, _⟩ => rfl
      | ⟨1, _⟩ => rfl
  · refine Finset.sum_congr rfl fun q _ => congr (congrArg _ ?_) (congrArg x2 (funext fun a => ?_))
    · exact cat_right x0 x1 (lidx_main_v4 i (Fin.natAdd 2048 q)) (i 0) q rfl rfl
    · match a with
      | ⟨0, _⟩ => rfl
      | ⟨1, _⟩ => rfl

end Cert.Ots

end
-- ==== Proof.Attns.Block.lean ====
/- What a point of the samples' attention stores, over the extended reals: its sixteen heads one by one. -/
module

public import proofs.«01_k».proof.Proof.Gen.AttnsIdeal.Value
public import Idealize.ShloMosaic.Lib.ValueIdx
public import Idealize.ShloMosaic.Lib.Pipeline.Value
public import Idealize.ShloMosaic.Lib.Pipeline.ValueKit
public import Idealize.ShloMosaic.PureOps.IdealRules
public import Idealize.ShloMosaic.PureOps.Ideal.Laws

@[expose] public section

set_option maxRecDepth 16384

noncomputable section

namespace Cert.As

open Idealize
open Idealize.ShloMosaic hiding ix1 ix2 ix3 ix4
open Idealize.ShloMosaic.TcCoe
open Idealize.ShloMosaic.ValueIdx
open Idealize.ShloMosaic.Tactic
open Idealize.SL.Sem
open Idealize.ShloMosaic.Pipeline (Dat Cfg Window)
open Cert.AttnsIdeal Cert.AttnsIdeal.Gen

/-- The offsets of a whole block. -/
theorem hz : (![0, 0] : Fin 2 → Nat) = fun _ => 0 := funext fun a => by fin_cases a <;> rfl

/-- One head: the averages of the cached and the new values by the exponentials of the scores. -/
def head (q kn vn : Vec Ideal S1x32x128 .bf16) (ck cv : Vec Ideal S1x512x128 .f32) (g : Vec Ideal S1x1024 .f32) : FVec Ideal S32x128 .f32 :=
  k0_pay11 (k0_pay3 cv) (k0_pay8 q ck g kn) (k0_pay9 q ck g kn) (k0_pay10 q ck g kn) vn

/-- A head's rows of a block of queries, keys or values lie in it. -/
theorem inbq (h : Fin 16) : ∀ a, (![h.val, 0, 0] : Fin 3 → ℕ) a + (![1, 32, 128] : Fin 3 → ℕ) a ≤ S16x32x128.size a := fun a => by
  have := h.isLt
  match a with
  | ⟨0, _⟩ => show h.val + 1 ≤ 16; omega
  | ⟨1, _⟩ => show 0 + 32 ≤ 32; omega
  | ⟨2, _⟩ => show 0 + 128 ≤ 128; omega

/-- A head's cached rows lie in the block. -/
theorem inbc (h : Fin 16) : ∀ a, S1x512x128.size a = 0 ∨ (![0, h.val, 0] : Fin 3 → ℕ) a + (![1, 16, 1] : Fin 3 → ℕ) a * (S1x512x128.size a - 1) < S1x8192x128.size a := fun a => by
  have := h.isLt
  match a with
  | ⟨0, _⟩ => right; show 0 + 1 * (1 - 1) < 1; omega
  | ⟨1, _⟩ => right; show h.val + 16 * (512 - 1) < 8192; omega
  | ⟨2, _⟩ => right; show 0 + 1 * (128 - 1) < 128; omega

/-- A head's bias row lies in the block. -/
theorem inbg (h : Fin 16) : ∀ a, (![h.val, 0] : Fin 2 → ℕ) a + (![1, 1024] : Fin 2 → ℕ) a ≤ S16x1024.size a := fun a => by
  have := h.isLt
  match a with
  | ⟨0, _⟩ => show h.val + 1 ≤ 16; omega
  | ⟨1, _⟩ => show 0 + 1024 ≤ 1024; omega

/-- A head's columns lie in the block. -/
theorem inbo (h : Fin 16) : ∀ a, (![0, 128 * h.val] : Fin 2 → ℕ) a + (![32, 128] : Fin 2 → ℕ) a ≤ S32x2048.size a := fun a => by
  have := h.isLt
  match a with
  | ⟨0, _⟩ => show 0 + 32 ≤ 32; omega
  | ⟨1, _⟩ => show 128 * h.val + 128 ≤ 2048; omega

/-- A head's queries, keys or values. -/
def hq (x : Vec Ideal S16x32x128 .bf16) (h : Fin 16) : Vec Ideal S1x32x128 .bf16 := View.ld x (Rect.unit ![h.val, 0, 0] ![1, 32, 128] (inbq h))
/-- A head's cached keys or values. -/
def hk (x : Vec Ideal S1x8192x128 .f32) (h : Fin 16) : Vec Ideal S1x512x128 .f32 :=
  fun j => x ((⟨![0, h.val, 0], S1x512x128.size, ![1, 16, 1], inbc h⟩ : LoadRect S1x8192x128).idx j)
/-- A head's bias row. -/
def hg (x : Vec Ideal S16x1024 .f32) (h : Fin 16) : Vec Ideal S1x1024 .f32 := View.ld x (Rect.unit ![h.val, 0] ![1, 1024] (inbg h))

/-- A load of a box of contents that read as `x` reads `x` at the box's indices. -/
theorem rd {S : Shape} {e : EltTy} {sp : Space} (a : Memref sig .tc sp S e) (ha : a.IsWhole) (x : Vec Ideal S e) (B : LoadRect S) :
    View.readAt (Elt Ideal) a.view B (ha.unread x) = fun j => x (B.idx j) := by
  funext j
  rw [View.readAt_apply, ha.read_unread]

section
variable (c : Dev nD) (i : grid0.Coords) (arg1 : Memref sig .tc .vmem S16x32x128 .bf16) (harg1 : arg1.IsWhole) (arg2 : Memref sig .tc .vmem S16x32x128 .bf16) (harg2 : arg2.IsWhole) (arg3 : Memref sig .tc .vmem S16x32x128 .bf16) (harg3 : arg3.IsWhole) (arg4 : Memref sig .tc .vmem S1x8192x128 .f32) (harg4 : arg4.IsWhole) (arg5 : Memref sig .tc .vmem S1x8192x128 .f32) (harg5 : arg5.IsWhole) (arg6 : Memref sig .tc .vmem S16x1024 .f32) (harg6 : arg6.IsWhole) (arg7 : Memref sig .tc .vmem S1x2048 .f32) (harg7 : arg7.IsWhole) (arg8 : Memref sig .tc .vmem S32x2048 .bf16) (harg8 : arg8.IsWhole) (arg9 : Memref sig .tc .vmem S32x2048 .f32) (harg9 : arg9.IsWhole)
    (x0 : Vec Ideal S16x32x128 .bf16) (x1 : Vec Ideal S16x32x128 .bf16) (x2 : Vec Ideal S16x32x128 .bf16) (x3 : Vec Ideal S1x8192x128 .f32) (x4 : Vec Ideal S1x8192x128 .f32) (x5 : Vec Ideal S16x1024 .f32) (x6 : Vec Ideal S1x2048 .f32)

/-- A head's averages from the blocks of a point. -/
def hd (h : Fin 16) : FVec Ideal S32x128 .f32 := head (hq x0 h) (hq x1 h) (hq x2 h) (hk x3 h) (hk x4 h) (hg x5 h)

/-- A head's store. -/
def piece (h : Fin 16) : View.Piece (Elt Ideal) S32x2048 .f32 := ⟨Rect.unit ![0, 128 * h.val] ![32, 128] (inbo h), hd x0 x1 x2 x3 x4 x5 h⟩

/-- The heads side by side. -/
def GA : FVec Ideal S32x2048 .f32 := fun y =>
  hd x0 x1 x2 x3 x4 x5 ⟨(y 1).val / 128, by have := (y 1).isLt; change (y 1).val < 2048 at this; omega⟩ (ix2 (y 0) ⟨(y 1).val % 128, Nat.mod_lt _ (by omega)⟩)

/-- The buffer that the heads are stored into reads as the heads side by side. -/
theorem key (L : List (View.Piece (Elt Ideal) S32x2048 .f32))
    (hL : L = [piece x0 x1 x2 x3 x4 x5 15, piece x0 x1 x2 x3 x4 x5 14, piece x0 x1 x2 x3 x4 x5 13, piece x0 x1 x2 x3 x4 x5 12, piece x0 x1 x2 x3 x4 x5 11, piece x0 x1 x2 x3 x4 x5 10, piece x0 x1 x2 x3 x4 x5 9, piece x0 x1 x2 x3 x4 x5 8, piece x0 x1 x2 x3 x4 x5 7, piece x0 x1 x2 x3 x4 x5 6, piece x0 x1 x2 x3 x4 x5 5, piece x0 x1 x2 x3 x4 x5 4, piece x0 x1 x2 x3 x4 x5 3, piece x0 x1 x2 x3 x4 x5 2, piece x0 x1 x2 x3 x4 x5 1, piece x0 x1 x2 x3 x4 x5 0]) :
    View.readCov arg9.view L (Rect.unit (s := S32x2048) ![0, 0] S32x2048.size inb_S32x2048_S32x2048_0_0).toLoadRect = GA x0 x1 x2 x3 x4 x5 := by
  subst hL
  rw [View.readCov_eq_canon']
  funext j
  have hj : (Rect.unit (s := S32x2048) ![0, 0] S32x2048.size inb_S32x2048_S32x2048_0_0).toLoadRect.idx j = j := by
    funext a
    apply Fin.ext
    match a with
    | ⟨0, _⟩ => show 0 + 1 * (j 0).val = (j 0).val; omega
    | ⟨1, _⟩ => show 0 + 1 * (j 1).val = (j 1).val; omega
  rw [hj]
  have hall : ∀ h : Fin 16, piece x0 x1 x2 x3 x4 x5 h ∈ [piece x0 x1 x2 x3 x4 x5 15, piece x0 x1 x2 x3 x4 x5 14, piece x0 x1 x2 x3 x4 x5 13, piece x0 x1 x2 x3 x4 x5 12, piece x0 x1 x2 x3 x4 x5 11, piece x0 x1 x2 x3 x4 x5 10, piece x0 x1 x2 x3 x4 x5 9, piece x0 x1 x2 x3 x4 x5 8, piece x0 x1 x2 x3 x4 x5 7, piece x0 x1 x2 x3 x4 x5 6, piece x0 x1 x2 x3 x4 x5 5, piece x0 x1 x2 x3 x4 x5 4, piece x0 x1 x2 x3 x4 x5 3, piece x0 x1 x2 x3 x4 x5 2, piece x0 x1 x2 x3 x4 x5 1, piece x0 x1 x2 x3 x4 x5 0] := fun h => by
    fin_cases h <;> simp
  have hj1 : (j 1).val < 2048 := (j 1).isLt
  refine View.canon_apply_of_pieces (Val := Elt Ideal) (e := .f32) (GA x0 x1 x2 x3 x4 x5) _ ?_ j
    ⟨_, hall ⟨(j 1).val / 128, by omega⟩, ?_⟩
  · have hp : ∀ h : Fin 16, ∀ x : (piece x0 x1 x2 x3 x4 x5 h).1.shape.Idx, (piece x0 x1 x2 x3 x4 x5 h).2 x = GA x0 x1 x2 x3 x4 x5 ((piece x0 x1 x2 x3 x4 x5 h).1.emb x) := by
      intro h x
      have hx1 : (x 1).val < 128 := (x 1).isLt
      have hh := h.isLt
      show hd x0 x1 x2 x3 x4 x5 h x = _
      unfold GA
      have e1 : (⟨(((piece x0 x1 x2 x3 x4 x5 h).1.emb x) 1).val / 128, by have := (((piece x0 x1 x2 x3 x4 x5 h).1.emb x) 1).isLt; change (((piece x0 x1 x2 x3 x4 x5 h).1.emb x) 1).val < 2048 at this; omega⟩ : Fin 16) = h := by
        apply Fin.ext; show (128 * h.val + 1 * (x 1).val) / 128 = h.val; omega
      rw [e1]
      refine congrArg _ (funext fun a => Fin.ext ?_)
      match a with
      | ⟨0, _⟩ => show (x 0).val = 0 + 1 * (x 0).val; omega
      | ⟨1, _⟩ => show (x 1).val = (128 * h.val + 1 * (x 1).val) % 128; omega
    intro p hpm
    simp only [List.mem_cons, List.not_mem_nil, or_false] at hpm
    rcases hpm with rfl | rfl | rfl | rfl | rfl | rfl | rfl | rfl | rfl | rfl | rfl | rfl | rfl | rfl | rfl | rfl <;> exact hp _
  · refine (Rect.mem_set_unit (inb := inbo _)).2 fun a => ?_
    match a with
    | ⟨0, _⟩ => show 0 ≤ (j 0).val ∧ (j 0).val < 0 + 32; have := (j 0).isLt; change (j 0).val < 32 at this; omega
    | ⟨1, _⟩ => show 128 * ((j 1).val / 128) ≤ (j 1).val ∧ (j 1).val < 128 * ((j 1).val / 128) + 128; omega

/-- What a point leaves: the heads side by side, normalised. -/
theorem out_A : out0_A_7 (F := Ideal) c i arg1 harg1 arg2 harg2 arg3 harg3 arg4 harg4 arg5 harg5 arg6 harg6 arg7 harg7 arg8 harg8 arg9 harg9 x0 x1 x2 x3 x4 x5 x6
    = k0_pay1 (GA x0 x1 x2 x3 x4 x5) (k0_pay129 (GA x0 x1 x2 x3 x4 x5)) x6 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_unit_zero (S := S32x2048) hz]
  simp only [View.readAt_eq_ld, rd, harg1.read_unread, harg2.read_unread, harg3.read_unread, harg6.read_unread, harg7.read_unread, View.ld_unit_zero (S := S1x2048) hz]
  rw [key arg9 x0 x1 x2 x3 x4 x5 _ ?_]
  rfl

end

end Cert.As

end
-- ==== Proof.Attns.Head.lean ====
/- One head of a point of the samples' attention, at an index: averages over the 512 cached keys and the 32 new ones. -/
module

public import proofs.«01_k».proof.Proof.Gen.AttnsIdeal.Value
public import proofs.«01_k».proof.Proof.Attns.Block
public import proofs.«01_k».proof.Proof.Attn.Core
public import Idealize.ShloMosaic.Lib.ValueIdx
public import Idealize.ShloMosaic.Lib.Pipeline.Value
public import Idealize.ShloMosaic.Lib.Pipeline.ValueKit
public import Idealize.ShloMosaic.PureOps.IdealRules
public import Idealize.ShloMosaic.PureOps.Ideal.Laws

@[expose] public section

set_option maxRecDepth 16384

noncomputable section

namespace Cert.As

open Idealize
open Idealize.ShloMosaic hiding ix1 ix2 ix3 ix4
open Idealize.ShloMosaic.TcCoe
open Idealize.ShloMosaic.ValueIdx
open Idealize.ShloMosaic.Tactic
open Idealize.SL.Sem
open Idealize.ShloMosaic.Pipeline (Dat Cfg Window)
open Cert.AttnsIdeal Cert.AttnsIdeal.Gen

/-- The queries against the cached keys, at an index. -/
theorem qk1 (x : FVec Ideal S32x128 .bf16) (w : FVec Ideal S512x128 .bf16) (a : Fin 32) (b : Fin 512) :
    (matmul (F := Ideal) dot_S32x128_S512x128_S32x512_1_1_0_0_n_n none x w (constant S32x512 .f32 0x00000000#32) : FVec Ideal S32x512 .f32) (ix2 a b)
      = (∑ q : Fin 128, x (ix2 a q) * w (ix2 b q) : EReal) := by
  refine (Ideal.matmul_constant_zero_apply _ none _ _ _).trans ?_
  refine (Equiv.sum_comp (contrEquiv1 dot_S32x128_S512x128_S32x512_1_1_0_0_n_n 128 rfl rfl).symm _).symm.trans ?_
  refine Finset.sum_congr rfl fun d _ => congr (congrArg _ (congrArg x (funext fun a => ?_))) (congrArg w (funext fun a => ?_))
  · match a with
    | ⟨0, _⟩ => rfl
    | ⟨1, _⟩ => rfl
  · match a with
    | ⟨0, _⟩ => rfl
    | ⟨1, _⟩ => rfl

/-- The queries against the new keys, at an index. -/
theorem qk2 (x : FVec Ideal S32x128 .bf16) (w : FVec Ideal S32x128 .bf16) (a : Fin 32) (b : Fin 32) :
    (matmul (F := Ideal) dot_S32x128_S32x128_S32x32_1_1_0_0_n_n none x w (constant S32x32 .f32 0x00000000#32) : FVec Ideal S32x32 .f32) (ix2 a b)
      = (∑ q : Fin 128, x (ix2 a q) * w (ix2 b q) : EReal) := by
  refine (Ideal.matmul_constant_zero_apply _ none _ _ _).trans ?_
  refine (Equiv.sum_comp (contrEquiv1 dot_S32x128_S32x128_S32x32_1_1_0_0_n_n 128 rfl rfl).symm _).symm.trans ?_
  refine Finset.sum_congr rfl fun d _ => congr (congrArg _ (congrArg x (funext fun a => ?_))) (congrArg w (funext fun a => ?_))
  · match a with
    | ⟨0, _⟩ => rfl
    | ⟨1, _⟩ => rfl
  · match a with
    | ⟨0, _⟩ => rfl
    | ⟨1, _⟩ => rfl

/-- The weights against the cached values, at an index. -/
theorem pv1 (x : FVec Ideal S32x512 .bf16) (w : FVec Ideal S512x128 .bf16) (a : Fin 32) (b : Fin 128) :
    (matmul (F := Ideal) dot_S32x512_S512x128_S32x128_1_0_0_1_n_n none x w (constant S32x128 .f32 0x00000000#32) : FVec Ideal S32x128 .f32) (ix2 a b)
      = (∑ q : Fin 512, x (ix2 a q) * w (ix2 q b) : EReal) := by
  refine (Ideal.matmul_constant_zero_apply _ none _ _ _).trans ?_
  refine (Equiv.sum_comp (contrEquiv1 dot_S32x512_S512x128_S32x128_1_0_0_1_n_n 512 rfl rfl).symm _).symm.trans ?_
  refine Finset.sum_congr rfl fun d _ => congr (congrArg _ (congrArg x (funext fun a => ?_))) (congrArg w (funext fun a => ?_))
  · match a with
    | ⟨0, _⟩ => rfl
    | ⟨1, _⟩ => rfl
  · match a with
    | ⟨0, _⟩ => rfl
    | ⟨1, _⟩ => rfl

/-- The weights against the new values, at an index. -/
theorem pv2 (x : FVec Ideal S32x32 .bf16) (w : FVec Ideal S32x128 .bf16) (a : Fin 32) (b : Fin 128) :
    (matmul (F := Ideal) dot_S32x32_S32x128_S32x128_1_0_0_1_n_n none x w (constant S32x128 .f32 0x00000000#32) : FVec Ideal S32x128 .f32) (ix2 a b)
      = (∑ q : Fin 32, x (ix2 a q) * w (ix2 q b) : EReal) := by
  refine (Ideal.matmul_constant_zero_apply _ none _ _ _).trans ?_
  refine (Equiv.sum_comp (contrEquiv1 dot_S32x32_S32x128_S32x128_1_0_0_1_n_n 32 rfl rfl).symm _).symm.trans ?_
  refine Finset.sum_congr rfl fun d _ => congr (congrArg _ (congrArg x (funext fun a => ?_))) (congrArg w (funext fun a => ?_))
  · match a with
    | ⟨0, _⟩ => rfl
    | ⟨1, _⟩ => rfl
  · match a with
    | ⟨0, _⟩ => rfl
    | ⟨1, _⟩ => rfl

/-- The pattern of minus infinity. -/
theorem ofBits_ninf : Ideal.ofBits .f32 0xFF800000#32 = ⊥ := by simp [Ideal.ofBits, Ideal.ieee]

/-- The sum over the cached keys of a row, as a column, at its index. -/
theorem sum1 (s : FVec Ideal S32x512 .f32) (r : Fin 32) (u : Fin 1) :
    shapeCast S32x1 (multiReduction .add [1] S32 s 0x00000000#32 reduces_S32x512_S32 (.inl rfl) rfl) shapeCasts_S32_S32x1 (ix2 r u)
      = ∑ k : Fin 512, s (ix2 r k) := by
  have hu : u.val = 0 := by omega
  refine (shapeCast_apply _ shapeCasts_S32_S32x1 (ix2 r u) (ix1 r) (by
    rw [Shape.rowMajor_val_two, Shape.rowMajor_val_one]; show r.val = r.val * 1 + u.val; omega)).trans ?_
  refine (Ideal.multiReduction_add_single s _ reduces_S32x512_S32 _ _ (ix1 r)).trans ?_
  refine Finset.sum_congr rfl fun c _ => congrArg s (funext fun a => ?_)
  match a with
  | ⟨0, _⟩ => rfl
  | ⟨1, _⟩ => rfl

/-- The maximum over the cached keys of a row, as a column, at its index. -/
theorem max1 (s : FVec Ideal S32x512 .f32) (r : Fin 32) (u : Fin 1) :
    shapeCast S32x1 (multiReduction .maximumf [1] S32 s 0xFF800000#32 reduces_S32x512_S32 (.inl rfl) rfl) shapeCasts_S32_S32x1 (ix2 r u)
      = (Finset.univ : Finset (Fin 512)).fold max ⊥ (fun k => s (ix2 r k)) := by
  have hu : u.val = 0 := by omega
  refine (shapeCast_apply _ shapeCasts_S32_S32x1 (ix2 r u) (ix1 r) (by
    rw [Shape.rowMajor_val_two, Shape.rowMajor_val_one]; show r.val = r.val * 1 + u.val; omega)).trans ?_
  refine (Ideal.multiReduction_maximumf_single s _ reduces_S32x512_S32 _ _ (ix1 r)).trans ?_
  show Finset.fold max (Ideal.ofBits .f32 0xFF800000#32) _ _ = _
  rw [ofBits_ninf]
  refine congrArg (fun f => Finset.fold max ⊥ f Finset.univ) (funext fun c => congrArg s (funext fun a => ?_))
  match a with
  | ⟨0, _⟩ => rfl
  | ⟨1, _⟩ => rfl

/-- A column spread over the cached keys, at an index. -/
theorem spread1 (v : FVec Ideal S32x1 .f32) (r : Fin 32) (k : Fin 512) :
    broadcastTo S32x512 v broadcasts_S32x1_S32x512 (ix2 r k) = v (ix2 r 0) := by
  refine broadcastTo_apply v _ _ _ fun a => ?_
  match a with
  | ⟨0, _⟩ => rfl
  | ⟨1, _⟩ => rfl

/-- The sum over the new keys of a row, as a column, at its index. -/
theorem sum2 (s : FVec Ideal S32x32 .f32) (r : Fin 32) (u : Fin 1) :
    shapeCast S32x1 (multiReduction .add [1] S32 s 0x00000000#32 reduces_S32x32_S32 (.inl rfl) rfl) shapeCasts_S32_S32x1 (ix2 r u)
      = ∑ k : Fin 32, s (ix2 r k) := by
  have hu : u.val = 0 := by omega
  refine (shapeCast_apply _ shapeCasts_S32_S32x1 (ix2 r u) (ix1 r) (by
    rw [Shape.rowMajor_val_two, Shape.rowMajor_val_one]; show r.val = r.val * 1 + u.val; omega)).trans ?_
  refine (Ideal.multiReduction_add_single s _ reduces_S32x32_S32 _ _ (ix1 r)).trans ?_
  refine Finset.sum_congr rfl fun c _ => congrArg s (funext fun a => ?_)
  match a with
  | ⟨0, _⟩ => rfl
  | ⟨1, _⟩ => rfl

/-- The maximum over the new keys of a row, as a column, at its index. -/
theorem max2 (s : FVec Ideal S32x32 .f32) (r : Fin 32) (u : Fin 1) :
    shapeCast S32x1 (multiReduction .maximumf [1] S32 s 0xFF800000#32 reduces_S32x32_S32 (.inl rfl) rfl) shapeCasts_S32_S32x1 (ix2 r u)
      = (Finset.univ : Finset (Fin 32)).fold max ⊥ (fun k => s (ix2 r k)) := by
  have hu : u.val = 0 := by omega
  refine (shapeCast_apply _ shapeCasts_S32_S32x1 (ix2 r u) (ix1 r) (by
    rw [Shape.rowMajor_val_two, Shape.rowMajor_val_one]; show r.val = r.val * 1 + u.val; omega)).trans ?_
  refine (Ideal.multiReduction_maximumf_single s _ reduces_S32x32_S32 _ _ (ix1 r)).trans ?_
  show Finset.fold max (Ideal.ofBits .f32 0xFF800000#32) _ _ = _
  rw [ofBits_ninf]
  refine congrArg (fun f => Finset.fold max ⊥ f Finset.univ) (funext fun c => congrArg s (funext fun a => ?_))
  match a with
  | ⟨0, _⟩ => rfl
  | ⟨1, _⟩ => rfl

/-- A column spread over the new keys, at an index. -/
theorem spread2 (v : FVec Ideal S32x1 .f32) (r : Fin 32) (k : Fin 32) :
    broadcastTo S32x32 v broadcasts_S32x1_S32x32 (ix2 r k) = v (ix2 r 0) := by
  refine broadcastTo_apply v _ _ _ fun a => ?_
  match a with
  | ⟨0, _⟩ => rfl
  | ⟨1, _⟩ => rfl

/-- A column spread over a head's columns, at an index. -/
theorem spreadD (v : FVec Ideal S32x1 .f32) (r : Fin 32) (d : Fin 128) :
    broadcastTo S32x128 v broadcasts_S32x1_S32x128 (ix2 r d) = v (ix2 r 0) := by
  refine broadcastTo_apply v _ _ _ fun a => ?_
  match a with
  | ⟨0, _⟩ => rfl
  | ⟨1, _⟩ => rfl

/-- Rows without their leading unit axis, at an index. -/
theorem drop {α : Type} (v : S1x32x128.Idx → α) (r : Fin 32) (d : Fin 128) :
    shapeCast S32x128 v shapeCasts_S1x32x128_S32x128 (ix2 r d) = v (ix3 0 r d) := by
  refine shapeCast_apply v _ _ _ ?_
  rw [Shape.rowMajor_val_three, Shape.rowMajor_val_two]
  show (0 * 32 + r.val) * 128 + d.val = r.val * 128 + d.val
  omega

/-- Cached rows without their leading unit axis, at an index. -/
theorem dropC {α : Type} (v : S1x512x128.Idx → α) (r : Fin 512) (d : Fin 128) :
    shapeCast S512x128 v shapeCasts_S1x512x128_S512x128 (ix2 r d) = v (ix3 0 r d) := by
  refine shapeCast_apply v _ _ _ ?_
  rw [Shape.rowMajor_val_three, Shape.rowMajor_val_two]
  show (0 * 512 + r.val) * 128 + d.val = r.val * 128 + d.val
  omega

/-- The bias row turned by each query's number, at an index. -/
theorem rot (g : Vec Ideal S1x1024 .f32) (r : Fin 32) (p : Fin 1024) :
    k0_pay4 (F := Ideal) g (ix2 r p) = g (ix2 0 ⟨(p.val + 1024 - r.val) % 1024, Nat.mod_lt _ (Nat.succ_pos 1023)⟩) := by
  have hr := r.isLt
  unfold k0_pay4
  simp only [shapeCast_self]
  have e : ∀ A : FVec Ideal S32x1024 .f32, dynamicRotate 1 0#32 (some (1, 0)) A rotates_S32x1024_d1s1a0 (ix2 r p)
      = A (ix2 r ⟨(p.val + 1024 - r.val) % 1024, Nat.mod_lt _ (Nat.succ_pos 1023)⟩) := fun A => by
    unfold dynamicRotate
    refine congrArg A (funext fun a => ?_)
    match a with
    | ⟨0, _⟩ => rfl
    | ⟨1, _⟩ =>
      apply Fin.ext
      have h2 : (0 + 1 * r.val) % 1024 = r.val := by omega
      show (p.val + 1024 - (0 + 1 * r.val) % 1024) % 1024 = (p.val + 1024 - r.val) % 1024
      rw [h2]
  refine (e _).trans ?_
  exact broadcastTo_apply g broadcasts_S1x1024_S32x1024 _ (ix2 0 ⟨(p.val + 1024 - r.val) % 1024, Nat.mod_lt _ (Nat.succ_pos 1023)⟩) (fun a => by
    match a with
    | ⟨0, _⟩ => rfl
    | ⟨1, _⟩ => rfl)

/-- The scale of the scores. -/
def scale : EReal := Ideal.ofBits .f32 0x3DB504F3#32

/-- A cached or a new row's element: the first 512 are cached. -/
def cat (ck : Vec Ideal S1x512x128 .f32) (kn : Vec Ideal S1x32x128 .bf16) (k : Fin 544) (d : Fin 128) : EReal :=
  if h : k.val < 512 then ck (ix3 0 ⟨k.val, h⟩ d) else kn (ix3 0 ⟨k.val - 512, by omega⟩ d)

/-- The score of a query against a key. -/
def sco (q kn : Vec Ideal S1x32x128 .bf16) (ck : Vec Ideal S1x512x128 .f32) (g : Vec Ideal S1x1024 .f32) (r : Fin 32) (k : Fin 544) : EReal :=
  (∑ d : Fin 128, q (ix3 0 r d) * cat ck kn k d) * scale + g (ix2 0 ⟨(k.val + 1024 - r.val) % 1024, Nat.mod_lt _ (Nat.succ_pos 1023)⟩)

/-- A key's number among all, of a cached one. -/
def kc (k : Fin 512) : Fin 544 := ⟨k.val, by omega⟩
/-- A key's number among all, of a new one. -/
def kw (k : Fin 32) : Fin 544 := ⟨512 + k.val, by omega⟩

/-- A sum over all keys is that over the cached ones plus that over the new ones. -/
theorem sum_split (f : Fin 544 → EReal) : ∑ k, f k = (∑ k : Fin 512, f (kc k)) + ∑ k : Fin 32, f (kw k) :=
  Fin.sum_univ_add (a := 512) (b := 32) f

/-- So is a maximum. -/
theorem max_split (f : Fin 544 → EReal) : (Finset.univ : Finset (Fin 544)).fold max ⊥ f
    = max ((Finset.univ : Finset (Fin 512)).fold max ⊥ (fun k => f (kc k))) ((Finset.univ : Finset (Fin 32)).fold max ⊥ (fun k => f (kw k))) := by
  refine le_antisymm ((Finset.fold_max_le _).2 ⟨bot_le, fun k _ => ?_⟩) (max_le ((Finset.fold_max_le _).2 ⟨bot_le, fun k _ => ?_⟩) ((Finset.fold_max_le _).2 ⟨bot_le, fun k _ => ?_⟩))
  · rcases Nat.lt_or_ge k.val 512 with h | h
    · exact le_max_of_le_left (Attn.le_fold Finset.univ (fun k => f (kc k)) ⟨k.val, h⟩ (Finset.mem_univ _))
    · have e : kw ⟨k.val - 512, by omega⟩ = k := Fin.ext (by show 512 + (k.val - 512) = k.val; omega)
      have := Attn.le_fold Finset.univ (fun k => f (kw k)) ⟨k.val - 512, by omega⟩ (Finset.mem_univ _)
      exact le_max_of_le_right ((congrArg f e).symm.le.trans this)
  · exact Attn.le_fold Finset.univ f (kc k) (Finset.mem_univ _)
  · exact Attn.le_fold Finset.univ f (kw k) (Finset.mem_univ _)

section
variable (q kn vn : Vec Ideal S1x32x128 .bf16) (ck cv : Vec Ideal S1x512x128 .f32) (g : Vec Ideal S1x1024 .f32) (r : Fin 32)

/-- A cached row's element. -/
theorem cat_c (k : Fin 512) (d : Fin 128) : cat ck kn (kc k) d = ck (ix3 0 k d) := dif_pos k.isLt
/-- A new row's element. -/
theorem cat_w (k : Fin 32) (d : Fin 128) : cat ck kn (kw k) d = kn (ix3 0 k d) := by
  unfold cat
  rw [dif_neg (by show ¬ 512 + k.val < 512; omega)]
  exact congrArg (fun z => kn (ix3 0 z d)) (Fin.ext (by show 512 + k.val - 512 = k.val; omega))

/-- The scores of the cached keys. -/
theorem s1_apply (k : Fin 512) : k0_pay5 (F := Ideal) q ck g (ix2 r k) = sco q kn ck g r (kc k) := by
  unfold k0_pay5 sco
  refine congr (congrArg _ (congrArg (· * scale) ((qk1 _ _ r k).trans (Finset.sum_congr rfl fun d _ => congr (congrArg _ (drop _ r d)) ((dropC _ k d).trans (cat_c kn ck k d).symm))))) ?_
  refine (extractStridedSlice_apply _ _ slices_S32x1024_o0_0_S32x512 (ix2 r k) (ix2 r ⟨k.val, by omega⟩) (fun a => by
    match a with
    | ⟨0, _⟩ => show r.val = 0 + r.val; omega
    | ⟨1, _⟩ => show k.val = 0 + k.val; omega)).trans ?_
  exact rot g r _

/-- The scores of the new keys. -/
theorem s2_apply (k : Fin 32) : k0_pay6 (F := Ideal) q g kn (ix2 r k) = sco q kn ck g r (kw k) := by
  unfold k0_pay6 sco
  refine congr (congrArg _ (congrArg (· * scale) ((qk2 _ _ r k).trans (Finset.sum_congr rfl fun d _ => congr (congrArg _ (drop _ r d)) ((drop _ k d).trans (cat_w kn ck k d).symm))))) ?_
  refine (extractStridedSlice_apply _ _ slices_S32x1024_o0_512_S32x32 (ix2 r k) (ix2 r ⟨512 + k.val, by omega⟩) (fun a => by
    match a with
    | ⟨0, _⟩ => show r.val = 0 + r.val; omega
    | ⟨1, _⟩ => rfl)).trans ?_
  exact rot g r _

/-- The largest score of a query. -/
def top : EReal := (Finset.univ : Finset (Fin 544)).fold max ⊥ (sco q kn ck g r)

/-- The largest score, as the body takes it. -/
theorem top_apply (u : Fin 1) : k0_pay7 (F := Ideal) q ck g kn (ix2 r u) = top q kn ck g r := by
  unfold k0_pay7 top
  rw [max_split]
  refine congr (congrArg max ((max1 _ r u).trans ?_)) ((max2 _ r u).trans ?_)
  · exact congrArg (fun f => Finset.fold max ⊥ f Finset.univ) (funext fun k => s1_apply q kn ck g r k)
  · exact congrArg (fun f => Finset.fold max ⊥ f Finset.univ) (funext fun k => s2_apply q kn ck g r k)

/-- A key's weight. -/
def wgt (k : Fin 544) : EReal := Ideal.exp (sco q kn ck g r k - top q kn ck g r)

/-- The weights of the cached keys. -/
theorem p1_apply (k : Fin 512) : k0_pay8 (F := Ideal) q ck g kn (ix2 r k) = wgt q kn ck g r (kc k) := by
  unfold k0_pay8 wgt
  exact congrArg Ideal.exp (congr (congrArg _ (s1_apply q kn ck g r k)) ((spread1 _ r k).trans (top_apply q kn ck g r 0)))

/-- The weights of the new keys. -/
theorem p2_apply (k : Fin 32) : k0_pay9 (F := Ideal) q ck g kn (ix2 r k) = wgt q kn ck g r (kw k) := by
  unfold k0_pay9 wgt
  exact congrArg Ideal.exp (congr (congrArg _ (s2_apply q kn ck g r k)) ((spread2 _ r k).trans (top_apply q kn ck g r 0)))

/-- One head, at an index. -/
theorem head_apply (d : Fin 128) : head q kn vn ck cv g (ix2 r d)
    = Ideal.div (∑ k : Fin 544, wgt q kn ck g r k * cat cv vn k d) (∑ k : Fin 544, wgt q kn ck g r k) := by
  rw [sum_split, sum_split]
  unfold head k0_pay11 k0_pay10
  simp only [shapeCast_self]
  refine congr (congrArg Ideal.div (congr (congrArg _ ((pv1 _ _ r d).trans (Finset.sum_congr rfl fun k _ => ?_))) ((pv2 _ _ r d).trans (Finset.sum_congr rfl fun k _ => ?_)))) ((spreadD _ r d).trans
    (congr (congrArg _ ((sum1 _ r 0).trans (Finset.sum_congr rfl fun k _ => p1_apply q kn ck g r k))) ((sum2 _ r 0).trans (Finset.sum_congr rfl fun k _ => p2_apply q kn ck g r k))))
  · refine congr (congrArg _ (p1_apply q kn ck g r k)) (Eq.trans ?_ (cat_c vn cv k d).symm)
    unfold k0_pay3
    exact dropC _ k d
  · exact congr (congrArg _ (p2_apply q kn ck g r k)) ((drop _ k d).trans (cat_w vn cv k d).symm)

end

end Cert.As

end
-- ==== Proof.Attns.Value.lean ====
/- What the launch of the samples' attention leaves in its array, over the extended reals. -/
module

public import proofs.«01_k».proof.Proof.Gen.AttnsIdeal.Value
public import proofs.«01_k».proof.Proof.Attns.Head
public import proofs.«01_k».proof.Proof.Attn.Bias
public import proofs.«01_k».proof.Proof.Attn.Core
public import Idealize.ShloMosaic.Lib.ValueIdx
public import Idealize.ShloMosaic.Lib.Pipeline.Value
public import Idealize.ShloMosaic.Lib.Pipeline.ValueKit
public import Idealize.ShloMosaic.PureOps.IdealRules
public import Idealize.ShloMosaic.PureOps.Ideal.Laws

@[expose] public section

set_option maxRecDepth 16384

noncomputable section

namespace Cert.As

open Idealize
open Idealize.ShloMosaic hiding ix1 ix2 ix3 ix4
open Idealize.ShloMosaic.TcCoe
open Idealize.ShloMosaic.ValueIdx
open Idealize.ShloMosaic.Tactic
open Idealize.SL.Sem
open Idealize.ShloMosaic.Pipeline (Dat Cfg Window)
open Cert.AttnsIdeal Cert.AttnsIdeal.Gen

/-- Queries, keys and values as the arrays' element types at the extended reals. -/
abbrev AX := S48x8448x128.Idx → EReal
/-- Cached rows. -/
abbrev AC := S8x8192x128.Idx → EReal
/-- The bias table. -/
abbrev AT := S16x320.Idx → EReal

/-- An element of the new queries, keys or values (part 0, 1, 2) of a sample. -/
def el (X : AX) (p : ℕ) (hp : p ≤ 2) (b : Fin 8) (h : Fin 16) (r : Fin 32) (d : Fin 128) : EReal :=
  X (ix3 ⟨16 * p + h.val, by omega⟩ ⟨8192 + (32 * b.val + r.val), by omega⟩ d)

/-- An element of all keys or all values of a sample: the first 512 are cached. -/
def kv (X : AX) (C : AC) (p : ℕ) (hp : p ≤ 2) (b : Fin 8) (h : Fin 16) (k : Fin 544) (d : Fin 128) : EReal :=
  if hk : k.val < 512 then C (ix3 b ⟨h.val + 16 * k.val, by omega⟩ d) else el X p hp b h ⟨k.val - 512, by omega⟩ d

section
variable (X : AX) (CK CV : AC) (T : AT) (b : Fin 8) (h : Fin 16) (r : Fin 32)

/-- A query's score against a key. -/
def S (k : Fin 544) : EReal :=
  (∑ d : Fin 128, el X 0 (by omega) b h r d * kv X CK 1 (by omega) b h k d) * scale + T (ix2 h ⟨min (r.val + 575 - k.val) 319, by omega⟩)

/-- A query's largest score. -/
def M : EReal := (Finset.univ : Finset (Fin 544)).fold max ⊥ (S X CK T b h r)

/-- A key's weight. -/
def P (k : Fin 544) : EReal := Ideal.exp (S X CK T b h r k - M X CK T b h r)

/-- A head's average of the values. -/
def O (d : Fin 128) : EReal :=
  Ideal.div (∑ k, P X CK T b h r k * kv X CV 2 (by omega) b h k d) (∑ k, P X CK T b h r k)

/-- A query's averages over all heads. -/
def OA (c : Fin 2048) : EReal := O X CK CV T b ⟨c.val / 128, by omega⟩ r ⟨c.val % 128, Nat.mod_lt _ (by omega)⟩

/-- The normalised averages. -/
def N (G : S2048.Idx → EReal) (c : Fin 2048) : EReal :=
  OA X CK CV T b r c * Ideal.rsqrt ((∑ c', OA X CK CV T b r c' * OA X CK CV T b r c') * Ideal.ofBits .f32 0x3A000000#32 + Ideal.ofBits .f32 0x358637BD#32) * G (ix1 c)

end

/-- The result: a row's sample is its number by 32. -/
def G9 (X : AX) (CK CV : AC) (T : AT) (G : S2048.Idx → EReal) : S256x2048.Idx → EReal := fun i =>
  N X CK CV T ⟨(i 0).val / 32, by have := (i 0).isLt; change (i 0).val < 256 at this; omega⟩ ⟨(i 0).val % 32, Nat.mod_lt _ (by omega)⟩ G (i 1)

/-- The mean square plus the small constant, at a row. -/
theorem ms_apply (A : FVec Ideal S32x2048 .f32) (r : Fin 32) (u : Fin 1) :
    k0_pay129 (F := Ideal) A (ix2 r u) = (∑ c : Fin 2048, A (ix2 r c) * A (ix2 r c)) * Ideal.ofBits .f32 0x3A000000#32 + Ideal.ofBits .f32 0x358637BD#32 := by
  have hu : u.val = 0 := by omega
  unfold k0_pay129
  refine congrArg (· + Ideal.ofBits .f32 0x358637BD#32) (congrArg (· * Ideal.ofBits .f32 0x3A000000#32) ?_)
  refine (shapeCast_apply _ shapeCasts_S32_S32x1 (ix2 r u) (ix1 r) (by
    rw [Shape.rowMajor_val_two, Shape.rowMajor_val_one]; show r.val = r.val * 1 + u.val; omega)).trans ?_
  refine (Ideal.multiReduction_add_single _ _ reduces_S32x2048_S32 _ _ (ix1 r)).trans ?_
  refine Finset.sum_congr rfl fun c _ => congrArg (fun i => A i * A i) (funext fun a => ?_)
  match a with
  | ⟨0, _⟩ => rfl
  | ⟨1, _⟩ => rfl

/-- What a point stores, at an index. -/
theorem pay_apply (A : FVec Ideal S32x2048 .f32) (v : FVec Ideal S32x1 .f32) (g : Vec Ideal S1x2048 .f32) (r : Fin 32) (c : Fin 2048) :
    k0_pay1 (F := Ideal) A v g (ix2 r c) = A (ix2 r c) * Ideal.rsqrt (v (ix2 r 0)) * g (ix2 0 c) := by
  unfold k0_pay1
  simp only [shapeCast_self]
  refine congr (congrArg (fun a b => a * b) (congrArg (A (ix2 r c) * ·) ?_)) ?_
  · refine broadcastTo_apply (rsqrt v) broadcasts_S32x1_S32x2048 _ (ix2 r 0) fun a => ?_
    match a with
    | ⟨0, _⟩ => rfl
    | ⟨1, _⟩ => rfl
  · refine broadcastTo_apply g broadcasts_S1x2048_S32x2048 _ (ix2 0 c) fun a => ?_
    match a with
    | ⟨0, _⟩ => rfl
    | ⟨1, _⟩ => rfl

variable (m : (ℓ : Loc nD τ sig) → Buf (Elt Ideal) ℓ)

/-- The projections of a core. -/
abbrev X0 (c : Dev nD) : AX := m ((c.tc : Thread nD τ).loc main_arg0)
/-- The cached keys of a core. -/
abbrev X1 (c : Dev nD) : AC := m ((c.tc : Thread nD τ).loc main_arg1)
/-- The cached values of a core. -/
abbrev X2 (c : Dev nD) : AC := m ((c.tc : Thread nD τ).loc main_arg2)
/-- The bias table of a core. -/
abbrev X3 (c : Dev nD) : AT := m ((c.tc : Thread nD τ).loc main_arg3)
/-- The gains of a core. -/
abbrev X4 (c : Dev nD) : S2048.Idx → EReal := m ((c.tc : Thread nD τ).loc main_arg4)

/-- The block of window 0 at each point. -/
theorem idx0 : ∀ t : Fin cfg0.N, win0_0.index t = ![0, 256 + t.val, 0] := (by decide +kernel : ∀ t : Fin grid0.N, _)
/-- The block of window 1 at each point. -/
theorem idx1 : ∀ t : Fin cfg0.N, win0_1.index t = ![1, 256 + t.val, 0] := (by decide +kernel : ∀ t : Fin grid0.N, _)
/-- The block of window 2 at each point. -/
theorem idx2 : ∀ t : Fin cfg0.N, win0_2.index t = ![2, 256 + t.val, 0] := (by decide +kernel : ∀ t : Fin grid0.N, _)
/-- The block of window 3 at each point. -/
theorem idx3 : ∀ t : Fin cfg0.N, win0_3.index t = ![t.val, 0, 0] := (by decide +kernel : ∀ t : Fin grid0.N, _)
/-- The block of window 4 at each point. -/
theorem idx4 : ∀ t : Fin cfg0.N, win0_4.index t = ![t.val, 0, 0] := (by decide +kernel : ∀ t : Fin grid0.N, _)
/-- The block of window 5 at each point. -/
theorem idx5 : ∀ t : Fin cfg0.N, win0_5.index t = ![0, 0] := (by decide +kernel : ∀ t : Fin grid0.N, _)
/-- The block of window 6 at each point. -/
theorem idx6 : ∀ t : Fin cfg0.N, win0_6.index t = ![0, 0] := (by decide +kernel : ∀ t : Fin grid0.N, _)
/-- The block of window 7 at each point. -/
theorem idx7 : ∀ t : Fin cfg0.N, win0_7.index t = ![t.val, 0] := (by decide +kernel : ∀ t : Fin grid0.N, _)

/-- A point's sample. -/
def smp (t : Fin cfg0.N) : Fin 8 := ⟨t.val, Nat.lt_of_lt_of_eq t.isLt N_0⟩

/-- A head's rows of a block, at coordinates. -/
theorem hq_apply (x : Vec Ideal S16x32x128 .bf16) (h : Fin 16) (r : Fin 32) (d : Fin 128) : hq x h (ix3 0 r d) = x (ix3 h r d) := by
  refine congrArg x (funext fun a => Fin.ext ?_)
  match a with
  | ⟨0, _⟩ => show h.val + 1 * 0 = h.val; omega
  | ⟨1, _⟩ => show 0 + 1 * r.val = r.val; omega
  | ⟨2, _⟩ => show 0 + 1 * d.val = d.val; omega

/-- A head's cached rows of a block, at coordinates. -/
theorem hk_apply (x : Vec Ideal S1x8192x128 .f32) (h : Fin 16) (k : Fin 512) (d : Fin 128) : hk x h (ix3 0 k d) = x (ix3 0 ⟨h.val + 16 * k.val, by omega⟩ d) := by
  refine congrArg x (funext fun a => Fin.ext ?_)
  match a with
  | ⟨0, _⟩ => rfl
  | ⟨1, _⟩ => rfl
  | ⟨2, _⟩ => show 0 + 1 * d.val = d.val; omega

/-- A head's bias row, at coordinates of the block. -/
theorem hg_apply (x : Vec Ideal S16x1024 .f32) (h : Fin 16) (p : Fin 1024) : hg x h (ix2 0 p) = x (ix2 h p) := by
  refine congrArg x (funext fun a => Fin.ext ?_)
  match a with
  | ⟨0, _⟩ => show h.val + 1 * 0 = h.val; omega
  | ⟨1, _⟩ => show 0 + 1 * p.val = p.val; omega

/-- A head's queries, at coordinates. -/
theorem blk0 (c : Dev nD) (t : Fin cfg0.N) (h : Fin 16) (r : Fin 32) (d : Fin 128) :
    hq (iblk m c 0 t) h (ix3 0 r d) = el (X0 m c) 0 (by omega) (smp t) h r d := by
  rw [hq_apply]
  unfold el
  blk_simp [iblk, V_main_arg0]
  refine congrArg _ (funext fun a => ?_)
  match a with
  | ⟨0, _⟩ => apply Fin.ext; blk_simp [idx0]; show h.val = 16 * 0 + h.val; omega
  | ⟨1, _⟩ => apply Fin.ext; blk_simp [idx0, smp]; show (256 + t.val) * 32 + r.val = 8192 + (32 * t.val + r.val); omega
  | ⟨2, _⟩ => apply Fin.ext; blk_simp [idx0]

/-- A head's new keys, at coordinates. -/
theorem blk1 (c : Dev nD) (t : Fin cfg0.N) (h : Fin 16) (r : Fin 32) (d : Fin 128) :
    hq (iblk m c 1 t) h (ix3 0 r d) = el (X0 m c) 1 (by omega) (smp t) h r d := by
  rw [hq_apply]
  unfold el
  blk_simp [iblk, V_main_arg0]
  refine congrArg _ (funext fun a => ?_)
  match a with
  | ⟨0, _⟩ => apply Fin.ext; blk_simp [idx1]
  | ⟨1, _⟩ => apply Fin.ext; blk_simp [idx1, smp]; show (256 + t.val) * 32 + r.val = 8192 + (32 * t.val + r.val); omega
  | ⟨2, _⟩ => apply Fin.ext; blk_simp [idx1]

/-- A head's new values, at coordinates. -/
theorem blk2 (c : Dev nD) (t : Fin cfg0.N) (h : Fin 16) (r : Fin 32) (d : Fin 128) :
    hq (iblk m c 2 t) h (ix3 0 r d) = el (X0 m c) 2 (by omega) (smp t) h r d := by
  rw [hq_apply]
  unfold el
  blk_simp [iblk, V_main_arg0]
  refine congrArg _ (funext fun a => ?_)
  match a with
  | ⟨0, _⟩ => apply Fin.ext; blk_simp [idx2]
  | ⟨1, _⟩ => apply Fin.ext; blk_simp [idx2, smp]; show (256 + t.val) * 32 + r.val = 8192 + (32 * t.val + r.val); omega
  | ⟨2, _⟩ => apply Fin.ext; blk_simp [idx2]

/-- A head's cached keys, at coordinates. -/
theorem blk3 (c : Dev nD) (t : Fin cfg0.N) (h : Fin 16) (k : Fin 512) (d : Fin 128) :
    hk (iblk m c 3 t) h (ix3 0 k d) = X1 m c (ix3 (smp t) ⟨h.val + 16 * k.val, by omega⟩ d) := by
  rw [hk_apply]
  blk_simp [iblk, V_main_arg1]
  refine congrArg _ (funext fun a => ?_)
  match a with
  | ⟨0, _⟩ => apply Fin.ext; blk_simp [idx3, smp]
  | ⟨1, _⟩ => apply Fin.ext; blk_simp [idx3]
  | ⟨2, _⟩ => apply Fin.ext; blk_simp [idx3]

/-- A head's cached values, at coordinates. -/
theorem blk4 (c : Dev nD) (t : Fin cfg0.N) (h : Fin 16) (k : Fin 512) (d : Fin 128) :
    hk (iblk m c 4 t) h (ix3 0 k d) = X2 m c (ix3 (smp t) ⟨h.val + 16 * k.val, by omega⟩ d) := by
  rw [hk_apply]
  blk_simp [iblk, V_main_arg2]
  refine congrArg _ (funext fun a => ?_)
  match a with
  | ⟨0, _⟩ => apply Fin.ext; blk_simp [idx4, smp]
  | ⟨1, _⟩ => apply Fin.ext; blk_simp [idx4]
  | ⟨2, _⟩ => apply Fin.ext; blk_simp [idx4]

/-- The host's bias rows, where the launch finds them. -/
theorem V_rows (c : Dev nD) : V m c main_v7 = Attn.rowsOf (F := Ideal) (X3 m c) := by
  unfold Attn.rowsOf
  entry_read
  rfl

/-- The gains as one row, where the launch finds them. -/
theorem V_gain (c : Dev nD) : V m c main_v8 = shapeCast S1x2048 (X4 m c) shapeCasts_S2048_S1x2048 := by
  entry_read
  rfl

/-- A head's bias row, at coordinates. -/
theorem blk5 (c : Dev nD) (t : Fin cfg0.N) (h : Fin 16) (p : Fin 1024) :
    hg (iblk m c 5 t) h (ix2 0 p) = X3 m c (ix2 h ⟨Attn.colOf p.val, Attn.colOf_lt _⟩) := by
  rw [hg_apply]
  have e : iblk m c 5 t (ix2 h p) = Attn.rowsOf (F := Ideal) (X3 m c) (ix2 h p) := by
    blk_simp [iblk, V_rows]
    refine congrArg _ (funext fun a => ?_)
    match a with
    | ⟨0, _⟩ => apply Fin.ext; blk_simp [idx5]
    | ⟨1, _⟩ => apply Fin.ext; blk_simp [idx5]
  refine e.trans ((Attn.rowsOf_apply (X3 m c) h p).trans (congrArg (X3 m c) (funext fun a => ?_)))
  match a with
  | ⟨0, _⟩ => rfl
  | ⟨1, _⟩ => rfl

/-- The gains, at coordinates. -/
theorem blk6 (c : Dev nD) (t : Fin cfg0.N) (k : Fin 2048) : iblk m c 6 t (ix2 0 k) = X4 m c (ix1 k) := by
  have e : iblk m c 6 t (ix2 0 k) = shapeCast S1x2048 (X4 m c) shapeCasts_S2048_S1x2048 (ix2 0 k) := by
    blk_simp [iblk, V_gain]
    refine congrArg _ (funext fun a => ?_)
    match a with
    | ⟨0, _⟩ => apply Fin.ext; blk_simp [idx6]
    | ⟨1, _⟩ => apply Fin.ext; blk_simp [idx6]
  exact e.trans (shapeCast_apply (X4 m c) shapeCasts_S2048_S1x2048 (ix2 0 k) (ix1 k) (by
    rw [Shape.rowMajor_val_two, Shape.rowMajor_val_one]; show k.val = 0 * 2048 + k.val; omega))

section
variable (c : Dev nD) (t : Fin cfg0.N) (h : Fin 16) (r : Fin 32)

/-- A key, cached or new, of a point's blocks. -/
theorem key_apply (k : Fin 544) (d : Fin 128) :
    cat (hk (iblk m c 3 t) h) (hq (iblk m c 1 t) h) k d = kv (X0 m c) (X1 m c) 1 (by omega) (smp t) h k d := by
  unfold cat kv
  exact dite_congr rfl (fun hk => blk3 m c t h _ d) (fun hk => blk1 m c t h _ d)

/-- A value, cached or new, of a point's blocks. -/
theorem val_apply (k : Fin 544) (d : Fin 128) :
    cat (hk (iblk m c 4 t) h) (hq (iblk m c 2 t) h) k d = kv (X0 m c) (X2 m c) 2 (by omega) (smp t) h k d := by
  unfold cat kv
  exact dite_congr rfl (fun hk => blk4 m c t h _ d) (fun hk => blk2 m c t h _ d)

/-- A score from a point's blocks. -/
theorem sco_apply (k : Fin 544) :
    sco (hq (iblk m c 0 t) h) (hq (iblk m c 1 t) h) (hk (iblk m c 3 t) h) (hg (iblk m c 5 t) h) r k = S (X0 m c) (X1 m c) (X3 m c) (smp t) h r k := by
  unfold sco S
  refine congr (congrArg _ (congrArg (· * scale) (Finset.sum_congr rfl fun d _ => congr (congrArg _ (blk0 m c t h r d)) (key_apply m c t h k d)))) ?_
  refine (blk5 m c t h _).trans (congrArg (X3 m c) (funext fun a => ?_))
  match a with
  | ⟨0, _⟩ => rfl
  | ⟨1, _⟩ =>
    apply Fin.ext
    show Attn.colOf ((k.val + 1024 - r.val) % 1024) = min (r.val + 575 - k.val) 319
    unfold Attn.colOf
    split_ifs <;> omega

/-- A weight from a point's blocks. -/
theorem wgt_apply (k : Fin 544) :
    wgt (hq (iblk m c 0 t) h) (hq (iblk m c 1 t) h) (hk (iblk m c 3 t) h) (hg (iblk m c 5 t) h) r k = P (X0 m c) (X1 m c) (X3 m c) (smp t) h r k := by
  unfold wgt P top M
  rw [sco_apply, funext (sco_apply m c t h r)]

/-- A head's averages from a point's blocks. -/
theorem hd_apply (d : Fin 128) :
    hd (iblk m c 0 t) (iblk m c 1 t) (iblk m c 2 t) (iblk m c 3 t) (iblk m c 4 t) (iblk m c 5 t) h (ix2 r d)
      = O (X0 m c) (X1 m c) (X2 m c) (X3 m c) (smp t) h r d := by
  unfold hd O
  refine (head_apply _ _ _ _ _ _ r d).trans ?_
  exact congr (congrArg Ideal.div (Finset.sum_congr rfl fun k _ => congr (congrArg _ (wgt_apply m c t h r k)) (val_apply m c t h k d))) (Finset.sum_congr rfl fun k _ => wgt_apply m c t h r k)

/-- What a point leaves, at coordinates. -/
theorem left_apply (k : Fin 2048) :
    outsAt0 m c t (ix2 r k) = N (X0 m c) (X1 m c) (X2 m c) (X3 m c) (smp t) r (X4 m c) k := by
  unfold outsAt0
  rw [out_A]
  have e : ∀ k, GA (iblk m c 0 t) (iblk m c 1 t) (iblk m c 2 t) (iblk m c 3 t) (iblk m c 4 t) (iblk m c 5 t) (ix2 r k)
      = OA (X0 m c) (X1 m c) (X2 m c) (X3 m c) (smp t) r k := fun k => hd_apply m c t _ r _
  refine (pay_apply _ _ _ r k).trans ?_
  rw [ms_apply]
  unfold N
  simp only [e]
  rw [blk6]

end

/-- The result after the run. -/
theorem final (c : Dev nD) : (dats m 0 c).arrAt 7 cfg0.N = G9 (X0 m c) (X1 m c) (X2 m c) (X3 m c) (X4 m c) := by
  refine (dats m 0 c).arrAt_eq_of_covers 7 _ (by decide +kernel) fun t hf y => ?_
  blk_simp
  rw [after0_7]
  have h0 : (((win0_7.blk t).view.emb y) 0).val = t.val * 32 + (y 0).val := by
    blk_simp [idx7]
  have h1 : ((win0_7.blk t).view.emb y) 1 = y 1 := by
    apply Fin.ext
    blk_simp [idx7]
  have hy : y = ix2 (y 0) (y 1) := by
    funext a
    match a with
    | ⟨0, _⟩ => rfl
    | ⟨1, _⟩ => rfl
  have hy0 : (y 0).val < 32 := (y 0).isLt
  conv_lhs => rw [hy]
  refine (left_apply m c t (y 0) (y 1)).trans ?_
  unfold G9
  have e0 : (⟨(((win0_7.blk t).view.emb y) 0).val / 32, by have := (((win0_7.blk t).view.emb y) 0).isLt; change (((win0_7.blk t).view.emb y) 0).val < 256 at this; omega⟩ : Fin 8) = smp t := by
    apply Fin.ext; show (((win0_7.blk t).view.emb y) 0).val / 32 = t.val; omega
  have e1 : (⟨(((win0_7.blk t).view.emb y) 0).val % 32, Nat.mod_lt _ (by omega)⟩ : Fin 32) = y 0 := by
    apply Fin.ext; show (((win0_7.blk t).view.emb y) 0).val % 32 = (y 0).val; omega
  rw [e0, e1, h1]

end Cert.As

end
-- ==== Proof.Attns.Ref.lean ====
/- The reference of the samples' attention at an index: the softmax's averages, normalised. -/
module

public import proofs.«01_k».proof.Proof.Attns.Value
public import proofs.«01_k».proof.Proof.Attn.RefB
public import proofs.«01_k».proof.Proof.Gen.PlainAttnsIdeal.Read

@[expose] public section

set_option maxRecDepth 16384

noncomputable section

namespace Cert.As

open Idealize
open Idealize.ShloMosaic hiding ix1 ix2 ix3 ix4
open Idealize.ShloMosaic.ValueIdx
open Cert.PlainAttnsIdeal Cert.PlainAttnsIdeal.Gen Cert.PlainAttnsIdeal.Read

/-- A query's number past the 512 cached keys. -/
theorem add512 : ∀ r : Fin 32, IntOp.addi (BitVec.ofNat 32 r.val) 512#32 = BitVec.ofNat 32 (r.val + 512) := by decide +kernel

/-- The reference's table column, at a query and a key. -/
theorem col_apply (r : Fin 32) (k : Fin 544) (u : Fin 1) :
    (val_main_v30 (F := Ideal) (ix3 r k u)).toInt.toNat = min (r.val + 575 - k.val) 319 := by
  have h := Attn.col_word (r.val + 512) k.val (by omega) (by omega)
  unfold Attn.tix at h
  rw [show r.val + 575 - k.val = r.val + 512 + 63 - k.val by omega, ← h, ← add512]
  simp only [val_main_v30_apply, val_main_v29_apply, val_main_v28_apply, val_main_v27_apply, val_main_v26_apply, val_main_v25_apply,
    val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_call0_v4_apply, val_main_call0_v3_apply,
    val_main_call0_v2_apply, val_main_call0_v1_apply, val_main_call0_v0_apply, val_main_c_apply, val_main_c_0_apply, val_main_c_1_apply, val_main_c_2_apply,
    val_main_c_3_apply, val_main_c_4_apply]

/-- A table's columns taken by an array of column numbers, at an index. -/
theorem gather_apply (x : S16x320.Idx → EReal) (idx : IVec S32x544x1 32) (h : Fin 16) (n : Fin 32) (k : Fin 544) :
    Host.gather gather_S16x320_S32x544x1_S16x32x544_0_1_n_n_1_2_161 x idx (ix3 h n k)
      = x (ix2 h ⟨min (idx (ix3 n k 0)).toInt.toNat 319, by omega⟩) := by
  unfold Host.gather
  congr 1
  funext a
  refine Fin.ext ?_
  match a with
  | ⟨0, _⟩ =>
    show gather_S16x320_S32x544x1_S16x32x544_0_1_n_n_1_2_161.start (ix3 h n k) idx 0
      + gather_S16x320_S32x544x1_S16x32x544_0_1_n_n_1_2_161.batchCoord (ix3 h n k) 0
      + gather_S16x320_S32x544x1_S16x32x544_0_1_n_n_1_2_161.offCoord (ix3 h n k) 0 = _
    rw [GatherDims.batchCoord_eq_zero _ _ _ List.not_mem_nil]
    unfold GatherDims.start
    rw [dif_neg (show ¬ (0 : Fin 2) ∈ gather_S16x320_S32x544x1_S16x32x544_0_1_n_n_1_2_161.startIndexMap from (by decide : ¬ (0 : Fin 2) ∈ [(1 : Fin 2)]))]
    simp only [Nat.add_zero, Nat.zero_add]
    rfl
  | ⟨1, _⟩ =>
    show gather_S16x320_S32x544x1_S16x32x544_0_1_n_n_1_2_161.start (ix3 h n k) idx 1
      + gather_S16x320_S32x544x1_S16x32x544_0_1_n_n_1_2_161.batchCoord (ix3 h n k) 1
      + gather_S16x320_S32x544x1_S16x32x544_0_1_n_n_1_2_161.offCoord (ix3 h n k) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16x320_S32x544x1_S16x32x544_0_1_n_n_1_2_161.startIndexMap from List.mem_singleton.mpr rfl)]
    have hsi : gather_S16x320_S32x544x1_S16x32x544_0_1_n_n_1_2_161.siIdx (ix3 h n k)
        ⟨List.idxOf (1 : Fin 2) gather_S16x320_S32x544x1_S16x32x544_0_1_n_n_1_2_161.startIndexMap,
          List.idxOf_lt_length_iff.2 (List.mem_singleton.mpr rfl)⟩ = ix3 n k 0 := by
      funext b; refine Fin.ext ?_
      match b with
      | ⟨0, _⟩ => rfl
      | ⟨1, _⟩ => rfl
      | ⟨2, _⟩ => rfl
    rw [hsi]
    rfl

/-- A row's greatest score, at its index. -/
theorem rmax_apply (x : FVec Ideal S8x16x32x544 .f32) (b : Fin 8) (h : Fin 16) (r : Fin 32) :
    Host.reduce FloatOps.maximumf x (constant (F := Ideal) S_ .f32 0xFF800000#32) reducesTo_S8x16x32x544_S8x16x32_d3 h_S_ (ix3 b h r)
      = (Finset.univ : Finset (Fin 544)).fold max ⊥ (fun k => x (ix4 b h r k)) := by
  have hr : S8x16x32x544.Reduces [3] S8x16x32 := by decide
  refine (congrFun (hostReduce_maximumf_eq_multiReduction x 0xFF800000#32 reducesTo_S8x16x32x544_S8x16x32_d3 h_S_ hr (.inl rfl) rfl) _).trans ?_
  refine (Ideal.multiReduction_maximumf_single x _ hr _ _ (ix3 b h r)).trans ?_
  show Finset.fold max (Ideal.ofBits .f32 0xFF800000#32) _ _ = _
  rw [ofBits_ninf]
  refine congrArg (fun f => Finset.fold max ⊥ f Finset.univ) (funext fun c => congrArg x (funext fun a => ?_))
  match a with
  | ⟨0, _⟩ => rfl
  | ⟨1, _⟩ => rfl
  | ⟨2, _⟩ => rfl
  | ⟨3, _⟩ => rfl

section
variable (x0 : AX) (x1 x2 : AC) (x3 : AT)

/-- A query's element. -/
theorem v2_apply (h : Fin 16) (b : Fin 8) (r : Fin 32) (d : Fin 128) :
    val_main_v2 (F := Ideal) x0 (ix4 h b r d) = el x0 0 (by omega) b h r d := by
  rw [val_main_v2_apply, val_main_v1_apply, val_main_v0_apply]
  unfold el
  refine congrArg x0 (funext fun a => Fin.ext ?_)
  match a with
  | ⟨0, _⟩ => show (((h.val * 8 + b.val) * 32 + r.val) * 128 + d.val) / 32768 = 16 * 0 + h.val; omega
  | ⟨1, _⟩ => show 8192 + (((h.val * 8 + b.val) * 32 + r.val) * 128 + d.val) / 128 % 256 = 8192 + (32 * b.val + r.val); omega
  | ⟨2, _⟩ => show (((h.val * 8 + b.val) * 32 + r.val) * 128 + d.val) % 128 = d.val; omega

/-- A new key's element. -/
theorem v4_apply (h : Fin 16) (b : Fin 8) (r : Fin 32) (d : Fin 128) :
    val_main_v4 (F := Ideal) x0 (ix4 h b r d) = el x0 1 (by omega) b h r d := by
  rw [val_main_v4_apply, val_main_v3_apply, val_main_v0_apply]
  unfold el
  refine congrArg x0 (funext fun a => Fin.ext ?_)
  match a with
  | ⟨0, _⟩ => show 16 + (((h.val * 8 + b.val) * 32 + r.val) * 128 + d.val) / 32768 = 16 * 1 + h.val; omega
  | ⟨1, _⟩ => show 8192 + (((h.val * 8 + b.val) * 32 + r.val) * 128 + d.val) / 128 % 256 = 8192 + (32 * b.val + r.val); omega
  | ⟨2, _⟩ => show (((h.val * 8 + b.val) * 32 + r.val) * 128 + d.val) % 128 = d.val; omega

/-- A new value's element. -/
theorem v6_apply (h : Fin 16) (b : Fin 8) (r : Fin 32) (d : Fin 128) :
    val_main_v6 (F := Ideal) x0 (ix4 h b r d) = el x0 2 (by omega) b h r d := by
  rw [val_main_v6_apply, val_main_v5_apply, val_main_v0_apply]
  unfold el
  refine congrArg x0 (funext fun a => Fin.ext ?_)
  match a with
  | ⟨0, _⟩ => show 32 + (((h.val * 8 + b.val) * 32 + r.val) * 128 + d.val) / 32768 = 16 * 2 + h.val; omega
  | ⟨1, _⟩ => show 8192 + (((h.val * 8 + b.val) * 32 + r.val) * 128 + d.val) / 128 % 256 = 8192 + (32 * b.val + r.val); omega
  | ⟨2, _⟩ => show (((h.val * 8 + b.val) * 32 + r.val) * 128 + d.val) % 128 = d.val; omega

/-- The keys, cached before new. -/
theorem v9_apply (b : Fin 8) (k : Fin 544) (h : Fin 16) (d : Fin 128) :
    val_main_v9 (F := Ideal) x0 x1 (ix4 b k h d) = kv x0 x1 1 (by omega) b h k d := by
  unfold val_main_v9 kv
  by_cases hk : k.val < 512
  · rw [dif_pos hk]
    refine (concatenate_apply_piece (t := S8x544x16x128) (1 : Fin 4) [⟨S8x512x16x128, (val_main_v7 (F := Ideal) x1)⟩, ⟨S8x32x16x128, (val_main_v8 (F := Ideal) x0)⟩] concatenates_S8x512x16x128_S8x32x16x128_S8x544x16x128_d1 (ix4 b k h d) 0 (by show 0 < 2; omega) S8x512x16x128 _ rfl rfl 0 rfl
      (ix4 b ⟨k.val, hk⟩ h d) (fun c hc => by
        match c with
        | ⟨0, _⟩ => rfl
        | ⟨1, _⟩ => exact absurd rfl hc
        | ⟨2, _⟩ => rfl
        | ⟨3, _⟩ => rfl) (by show 0 + k.val = k.val; omega)).trans ?_
    rw [val_main_v7_apply]
    refine congrArg x1 (funext fun a => Fin.ext ?_)
    match a with
    | ⟨0, _⟩ => show (((b.val * 512 + k.val) * 16 + h.val) * 128 + d.val) / 1048576 = b.val; omega
    | ⟨1, _⟩ => show (((b.val * 512 + k.val) * 16 + h.val) * 128 + d.val) / 128 % 8192 = h.val + 16 * k.val; omega
    | ⟨2, _⟩ => show (((b.val * 512 + k.val) * 16 + h.val) * 128 + d.val) % 128 = d.val; omega
  · rw [dif_neg hk]
    refine (concatenate_apply_piece (t := S8x544x16x128) (1 : Fin 4) [⟨S8x512x16x128, (val_main_v7 (F := Ideal) x1)⟩, ⟨S8x32x16x128, (val_main_v8 (F := Ideal) x0)⟩] concatenates_S8x512x16x128_S8x32x16x128_S8x544x16x128_d1 (ix4 b k h d) 1 (by show 1 < 2; omega) S8x32x16x128 _ rfl rfl 512 rfl
      (ix4 b ⟨k.val - 512, by omega⟩ h d) (fun c hc => by
        match c with
        | ⟨0, _⟩ => rfl
        | ⟨1, _⟩ => exact absurd rfl hc
        | ⟨2, _⟩ => rfl
        | ⟨3, _⟩ => rfl) (by show 512 + (k.val - 512) = k.val; omega)).trans ?_
    rw [val_main_v8_apply]
    refine (congrArg _ (funext fun a => ?_)).trans (v4_apply x0 h b ⟨k.val - 512, by omega⟩ d)
    match a with
    | ⟨0, _⟩ => rfl
    | ⟨1, _⟩ => rfl
    | ⟨2, _⟩ => rfl
    | ⟨3, _⟩ => rfl

/-- The values, cached before new. -/
theorem v12_apply (b : Fin 8) (k : Fin 544) (h : Fin 16) (d : Fin 128) :
    val_main_v12 (F := Ideal) x0 x2 (ix4 b k h d) = kv x0 x2 2 (by omega) b h k d := by
  unfold val_main_v12 kv
  by_cases hk : k.val < 512
  · rw [dif_pos hk]
    refine (concatenate_apply_piece (t := S8x544x16x128) (1 : Fin 4) [⟨S8x512x16x128, (val_main_v10 (F := Ideal) x2)⟩, ⟨S8x32x16x128, (val_main_v11 (F := Ideal) x0)⟩] concatenates_S8x512x16x128_S8x32x16x128_S8x544x16x128_d1 (ix4 b k h d) 0 (by show 0 < 2; omega) S8x512x16x128 _ rfl rfl 0 rfl
      (ix4 b ⟨k.val, hk⟩ h d) (fun c hc => by
        match c with
        | ⟨0, _⟩ => rfl
        | ⟨1, _⟩ => exact absurd rfl hc
        | ⟨2, _⟩ => rfl
        | ⟨3, _⟩ => rfl) (by show 0 + k.val = k.val; omega)).trans ?_
    rw [val_main_v10_apply]
    refine congrArg x2 (funext fun a => Fin.ext ?_)
    match a with
    | ⟨0, _⟩ => show (((b.val * 512 + k.val) * 16 + h.val) * 128 + d.val) / 1048576 = b.val; omega
    | ⟨1, _⟩ => show (((b.val * 512 + k.val) * 16 + h.val) * 128 + d.val) / 128 % 8192 = h.val + 16 * k.val; omega
    | ⟨2, _⟩ => show (((b.val * 512 + k.val) * 16 + h.val) * 128 + d.val) % 128 = d.val; omega
  · rw [dif_neg hk]
    refine (concatenate_apply_piece (t := S8x544x16x128) (1 : Fin 4) [⟨S8x512x16x128, (val_main_v10 (F := Ideal) x2)⟩, ⟨S8x32x16x128, (val_main_v11 (F := Ideal) x0)⟩] concatenates_S8x512x16x128_S8x32x16x128_S8x544x16x128_d1 (ix4 b k h d) 1 (by show 1 < 2; omega) S8x32x16x128 _ rfl rfl 512 rfl
      (ix4 b ⟨k.val - 512, by omega⟩ h d) (fun c hc => by
        match c with
        | ⟨0, _⟩ => rfl
        | ⟨1, _⟩ => exact absurd rfl hc
        | ⟨2, _⟩ => rfl
        | ⟨3, _⟩ => rfl) (by show 512 + (k.val - 512) = k.val; omega)).trans ?_
    rw [val_main_v11_apply]
    refine (congrArg _ (funext fun a => ?_)).trans (v6_apply x0 h b ⟨k.val - 512, by omega⟩ d)
    match a with
    | ⟨0, _⟩ => rfl
    | ⟨1, _⟩ => rfl
    | ⟨2, _⟩ => rfl
    | ⟨3, _⟩ => rfl

/-- The bias of a query and a key. -/
theorem bias_apply (b : Fin 8) (h : Fin 16) (r : Fin 32) (k : Fin 544) :
    val_main_v36 (F := Ideal) x3 (ix4 b h r k) = x3 (ix2 h ⟨min (r.val + 575 - k.val) 319, by omega⟩) := by
  rw [val_main_v36_apply, val_main_v35_apply]
  unfold val_main_v31
  refine Eq.trans (congrArg _ (funext fun a => ?_)) ((gather_apply x3 _ h r k).trans (congrArg x3 (funext fun a => Fin.ext ?_)))
  · match a with
    | ⟨0, _⟩ => rfl
    | ⟨1, _⟩ => rfl
    | ⟨2, _⟩ => rfl
  · match a with
    | ⟨0, _⟩ => rfl
    | ⟨1, _⟩ =>
      show min (val_main_v30 (F := Ideal) (ix3 r k 0)).toInt.toNat 319 = min (r.val + 575 - k.val) 319
      rw [col_apply]
      omega

/-- A score. -/
theorem v37_apply (b : Fin 8) (h : Fin 16) (r : Fin 32) (k : Fin 544) :
    val_main_v37 (F := Ideal) x0 x1 x3 (ix4 b h r k) = S x0 x1 x3 b h r k := by
  rw [val_main_v37_apply, val_main_v34_apply, val_main_v33_apply, val_main_cst_apply, bias_apply, val_main_v32_apply]
  unfold S
  refine congrArg (· + _) (congrArg (· * scale) (Finset.sum_congr rfl fun d _ => congr (congrArg _ ?_) ?_))
  · refine (congrArg _ (funext fun a => ?_)).trans (v2_apply x0 h b r d)
    match a with
    | ⟨0, _⟩ => rfl
    | ⟨1, _⟩ => rfl
    | ⟨2, _⟩ => rfl
    | ⟨3, _⟩ => rfl
  · refine (congrArg _ (funext fun a => ?_)).trans (v9_apply x0 x1 b k h d)
    match a with
    | ⟨0, _⟩ => rfl
    | ⟨1, _⟩ => rfl
    | ⟨2, _⟩ => rfl
    | ⟨3, _⟩ => rfl

/-- A query's largest score. -/
theorem v40_apply (b : Fin 8) (h : Fin 16) (r : Fin 32) :
    val_main_v40 (F := Ideal) x0 x1 x3 (ix3 b h r) = M x0 x1 x3 b h r := by
  rw [val_main_v40_apply, val_main_v39_apply, val_main_cst_6_apply]
  have e : val_main_v38 (F := Ideal) x0 x1 x3 (ix3 b h r) = M x0 x1 x3 b h r := by
    unfold val_main_v38 M
    refine (rmax_apply _ b h r).trans ?_
    exact congrArg (fun f => Finset.fold max ⊥ f Finset.univ) (funext fun k => v37_apply x0 x1 x3 b h r k)
  rw [e]
  show max (Ideal.ofBits .f32 0xFF800000#32) _ = _
  rw [ofBits_ninf]
  exact max_eq_right bot_le

/-- A weight. -/
theorem v44_apply (b : Fin 8) (h : Fin 16) (r : Fin 32) (k : Fin 544) :
    val_main_v44 (F := Ideal) x0 x1 x3 (ix4 b h r k) = P x0 x1 x3 b h r k := by
  rw [val_main_v44_apply, val_main_v43_apply, v37_apply, val_main_v42_apply, val_main_v41_apply]
  unfold P
  show Ideal.exp (_ - _) = _
  refine congrArg (fun z => Ideal.exp (S x0 x1 x3 b h r k - z)) ((congrArg _ (funext fun a => ?_)).trans (v40_apply x0 x1 x3 b h r))
  match a with
  | ⟨0, _⟩ => rfl
  | ⟨1, _⟩ => rfl
  | ⟨2, _⟩ => rfl

/-- A weight over the weights' sum. -/
theorem v48_apply (b : Fin 8) (h : Fin 16) (r : Fin 32) (k : Fin 544) :
    val_main_v48 (F := Ideal) x0 x1 x3 (ix4 b h r k) = Ideal.div (P x0 x1 x3 b h r k) (∑ j, P x0 x1 x3 b h r j) := by
  rw [val_main_v48_apply, v44_apply, val_main_v47_apply, val_main_v46_apply, val_main_v45_apply, val_main_cst_7_apply]
  show Ideal.div _ (Ideal.ofBits .f32 0x00000000#32 + _) = _
  rw [Attn.ofBits_zero, zero_add]
  refine congrArg (Ideal.div _) (Finset.sum_congr rfl fun j _ => (congrArg _ (funext fun a => ?_)).trans (v44_apply x0 x1 x3 b h r j))
  match a with
  | ⟨0, _⟩ => rfl
  | ⟨1, _⟩ => rfl
  | ⟨2, _⟩ => rfl
  | ⟨3, _⟩ => rfl

/-- A head's average as the reference takes it: the values weighted by each weight over the sum. -/
def OR (b : Fin 8) (h : Fin 16) (r : Fin 32) (d : Fin 128) : EReal :=
  ∑ k, kv x0 x2 2 (by omega) b h k d * Ideal.div (P x0 x1 x3 b h r k) (∑ j, P x0 x1 x3 b h r j)

/-- A head's average. -/
theorem v49_apply (b : Fin 8) (h : Fin 16) (d : Fin 128) (r : Fin 32) :
    val_main_v49 (F := Ideal) x0 x1 x2 x3 (ix4 b h d r) = OR x0 x1 x2 x3 b h r d := by
  rw [val_main_v49_apply]
  unfold OR
  refine Finset.sum_congr rfl fun k _ => congr (congrArg _ ?_) ?_
  · refine (congrArg _ (funext fun a => ?_)).trans (v12_apply x0 x2 b k h d)
    match a with
    | ⟨0, _⟩ => rfl
    | ⟨1, _⟩ => rfl
    | ⟨2, _⟩ => rfl
    | ⟨3, _⟩ => rfl
  · refine (congrArg _ (funext fun a => ?_)).trans (v48_apply x0 x1 x3 b h r k)
    match a with
    | ⟨0, _⟩ => rfl
    | ⟨1, _⟩ => rfl
    | ⟨2, _⟩ => rfl
    | ⟨3, _⟩ => rfl

/-- The averages side by side. -/
theorem v51_apply (n : Fin 256) (c : Fin 2048) :
    val_main_v51 (F := Ideal) x0 x1 x2 x3 (ix2 n c)
      = OR x0 x1 x2 x3 ⟨n.val / 32, by omega⟩ ⟨c.val / 128, by omega⟩ ⟨n.val % 32, Nat.mod_lt _ (by omega)⟩ ⟨c.val % 128, Nat.mod_lt _ (by omega)⟩ := by
  rw [val_main_v51_apply, val_main_v50_apply, ← v49_apply]
  refine congrArg _ (funext fun a => Fin.ext ?_)
  match a with
  | ⟨0, _⟩ => show (n.val * 2048 + c.val) / 65536 = n.val / 32; omega
  | ⟨1, _⟩ => show (n.val * 2048 + c.val) / 128 % 16 = c.val / 128; omega
  | ⟨2, _⟩ => show (n.val * 2048 + c.val) % 128 = c.val % 128; omega
  | ⟨3, _⟩ => show (n.val * 2048 + c.val) / 2048 % 32 = n.val % 32; omega

/-- The reference's result, from its averages. -/
theorem v65_apply (x4 : S2048.Idx → EReal) (n : Fin 256) (c : Fin 2048) :
    val_main_v65 (F := Ideal) x0 x1 x2 x3 x4 (ix2 n c)
      = val_main_v51 (F := Ideal) x0 x1 x2 x3 (ix2 n c)
        * Ideal.rsqrt (Ideal.div (∑ c', (val_main_v51 (F := Ideal) x0 x1 x2 x3 (ix2 n c') : EReal) * val_main_v51 (F := Ideal) x0 x1 x2 x3 (ix2 n c')) ((2048 : ℝ) : EReal) + Ideal.ofBits .f32 0x358637BD#32)
        * x4 (ix1 c) := by
  have e1 : val_main_v53 (F := Ideal) x0 x1 x2 x3 (ix1 n) = ∑ c', (val_main_v51 (F := Ideal) x0 x1 x2 x3 (ix2 n c') : EReal) * val_main_v51 (F := Ideal) x0 x1 x2 x3 (ix2 n c') := by
    rw [val_main_v53_apply, val_main_cst_8_apply]
    show Ideal.ofBits .f32 0x00000000#32 + _ = _
    rw [Attn.ofBits_zero, zero_add]
    refine Finset.sum_congr rfl fun c' _ => ?_
    rw [val_main_v52_apply]
    have ei : idx_main_v53 (ix1 n) c' = ix2 n c' := funext fun a => by
      match a with
      | ⟨0, _⟩ => rfl
      | ⟨1, _⟩ => rfl
    rw [ei]
    rfl
  have e2 : val_main_v60 (F := Ideal) x0 x1 x2 x3 (ix2 n c)
      = Ideal.rsqrt (Ideal.div (∑ c', (val_main_v51 (F := Ideal) x0 x1 x2 x3 (ix2 n c') : EReal) * val_main_v51 (F := Ideal) x0 x1 x2 x3 (ix2 n c')) ((2048 : ℝ) : EReal) + Ideal.ofBits .f32 0x358637BD#32) := by
    rw [val_main_v60_apply, val_main_v59_apply, val_main_v58_apply, val_main_v57_apply, val_main_v56_apply, val_main_v55_apply, val_main_v54_apply,
      val_main_cst_9_apply, val_main_cst_10_apply, ← e1]
    show Ideal.rsqrt (Ideal.div _ (Ideal.ofBits .f32 0x45000000#32) + Ideal.ofBits .f32 0x358637BD#32) = _
    rw [Attn.ofBits_2048]
    refine congrArg (fun z => Ideal.rsqrt (Ideal.div z ((2048 : ℝ) : EReal) + Ideal.ofBits .f32 0x358637BD#32)) (congrArg _ (funext fun a => ?_))
    match a with
    | ⟨0, _⟩ => rfl
  have e3 : val_main_v63 (F := Ideal) x4 (ix2 n c) = x4 (ix1 c) := by
    rw [val_main_v63_apply, val_main_v62_apply]
    refine congrArg x4 (funext fun a => ?_)
    match a with
    | ⟨0, _⟩ => rfl
  rw [val_main_v65_apply, val_main_v64_apply, val_main_v61_apply, e2, e3]
  rfl

end

end Cert.As

end
-- ==== Proof.Attns.Main.lean ====
/- The samples' attention is its reference's, where the scores are finite. -/
module

public import proofs.«01_k».proof.Proof.Attns.Ref
public import proofs.«01_k».proof.Proof.Attn.Main
public import proofs.«01_k».proof.Proof.Gen.Pre_scores_finite

@[expose] public section

set_option maxRecDepth 16384

noncomputable section

namespace Cert.As

open Idealize
open Idealize.ShloMosaic hiding ix1 ix2 ix3 ix4
open Idealize.ShloMosaic.TcCoe
open Idealize.ShloMosaic.ValueIdx
open Cert.AttnsIdeal Cert.AttnsIdeal.Gen

/-- A weighted sum over the weights' sum is the sum weighted by each weight over that sum; the values need not be reals. -/
theorem avg_eq {ι : Type} [Fintype ι] (w : ι → ℝ) (v : ι → EReal) (hw : 0 < ∑ k, w k) :
    Ideal.div (∑ k, (w k : EReal) * v k) (∑ k, (w k : EReal)) = ∑ k, v k * Ideal.div (w k : EReal) (∑ j, (w j : EReal)) := by
  rw [Attn.coe_sum, Attn.div_real _ _ hw.ne', Attn.sum_mul_coe _ _ _ (inv_pos.2 hw).le]
  refine Finset.sum_congr rfl fun k _ => ?_
  rw [Attn.div_real _ _ hw.ne', mul_comm (w k : EReal) (v k), mul_assoc]

/-- The pattern of 1/2048. -/
theorem ofBits_inv2048 : Ideal.ofBits .f32 0x3A000000#32 = (((2048 : ℝ)⁻¹ : ℝ) : EReal) := by
  simp [Ideal.ofBits, Ideal.ieee]
  norm_num
  rw [← EReal.coe_mul]; congr 1; norm_num

section
variable (X : AX) (CK CV : AC) (T : AT) (b : Fin 8) (h : Fin 16) (r : Fin 32)

/-- Where the scores are reals a head's average is the reference's. -/
theorem O_eq_OR (hS : ∀ k, ∃ s : ℝ, S X CK T b h r k = (s : EReal)) (d : Fin 128) : O X CK CV T b h r d = OR X CK CV T b h r d := by
  choose s hs using hS
  obtain ⟨μ, hμ⟩ : ∃ μ : ℝ, M X CK T b h r = (μ : EReal) := by
    unfold M
    exact Attn.fold_real _ _ (fun k => by rw [hs]; exact EReal.coe_ne_top _) 0 (Finset.mem_univ _) (by rw [hs]; exact EReal.coe_ne_bot _)
  have hP : ∀ k, P X CK T b h r k = ((Real.exp (s k - μ) : ℝ) : EReal) := fun k => by
    unfold P
    rw [hs, hμ, ← EReal.coe_sub]
    rfl
  unfold O OR
  simp only [hP]
  exact avg_eq (fun k => Real.exp (s k - μ)) _ (Finset.sum_pos (fun k _ => Real.exp_pos _) ⟨0, Finset.mem_univ _⟩)

/-- Where queries, keys and the bias are reals the scores are. -/
theorem S_real (hq : ∀ d, ∃ z : ℝ, el X 0 (by omega) b h r d = (z : EReal)) (hk : ∀ k d, ∃ z : ℝ, kv X CK 1 (by omega) b h k d = (z : EReal))
    (ht : ∀ n : Fin 288, ∃ z : ℝ, T (ix2 h ⟨32 + n.val, by omega⟩) = (z : EReal)) (k : Fin 544) : ∃ s : ℝ, S X CK T b h r k = (s : EReal) := by
  choose q hq using hq
  choose y hy using hk
  obtain ⟨t, ht⟩ : ∃ t : ℝ, T (ix2 h ⟨min (r.val + 575 - k.val) 319, by omega⟩) = (t : EReal) := by
    obtain ⟨t, e⟩ := ht ⟨min (r.val + 575 - k.val) 319 - 32, by omega⟩
    refine ⟨t, (congrArg (fun j => T (ix2 h j)) (Fin.ext ?_)).trans e⟩
    show min (r.val + 575 - k.val) 319 = 32 + (min (r.val + 575 - k.val) 319 - 32)
    omega
  unfold S scale
  rw [Attn.ofBits_scl, ht]
  simp only [hq, hy]
  rw [Attn.coe_sum_mul, ← EReal.coe_mul, ← EReal.coe_add]
  exact ⟨_, rfl⟩

end

section
variable (x0 : FVec Ideal Cert.Pre_scores_finite.S48x8448x128 .bf16) (x1 x2 : FVec Ideal Cert.Pre_scores_finite.S8x8192x128 .f32)
    (x3 : FVec Ideal Cert.Pre_scores_finite.S16x320 .f32) (x4 : FVec Ideal Cert.Pre_scores_finite.S2048 .f32)
    (h : Cert.Pre_scores_finite.fn (F := Ideal) x0 x1 x2 x3 x4 = fun _ => 1#1)

include h in
/-- Under the precondition the new queries and keys are reals, -/
theorem pre_x (p : Fin 32) (n : Fin 256) (d : Fin 128) : ∃ z : ℝ, x0 (ix3 ⟨p.val, by omega⟩ ⟨8192 + n.val, by omega⟩ d) = (z : EReal) := by
  have h1 := (IntOp.andi_eq_one.1 (IntOp.andi_eq_one.1 (congrFun h (fun a => a.elim0))).1).1
  have h2 := Attn.real_of_olt _ (Host.reduce_andi_all _ _ _ _ _ h1 (ix3 p n d))
  have e : x0 (ix3 ⟨p.val, by omega⟩ ⟨8192 + n.val, by omega⟩ d)
      = extractStridedSlice Cert.Pre_scores_finite.S32x256x128 ![0, 8192, 0] x0 Cert.Pre_scores_finite.Facts.slices_S48x8448x128_S32x256x128_0_8192_0 (ix3 p n d) :=
    (extractStridedSlice_apply _ x0 _ (ix3 p n d) (ix3 ⟨p.val, by omega⟩ ⟨8192 + n.val, by omega⟩ d) (fun a => by
      match a with
      | ⟨0, _⟩ => show p.val = 0 + p.val; omega
      | ⟨1, _⟩ => rfl
      | ⟨2, _⟩ => show d.val = 0 + d.val; omega)).symm
  exact ⟨_, e.trans h2⟩

include h in
/-- so are the cached keys, -/
theorem pre_k (i) : ∃ z : ℝ, x1 i = (z : EReal) := by
  have h1 := (IntOp.andi_eq_one.1 (IntOp.andi_eq_one.1 (congrFun h (fun a => a.elim0))).1).2
  exact ⟨_, Attn.real_of_olt (x1 i) (Host.reduce_andi_all _ _ _ _ _ h1 i)⟩

include h in
/-- and so are the biases of the distances that occur. -/
theorem pre_t (g : Fin 16) (n : Fin 288) : ∃ z : ℝ, x3 (ix2 g ⟨32 + n.val, by omega⟩) = (z : EReal) := by
  have h1 := (IntOp.andi_eq_one.1 (congrFun h (fun a => a.elim0))).2
  have h2 := Attn.real_of_olt _ (Host.reduce_andi_all _ _ _ _ _ h1 (ix2 g n))
  have e : x3 (ix2 g ⟨32 + n.val, by omega⟩)
      = extractStridedSlice Cert.Pre_scores_finite.S16x288 ![0, 32] x3 Cert.Pre_scores_finite.Facts.slices_S16x320_S16x288_0_32 (ix2 g n) :=
    (extractStridedSlice_apply _ x3 _ (ix2 g n) (ix2 g ⟨32 + n.val, by omega⟩) (fun a => by
      match a with
      | ⟨0, _⟩ => show g.val = 0 + g.val; omega
      | ⟨1, _⟩ => rfl)).symm
  exact ⟨_, e.trans h2⟩

include h in
/-- Under the precondition the scores are reals. -/
theorem pre_S (b : Fin 8) (hh : Fin 16) (r : Fin 32) (k : Fin 544) : ∃ s : ℝ, S x0 x1 x3 b hh r k = (s : EReal) := by
  have hel : ∀ (p : ℕ) (hp : p ≤ 1) (r' : Fin 32) (d : Fin 128), ∃ z : ℝ, el x0 p (by omega) b hh r' d = (z : EReal) := fun p hp r' d =>
    pre_x x0 x1 x2 x3 x4 h ⟨16 * p + hh.val, by omega⟩ ⟨32 * b.val + r'.val, by omega⟩ d
  refine S_real x0 x1 x3 b hh r (hel 0 (by omega) r) (fun k' d => ?_) (pre_t x0 x1 x2 x3 x4 h hh) k
  unfold kv
  split
  · exact pre_k x0 x1 x2 x3 x4 h _
  · exact hel 1 (by omega) _ d

include h in
/-- The launch's result is the reference's. -/
theorem G9_eq_ref : G9 x0 x1 x2 x3 x4 = Cert.PlainAttnsIdeal.Read.val_main_v65 (F := Ideal) x0 x1 x2 x3 x4 := by
  funext i
  obtain ⟨n, c, rfl⟩ : ∃ (n : Fin 256) (c : Fin 2048), i = ix2 n c := ⟨i 0, i 1, funext fun a => by
    match a with
    | ⟨0, _⟩ => rfl
    | ⟨1, _⟩ => rfl⟩
  have e : ∀ c : Fin 2048, OA x0 x1 x2 x3 ⟨n.val / 32, by omega⟩ ⟨n.val % 32, Nat.mod_lt _ (by omega)⟩ c
      = Cert.PlainAttnsIdeal.Read.val_main_v51 (F := Ideal) x0 x1 x2 x3 (ix2 n c) := fun c =>
    (O_eq_OR x0 x1 x2 x3 _ _ _ (pre_S x0 x1 x2 x3 x4 h _ _ _) _).trans (v51_apply x0 x1 x2 x3 n c).symm
  refine Eq.trans ?_ (v65_apply x0 x1 x2 x3 x4 n c).symm
  show N x0 x1 x2 x3 ⟨n.val / 32, _⟩ ⟨n.val % 32, _⟩ x4 c = _
  unfold N
  simp only [e]
  rw [ofBits_inv2048, ← Attn.div_real _ _ (by norm_num)]

end

end Cert.As

end
-- ==== Proof.lean ====
/- The certificate: the programs' frames, the named constants, and the equality of the kernel's value with the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Pre_scores_finite
public import proofs.«01_k».proof.Proof.Gen.ReferenceIdeal.Run
public import proofs.«01_k».proof.Proof.Gen.ReferenceIdeal.Read
public import proofs.«01_k».proof.Proof.AttnBits.Frame
public import proofs.«01_k».proof.Proof.Attn.Main
public import proofs.«01_k».proof.Proof.InprojBits.Frame
public import proofs.«01_k».proof.Proof.Inproj.Ref
public import proofs.«01_k».proof.Proof.Outproj.Ref
public import proofs.«01_k».proof.Proof.Prenorm.Ref
public import proofs.«01_k».proof.Proof.Final.Ref
public import proofs.«01_k».proof.Proof.Last.Ref
public import proofs.«01_k».proof.Proof.Sgu.Ref
public import proofs.«01_k».proof.Proof.Outs.Ref
public import proofs.«01_k».proof.Proof.Attns.Main
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.PlainIdeal
public import proofs.«01_k».proof.Proof.Gen.PlainIdeal.Run
public import proofs.«01_k».proof.Proof.Gen.PlainIdeal.Read
public import proofs.«01_k».proof.Proof.Gen.Outproj
public import proofs.«01_k».proof.Proof.Gen.Outproj.Frame
public import proofs.«01_k».proof.Proof.Gen.OutprojIdeal
public import proofs.«01_k».proof.Proof.Gen.OutprojIdeal.Frame
public import proofs.«01_k».proof.Proof.Gen.OutprojIdeal.Value
public import proofs.«01_k».proof.Proof.Gen.Prenorm
public import proofs.«01_k».proof.Proof.Gen.Prenorm.Frame
public import proofs.«01_k».proof.Proof.Gen.PrenormIdeal
public import proofs.«01_k».proof.Proof.Gen.PrenormIdeal.Frame
public import proofs.«01_k».proof.Proof.Gen.PrenormIdeal.Value
public import proofs.«01_k».proof.Proof.Gen.PlainOutIdeal
public import proofs.«01_k».proof.Proof.Gen.PlainOutIdeal.Run
public import proofs.«01_k».proof.Proof.Gen.PlainOutIdeal.Read
public import proofs.«01_k».proof.Proof.Gen.PlainNormIdeal
public import proofs.«01_k».proof.Proof.Gen.PlainNormIdeal.Run
public import proofs.«01_k».proof.Proof.Gen.PlainNormIdeal.Read
public import proofs.«01_k».proof.Proof.Gen.Final
public import proofs.«01_k».proof.Proof.Gen.Final.Frame
public import proofs.«01_k».proof.Proof.Gen.FinalIdeal
public import proofs.«01_k».proof.Proof.Gen.FinalIdeal.Frame
public import proofs.«01_k».proof.Proof.Gen.FinalIdeal.Value
public import proofs.«01_k».proof.Proof.Gen.PlainFinalIdeal
public import proofs.«01_k».proof.Proof.Gen.PlainFinalIdeal.Run
public import proofs.«01_k».proof.Proof.Gen.PlainFinalIdeal.Read
public import proofs.«01_k».proof.Proof.Gen.Last
public import proofs.«01_k».proof.Proof.Gen.Last.Frame
public import proofs.«01_k».proof.Proof.Gen.LastIdeal
public import proofs.«01_k».proof.Proof.Gen.LastIdeal.Frame
public import proofs.«01_k».proof.Proof.Gen.LastIdeal.Value
public import proofs.«01_k».proof.Proof.Gen.PlainLastIdeal
public import proofs.«01_k».proof.Proof.Gen.PlainLastIdeal.Run
public import proofs.«01_k».proof.Proof.Gen.PlainLastIdeal.Read
public import proofs.«01_k».proof.Proof.Gen.Sgu
public import proofs.«01_k».proof.Proof.Gen.Sgu.Frame
public import proofs.«01_k».proof.Proof.Gen.SguIdeal
public import proofs.«01_k».proof.Proof.Gen.SguIdeal.Frame
public import proofs.«01_k».proof.Proof.Gen.SguIdeal.Value
public import proofs.«01_k».proof.Proof.Gen.PlainSguIdeal
public import proofs.«01_k».proof.Proof.Gen.PlainSguIdeal.Run
public import proofs.«01_k».proof.Proof.Gen.PlainSguIdeal.Read
public import proofs.«01_k».proof.Proof.Gen.Outs
public import proofs.«01_k».proof.Proof.Gen.Outs.Frame
public import proofs.«01_k».proof.Proof.Gen.OutsIdeal
public import proofs.«01_k».proof.Proof.Gen.OutsIdeal.Frame
public import proofs.«01_k».proof.Proof.Gen.OutsIdeal.Value
public import proofs.«01_k».proof.Proof.Gen.PlainOutsIdeal
public import proofs.«01_k».proof.Proof.Gen.PlainOutsIdeal.Run
public import proofs.«01_k».proof.Proof.Gen.PlainOutsIdeal.Read
public import proofs.«01_k».proof.Proof.Gen.Attns
public import proofs.«01_k».proof.Proof.Gen.Attns.Frame
public import proofs.«01_k».proof.Proof.Gen.AttnsIdeal
public import proofs.«01_k».proof.Proof.Gen.AttnsIdeal.Frame
public import proofs.«01_k».proof.Proof.Gen.AttnsIdeal.Value
public import proofs.«01_k».proof.Proof.Gen.PlainAttnsIdeal
public import proofs.«01_k».proof.Proof.Gen.PlainAttnsIdeal.Run
public import proofs.«01_k».proof.Proof.Gen.PlainAttnsIdeal.Read
public import Idealize.ShloMosaic.Adequacy
public import Idealize.ShloMosaic.Init

@[expose] public section

noncomputable section

namespace Cert.Proof

open Idealize.ShloMosaic Idealize.ShloMosaic.TcCoe Idealize.SL.Sem

/-- The kernel's frame: its arguments are left as they were and every counter ends at zero. -/
theorem frame_p : Cert.quiescent_Kernel := fun m ρ _ =>
  θ_run_with_sems (Cert.Kernel.Gen.frame_of m ρ (Cert.AttnBits.dats m) (Cert.AttnBits.A_eq m)) (Cert.AttnBits.run_main_quiescent m ρ)

/-- The frame of the kernel's idealization. -/
theorem frame_pi : Cert.quiescent_KernelIdeal := fun m ρ _ =>
  θ_run_with_sems (Cert.KernelIdeal.Gen.frame_of m ρ (Cert.Attn.dats m) (Cert.Attn.A_eq m)) (Cert.Attn.run_main_quiescent m ρ)

/-- The reference's frame: it declares no semaphore. -/
theorem frame_ri : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- Each named constant's pattern is the value its name stands for, rounded. -/
theorem names : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl,
    IdealRules.named_const.statement Cert.KernelIdeal.κ "qk_scale" .f32 0x3E0293EE#32 (((11863283 / 134217728) * (Real.log 2)⁻¹ : ℝ) : EReal) rfl⟩

/-- The kernel's idealization leaves the reference's value, the arrays being finite. -/
theorem value : Cert.algebraic_KernelIdeal_ReferenceIdeal_pre_finite := fun m ρ m' ρ' hpre hag =>
  ⟨fun c => Cert.Attn.G9 m c,
    (θ_run _ _ _).mono (fun _ h c => ⟨((h.1 c).1 9).trans (Cert.Attn.final_o m c), h.2 c⟩)
      (θ_run_and (Cert.Attn.run_main m ρ)
        (Cert.KernelIdeal.Gen.frame_of m ρ (Cert.Attn.dats m) (Cert.Attn.A_eq m) (Cert.Attn.run_main m ρ))),
    (θ_run _ _ _).mono (fun _ h c => ⟨(h c).1.trans (by
        rw [Cert.ReferenceIdeal.Read.val_main_v63_eq, (hag c).1, (hag c).2.1, (hag c).2.2]
        exact (Cert.Attn.G9_eq_ref m c (hpre c)).symm), (h c).2⟩)
      (Cert.ReferenceIdeal.Value.run (F := Ideal) m' ρ')⟩

/-- The input projection's frame. -/
theorem frame_p2 : Cert.quiescent_Inproj := fun m ρ _ =>
  θ_run_with_sems (Cert.Inproj.Gen.frame_of m ρ (Cert.InpBits.dats m) (Cert.InpBits.A_eq m)) (Cert.InpBits.run_main_quiescent m ρ)

/-- The frame of its idealization. -/
theorem frame_pi2 : Cert.quiescent_InprojIdeal := fun m ρ _ =>
  θ_run_with_sems (Cert.InprojIdeal.Gen.frame_of m ρ (Cert.Inp.dats m) (Cert.Inp.A_eq m)) (Cert.Inp.run_main_quiescent m ρ)

/-- The frame of its reference: it declares no semaphore. -/
theorem frame_ri2 : Cert.quiescent_PlainIdeal := fun m ρ _ =>
  (θ_run _ _ _).mono (fun r h => ⟨fun c => (h c).2.2.2, sem_eq_zero_of_no_sems (by decide) r.2⟩) (Cert.PlainIdeal.Value.run (F := Ideal) m ρ)

/-- The input projection's idealization leaves the three arrays of its reference. -/
theorem value2 : Cert.algebraic_InprojIdeal_PlainIdeal := fun m ρ m' ρ' _ hag =>
  ⟨fun c => Cert.Inp.G3 (Cert.Inp.X0 m c) (Cert.Inp.X1 m c) (Cert.Inp.X2 m c), fun c => Cert.Inp.G4 (Cert.Inp.X0 m c) (Cert.Inp.X1 m c),
    fun c => Cert.Inp.G5 (Cert.Inp.X0 m c) (Cert.Inp.X1 m c) (Cert.Inp.X2 m c),
    (θ_run _ _ _).mono (fun _ h c => ⟨((h.1 c).1 3).trans (Cert.Inp.final_p m c), ((h.1 c).1 4).trans (Cert.Inp.final_q m c),
        ((h.1 c).1 5).trans (Cert.Inp.final_s m c), h.2 c⟩)
      (θ_run_and (Cert.Inp.run_main m ρ)
        (Cert.InprojIdeal.Gen.frame_of m ρ (Cert.Inp.dats m) (Cert.Inp.A_eq m) (Cert.Inp.run_main m ρ))),
    (θ_run _ _ _).mono (fun _ h c => ⟨(h c).1.trans (by
        rw [Cert.PlainIdeal.Read.val_main_v50_eq, (hag c).1, (hag c).2.1, (hag c).2.2]
        exact Cert.Inp.ref52 _ _ _), (h c).2.1.trans (by
        rw [Cert.PlainIdeal.Read.val_main_v54_eq, (hag c).1, (hag c).2.1]
        exact Cert.Inp.ref56 _ _), (h c).2.2.1.trans (by
        rw [Cert.PlainIdeal.Read.val_main_v53_eq, (hag c).1, (hag c).2.1, (hag c).2.2]
        exact Cert.Inp.ref55 _ _ _), (h c).2.2.2⟩)
      (Cert.PlainIdeal.Value.run (F := Ideal) m' ρ')⟩

/-- The output projection's launch, whatever it reads: its arguments are unchanged. -/
theorem frame_p3 : Cert.quiescent_Outproj := fun m ρ _ => Cert.Outproj.Gen.frame m ρ

/-- The output projection's idealization: its arguments are unchanged. -/
theorem frame_pi3 : Cert.quiescent_OutprojIdeal := fun m ρ _ => Cert.OutprojIdeal.Gen.frame m ρ

/-- The output projection's reference: its arguments are unchanged. -/
theorem frame_ri3 : Cert.quiescent_PlainOutIdeal := fun m ρ _ =>
  (θ_run _ _ _).mono (fun r h => ⟨fun c => (h c).2, sem_eq_zero_of_no_sems (by decide) r.2⟩) (Cert.PlainOutIdeal.Value.run (F := Ideal) m ρ)

/-- The output projection's idealization leaves the array of its reference. -/
theorem value3 : Cert.algebraic_OutprojIdeal_PlainOutIdeal := fun m ρ m' ρ' _ hag =>
  ⟨fun c => Cert.Outp.G5 (Cert.Outp.X0 m c) (Cert.Outp.X1 m c) (Cert.Outp.X2 m c) (Cert.Outp.X3 m c),
    (θ_run _ _ _).mono (fun _ h c => ⟨(h c).1.trans (Cert.Outp.final m c), (h c).2⟩) (Cert.OutprojIdeal.Value.run_blocks m ρ),
    (θ_run _ _ _).mono (fun _ h c => ⟨(h c).1.trans (by
        rw [Cert.PlainOutIdeal.Read.val_main_v5_eq, (hag c).1, (hag c).2.1, (hag c).2.2.1, (hag c).2.2.2]
        exact Cert.Outp.ref5 _ _ _ _), (h c).2⟩)
      (Cert.PlainOutIdeal.Value.run (F := Ideal) m' ρ')⟩

/-- The norm's launch, whatever it reads: its arguments are unchanged. -/
theorem frame_p4 : Cert.quiescent_Prenorm := fun m ρ _ => Cert.Prenorm.Gen.frame m ρ

/-- The norm's idealization: its arguments are unchanged. -/
theorem frame_pi4 : Cert.quiescent_PrenormIdeal := fun m ρ _ => Cert.PrenormIdeal.Gen.frame m ρ

/-- The norm's reference: its arguments are unchanged. -/
theorem frame_ri4 : Cert.quiescent_PlainNormIdeal := fun m ρ _ =>
  (θ_run _ _ _).mono (fun r h => ⟨fun c => (h c).2, sem_eq_zero_of_no_sems (by decide) r.2⟩) (Cert.PlainNormIdeal.Value.run (F := Ideal) m ρ)

/-- The norm's idealization leaves the array of its reference. -/
theorem value4 : Cert.algebraic_PrenormIdeal_PlainNormIdeal := fun m ρ m' ρ' _ hag =>
  ⟨fun c => Cert.Pre.G3 (Cert.Pre.X0 m c) (Cert.Pre.X1 m c) (Cert.Pre.X2 m c),
    (θ_run _ _ _).mono (fun _ h c => ⟨(h c).1.trans (Cert.Pre.final m c), (h c).2⟩) (Cert.PrenormIdeal.Value.run_blocks m ρ),
    (θ_run _ _ _).mono (fun _ h c => ⟨(h c).1.trans (by
        rw [Cert.PlainNormIdeal.Read.val_main_v14_eq, (hag c).1, (hag c).2.1, (hag c).2.2]
        exact Cert.Pre.ref14 _ _ _), (h c).2⟩)
      (Cert.PlainNormIdeal.Value.run (F := Ideal) m' ρ')⟩

/-- The last norm of the prompt stream runs and leaves its arguments as they were. -/
theorem frame_p5 : Cert.quiescent_Final := fun m ρ _ => Cert.Final.Gen.frame m ρ

/-- So does its idealization. -/
theorem frame_pi5 : Cert.quiescent_FinalIdeal := fun m ρ _ => Cert.FinalIdeal.Gen.frame m ρ

/-- So does its plain reference. -/
theorem frame_ri5 : Cert.quiescent_PlainFinalIdeal := fun m ρ _ =>
  (θ_run _ _ _).mono (fun r h => ⟨fun c => (h c).2, sem_eq_zero_of_no_sems (by decide) r.2⟩) (Cert.PlainFinalIdeal.Value.run (F := Ideal) m ρ)

/-- The idealization of the last norm of the prompt stream leaves the array of its reference. -/
theorem value5 : Cert.algebraic_FinalIdeal_PlainFinalIdeal := fun m ρ m' ρ' _ hag =>
  ⟨fun c => Cert.Fnl.G5 (Cert.Fnl.X0 m c) (Cert.Fnl.X1 m c) (Cert.Fnl.X2 m c) (Cert.Fnl.X3 m c),
    (θ_run _ _ _).mono (fun _ h c => ⟨(h c).1.trans (Cert.Fnl.final m c), (h c).2⟩) (Cert.FinalIdeal.Value.run_blocks m ρ),
    (θ_run _ _ _).mono (fun _ h c => ⟨(h c).1.trans (by
        rw [Cert.PlainFinalIdeal.Read.val_main_v22_eq, (hag c).1, (hag c).2.1, (hag c).2.2.1, (hag c).2.2.2]
        exact Cert.Fnl.ref22 _ _ _ _), (h c).2⟩)
      (Cert.PlainFinalIdeal.Value.run (F := Ideal) m' ρ')⟩

/-- The last norm of the sample stream runs and leaves its arguments as they were. -/
theorem frame_p6 : Cert.quiescent_Last := fun m ρ _ => Cert.Last.Gen.frame m ρ

/-- So does its idealization. -/
theorem frame_pi6 : Cert.quiescent_LastIdeal := fun m ρ _ => Cert.LastIdeal.Gen.frame m ρ

/-- So does its plain reference. -/
theorem frame_ri6 : Cert.quiescent_PlainLastIdeal := fun m ρ _ =>
  (θ_run _ _ _).mono (fun r h => ⟨fun c => (h c).2, sem_eq_zero_of_no_sems (by decide) r.2⟩) (Cert.PlainLastIdeal.Value.run (F := Ideal) m ρ)

/-- The idealization of the last norm of the sample stream leaves the array of its reference. -/
theorem value6 : Cert.algebraic_LastIdeal_PlainLastIdeal := fun m ρ m' ρ' _ hag =>
  ⟨fun c => Cert.Lst.G5 (Cert.Lst.X0 m c) (Cert.Lst.X1 m c) (Cert.Lst.X2 m c) (Cert.Lst.X3 m c),
    (θ_run _ _ _).mono (fun _ h c => ⟨(h c).1.trans (Cert.Lst.final m c), (h c).2⟩) (Cert.LastIdeal.Value.run_blocks m ρ),
    (θ_run _ _ _).mono (fun _ h c => ⟨(h c).1.trans (by
        rw [Cert.PlainLastIdeal.Read.val_main_v22_eq, (hag c).1, (hag c).2.1, (hag c).2.2.1, (hag c).2.2.2]
        exact Cert.Lst.ref22 _ _ _ _), (h c).2⟩)
      (Cert.PlainLastIdeal.Value.run (F := Ideal) m' ρ')⟩

/-- The gated mixing leaves its arguments as they are and its semaphores at zero. -/
theorem frame_p7 : Cert.quiescent_Sgu := fun m ρ _ => Cert.Sgu.Gen.frame m ρ

/-- So does its idealization. -/
theorem frame_pi7 : Cert.quiescent_SguIdeal := fun m ρ _ => Cert.SguIdeal.Gen.frame m ρ

/-- So does its plain reference. -/
theorem frame_ri7 : Cert.quiescent_PlainSguIdeal := fun m ρ _ =>
  (θ_run _ _ _).mono (fun r h => ⟨fun c => (h c).2, sem_eq_zero_of_no_sems (by decide) r.2⟩) (Cert.PlainSguIdeal.Value.run (F := Ideal) m ρ)

/-- The idealization of the gated mixing leaves the array of its reference. -/
theorem value7 : Cert.algebraic_SguIdeal_PlainSguIdeal := fun m ρ m' ρ' _ hag =>
  ⟨fun c => Cert.Sg.G7 (Cert.Sg.X0 m c) (Cert.Sg.X1 m c) (Cert.Sg.X2 m c) (Cert.Sg.X3 m c),
    (θ_run _ _ _).mono (fun _ h c => ⟨(h c).1.trans (Cert.Sg.final m c), (h c).2⟩) (Cert.SguIdeal.Value.run_blocks m ρ),
    (θ_run _ _ _).mono (fun _ h c => ⟨(h c).1.trans (by
        rw [Cert.PlainSguIdeal.Read.val_main_v44_eq, (hag c).1, (hag c).2.1, (hag c).2.2.1, (hag c).2.2.2]
        exact Cert.Sg.ref44 _ _ _ _), (h c).2⟩)
      (Cert.PlainSguIdeal.Value.run (F := Ideal) m' ρ')⟩

/-- The output projection of the sample stream leaves its arguments as they are and its semaphores at zero. -/
theorem frame_p8 : Cert.quiescent_Outs := fun m ρ _ => Cert.Outs.Gen.frame m ρ

/-- So does its idealization. -/
theorem frame_pi8 : Cert.quiescent_OutsIdeal := fun m ρ _ => Cert.OutsIdeal.Gen.frame m ρ

/-- So does its plain reference. -/
theorem frame_ri8 : Cert.quiescent_PlainOutsIdeal := fun m ρ _ =>
  (θ_run _ _ _).mono (fun r h => ⟨fun c => (h c).2, sem_eq_zero_of_no_sems (by decide) r.2⟩) (Cert.PlainOutsIdeal.Value.run (F := Ideal) m ρ)

/-- The idealization of the output projection of the sample stream leaves the array of its reference. -/
theorem value8 : Cert.algebraic_OutsIdeal_PlainOutsIdeal := fun m ρ m' ρ' _ hag =>
  ⟨fun c => Cert.Ots.G8 (Cert.Ots.X0 m c) (Cert.Ots.X1 m c) (Cert.Ots.X2 m c) (Cert.Ots.X3 m c),
    (θ_run _ _ _).mono (fun _ h c => ⟨(h c).1.trans (Cert.Ots.final m c), (h c).2⟩) (Cert.OutsIdeal.Value.run_blocks m ρ),
    (θ_run _ _ _).mono (fun _ h c => ⟨(h c).1.trans (by
        rw [Cert.PlainOutsIdeal.Read.val_main_v5_eq, (hag c).1, (hag c).2.1, (hag c).2.2.1, (hag c).2.2.2]
        exact Cert.Ots.ref5 _ _ _ _), (h c).2⟩)
      (Cert.PlainOutsIdeal.Value.run (F := Ideal) m' ρ')⟩

/-- The frame of the attention of the sample stream. -/
theorem frame_p9 : Cert.quiescent_Attns := fun m ρ _ => Cert.Attns.Gen.frame m ρ

/-- The frame of its idealization. -/
theorem frame_pi9 : Cert.quiescent_AttnsIdeal := fun m ρ _ => Cert.AttnsIdeal.Gen.frame m ρ

/-- The frame of its reference: it declares no semaphore. -/
theorem frame_ri9 : Cert.quiescent_PlainAttnsIdeal := fun m ρ _ =>
  (θ_run _ _ _).mono (fun r h => ⟨fun c => (h c).2, sem_eq_zero_of_no_sems (by decide) r.2⟩) (Cert.PlainAttnsIdeal.Value.run (F := Ideal) m ρ)

/-- Where its scores are finite the idealization of the attention of the sample stream leaves the array of its reference. -/
theorem value9 : Cert.algebraic_AttnsIdeal_PlainAttnsIdeal_pre_scores_finite := fun m ρ m' ρ' hpre hag =>
  ⟨fun c => Cert.As.G9 (Cert.As.X0 m c) (Cert.As.X1 m c) (Cert.As.X2 m c) (Cert.As.X3 m c) (Cert.As.X4 m c),
    (θ_run _ _ _).mono (fun _ h c => ⟨(h c).1.trans (Cert.As.final m c), (h c).2⟩) (Cert.AttnsIdeal.Value.run_blocks m ρ),
    (θ_run _ _ _).mono (fun _ h c => ⟨(h c).1.trans (by
        rw [Cert.PlainAttnsIdeal.Read.val_main_v65_eq, (hag c).1, (hag c).2.1, (hag c).2.2.1, (hag c).2.2.2.1, (hag c).2.2.2.2]
        exact (Cert.As.G9_eq_ref _ _ _ _ _ (hpre c)).symm), (h c).2⟩)
      (Cert.PlainAttnsIdeal.Value.run (F := Ideal) m' ρ')⟩

/-- The claim. -/
theorem claim : Cert.Claim :=
  ⟨Cert.Kernel.Gen.facts, Cert.KernelIdeal.Gen.facts, Cert.ReferenceIdeal.Gen.facts, Cert.Inproj.Gen.facts, Cert.InprojIdeal.Gen.facts,
    Cert.PlainIdeal.Gen.facts, Cert.Outproj.Gen.facts, Cert.OutprojIdeal.Gen.facts, Cert.PlainOutIdeal.Gen.facts,
    Cert.Prenorm.Gen.facts, Cert.PrenormIdeal.Gen.facts, Cert.PlainNormIdeal.Gen.facts,
    Cert.Final.Gen.facts, Cert.FinalIdeal.Gen.facts, Cert.PlainFinalIdeal.Gen.facts, Cert.Last.Gen.facts, Cert.LastIdeal.Gen.facts, Cert.PlainLastIdeal.Gen.facts, Cert.Sgu.Gen.facts, Cert.SguIdeal.Gen.facts, Cert.PlainSguIdeal.Gen.facts,
    Cert.Outs.Gen.facts, Cert.OutsIdeal.Gen.facts, Cert.PlainOutsIdeal.Gen.facts,
    Cert.Attns.Gen.facts, Cert.AttnsIdeal.Gen.facts, Cert.PlainAttnsIdeal.Gen.facts,
    Cert.Pre_finite.Gen.facts, Cert.Pre_scores_finite.Gen.facts,
    frame_p, frame_pi, fun m ρ _ => frame_pi m ρ trivial, frame_ri, fun m ρ _ => frame_ri m ρ trivial, frame_p2, frame_pi2, frame_ri2,
    frame_p3, frame_pi3, frame_ri3, frame_p4, frame_pi4, frame_ri4, frame_p5, frame_pi5, frame_ri5, frame_p6, frame_pi6, frame_ri6,
    frame_p7, frame_pi7, frame_ri7, frame_p8, frame_pi8, frame_ri8,
    frame_p9, frame_pi9, fun m ρ _ => frame_pi9 m ρ trivial, frame_ri9, fun m ρ _ => frame_ri9 m ρ trivial,
    names, value, trivial, value2, trivial, value3, trivial, value4, trivial, value5, trivial, value6, trivial, value7, trivial, value8, trivial, value9⟩

end Cert.Proof

end
